-- ==== Defs.lean ====
def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdIdeal_finite [hPre_finite : Cert.Pre_finite.Facts] (m : (ℓ : Loc Cert.RetFwdIdeal.nD Cert.RetFwdIdeal.τ Cert.RetFwdIdeal.sig) → Buf (Elt Ideal) ℓ) : Prop :=
  ∀ c : Dev Cert.RetFwdIdeal.nD,
    (Cert.Pre_finite.fn (F := Ideal) (m ((c.tc : Thread Cert.RetFwdIdeal.nD Cert.RetFwdIdeal.τ).loc Cert.RetFwdIdeal.main_arg0))) = (fun _ => 1#1)

def Pre_RetFwdRefIdeal (m : (ℓ : Loc Cert.RetFwdRefIdeal.nD Cert.RetFwdRefIdeal.τ Cert.RetFwdRefIdeal.sig) → Buf (Elt Ideal) ℓ) : Prop :=
  True

def Pre_RetFwdRefIdeal_finite [hPre_finite : Cert.Pre_finite.Facts] (m : (ℓ : Loc Cert.RetFwdRefIdeal.nD Cert.RetFwdRefIdeal.τ Cert.RetFwdRefIdeal.sig) → Buf (Elt Ideal) ℓ) : Prop :=
  ∀ c : Dev Cert.RetFwdRefIdeal.nD,
    (Cert.Pre_finite.fn (F := Ideal) (m ((c.tc : Thread Cert.RetFwdRefIdeal.nD Cert.RetFwdRefIdeal.τ).loc Cert.RetFwdRefIdeal.main_arg0))) = (fun _ => 1#1)

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetBwdIdeal_finite_proj [hPre_finite_proj : Cert.Pre_finite_proj.Facts] (m : (ℓ : Loc Cert.RetBwdIdeal.nD Cert.RetBwdIdeal.τ Cert.RetBwdIdeal.sig) → Buf (Elt Ideal) ℓ) : Prop :=
  ∀ c : Dev Cert.RetBwdIdeal.nD,
    (Cert.Pre_finite_proj.fn (F := Ideal) (m ((c.tc : Thread Cert.RetBwdIdeal.nD Cert.RetBwdIdeal.τ).loc Cert.RetBwdIdeal.main_arg0)) (m ((c.tc : Thread Cert.RetBwdIdeal.nD Cert.RetBwdIdeal.τ).loc Cert.RetBwdIdeal.main_arg1))) = (fun _ => 1#1)

def Pre_RetBwdRefIdeal (m : (ℓ : Loc Cert.RetBwdRefIdeal.nD Cert.RetBwdRefIdeal.τ Cert.RetBwdRefIdeal.sig) → Buf (Elt Ideal) ℓ) : Prop :=
  True

def Pre_RetBwdRefIdeal_finite_proj [hPre_finite_proj : Cert.Pre_finite_proj.Facts] (m : (ℓ : Loc Cert.RetBwdRefIdeal.nD Cert.RetBwdRefIdeal.τ Cert.RetBwdRefIdeal.sig) → Buf (Elt Ideal) ℓ) : Prop :=
  ∀ c : Dev Cert.RetBwdRefIdeal.nD,
    (Cert.Pre_finite_proj.fn (F := Ideal) (m ((c.tc : Thread Cert.RetBwdRefIdeal.nD Cert.RetBwdRefIdeal.τ).loc Cert.RetBwdRefIdeal.main_arg0)) (m ((c.tc : Thread Cert.RetBwdRefIdeal.nD Cert.RetBwdRefIdeal.τ).loc Cert.RetBwdRefIdeal.main_arg1))) = (fun _ => 1#1)

def Pre_OutRet (m : (ℓ : Loc Cert.OutRet.nD Cert.OutRet.τ Cert.OutRet.sig) → Buf (Elt Bits) ℓ) : Prop :=
  True

def Pre_OutRetIdeal (m : (ℓ : Loc Cert.OutRetIdeal.nD Cert.OutRetIdeal.τ Cert.OutRetIdeal.sig) → Buf (Elt Ideal) ℓ) : Prop :=
  True

def Pre_OutRetRefIdeal (m : (ℓ : Loc Cert.OutRetRefIdeal.nD Cert.OutRetRefIdeal.τ Cert.OutRetRefIdeal.sig) → Buf (Elt Ideal) ℓ) : Prop :=
  True

def Pre_InHg (m : (ℓ : Loc Cert.InHg.nD Cert.InHg.τ Cert.InHg.sig) → Buf (Elt Bits) ℓ) : Prop :=
  True

def Pre_InHgIdeal (m : (ℓ : Loc Cert.InHgIdeal.nD Cert.InHgIdeal.τ Cert.InHgIdeal.sig) → Buf (Elt Ideal) ℓ) : Prop :=
  True

def Pre_InHgRefIdeal (m : (ℓ : Loc Cert.InHgRefIdeal.nD Cert.InHgRefIdeal.τ Cert.InHgRefIdeal.sig) → Buf (Elt Ideal) ℓ) : Prop :=
  True

def Pre_InHy (m : (ℓ : Loc Cert.InHy.nD Cert.InHy.τ Cert.InHy.sig) → Buf (Elt Bits) ℓ) : Prop :=
  True

def Pre_InHyIdeal (m : (ℓ : Loc Cert.InHyIdeal.nD Cert.InHyIdeal.τ Cert.InHyIdeal.sig) → Buf (Elt Ideal) ℓ) : Prop :=
  True

def Pre_InHyRefIdeal (m : (ℓ : Loc Cert.InHyRefIdeal.nD Cert.InHyRefIdeal.τ Cert.InHyRefIdeal.sig) → Buf (Elt Ideal) ℓ) : Prop :=
  True

def Pre_InRt (m : (ℓ : Loc Cert.InRt.nD Cert.InRt.τ Cert.InRt.sig) → Buf (Elt Bits) ℓ) : Prop :=
  True

def Pre_InRtIdeal (m : (ℓ : Loc Cert.InRtIdeal.nD Cert.InRtIdeal.τ Cert.InRtIdeal.sig) → Buf (Elt Ideal) ℓ) : Prop :=
  True

def Pre_InRtRefIdeal (m : (ℓ : Loc Cert.InRtRefIdeal.nD Cert.InRtRefIdeal.τ Cert.InRtRefIdeal.sig) → Buf (Elt Ideal) ℓ) : Prop :=
  True

def Pre_InLru (m : (ℓ : Loc Cert.InLru.nD Cert.InLru.τ Cert.InLru.sig) → Buf (Elt Bits) ℓ) : Prop :=
  True

def Pre_InLruIdeal (m : (ℓ : Loc Cert.InLruIdeal.nD Cert.InLruIdeal.τ Cert.InLruIdeal.sig) → Buf (Elt Ideal) ℓ) : Prop :=
  True

def Pre_InLruRefIdeal (m : (ℓ : Loc Cert.InLruRefIdeal.nD Cert.InLruRefIdeal.τ Cert.InLruRefIdeal.sig) → Buf (Elt Ideal) ℓ) : Prop :=
  True

def Pre_OutHg (m : (ℓ : Loc Cert.OutHg.nD Cert.OutHg.τ Cert.OutHg.sig) → Buf (Elt Bits) ℓ) : Prop :=
  True

def Pre_OutHgIdeal (m : (ℓ : Loc Cert.OutHgIdeal.nD Cert.OutHgIdeal.τ Cert.OutHgIdeal.sig) → Buf (Elt Ideal) ℓ) : Prop :=
  True

def Pre_OutHgRefIdeal (m : (ℓ : Loc Cert.OutHgRefIdeal.nD Cert.OutHgRefIdeal.τ Cert.OutHgRefIdeal.sig) → Buf (Elt Ideal) ℓ) : Prop :=
  True

def Pre_OutHy (m : (ℓ : Loc Cert.OutHy.nD Cert.OutHy.τ Cert.OutHy.sig) → Buf (Elt Bits) ℓ) : Prop :=
  True

def Pre_OutHyIdeal (m : (ℓ : Loc Cert.OutHyIdeal.nD Cert.OutHyIdeal.τ Cert.OutHyIdeal.sig) → Buf (Elt Ideal) ℓ) : Prop :=
  True

def Pre_OutHyRefIdeal (m : (ℓ : Loc Cert.OutHyRefIdeal.nD Cert.OutHyRefIdeal.τ Cert.OutHyRefIdeal.sig) → Buf (Elt Ideal) ℓ) : Prop :=
  True

def Pre_OutLru (m : (ℓ : Loc Cert.OutLru.nD Cert.OutLru.τ Cert.OutLru.sig) → Buf (Elt Bits) ℓ) : Prop :=
  True

def Pre_OutLruIdeal (m : (ℓ : Loc Cert.OutLruIdeal.nD Cert.OutLruIdeal.τ Cert.OutLruIdeal.sig) → Buf (Elt Ideal) ℓ) : Prop :=
  True

def Pre_OutLruRefIdeal (m : (ℓ : Loc Cert.OutLruRefIdeal.nD Cert.OutLruRefIdeal.τ Cert.OutLruRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_HyPre (m : (ℓ : Loc Cert.HyPre.nD Cert.HyPre.τ Cert.HyPre.sig) → Buf (Elt Bits) ℓ) : Prop :=
  True

def Pre_HyPreIdeal (m : (ℓ : Loc Cert.HyPreIdeal.nD Cert.HyPreIdeal.τ Cert.HyPreIdeal.sig) → Buf (Elt Ideal) ℓ) : Prop :=
  True

def Pre_HyPreRefIdeal (m : (ℓ : Loc Cert.HyPreRefIdeal.nD Cert.HyPreRefIdeal.τ Cert.HyPreRefIdeal.sig) → Buf (Elt Ideal) ℓ) : Prop :=
  True

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdIdeal_pre_finite [hRetFwdIdeal : Cert.RetFwdIdeal.Facts] [hPre_finite : Cert.Pre_finite.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal_finite m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0))
      ∧ r.2.sem = fun _ => 0)

def quiescent_RetFwdRefIdeal_pre_finite [hRetFwdRefIdeal : Cert.RetFwdRefIdeal.Facts] [hPre_finite : Cert.Pre_finite.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal_finite m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1))
      ∧ r.2.sem = fun _ => 0)

def quiescent_RetBwdIdeal_pre_finite_proj [hRetBwdIdeal : Cert.RetBwdIdeal.Facts] [hPre_finite_proj : Cert.Pre_finite_proj.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal_finite_proj m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1))
      ∧ r.2.sem = fun _ => 0)

def quiescent_RetBwdRefIdeal [hRetBwdRefIdeal : Cert.RetBwdRefIdeal.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1))
      ∧ r.2.sem = fun _ => 0)

def quiescent_RetBwdRefIdeal_pre_finite_proj [hRetBwdRefIdeal : Cert.RetBwdRefIdeal.Facts] [hPre_finite_proj : Cert.Pre_finite_proj.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal_finite_proj m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1))
      ∧ r.2.sem = fun _ => 0)

def quiescent_OutRet [hOutRet : Cert.OutRet.Facts] : Prop :=
  ∀ (m : (ℓ : Loc Cert.OutRet.nD Cert.OutRet.τ Cert.OutRet.sig) → Buf (Elt Bits) ℓ) (g : Dev Cert.OutRet.nD → PrngReg), Pre_OutRet m →
    θ_run (Cert.OutRet.defs (F := Bits)) (onTc (τ := Cert.OutRet.τ) (Cert.OutRet.main (F := Bits))) ⟨m, fun _ => 0, g⟩ (fun r => (∀ c : Dev Cert.OutRet.nD,
      r.2.mem ((c.tc : Thread Cert.OutRet.nD Cert.OutRet.τ).loc Cert.OutRet.main_arg0) = m ((c.tc : Thread Cert.OutRet.nD Cert.OutRet.τ).loc Cert.OutRet.main_arg0)
      ∧ r.2.mem ((c.tc : Thread Cert.OutRet.nD Cert.OutRet.τ).loc Cert.OutRet.main_arg1) = m ((c.tc : Thread Cert.OutRet.nD Cert.OutRet.τ).loc Cert.OutRet.main_arg1)
      ∧ r.2.mem ((c.tc : Thread Cert.OutRet.nD Cert.OutRet.τ).loc Cert.OutRet.main_arg2) = m ((c.tc : Thread Cert.OutRet.nD Cert.OutRet.τ).loc Cert.OutRet.main_arg2)
      ∧ r.2.mem ((c.tc : Thread Cert.OutRet.nD Cert.OutRet.τ).loc Cert.OutRet.main_arg3) = m ((c.tc : Thread Cert.OutRet.nD Cert.OutRet.τ).loc Cert.OutRet.main_arg3)
      ∧ r.2.mem ((c.tc : Thread Cert.OutRet.nD Cert.OutRet.τ).loc Cert.OutRet.main_arg4) = m ((c.tc : Thread Cert.OutRet.nD Cert.OutRet.τ).loc Cert.OutRet.main_arg4)
      ∧ r.2.mem ((c.tc : Thread Cert.OutRet.nD Cert.OutRet.τ).loc Cert.OutRet.main_arg5) = m ((c.tc : Thread Cert.OutRet.nD Cert.OutRet.τ).loc Cert.OutRet.main_arg5))
      ∧ r.2.sem = fun _ => 0)

def quiescent_OutRetIdeal [hOutRetIdeal : Cert.OutRetIdeal.Facts] : Prop :=
  ∀ (m : (ℓ : Loc Cert.OutRetIdeal.nD Cert.OutRetIdeal.τ Cert.OutRetIdeal.sig) → Buf (Elt Ideal) ℓ) (g : Dev Cert.OutRetIdeal.nD → PrngReg), Pre_OutRetIdeal m →
    θ_run (Cert.OutRetIdeal.defs (F := Ideal)) (onTc (τ := Cert.OutRetIdeal.τ) (Cert.OutRetIdeal.main (F := Ideal))) ⟨m, fun _ => 0, g⟩ (fun r => (∀ c : Dev Cert.OutRetIdeal.nD,
      r.2.mem ((c.tc : Thread Cert.OutRetIdeal.nD Cert.OutRetIdeal.τ).loc Cert.OutRetIdeal.main_arg0) = m ((c.tc : Thread Cert.OutRetIdeal.nD Cert.OutRetIdeal.τ).loc Cert.OutRetIdeal.main_arg0)
      ∧ r.2.mem ((c.tc : Thread Cert.OutRetIdeal.nD Cert.OutRetIdeal.τ).loc Cert.OutRetIdeal.main_arg1) = m ((c.tc : Thread Cert.OutRetIdeal.nD Cert.OutRetIdeal.τ).loc Cert.OutRetIdeal.main_arg1)
      ∧ r.2.mem ((c.tc : Thread Cert.OutRetIdeal.nD Cert.OutRetIdeal.τ).loc Cert.OutRetIdeal.main_arg2) = m ((c.tc : Thread Cert.OutRetIdeal.nD Cert.OutRetIdeal.τ).loc Cert.OutRetIdeal.main_arg2)
      ∧ r.2.mem ((c.tc : Thread Cert.OutRetIdeal.nD Cert.OutRetIdeal.τ).loc Cert.OutRetIdeal.main_arg3) = m ((c.tc : Thread Cert.OutRetIdeal.nD Cert.OutRetIdeal.τ).loc Cert.OutRetIdeal.main_arg3)
      ∧ r.2.mem ((c.tc : Thread Cert.OutRetIdeal.nD Cert.OutRetIdeal.τ).loc Cert.OutRetIdeal.main_arg4) = m ((c.tc : Thread Cert.OutRetIdeal.nD Cert.OutRetIdeal.τ).loc Cert.OutRetIdeal.main_arg4)
      ∧ r.2.mem ((c.tc : Thread Cert.OutRetIdeal.nD Cert.OutRetIdeal.τ).loc Cert.OutRetIdeal.main_arg5) = m ((c.tc : Thread Cert.OutRetIdeal.nD Cert.OutRetIdeal.τ).loc Cert.OutRetIdeal.main_arg5))
      ∧ r.2.sem = fun _ => 0)

def quiescent_OutRetRefIdeal [hOutRetRefIdeal : Cert.OutRetRefIdeal.Facts] : Prop :=
  ∀ (m : (ℓ : Loc Cert.OutRetRefIdeal.nD Cert.OutRetRefIdeal.τ Cert.OutRetRefIdeal.sig) → Buf (Elt Ideal) ℓ) (g : Dev Cert.OutRetRefIdeal.nD → PrngReg), Pre_OutRetRefIdeal m →
    θ_run (Cert.OutRetRefIdeal.defs (F := Ideal)) (onTc (τ := Cert.OutRetRefIdeal.τ) (Cert.OutRetRefIdeal.main (F := Ideal))) ⟨m, fun _ => 0, g⟩ (fun r => (∀ c : Dev Cert.OutRetRefIdeal.nD,
      r.2.mem ((c.tc : Thread Cert.OutRetRefIdeal.nD Cert.OutRetRefIdeal.τ).loc Cert.OutRetRefIdeal.main_arg0) = m ((c.tc : Thread Cert.OutRetRefIdeal.nD Cert.OutRetRefIdeal.τ).loc Cert.OutRetRefIdeal.main_arg0)
      ∧ r.2.mem ((c.tc : Thread Cert.OutRetRefIdeal.nD Cert.OutRetRefIdeal.τ).loc Cert.OutRetRefIdeal.main_arg1) = m ((c.tc : Thread Cert.OutRetRefIdeal.nD Cert.OutRetRefIdeal.τ).loc Cert.OutRetRefIdeal.main_arg1)
      ∧ r.2.mem ((c.tc : Thread Cert.OutRetRefIdeal.nD Cert.OutRetRefIdeal.τ).loc Cert.OutRetRefIdeal.main_arg2) = m ((c.tc : Thread Cert.OutRetRefIdeal.nD Cert.OutRetRefIdeal.τ).loc Cert.OutRetRefIdeal.main_arg2)
      ∧ r.2.mem ((c.tc : Thread Cert.OutRetRefIdeal.nD Cert.OutRetRefIdeal.τ).loc Cert.OutRetRefIdeal.main_arg3) = m ((c.tc : Thread Cert.OutRetRefIdeal.nD Cert.OutRetRefIdeal.τ).loc Cert.OutRetRefIdeal.main_arg3)
      ∧ r.2.mem ((c.tc : Thread Cert.OutRetRefIdeal.nD Cert.OutRetRefIdeal.τ).loc Cert.OutRetRefIdeal.main_arg4) = m ((c.tc : Thread Cert.OutRetRefIdeal.nD Cert.OutRetRefIdeal.τ).loc Cert.OutRetRefIdeal.main_arg4)
      ∧ r.2.mem ((c.tc : Thread Cert.OutRetRefIdeal.nD Cert.OutRetRefIdeal.τ).loc Cert.OutRetRefIdeal.main_arg5) = m ((c.tc : Thread Cert.OutRetRefIdeal.nD Cert.OutRetRefIdeal.τ).loc Cert.OutRetRefIdeal.main_arg5))
      ∧ r.2.sem = fun _ => 0)

def quiescent_InHg [hInHg : Cert.InHg.Facts] : Prop :=
  ∀ (m : (ℓ : Loc Cert.InHg.nD Cert.InHg.τ Cert.InHg.sig) → Buf (Elt Bits) ℓ) (g : Dev Cert.InHg.nD → PrngReg), Pre_InHg m →
    θ_run (Cert.InHg.defs (F := Bits)) (onTc (τ := Cert.InHg.τ) (Cert.InHg.main (F := Bits))) ⟨m, fun _ => 0, g⟩ (fun r => (∀ c : Dev Cert.InHg.nD,
      r.2.mem ((c.tc : Thread Cert.InHg.nD Cert.InHg.τ).loc Cert.InHg.main_arg0) = m ((c.tc : Thread Cert.InHg.nD Cert.InHg.τ).loc Cert.InHg.main_arg0)
      ∧ r.2.mem ((c.tc : Thread Cert.InHg.nD Cert.InHg.τ).loc Cert.InHg.main_arg1) = m ((c.tc : Thread Cert.InHg.nD Cert.InHg.τ).loc Cert.InHg.main_arg1)
      ∧ r.2.mem ((c.tc : Thread Cert.InHg.nD Cert.InHg.τ).loc Cert.InHg.main_arg2) = m ((c.tc : Thread Cert.InHg.nD Cert.InHg.τ).loc Cert.InHg.main_arg2)
      ∧ r.2.mem ((c.tc : Thread Cert.InHg.nD Cert.InHg.τ).loc Cert.InHg.main_arg3) = m ((c.tc : Thread Cert.InHg.nD Cert.InHg.τ).loc Cert.InHg.main_arg3)
      ∧ r.2.mem ((c.tc : Thread Cert.InHg.nD Cert.InHg.τ).loc Cert.InHg.main_arg4) = m ((c.tc : Thread Cert.InHg.nD Cert.InHg.τ).loc Cert.InHg.main_arg4))
      ∧ r.2.sem = fun _ => 0)

def quiescent_InHgIdeal [hInHgIdeal : Cert.InHgIdeal.Facts] : Prop :=
  ∀ (m : (ℓ : Loc Cert.InHgIdeal.nD Cert.InHgIdeal.τ Cert.InHgIdeal.sig) → Buf (Elt Ideal) ℓ) (g : Dev Cert.InHgIdeal.nD → PrngReg), Pre_InHgIdeal m →
    θ_run (Cert.InHgIdeal.defs (F := Ideal)) (onTc (τ := Cert.InHgIdeal.τ) (Cert.InHgIdeal.main (F := Ideal))) ⟨m, fun _ => 0, g⟩ (fun r => (∀ c : Dev Cert.InHgIdeal.nD,
      r.2.mem ((c.tc : Thread Cert.InHgIdeal.nD Cert.InHgIdeal.τ).loc Cert.InHgIdeal.main_arg0) = m ((c.tc : Thread Cert.InHgIdeal.nD Cert.InHgIdeal.τ).loc Cert.InHgIdeal.main_arg0)
      ∧ r.2.mem ((c.tc : Thread Cert.InHgIdeal.nD Cert.InHgIdeal.τ).loc Cert.InHgIdeal.main_arg1) = m ((c.tc : Thread Cert.InHgIdeal.nD Cert.InHgIdeal.τ).loc Cert.InHgIdeal.main_arg1)
      ∧ r.2.mem ((c.tc : Thread Cert.InHgIdeal.nD Cert.InHgIdeal.τ).loc Cert.InHgIdeal.main_arg2) = m ((c.tc : Thread Cert.InHgIdeal.nD Cert.InHgIdeal.τ).loc Cert.InHgIdeal.main_arg2)
      ∧ r.2.mem ((c.tc : Thread Cert.InHgIdeal.nD Cert.InHgIdeal.τ).loc Cert.InHgIdeal.main_arg3) = m ((c.tc : Thread Cert.InHgIdeal.nD Cert.InHgIdeal.τ).loc Cert.InHgIdeal.main_arg3)
      ∧ r.2.mem ((c.tc : Thread Cert.InHgIdeal.nD Cert.InHgIdeal.τ).loc Cert.InHgIdeal.main_arg4) = m ((c.tc : Thread Cert.InHgIdeal.nD Cert.InHgIdeal.τ).loc Cert.InHgIdeal.main_arg4))
      ∧ r.2.sem = fun _ => 0)

def quiescent_InHgRefIdeal [hInHgRefIdeal : Cert.InHgRefIdeal.Facts] : Prop :=
  ∀ (m : (ℓ : Loc Cert.InHgRefIdeal.nD Cert.InHgRefIdeal.τ Cert.InHgRefIdeal.sig) → Buf (Elt Ideal) ℓ) (g : Dev Cert.InHgRefIdeal.nD → PrngReg), Pre_InHgRefIdeal m →
    θ_run (Cert.InHgRefIdeal.defs (F := Ideal)) (onTc (τ := Cert.InHgRefIdeal.τ) (Cert.InHgRefIdeal.main (F := Ideal))) ⟨m, fun _ => 0, g⟩ (fun r => (∀ c : Dev Cert.InHgRefIdeal.nD,
      r.2.mem ((c.tc : Thread Cert.InHgRefIdeal.nD Cert.InHgRefIdeal.τ).loc Cert.InHgRefIdeal.main_arg0) = m ((c.tc : Thread Cert.InHgRefIdeal.nD Cert.InHgRefIdeal.τ).loc Cert.InHgRefIdeal.main_arg0)
      ∧ r.2.mem ((c.tc : Thread Cert.InHgRefIdeal.nD Cert.InHgRefIdeal.τ).loc Cert.InHgRefIdeal.main_arg1) = m ((c.tc : Thread Cert.InHgRefIdeal.nD Cert.InHgRefIdeal.τ).loc Cert.InHgRefIdeal.main_arg1)
      ∧ r.2.mem ((c.tc : Thread Cert.InHgRefIdeal.nD Cert.InHgRefIdeal.τ).loc Cert.InHgRefIdeal.main_arg2) = m ((c.tc : Thread Cert.InHgRefIdeal.nD Cert.InHgRefIdeal.τ).loc Cert.InHgRefIdeal.main_arg2)
      ∧ r.2.mem ((c.tc : Thread Cert.InHgRefIdeal.nD Cert.InHgRefIdeal.τ).loc Cert.InHgRefIdeal.main_arg3) = m ((c.tc : Thread Cert.InHgRefIdeal.nD Cert.InHgRefIdeal.τ).loc Cert.InHgRefIdeal.main_arg3)
      ∧ r.2.mem ((c.tc : Thread Cert.InHgRefIdeal.nD Cert.InHgRefIdeal.τ).loc Cert.InHgRefIdeal.main_arg4) = m ((c.tc : Thread Cert.InHgRefIdeal.nD Cert.InHgRefIdeal.τ).loc Cert.InHgRefIdeal.main_arg4))
      ∧ r.2.sem = fun _ => 0)

def quiescent_InHy [hInHy : Cert.InHy.Facts] : Prop :=
  ∀ (m : (ℓ : Loc Cert.InHy.nD Cert.InHy.τ Cert.InHy.sig) → Buf (Elt Bits) ℓ) (g : Dev Cert.InHy.nD → PrngReg), Pre_InHy m →
    θ_run (Cert.InHy.defs (F := Bits)) (onTc (τ := Cert.InHy.τ) (Cert.InHy.main (F := Bits))) ⟨m, fun _ => 0, g⟩ (fun r => (∀ c : Dev Cert.InHy.nD,
      r.2.mem ((c.tc : Thread Cert.InHy.nD Cert.InHy.τ).loc Cert.InHy.main_arg0) = m ((c.tc : Thread Cert.InHy.nD Cert.InHy.τ).loc Cert.InHy.main_arg0)
      ∧ r.2.mem ((c.tc : Thread Cert.InHy.nD Cert.InHy.τ).loc Cert.InHy.main_arg1) = m ((c.tc : Thread Cert.InHy.nD Cert.InHy.τ).loc Cert.InHy.main_arg1)
      ∧ r.2.mem ((c.tc : Thread Cert.InHy.nD Cert.InHy.τ).loc Cert.InHy.main_arg2) = m ((c.tc : Thread Cert.InHy.nD Cert.InHy.τ).loc Cert.InHy.main_arg2)
      ∧ r.2.mem ((c.tc : Thread Cert.InHy.nD Cert.InHy.τ).loc Cert.InHy.main_arg3) = m ((c.tc : Thread Cert.InHy.nD Cert.InHy.τ).loc Cert.InHy.main_arg3)
      ∧ r.2.mem ((c.tc : Thread Cert.InHy.nD Cert.InHy.τ).loc Cert.InHy.main_arg4) = m ((c.tc : Thread Cert.InHy.nD Cert.InHy.τ).loc Cert.InHy.main_arg4)
      ∧ r.2.mem ((c.tc : Thread Cert.InHy.nD Cert.InHy.τ).loc Cert.InHy.main_arg5) = m ((c.tc : Thread Cert.InHy.nD Cert.InHy.τ).loc Cert.InHy.main_arg5))
      ∧ r.2.sem = fun _ => 0)

def quiescent_InHyIdeal [hInHyIdeal : Cert.InHyIdeal.Facts] : Prop :=
  ∀ (m : (ℓ : Loc Cert.InHyIdeal.nD Cert.InHyIdeal.τ Cert.InHyIdeal.sig) → Buf (Elt Ideal) ℓ) (g : Dev Cert.InHyIdeal.nD → PrngReg), Pre_InHyIdeal m →
    θ_run (Cert.InHyIdeal.defs (F := Ideal)) (onTc (τ := Cert.InHyIdeal.τ) (Cert.InHyIdeal.main (F := Ideal))) ⟨m, fun _ => 0, g⟩ (fun r => (∀ c : Dev Cert.InHyIdeal.nD,
      r.2.mem ((c.tc : Thread Cert.InHyIdeal.nD Cert.InHyIdeal.τ).loc Cert.InHyIdeal.main_arg0) = m ((c.tc : Thread Cert.InHyIdeal.nD Cert.InHyIdeal.τ).loc Cert.InHyIdeal.main_arg0)
      ∧ r.2.mem ((c.tc : Thread Cert.InHyIdeal.nD Cert.InHyIdeal.τ).loc Cert.InHyIdeal.main_arg1) = m ((c.tc : Thread Cert.InHyIdeal.nD Cert.InHyIdeal.τ).loc Cert.InHyIdeal.main_arg1)
      ∧ r.2.mem ((c.tc : Thread Cert.InHyIdeal.nD Cert.InHyIdeal.τ).loc Cert.InHyIdeal.main_arg2) = m ((c.tc : Thread Cert.InHyIdeal.nD Cert.InHyIdeal.τ).loc Cert.InHyIdeal.main_arg2)
      ∧ r.2.mem ((c.tc : Thread Cert.InHyIdeal.nD Cert.InHyIdeal.τ).loc Cert.InHyIdeal.main_arg3) = m ((c.tc : Thread Cert.InHyIdeal.nD Cert.InHyIdeal.τ).loc Cert.InHyIdeal.main_arg3)
      ∧ r.2.mem ((c.tc : Thread Cert.InHyIdeal.nD Cert.InHyIdeal.τ).loc Cert.InHyIdeal.main_arg4) = m ((c.tc : Thread Cert.InHyIdeal.nD Cert.InHyIdeal.τ).loc Cert.InHyIdeal.main_arg4)
      ∧ r.2.mem ((c.tc : Thread Cert.InHyIdeal.nD Cert.InHyIdeal.τ).loc Cert.InHyIdeal.main_arg5) = m ((c.tc : Thread Cert.InHyIdeal.nD Cert.InHyIdeal.τ).loc Cert.InHyIdeal.main_arg5))
      ∧ r.2.sem = fun _ => 0)

def quiescent_InHyRefIdeal [hInHyRefIdeal : Cert.InHyRefIdeal.Facts] : Prop :=
  ∀ (m : (ℓ : Loc Cert.InHyRefIdeal.nD Cert.InHyRefIdeal.τ Cert.InHyRefIdeal.sig) → Buf (Elt Ideal) ℓ) (g : Dev Cert.InHyRefIdeal.nD → PrngReg), Pre_InHyRefIdeal m →
    θ_run (Cert.InHyRefIdeal.defs (F := Ideal)) (onTc (τ := Cert.InHyRefIdeal.τ) (Cert.InHyRefIdeal.main (F := Ideal))) ⟨m, fun _ => 0, g⟩ (fun r => (∀ c : Dev Cert.InHyRefIdeal.nD,
      r.2.mem ((c.tc : Thread Cert.InHyRefIdeal.nD Cert.InHyRefIdeal.τ).loc Cert.InHyRefIdeal.main_arg0) = m ((c.tc : Thread Cert.InHyRefIdeal.nD Cert.InHyRefIdeal.τ).loc Cert.InHyRefIdeal.main_arg0)
      ∧ r.2.mem ((c.tc : Thread Cert.InHyRefIdeal.nD Cert.InHyRefIdeal.τ).loc Cert.InHyRefIdeal.main_arg1) = m ((c.tc : Thread Cert.InHyRefIdeal.nD Cert.InHyRefIdeal.τ).loc Cert.InHyRefIdeal.main_arg1)
      ∧ r.2.mem ((c.tc : Thread Cert.InHyRefIdeal.nD Cert.InHyRefIdeal.τ).loc Cert.InHyRefIdeal.main_arg2) = m ((c.tc : Thread Cert.InHyRefIdeal.nD Cert.InHyRefIdeal.τ).loc Cert.InHyRefIdeal.main_arg2)
      ∧ r.2.mem ((c.tc : Thread Cert.InHyRefIdeal.nD Cert.InHyRefIdeal.τ).loc Cert.InHyRefIdeal.main_arg3) = m ((c.tc : Thread Cert.InHyRefIdeal.nD Cert.InHyRefIdeal.τ).loc Cert.InHyRefIdeal.main_arg3)
      ∧ r.2.mem ((c.tc : Thread Cert.InHyRefIdeal.nD Cert.InHyRefIdeal.τ).loc Cert.InHyRefIdeal.main_arg4) = m ((c.tc : Thread Cert.InHyRefIdeal.nD Cert.InHyRefIdeal.τ).loc Cert.InHyRefIdeal.main_arg4)
      ∧ r.2.mem ((c.tc : Thread Cert.InHyRefIdeal.nD Cert.InHyRefIdeal.τ).loc Cert.InHyRefIdeal.main_arg5) = m ((c.tc : Thread Cert.InHyRefIdeal.nD Cert.InHyRefIdeal.τ).loc Cert.InHyRefIdeal.main_arg5))
      ∧ r.2.sem = fun _ => 0)

def quiescent_InRt [hInRt : Cert.InRt.Facts] : Prop :=
  ∀ (m : (ℓ : Loc Cert.InRt.nD Cert.InRt.τ Cert.InRt.sig) → Buf (Elt Bits) ℓ) (g : Dev Cert.InRt.nD → PrngReg), Pre_InRt m →
    θ_run (Cert.InRt.defs (F := Bits)) (onTc (τ := Cert.InRt.τ) (Cert.InRt.main (F := Bits))) ⟨m, fun _ => 0, g⟩ (fun r => (∀ c : Dev Cert.InRt.nD,
      r.2.mem ((c.tc : Thread Cert.InRt.nD Cert.InRt.τ).loc Cert.InRt.main_arg0) = m ((c.tc : Thread Cert.InRt.nD Cert.InRt.τ).loc Cert.InRt.main_arg0)
      ∧ r.2.mem ((c.tc : Thread Cert.InRt.nD Cert.InRt.τ).loc Cert.InRt.main_arg1) = m ((c.tc : Thread Cert.InRt.nD Cert.InRt.τ).loc Cert.InRt.main_arg1)
      ∧ r.2.mem ((c.tc : Thread Cert.InRt.nD Cert.InRt.τ).loc Cert.InRt.main_arg2) = m ((c.tc : Thread Cert.InRt.nD Cert.InRt.τ).loc Cert.InRt.main_arg2)
      ∧ r.2.mem ((c.tc : Thread Cert.InRt.nD Cert.InRt.τ).loc Cert.InRt.main_arg3) = m ((c.tc : Thread Cert.InRt.nD Cert.InRt.τ).loc Cert.InRt.main_arg3)
      ∧ r.2.mem ((c.tc : Thread Cert.InRt.nD Cert.InRt.τ).loc Cert.InRt.main_arg4) = m ((c.tc : Thread Cert.InRt.nD Cert.InRt.τ).loc Cert.InRt.main_arg4))
      ∧ r.2.sem = fun _ => 0)

def quiescent_InRtIdeal [hInRtIdeal : Cert.InRtIdeal.Facts] : Prop :=
  ∀ (m : (ℓ : Loc Cert.InRtIdeal.nD Cert.InRtIdeal.τ Cert.InRtIdeal.sig) → Buf (Elt Ideal) ℓ) (g : Dev Cert.InRtIdeal.nD → PrngReg), Pre_InRtIdeal m →
    θ_run (Cert.InRtIdeal.defs (F := Ideal)) (onTc (τ := Cert.InRtIdeal.τ) (Cert.InRtIdeal.main (F := Ideal))) ⟨m, fun _ => 0, g⟩ (fun r => (∀ c : Dev Cert.InRtIdeal.nD,
      r.2.mem ((c.tc : Thread Cert.InRtIdeal.nD Cert.InRtIdeal.τ).loc Cert.InRtIdeal.main_arg0) = m ((c.tc : Thread Cert.InRtIdeal.nD Cert.InRtIdeal.τ).loc Cert.InRtIdeal.main_arg0)
      ∧ r.2.mem ((c.tc : Thread Cert.InRtIdeal.nD Cert.InRtIdeal.τ).loc Cert.InRtIdeal.main_arg1) = m ((c.tc : Thread Cert.InRtIdeal.nD Cert.InRtIdeal.τ).loc Cert.InRtIdeal.main_arg1)
      ∧ r.2.mem ((c.tc : Thread Cert.InRtIdeal.nD Cert.InRtIdeal.τ).loc Cert.InRtIdeal.main_arg2) = m ((c.tc : Thread Cert.InRtIdeal.nD Cert.InRtIdeal.τ).loc Cert.InRtIdeal.main_arg2)
      ∧ r.2.mem ((c.tc : Thread Cert.InRtIdeal.nD Cert.InRtIdeal.τ).loc Cert.InRtIdeal.main_arg3) = m ((c.tc : Thread Cert.InRtIdeal.nD Cert.InRtIdeal.τ).loc Cert.InRtIdeal.main_arg3)
      ∧ r.2.mem ((c.tc : Thread Cert.InRtIdeal.nD Cert.InRtIdeal.τ).loc Cert.InRtIdeal.main_arg4) = m ((c.tc : Thread Cert.InRtIdeal.nD Cert.InRtIdeal.τ).loc Cert.InRtIdeal.main_arg4))
      ∧ r.2.sem = fun _ => 0)

def quiescent_InRtRefIdeal [hInRtRefIdeal : Cert.InRtRefIdeal.Facts] : Prop :=
  ∀ (m : (ℓ : Loc Cert.InRtRefIdeal.nD Cert.InRtRefIdeal.τ Cert.InRtRefIdeal.sig) → Buf (Elt Ideal) ℓ) (g : Dev Cert.InRtRefIdeal.nD → PrngReg), Pre_InRtRefIdeal m →
    θ_run (Cert.InRtRefIdeal.defs (F := Ideal)) (onTc (τ := Cert.InRtRefIdeal.τ) (Cert.InRtRefIdeal.main (F := Ideal))) ⟨m, fun _ => 0, g⟩ (fun r => (∀ c : Dev Cert.InRtRefIdeal.nD,
      r.2.mem ((c.tc : Thread Cert.InRtRefIdeal.nD Cert.InRtRefIdeal.τ).loc Cert.InRtRefIdeal.main_arg0) = m ((c.tc : Thread Cert.InRtRefIdeal.nD Cert.InRtRefIdeal.τ).loc Cert.InRtRefIdeal.main_arg0)
      ∧ r.2.mem ((c.tc : Thread Cert.InRtRefIdeal.nD Cert.InRtRefIdeal.τ).loc Cert.InRtRefIdeal.main_arg1) = m ((c.tc : Thread Cert.InRtRefIdeal.nD Cert.InRtRefIdeal.τ).loc Cert.InRtRefIdeal.main_arg1)
      ∧ r.2.mem ((c.tc : Thread Cert.InRtRefIdeal.nD Cert.InRtRefIdeal.τ).loc Cert.InRtRefIdeal.main_arg2) = m ((c.tc : Thread Cert.InRtRefIdeal.nD Cert.InRtRefIdeal.τ).loc Cert.InRtRefIdeal.main_arg2)
      ∧ r.2.mem ((c.tc : Thread Cert.InRtRefIdeal.nD Cert.InRtRefIdeal.τ).loc Cert.InRtRefIdeal.main_arg3) = m ((c.tc : Thread Cert.InRtRefIdeal.nD Cert.InRtRefIdeal.τ).loc Cert.InRtRefIdeal.main_arg3)
      ∧ r.2.mem ((c.tc : Thread Cert.InRtRefIdeal.nD Cert.InRtRefIdeal.τ).loc Cert.InRtRefIdeal.main_arg4) = m ((c.tc : Thread Cert.InRtRefIdeal.nD Cert.InRtRefIdeal.τ).loc Cert.InRtRefIdeal.main_arg4))
      ∧ r.2.sem = fun _ => 0)

def quiescent_InLru [hInLru : Cert.InLru.Facts] : Prop :=
  ∀ (m : (ℓ : Loc Cert.InLru.nD Cert.InLru.τ Cert.InLru.sig) → Buf (Elt Bits) ℓ) (g : Dev Cert.InLru.nD → PrngReg), Pre_InLru m →
    θ_run (Cert.InLru.defs (F := Bits)) (onTc (τ := Cert.InLru.τ) (Cert.InLru.main (F := Bits))) ⟨m, fun _ => 0, g⟩ (fun r => (∀ c : Dev Cert.InLru.nD,
      r.2.mem ((c.tc : Thread Cert.InLru.nD Cert.InLru.τ).loc Cert.InLru.main_arg0) = m ((c.tc : Thread Cert.InLru.nD Cert.InLru.τ).loc Cert.InLru.main_arg0)
      ∧ r.2.mem ((c.tc : Thread Cert.InLru.nD Cert.InLru.τ).loc Cert.InLru.main_arg1) = m ((c.tc : Thread Cert.InLru.nD Cert.InLru.τ).loc Cert.InLru.main_arg1)
      ∧ r.2.mem ((c.tc : Thread Cert.InLru.nD Cert.InLru.τ).loc Cert.InLru.main_arg2) = m ((c.tc : Thread Cert.InLru.nD Cert.InLru.τ).loc Cert.InLru.main_arg2)
      ∧ r.2.mem ((c.tc : Thread Cert.InLru.nD Cert.InLru.τ).loc Cert.InLru.main_arg3) = m ((c.tc : Thread Cert.InLru.nD Cert.InLru.τ).loc Cert.InLru.main_arg3)
      ∧ r.2.mem ((c.tc : Thread Cert.InLru.nD Cert.InLru.τ).loc Cert.InLru.main_arg4) = m ((c.tc : Thread Cert.InLru.nD Cert.InLru.τ).loc Cert.InLru.main_arg4))
      ∧ r.2.sem = fun _ => 0)

def quiescent_InLruIdeal [hInLruIdeal : Cert.InLruIdeal.Facts] : Prop :=
  ∀ (m : (ℓ : Loc Cert.InLruIdeal.nD Cert.InLruIdeal.τ Cert.InLruIdeal.sig) → Buf (Elt Ideal) ℓ) (g : Dev Cert.InLruIdeal.nD → PrngReg), Pre_InLruIdeal m →
    θ_run (Cert.InLruIdeal.defs (F := Ideal)) (onTc (τ := Cert.InLruIdeal.τ) (Cert.InLruIdeal.main (F := Ideal))) ⟨m, fun _ => 0, g⟩ (fun r => (∀ c : Dev Cert.InLruIdeal.nD,
      r.2.mem ((c.tc : Thread Cert.InLruIdeal.nD Cert.InLruIdeal.τ).loc Cert.InLruIdeal.main_arg0) = m ((c.tc : Thread Cert.InLruIdeal.nD Cert.InLruIdeal.τ).loc Cert.InLruIdeal.main_arg0)
      ∧ r.2.mem ((c.tc : Thread Cert.InLruIdeal.nD Cert.InLruIdeal.τ).loc Cert.InLruIdeal.main_arg1) = m ((c.tc : Thread Cert.InLruIdeal.nD Cert.InLruIdeal.τ).loc Cert.InLruIdeal.main_arg1)
      ∧ r.2.mem ((c.tc : Thread Cert.InLruIdeal.nD Cert.InLruIdeal.τ).loc Cert.InLruIdeal.main_arg2) = m ((c.tc : Thread Cert.InLruIdeal.nD Cert.InLruIdeal.τ).loc Cert.InLruIdeal.main_arg2)
      ∧ r.2.mem ((c.tc : Thread Cert.InLruIdeal.nD Cert.InLruIdeal.τ).loc Cert.InLruIdeal.main_arg3) = m ((c.tc : Thread Cert.InLruIdeal.nD Cert.InLruIdeal.τ).loc Cert.InLruIdeal.main_arg3)
      ∧ r.2.mem ((c.tc : Thread Cert.InLruIdeal.nD Cert.InLruIdeal.τ).loc Cert.InLruIdeal.main_arg4) = m ((c.tc : Thread Cert.InLruIdeal.nD Cert.InLruIdeal.τ).loc Cert.InLruIdeal.main_arg4))
      ∧ r.2.sem = fun _ => 0)

def quiescent_InLruRefIdeal [hInLruRefIdeal : Cert.InLruRefIdeal.Facts] : Prop :=
  ∀ (m : (ℓ : Loc Cert.InLruRefIdeal.nD Cert.InLruRefIdeal.τ Cert.InLruRefIdeal.sig) → Buf (Elt Ideal) ℓ) (g : Dev Cert.InLruRefIdeal.nD → PrngReg), Pre_InLruRefIdeal m →
    θ_run (Cert.InLruRefIdeal.defs (F := Ideal)) (onTc (τ := Cert.InLruRefIdeal.τ) (Cert.InLruRefIdeal.main (F := Ideal))) ⟨m, fun _ => 0, g⟩ (fun r => (∀ c : Dev Cert.InLruRefIdeal.nD,
      r.2.mem ((c.tc : Thread Cert.InLruRefIdeal.nD Cert.InLruRefIdeal.τ).loc Cert.InLruRefIdeal.main_arg0) = m ((c.tc : Thread Cert.InLruRefIdeal.nD Cert.InLruRefIdeal.τ).loc Cert.InLruRefIdeal.main_arg0)
      ∧ r.2.mem ((c.tc : Thread Cert.InLruRefIdeal.nD Cert.InLruRefIdeal.τ).loc Cert.InLruRefIdeal.main_arg1) = m ((c.tc : Thread Cert.InLruRefIdeal.nD Cert.InLruRefIdeal.τ).loc Cert.InLruRefIdeal.main_arg1)
      ∧ r.2.mem ((c.tc : Thread Cert.InLruRefIdeal.nD Cert.InLruRefIdeal.τ).loc Cert.InLruRefIdeal.main_arg2) = m ((c.tc : Thread Cert.InLruRefIdeal.nD Cert.InLruRefIdeal.τ).loc Cert.InLruRefIdeal.main_arg2)
      ∧ r.2.mem ((c.tc : Thread Cert.InLruRefIdeal.nD Cert.InLruRefIdeal.τ).loc Cert.InLruRefIdeal.main_arg3) = m ((c.tc : Thread Cert.InLruRefIdeal.nD Cert.InLruRefIdeal.τ).loc Cert.InLruRefIdeal.main_arg3)
      ∧ r.2.mem ((c.tc : Thread Cert.InLruRefIdeal.nD Cert.InLruRefIdeal.τ).loc Cert.InLruRefIdeal.main_arg4) = m ((c.tc : Thread Cert.InLruRefIdeal.nD Cert.InLruRefIdeal.τ).loc Cert.InLruRefIdeal.main_arg4))
      ∧ r.2.sem = fun _ => 0)

def quiescent_OutHg [hOutHg : Cert.OutHg.Facts] : Prop :=
  ∀ (m : (ℓ : Loc Cert.OutHg.nD Cert.OutHg.τ Cert.OutHg.sig) → Buf (Elt Bits) ℓ) (g : Dev Cert.OutHg.nD → PrngReg), Pre_OutHg m →
    θ_run (Cert.OutHg.defs (F := Bits)) (onTc (τ := Cert.OutHg.τ) (Cert.OutHg.main (F := Bits))) ⟨m, fun _ => 0, g⟩ (fun r => (∀ c : Dev Cert.OutHg.nD,
      r.2.mem ((c.tc : Thread Cert.OutHg.nD Cert.OutHg.τ).loc Cert.OutHg.main_arg0) = m ((c.tc : Thread Cert.OutHg.nD Cert.OutHg.τ).loc Cert.OutHg.main_arg0)
      ∧ r.2.mem ((c.tc : Thread Cert.OutHg.nD Cert.OutHg.τ).loc Cert.OutHg.main_arg1) = m ((c.tc : Thread Cert.OutHg.nD Cert.OutHg.τ).loc Cert.OutHg.main_arg1)
      ∧ r.2.mem ((c.tc : Thread Cert.OutHg.nD Cert.OutHg.τ).loc Cert.OutHg.main_arg2) = m ((c.tc : Thread Cert.OutHg.nD Cert.OutHg.τ).loc Cert.OutHg.main_arg2)
      ∧ r.2.mem ((c.tc : Thread Cert.OutHg.nD Cert.OutHg.τ).loc Cert.OutHg.main_arg3) = m ((c.tc : Thread Cert.OutHg.nD Cert.OutHg.τ).loc Cert.OutHg.main_arg3)
      ∧ r.2.mem ((c.tc : Thread Cert.OutHg.nD Cert.OutHg.τ).loc Cert.OutHg.main_arg4) = m ((c.tc : Thread Cert.OutHg.nD Cert.OutHg.τ).loc Cert.OutHg.main_arg4)
      ∧ r.2.mem ((c.tc : Thread Cert.OutHg.nD Cert.OutHg.τ).loc Cert.OutHg.main_arg5) = m ((c.tc : Thread Cert.OutHg.nD Cert.OutHg.τ).loc Cert.OutHg.main_arg5))
      ∧ r.2.sem = fun _ => 0)

def quiescent_OutHgIdeal [hOutHgIdeal : Cert.OutHgIdeal.Facts] : Prop :=
  ∀ (m : (ℓ : Loc Cert.OutHgIdeal.nD Cert.OutHgIdeal.τ Cert.OutHgIdeal.sig) → Buf (Elt Ideal) ℓ) (g : Dev Cert.OutHgIdeal.nD → PrngReg), Pre_OutHgIdeal m →
    θ_run (Cert.OutHgIdeal.defs (F := Ideal)) (onTc (τ := Cert.OutHgIdeal.τ) (Cert.OutHgIdeal.main (F := Ideal))) ⟨m, fun _ => 0, g⟩ (fun r => (∀ c : Dev Cert.OutHgIdeal.nD,
      r.2.mem ((c.tc : Thread Cert.OutHgIdeal.nD Cert.OutHgIdeal.τ).loc Cert.OutHgIdeal.main_arg0) = m ((c.tc : Thread Cert.OutHgIdeal.nD Cert.OutHgIdeal.τ).loc Cert.OutHgIdeal.main_arg0)
      ∧ r.2.mem ((c.tc : Thread Cert.OutHgIdeal.nD Cert.OutHgIdeal.τ).loc Cert.OutHgIdeal.main_arg1) = m ((c.tc : Thread Cert.OutHgIdeal.nD Cert.OutHgIdeal.τ).loc Cert.OutHgIdeal.main_arg1)
      ∧ r.2.mem ((c.tc : Thread Cert.OutHgIdeal.nD Cert.OutHgIdeal.τ).loc Cert.OutHgIdeal.main_arg2) = m ((c.tc : Thread Cert.OutHgIdeal.nD Cert.OutHgIdeal.τ).loc Cert.OutHgIdeal.main_arg2)
      ∧ r.2.mem ((c.tc : Thread Cert.OutHgIdeal.nD Cert.OutHgIdeal.τ).loc Cert.OutHgIdeal.main_arg3) = m ((c.tc : Thread Cert.OutHgIdeal.nD Cert.OutHgIdeal.τ).loc Cert.OutHgIdeal.main_arg3)
      ∧ r.2.mem ((c.tc : Thread Cert.OutHgIdeal.nD Cert.OutHgIdeal.τ).loc Cert.OutHgIdeal.main_arg4) = m ((c.tc : Thread Cert.OutHgIdeal.nD Cert.OutHgIdeal.τ).loc Cert.OutHgIdeal.main_arg4)
      ∧ r.2.mem ((c.tc : Thread Cert.OutHgIdeal.nD Cert.OutHgIdeal.τ).loc Cert.OutHgIdeal.main_arg5) = m ((c.tc : Thread Cert.OutHgIdeal.nD Cert.OutHgIdeal.τ).loc Cert.OutHgIdeal.main_arg5))
      ∧ r.2.sem = fun _ => 0)

def quiescent_OutHgRefIdeal [hOutHgRefIdeal : Cert.OutHgRefIdeal.Facts] : Prop :=
  ∀ (m : (ℓ : Loc Cert.OutHgRefIdeal.nD Cert.OutHgRefIdeal.τ Cert.OutHgRefIdeal.sig) → Buf (Elt Ideal) ℓ) (g : Dev Cert.OutHgRefIdeal.nD → PrngReg), Pre_OutHgRefIdeal m →
    θ_run (Cert.OutHgRefIdeal.defs (F := Ideal)) (onTc (τ := Cert.OutHgRefIdeal.τ) (Cert.OutHgRefIdeal.main (F := Ideal))) ⟨m, fun _ => 0, g⟩ (fun r => (∀ c : Dev Cert.OutHgRefIdeal.nD,
      r.2.mem ((c.tc : Thread Cert.OutHgRefIdeal.nD Cert.OutHgRefIdeal.τ).loc Cert.OutHgRefIdeal.main_arg0) = m ((c.tc : Thread Cert.OutHgRefIdeal.nD Cert.OutHgRefIdeal.τ).loc Cert.OutHgRefIdeal.main_arg0)
      ∧ r.2.mem ((c.tc : Thread Cert.OutHgRefIdeal.nD Cert.OutHgRefIdeal.τ).loc Cert.OutHgRefIdeal.main_arg1) = m ((c.tc : Thread Cert.OutHgRefIdeal.nD Cert.OutHgRefIdeal.τ).loc Cert.OutHgRefIdeal.main_arg1)
      ∧ r.2.mem ((c.tc : Thread Cert.OutHgRefIdeal.nD Cert.OutHgRefIdeal.τ).loc Cert.OutHgRefIdeal.main_arg2) = m ((c.tc : Thread Cert.OutHgRefIdeal.nD Cert.OutHgRefIdeal.τ).loc Cert.OutHgRefIdeal.main_arg2)
      ∧ r.2.mem ((c.tc : Thread Cert.OutHgRefIdeal.nD Cert.OutHgRefIdeal.τ).loc Cert.OutHgRefIdeal.main_arg3) = m ((c.tc : Thread Cert.OutHgRefIdeal.nD Cert.OutHgRefIdeal.τ).loc Cert.OutHgRefIdeal.main_arg3)
      ∧ r.2.mem ((c.tc : Thread Cert.OutHgRefIdeal.nD Cert.OutHgRefIdeal.τ).loc Cert.OutHgRefIdeal.main_arg4) = m ((c.tc : Thread Cert.OutHgRefIdeal.nD Cert.OutHgRefIdeal.τ).loc Cert.OutHgRefIdeal.main_arg4)
      ∧ r.2.mem ((c.tc : Thread Cert.OutHgRefIdeal.nD Cert.OutHgRefIdeal.τ).loc Cert.OutHgRefIdeal.main_arg5) = m ((c.tc : Thread Cert.OutHgRefIdeal.nD Cert.OutHgRefIdeal.τ).loc Cert.OutHgRefIdeal.main_arg5))
      ∧ r.2.sem = fun _ => 0)

def quiescent_OutHy [hOutHy : Cert.OutHy.Facts] : Prop :=
  ∀ (m : (ℓ : Loc Cert.OutHy.nD Cert.OutHy.τ Cert.OutHy.sig) → Buf (Elt Bits) ℓ) (g : Dev Cert.OutHy.nD → PrngReg), Pre_OutHy m →
    θ_run (Cert.OutHy.defs (F := Bits)) (onTc (τ := Cert.OutHy.τ) (Cert.OutHy.main (F := Bits))) ⟨m, fun _ => 0, g⟩ (fun r => (∀ c : Dev Cert.OutHy.nD,
      r.2.mem ((c.tc : Thread Cert.OutHy.nD Cert.OutHy.τ).loc Cert.OutHy.main_arg0) = m ((c.tc : Thread Cert.OutHy.nD Cert.OutHy.τ).loc Cert.OutHy.main_arg0)
      ∧ r.2.mem ((c.tc : Thread Cert.OutHy.nD Cert.OutHy.τ).loc Cert.OutHy.main_arg1) = m ((c.tc : Thread Cert.OutHy.nD Cert.OutHy.τ).loc Cert.OutHy.main_arg1)
      ∧ r.2.mem ((c.tc : Thread Cert.OutHy.nD Cert.OutHy.τ).loc Cert.OutHy.main_arg2) = m ((c.tc : Thread Cert.OutHy.nD Cert.OutHy.τ).loc Cert.OutHy.main_arg2)
      ∧ r.2.mem ((c.tc : Thread Cert.OutHy.nD Cert.OutHy.τ).loc Cert.OutHy.main_arg3) = m ((c.tc : Thread Cert.OutHy.nD Cert.OutHy.τ).loc Cert.OutHy.main_arg3)
      ∧ r.2.mem ((c.tc : Thread Cert.OutHy.nD Cert.OutHy.τ).loc Cert.OutHy.main_arg4) = m ((c.tc : Thread Cert.OutHy.nD Cert.OutHy.τ).loc Cert.OutHy.main_arg4)
      ∧ r.2.mem ((c.tc : Thread Cert.OutHy.nD Cert.OutHy.τ).loc Cert.OutHy.main_arg5) = m ((c.tc : Thread Cert.OutHy.nD Cert.OutHy.τ).loc Cert.OutHy.main_arg5)
      ∧ r.2.mem ((c.tc : Thread Cert.OutHy.nD Cert.OutHy.τ).loc Cert.OutHy.main_arg6) = m ((c.tc : Thread Cert.OutHy.nD Cert.OutHy.τ).loc Cert.OutHy.main_arg6))
      ∧ r.2.sem = fun _ => 0)

def quiescent_OutHyIdeal [hOutHyIdeal : Cert.OutHyIdeal.Facts] : Prop :=
  ∀ (m : (ℓ : Loc Cert.OutHyIdeal.nD Cert.OutHyIdeal.τ Cert.OutHyIdeal.sig) → Buf (Elt Ideal) ℓ) (g : Dev Cert.OutHyIdeal.nD → PrngReg), Pre_OutHyIdeal m →
    θ_run (Cert.OutHyIdeal.defs (F := Ideal)) (onTc (τ := Cert.OutHyIdeal.τ) (Cert.OutHyIdeal.main (F := Ideal))) ⟨m, fun _ => 0, g⟩ (fun r => (∀ c : Dev Cert.OutHyIdeal.nD,
      r.2.mem ((c.tc : Thread Cert.OutHyIdeal.nD Cert.OutHyIdeal.τ).loc Cert.OutHyIdeal.main_arg0) = m ((c.tc : Thread Cert.OutHyIdeal.nD Cert.OutHyIdeal.τ).loc Cert.OutHyIdeal.main_arg0)
      ∧ r.2.mem ((c.tc : Thread Cert.OutHyIdeal.nD Cert.OutHyIdeal.τ).loc Cert.OutHyIdeal.main_arg1) = m ((c.tc : Thread Cert.OutHyIdeal.nD Cert.OutHyIdeal.τ).loc Cert.OutHyIdeal.main_arg1)
      ∧ r.2.mem ((c.tc : Thread Cert.OutHyIdeal.nD Cert.OutHyIdeal.τ).loc Cert.OutHyIdeal.main_arg2) = m ((c.tc : Thread Cert.OutHyIdeal.nD Cert.OutHyIdeal.τ).loc Cert.OutHyIdeal.main_arg2)
      ∧ r.2.mem ((c.tc : Thread Cert.OutHyIdeal.nD Cert.OutHyIdeal.τ).loc Cert.OutHyIdeal.main_arg3) = m ((c.tc : Thread Cert.OutHyIdeal.nD Cert.OutHyIdeal.τ).loc Cert.OutHyIdeal.main_arg3)
      ∧ r.2.mem ((c.tc : Thread Cert.OutHyIdeal.nD Cert.OutHyIdeal.τ).loc Cert.OutHyIdeal.main_arg4) = m ((c.tc : Thread Cert.OutHyIdeal.nD Cert.OutHyIdeal.τ).loc Cert.OutHyIdeal.main_arg4)
      ∧ r.2.mem ((c.tc : Thread Cert.OutHyIdeal.nD Cert.OutHyIdeal.τ).loc Cert.OutHyIdeal.main_arg5) = m ((c.tc : Thread Cert.OutHyIdeal.nD Cert.OutHyIdeal.τ).loc Cert.OutHyIdeal.main_arg5)
      ∧ r.2.mem ((c.tc : Thread Cert.OutHyIdeal.nD Cert.OutHyIdeal.τ).loc Cert.OutHyIdeal.main_arg6) = m ((c.tc : Thread Cert.OutHyIdeal.nD Cert.OutHyIdeal.τ).loc Cert.OutHyIdeal.main_arg6))
      ∧ r.2.sem = fun _ => 0)

def quiescent_OutHyRefIdeal [hOutHyRefIdeal : Cert.OutHyRefIdeal.Facts] : Prop :=
  ∀ (m : (ℓ : Loc Cert.OutHyRefIdeal.nD Cert.OutHyRefIdeal.τ Cert.OutHyRefIdeal.sig) → Buf (Elt Ideal) ℓ) (g : Dev Cert.OutHyRefIdeal.nD → PrngReg), Pre_OutHyRefIdeal m →
    θ_run (Cert.OutHyRefIdeal.defs (F := Ideal)) (onTc (τ := Cert.OutHyRefIdeal.τ) (Cert.OutHyRefIdeal.main (F := Ideal))) ⟨m, fun _ => 0, g⟩ (fun r => (∀ c : Dev Cert.OutHyRefIdeal.nD,
      r.2.mem ((c.tc : Thread Cert.OutHyRefIdeal.nD Cert.OutHyRefIdeal.τ).loc Cert.OutHyRefIdeal.main_arg0) = m ((c.tc : Thread Cert.OutHyRefIdeal.nD Cert.OutHyRefIdeal.τ).loc Cert.OutHyRefIdeal.main_arg0)
      ∧ r.2.mem ((c.tc : Thread Cert.OutHyRefIdeal.nD Cert.OutHyRefIdeal.τ).loc Cert.OutHyRefIdeal.main_arg1) = m ((c.tc : Thread Cert.OutHyRefIdeal.nD Cert.OutHyRefIdeal.τ).loc Cert.OutHyRefIdeal.main_arg1)
      ∧ r.2.mem ((c.tc : Thread Cert.OutHyRefIdeal.nD Cert.OutHyRefIdeal.τ).loc Cert.OutHyRefIdeal.main_arg2) = m ((c.tc : Thread Cert.OutHyRefIdeal.nD Cert.OutHyRefIdeal.τ).loc Cert.OutHyRefIdeal.main_arg2)
      ∧ r.2.mem ((c.tc : Thread Cert.OutHyRefIdeal.nD Cert.OutHyRefIdeal.τ).loc Cert.OutHyRefIdeal.main_arg3) = m ((c.tc : Thread Cert.OutHyRefIdeal.nD Cert.OutHyRefIdeal.τ).loc Cert.OutHyRefIdeal.main_arg3)
      ∧ r.2.mem ((c.tc : Thread Cert.OutHyRefIdeal.nD Cert.OutHyRefIdeal.τ).loc Cert.OutHyRefIdeal.main_arg4) = m ((c.tc : Thread Cert.OutHyRefIdeal.nD Cert.OutHyRefIdeal.τ).loc Cert.OutHyRefIdeal.main_arg4)
      ∧ r.2.mem ((c.tc : Thread Cert.OutHyRefIdeal.nD Cert.OutHyRefIdeal.τ).loc Cert.OutHyRefIdeal.main_arg5) = m ((c.tc : Thread Cert.OutHyRefIdeal.nD Cert.OutHyRefIdeal.τ).loc Cert.OutHyRefIdeal.main_arg5)
      ∧ r.2.mem ((c.tc : Thread Cert.OutHyRefIdeal.nD Cert.OutHyRefIdeal.τ).loc Cert.OutHyRefIdeal.main_arg6) = m ((c.tc : Thread Cert.OutHyRefIdeal.nD Cert.OutHyRefIdeal.τ).loc Cert.OutHyRefIdeal.main_arg6))
      ∧ r.2.sem = fun _ => 0)

def quiescent_OutLru [hOutLru : Cert.OutLru.Facts] : Prop :=
  ∀ (m : (ℓ : Loc Cert.OutLru.nD Cert.OutLru.τ Cert.OutLru.sig) → Buf (Elt Bits) ℓ) (g : Dev Cert.OutLru.nD → PrngReg), Pre_OutLru m →
    θ_run (Cert.OutLru.defs (F := Bits)) (onTc (τ := Cert.OutLru.τ) (Cert.OutLru.main (F := Bits))) ⟨m, fun _ => 0, g⟩ (fun r => (∀ c : Dev Cert.OutLru.nD,
      r.2.mem ((c.tc : Thread Cert.OutLru.nD Cert.OutLru.τ).loc Cert.OutLru.main_arg0) = m ((c.tc : Thread Cert.OutLru.nD Cert.OutLru.τ).loc Cert.OutLru.main_arg0)
      ∧ r.2.mem ((c.tc : Thread Cert.OutLru.nD Cert.OutLru.τ).loc Cert.OutLru.main_arg1) = m ((c.tc : Thread Cert.OutLru.nD Cert.OutLru.τ).loc Cert.OutLru.main_arg1)
      ∧ r.2.mem ((c.tc : Thread Cert.OutLru.nD Cert.OutLru.τ).loc Cert.OutLru.main_arg2) = m ((c.tc : Thread Cert.OutLru.nD Cert.OutLru.τ).loc Cert.OutLru.main_arg2)
      ∧ r.2.mem ((c.tc : Thread Cert.OutLru.nD Cert.OutLru.τ).loc Cert.OutLru.main_arg3) = m ((c.tc : Thread Cert.OutLru.nD Cert.OutLru.τ).loc Cert.OutLru.main_arg3)
      ∧ r.2.mem ((c.tc : Thread Cert.OutLru.nD Cert.OutLru.τ).loc Cert.OutLru.main_arg4) = m ((c.tc : Thread Cert.OutLru.nD Cert.OutLru.τ).loc Cert.OutLru.main_arg4)
      ∧ r.2.mem ((c.tc : Thread Cert.OutLru.nD Cert.OutLru.τ).loc Cert.OutLru.main_arg5) = m ((c.tc : Thread Cert.OutLru.nD Cert.OutLru.τ).loc Cert.OutLru.main_arg5))
      ∧ r.2.sem = fun _ => 0)

def quiescent_OutLruIdeal [hOutLruIdeal : Cert.OutLruIdeal.Facts] : Prop :=
  ∀ (m : (ℓ : Loc Cert.OutLruIdeal.nD Cert.OutLruIdeal.τ Cert.OutLruIdeal.sig) → Buf (Elt Ideal) ℓ) (g : Dev Cert.OutLruIdeal.nD → PrngReg), Pre_OutLruIdeal m →
    θ_run (Cert.OutLruIdeal.defs (F := Ideal)) (onTc (τ := Cert.OutLruIdeal.τ) (Cert.OutLruIdeal.main (F := Ideal))) ⟨m, fun _ => 0, g⟩ (fun r => (∀ c : Dev Cert.OutLruIdeal.nD,
      r.2.mem ((c.tc : Thread Cert.OutLruIdeal.nD Cert.OutLruIdeal.τ).loc Cert.OutLruIdeal.main_arg0) = m ((c.tc : Thread Cert.OutLruIdeal.nD Cert.OutLruIdeal.τ).loc Cert.OutLruIdeal.main_arg0)
      ∧ r.2.mem ((c.tc : Thread Cert.OutLruIdeal.nD Cert.OutLruIdeal.τ).loc Cert.OutLruIdeal.main_arg1) = m ((c.tc : Thread Cert.OutLruIdeal.nD Cert.OutLruIdeal.τ).loc Cert.OutLruIdeal.main_arg1)
      ∧ r.2.mem ((c.tc : Thread Cert.OutLruIdeal.nD Cert.OutLruIdeal.τ).loc Cert.OutLruIdeal.main_arg2) = m ((c.tc : Thread Cert.OutLruIdeal.nD Cert.OutLruIdeal.τ).loc Cert.OutLruIdeal.main_arg2)
      ∧ r.2.mem ((c.tc : Thread Cert.OutLruIdeal.nD Cert.OutLruIdeal.τ).loc Cert.OutLruIdeal.main_arg3) = m ((c.tc : Thread Cert.OutLruIdeal.nD Cert.OutLruIdeal.τ).loc Cert.OutLruIdeal.main_arg3)
      ∧ r.2.mem ((c.tc : Thread Cert.OutLruIdeal.nD Cert.OutLruIdeal.τ).loc Cert.OutLruIdeal.main_arg4) = m ((c.tc : Thread Cert.OutLruIdeal.nD Cert.OutLruIdeal.τ).loc Cert.OutLruIdeal.main_arg4)
      ∧ r.2.mem ((c.tc : Thread Cert.OutLruIdeal.nD Cert.OutLruIdeal.τ).loc Cert.OutLruIdeal.main_arg5) = m ((c.tc : Thread Cert.OutLruIdeal.nD Cert.OutLruIdeal.τ).loc Cert.OutLruIdeal.main_arg5))
      ∧ r.2.sem = fun _ => 0)

def quiescent_OutLruRefIdeal [hOutLruRefIdeal : Cert.OutLruRefIdeal.Facts] : Prop :=
  ∀ (m : (ℓ : Loc Cert.OutLruRefIdeal.nD Cert.OutLruRefIdeal.τ Cert.OutLruRefIdeal.sig) → Buf (Elt Ideal) ℓ) (g : Dev Cert.OutLruRefIdeal.nD → PrngReg), Pre_OutLruRefIdeal m →
    θ_run (Cert.OutLruRefIdeal.defs (F := Ideal)) (onTc (τ := Cert.OutLruRefIdeal.τ) (Cert.OutLruRefIdeal.main (F := Ideal))) ⟨m, fun _ => 0, g⟩ (fun r => (∀ c : Dev Cert.OutLruRefIdeal.nD,
      r.2.mem ((c.tc : Thread Cert.OutLruRefIdeal.nD Cert.OutLruRefIdeal.τ).loc Cert.OutLruRefIdeal.main_arg0) = m ((c.tc : Thread Cert.OutLruRefIdeal.nD Cert.OutLruRefIdeal.τ).loc Cert.OutLruRefIdeal.main_arg0)
      ∧ r.2.mem ((c.tc : Thread Cert.OutLruRefIdeal.nD Cert.OutLruRefIdeal.τ).loc Cert.OutLruRefIdeal.main_arg1) = m ((c.tc : Thread Cert.OutLruRefIdeal.nD Cert.OutLruRefIdeal.τ).loc Cert.OutLruRefIdeal.main_arg1)
      ∧ r.2.mem ((c.tc : Thread Cert.OutLruRefIdeal.nD Cert.OutLruRefIdeal.τ).loc Cert.OutLruRefIdeal.main_arg2) = m ((c.tc : Thread Cert.OutLruRefIdeal.nD Cert.OutLruRefIdeal.τ).loc Cert.OutLruRefIdeal.main_arg2)
      ∧ r.2.mem ((c.tc : Thread Cert.OutLruRefIdeal.nD Cert.OutLruRefIdeal.τ).loc Cert.OutLruRefIdeal.main_arg3) = m ((c.tc : Thread Cert.OutLruRefIdeal.nD Cert.OutLruRefIdeal.τ).loc Cert.OutLruRefIdeal.main_arg3)
      ∧ r.2.mem ((c.tc : Thread Cert.OutLruRefIdeal.nD Cert.OutLruRefIdeal.τ).loc Cert.OutLruRefIdeal.main_arg4) = m ((c.tc : Thread Cert.OutLruRefIdeal.nD Cert.OutLruRefIdeal.τ).loc Cert.OutLruRefIdeal.main_arg4)
      ∧ r.2.mem ((c.tc : Thread Cert.OutLruRefIdeal.nD Cert.OutLruRefIdeal.τ).loc Cert.OutLruRefIdeal.main_arg5) = m ((c.tc : Thread Cert.OutLruRefIdeal.nD Cert.OutLruRefIdeal.τ).loc Cert.OutLruRefIdeal.main_arg5))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_HyPre [hHyPre : Cert.HyPre.Facts] : Prop :=
  ∀ (m : (ℓ : Loc Cert.HyPre.nD Cert.HyPre.τ Cert.HyPre.sig) → Buf (Elt Bits) ℓ) (g : Dev Cert.HyPre.nD → PrngReg), Pre_HyPre m →
    θ_run (Cert.HyPre.defs (F := Bits)) (onTc (τ := Cert.HyPre.τ) (Cert.HyPre.main (F := Bits))) ⟨m, fun _ => 0, g⟩ (fun r => (∀ c : Dev Cert.HyPre.nD,
      r.2.mem ((c.tc : Thread Cert.HyPre.nD Cert.HyPre.τ).loc Cert.HyPre.main_arg0) = m ((c.tc : Thread Cert.HyPre.nD Cert.HyPre.τ).loc Cert.HyPre.main_arg0)
      ∧ r.2.mem ((c.tc : Thread Cert.HyPre.nD Cert.HyPre.τ).loc Cert.HyPre.main_arg1) = m ((c.tc : Thread Cert.HyPre.nD Cert.HyPre.τ).loc Cert.HyPre.main_arg1)
      ∧ r.2.mem ((c.tc : Thread Cert.HyPre.nD Cert.HyPre.τ).loc Cert.HyPre.main_arg2) = m ((c.tc : Thread Cert.HyPre.nD Cert.HyPre.τ).loc Cert.HyPre.main_arg2))
      ∧ r.2.sem = fun _ => 0)

def quiescent_HyPreIdeal [hHyPreIdeal : Cert.HyPreIdeal.Facts] : Prop :=
  ∀ (m : (ℓ : Loc Cert.HyPreIdeal.nD Cert.HyPreIdeal.τ Cert.HyPreIdeal.sig) → Buf (Elt Ideal) ℓ) (g : Dev Cert.HyPreIdeal.nD → PrngReg), Pre_HyPreIdeal m →
    θ_run (Cert.HyPreIdeal.defs (F := Ideal)) (onTc (τ := Cert.HyPreIdeal.τ) (Cert.HyPreIdeal.main (F := Ideal))) ⟨m, fun _ => 0, g⟩ (fun r => (∀ c : Dev Cert.HyPreIdeal.nD,
      r.2.mem ((c.tc : Thread Cert.HyPreIdeal.nD Cert.HyPreIdeal.τ).loc Cert.HyPreIdeal.main_arg0) = m ((c.tc : Thread Cert.HyPreIdeal.nD Cert.HyPreIdeal.τ).loc Cert.HyPreIdeal.main_arg0)
      ∧ r.2.mem ((c.tc : Thread Cert.HyPreIdeal.nD Cert.HyPreIdeal.τ).loc Cert.HyPreIdeal.main_arg1) = m ((c.tc : Thread Cert.HyPreIdeal.nD Cert.HyPreIdeal.τ).loc Cert.HyPreIdeal.main_arg1)
      ∧ r.2.mem ((c.tc : Thread Cert.HyPreIdeal.nD Cert.HyPreIdeal.τ).loc Cert.HyPreIdeal.main_arg2) = m ((c.tc : Thread Cert.HyPreIdeal.nD Cert.HyPreIdeal.τ).loc Cert.HyPreIdeal.main_arg2))
      ∧ r.2.sem = fun _ => 0)

def quiescent_HyPreRefIdeal [hHyPreRefIdeal : Cert.HyPreRefIdeal.Facts] : Prop :=
  ∀ (m : (ℓ : Loc Cert.HyPreRefIdeal.nD Cert.HyPreRefIdeal.τ Cert.HyPreRefIdeal.sig) → Buf (Elt Ideal) ℓ) (g : Dev Cert.HyPreRefIdeal.nD → PrngReg), Pre_HyPreRefIdeal m →
    θ_run (Cert.HyPreRefIdeal.defs (F := Ideal)) (onTc (τ := Cert.HyPreRefIdeal.τ) (Cert.HyPreRefIdeal.main (F := Ideal))) ⟨m, fun _ => 0, g⟩ (fun r => (∀ c : Dev Cert.HyPreRefIdeal.nD,
      r.2.mem ((c.tc : Thread Cert.HyPreRefIdeal.nD Cert.HyPreRefIdeal.τ).loc Cert.HyPreRefIdeal.main_arg0) = m ((c.tc : Thread Cert.HyPreRefIdeal.nD Cert.HyPreRefIdeal.τ).loc Cert.HyPreRefIdeal.main_arg0)
      ∧ r.2.mem ((c.tc : Thread Cert.HyPreRefIdeal.nD Cert.HyPreRefIdeal.τ).loc Cert.HyPreRefIdeal.main_arg1) = m ((c.tc : Thread Cert.HyPreRefIdeal.nD Cert.HyPreRefIdeal.τ).loc Cert.HyPreRefIdeal.main_arg1)
      ∧ r.2.mem ((c.tc : Thread Cert.HyPreRefIdeal.nD Cert.HyPreRefIdeal.τ).loc Cert.HyPreRefIdeal.main_arg2) = m ((c.tc : Thread Cert.HyPreRefIdeal.nD Cert.HyPreRefIdeal.τ).loc Cert.HyPreRefIdeal.main_arg2))
      ∧ r.2.sem = fun _ => 0)

def preserves_RetFwd_RetFwdIdeal : Prop :=
  True

def algebraic_RetFwdIdeal_RetFwdRefIdeal_pre_finite [hRetFwdIdeal : Cert.RetFwdIdeal.Facts] [hRetFwdRefIdeal : Cert.RetFwdRefIdeal.Facts] [hPre_finite : Cert.Pre_finite.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal_finite m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)) →
    ∃ (v0 : (c : Dev Cert.RetFwdIdeal.nD) → Buf (Elt Ideal) ((c.tc : Thread Cert.RetFwdIdeal.nD Cert.RetFwdIdeal.τ).loc Cert.RetFwdIdeal.main_v68)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v68) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v108) = v0 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0))

def preserves_RetBwd_RetBwdIdeal : Prop :=
  True

def algebraic_RetBwdIdeal_RetBwdRefIdeal_pre_finite_proj [hRetBwdIdeal : Cert.RetBwdIdeal.Facts] [hRetBwdRefIdeal : Cert.RetBwdRefIdeal.Facts] [hPre_finite_proj : Cert.Pre_finite_proj.Facts] : Prop :=
  ∀ (m : (ℓ : Loc Cert.RetBwdIdeal.nD Cert.RetBwdIdeal.τ Cert.RetBwdIdeal.sig) → Buf (Elt Ideal) ℓ) (g : Dev Cert.RetBwdIdeal.nD → PrngReg)
    (m' : (ℓ : Loc Cert.RetBwdRefIdeal.nD Cert.RetBwdRefIdeal.τ Cert.RetBwdRefIdeal.sig) → Buf (Elt Ideal) ℓ) (g' : Dev Cert.RetBwdRefIdeal.nD → PrngReg), Pre_RetBwdIdeal_finite_proj m →
    (∀ c : Dev Cert.RetBwdIdeal.nD,
      m' ((c.tc : Thread Cert.RetBwdRefIdeal.nD Cert.RetBwdRefIdeal.τ).loc Cert.RetBwdRefIdeal.main_arg0) = m ((c.tc : Thread Cert.RetBwdIdeal.nD Cert.RetBwdIdeal.τ).loc Cert.RetBwdIdeal.main_arg0)
      ∧ m' ((c.tc : Thread Cert.RetBwdRefIdeal.nD Cert.RetBwdRefIdeal.τ).loc Cert.RetBwdRefIdeal.main_arg1) = m ((c.tc : Thread Cert.RetBwdIdeal.nD Cert.RetBwdIdeal.τ).loc Cert.RetBwdIdeal.main_arg1)) →
    ∃ (v0 : (c : Dev Cert.RetBwdIdeal.nD) → Buf (Elt Ideal) ((c.tc : Thread Cert.RetBwdIdeal.nD Cert.RetBwdIdeal.τ).loc Cert.RetBwdIdeal.main_v67)),
      θ_run (Cert.RetBwdIdeal.defs (F := Ideal)) (onTc (τ := Cert.RetBwdIdeal.τ) (Cert.RetBwdIdeal.main (F := Ideal))) ⟨m, fun _ => 0, g⟩ (fun r => ∀ c : Dev Cert.RetBwdIdeal.nD,
          r.2.mem ((c.tc : Thread Cert.RetBwdIdeal.nD Cert.RetBwdIdeal.τ).loc Cert.RetBwdIdeal.main_v67) = v0 c
          ∧ r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
          ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1))
      ∧ θ_run (Cert.RetBwdRefIdeal.defs (F := Ideal)) (onTc (τ := Cert.RetBwdRefIdeal.τ) (Cert.RetBwdRefIdeal.main (F := Ideal))) ⟨m', fun _ => 0, g'⟩ (fun r => ∀ c : Dev Cert.RetBwdRefIdeal.nD,
          r.2.mem ((c.tc : Thread Cert.RetBwdRefIdeal.nD Cert.RetBwdRefIdeal.τ).loc Cert.RetBwdRefIdeal.main_v114) = v0 c
          ∧ r.2.mem ((c.tc : Thread Cert.RetBwdRefIdeal.nD Cert.RetBwdRefIdeal.τ).loc Cert.RetBwdRefIdeal.main_arg0) = m' ((c.tc : Thread Cert.RetBwdRefIdeal.nD Cert.RetBwdRefIdeal.τ).loc Cert.RetBwdRefIdeal.main_arg0)
          ∧ r.2.mem ((c.tc : Thread Cert.RetBwdRefIdeal.nD Cert.RetBwdRefIdeal.τ).loc Cert.RetBwdRefIdeal.main_arg1) = m' ((c.tc : Thread Cert.RetBwdRefIdeal.nD Cert.RetBwdRefIdeal.τ).loc Cert.RetBwdRefIdeal.main_arg1))

def preserves_OutRet_OutRetIdeal : Prop :=
  True

def algebraic_OutRetIdeal_OutRetRefIdeal [hOutRetIdeal : Cert.OutRetIdeal.Facts] [hOutRetRefIdeal : Cert.OutRetRefIdeal.Facts] : Prop :=
  ∀ (m : (ℓ : Loc Cert.OutRetIdeal.nD Cert.OutRetIdeal.τ Cert.OutRetIdeal.sig) → Buf (Elt Ideal) ℓ) (g : Dev Cert.OutRetIdeal.nD → PrngReg)
    (m' : (ℓ : Loc Cert.OutRetRefIdeal.nD Cert.OutRetRefIdeal.τ Cert.OutRetRefIdeal.sig) → Buf (Elt Ideal) ℓ) (g' : Dev Cert.OutRetRefIdeal.nD → PrngReg), Pre_OutRetIdeal m →
    (∀ c : Dev Cert.OutRetIdeal.nD,
      m' ((c.tc : Thread Cert.OutRetRefIdeal.nD Cert.OutRetRefIdeal.τ).loc Cert.OutRetRefIdeal.main_arg0) = m ((c.tc : Thread Cert.OutRetIdeal.nD Cert.OutRetIdeal.τ).loc Cert.OutRetIdeal.main_arg0)
      ∧ m' ((c.tc : Thread Cert.OutRetRefIdeal.nD Cert.OutRetRefIdeal.τ).loc Cert.OutRetRefIdeal.main_arg1) = m ((c.tc : Thread Cert.OutRetIdeal.nD Cert.OutRetIdeal.τ).loc Cert.OutRetIdeal.main_arg1)
      ∧ m' ((c.tc : Thread Cert.OutRetRefIdeal.nD Cert.OutRetRefIdeal.τ).loc Cert.OutRetRefIdeal.main_arg2) = m ((c.tc : Thread Cert.OutRetIdeal.nD Cert.OutRetIdeal.τ).loc Cert.OutRetIdeal.main_arg2)
      ∧ m' ((c.tc : Thread Cert.OutRetRefIdeal.nD Cert.OutRetRefIdeal.τ).loc Cert.OutRetRefIdeal.main_arg3) = m ((c.tc : Thread Cert.OutRetIdeal.nD Cert.OutRetIdeal.τ).loc Cert.OutRetIdeal.main_arg3)
      ∧ m' ((c.tc : Thread Cert.OutRetRefIdeal.nD Cert.OutRetRefIdeal.τ).loc Cert.OutRetRefIdeal.main_arg4) = m ((c.tc : Thread Cert.OutRetIdeal.nD Cert.OutRetIdeal.τ).loc Cert.OutRetIdeal.main_arg4)
      ∧ m' ((c.tc : Thread Cert.OutRetRefIdeal.nD Cert.OutRetRefIdeal.τ).loc Cert.OutRetRefIdeal.main_arg5) = m ((c.tc : Thread Cert.OutRetIdeal.nD Cert.OutRetIdeal.τ).loc Cert.OutRetIdeal.main_arg5)) →
    ∃ (v0 : (c : Dev Cert.OutRetIdeal.nD) → Buf (Elt Ideal) ((c.tc : Thread Cert.OutRetIdeal.nD Cert.OutRetIdeal.τ).loc Cert.OutRetIdeal.main_v3)),
      θ_run (Cert.OutRetIdeal.defs (F := Ideal)) (onTc (τ := Cert.OutRetIdeal.τ) (Cert.OutRetIdeal.main (F := Ideal))) ⟨m, fun _ => 0, g⟩ (fun r => ∀ c : Dev Cert.OutRetIdeal.nD,
          r.2.mem ((c.tc : Thread Cert.OutRetIdeal.nD Cert.OutRetIdeal.τ).loc Cert.OutRetIdeal.main_v3) = v0 c
          ∧ r.2.mem ((c.tc : Thread Cert.OutRetIdeal.nD Cert.OutRetIdeal.τ).loc Cert.OutRetIdeal.main_arg0) = m ((c.tc : Thread Cert.OutRetIdeal.nD Cert.OutRetIdeal.τ).loc Cert.OutRetIdeal.main_arg0)
          ∧ r.2.mem ((c.tc : Thread Cert.OutRetIdeal.nD Cert.OutRetIdeal.τ).loc Cert.OutRetIdeal.main_arg1) = m ((c.tc : Thread Cert.OutRetIdeal.nD Cert.OutRetIdeal.τ).loc Cert.OutRetIdeal.main_arg1)
          ∧ r.2.mem ((c.tc : Thread Cert.OutRetIdeal.nD Cert.OutRetIdeal.τ).loc Cert.OutRetIdeal.main_arg2) = m ((c.tc : Thread Cert.OutRetIdeal.nD Cert.OutRetIdeal.τ).loc Cert.OutRetIdeal.main_arg2)
          ∧ r.2.mem ((c.tc : Thread Cert.OutRetIdeal.nD Cert.OutRetIdeal.τ).loc Cert.OutRetIdeal.main_arg3) = m ((c.tc : Thread Cert.OutRetIdeal.nD Cert.OutRetIdeal.τ).loc Cert.OutRetIdeal.main_arg3)
          ∧ r.2.mem ((c.tc : Thread Cert.OutRetIdeal.nD Cert.OutRetIdeal.τ).loc Cert.OutRetIdeal.main_arg4) = m ((c.tc : Thread Cert.OutRetIdeal.nD Cert.OutRetIdeal.τ).loc Cert.OutRetIdeal.main_arg4)
          ∧ r.2.mem ((c.tc : Thread Cert.OutRetIdeal.nD Cert.OutRetIdeal.τ).loc Cert.OutRetIdeal.main_arg5) = m ((c.tc : Thread Cert.OutRetIdeal.nD Cert.OutRetIdeal.τ).loc Cert.OutRetIdeal.main_arg5))
      ∧ θ_run (Cert.OutRetRefIdeal.defs (F := Ideal)) (onTc (τ := Cert.OutRetRefIdeal.τ) (Cert.OutRetRefIdeal.main (F := Ideal))) ⟨m', fun _ => 0, g'⟩ (fun r => ∀ c : Dev Cert.OutRetRefIdeal.nD,
          r.2.mem ((c.tc : Thread Cert.OutRetRefIdeal.nD Cert.OutRetRefIdeal.τ).loc Cert.OutRetRefIdeal.main_v27) = v0 c
          ∧ r.2.mem ((c.tc : Thread Cert.OutRetRefIdeal.nD Cert.OutRetRefIdeal.τ).loc Cert.OutRetRefIdeal.main_arg0) = m' ((c.tc : Thread Cert.OutRetRefIdeal.nD Cert.OutRetRefIdeal.τ).loc Cert.OutRetRefIdeal.main_arg0)
          ∧ r.2.mem ((c.tc : Thread Cert.OutRetRefIdeal.nD Cert.OutRetRefIdeal.τ).loc Cert.OutRetRefIdeal.main_arg1) = m' ((c.tc : Thread Cert.OutRetRefIdeal.nD Cert.OutRetRefIdeal.τ).loc Cert.OutRetRefIdeal.main_arg1)
          ∧ r.2.mem ((c.tc : Thread Cert.OutRetRefIdeal.nD Cert.OutRetRefIdeal.τ).loc Cert.OutRetRefIdeal.main_arg2) = m' ((c.tc : Thread Cert.OutRetRefIdeal.nD Cert.OutRetRefIdeal.τ).loc Cert.OutRetRefIdeal.main_arg2)
          ∧ r.2.mem ((c.tc : Thread Cert.OutRetRefIdeal.nD Cert.OutRetRefIdeal.τ).loc Cert.OutRetRefIdeal.main_arg3) = m' ((c.tc : Thread Cert.OutRetRefIdeal.nD Cert.OutRetRefIdeal.τ).loc Cert.OutRetRefIdeal.main_arg3)
          ∧ r.2.mem ((c.tc : Thread Cert.OutRetRefIdeal.nD Cert.OutRetRefIdeal.τ).loc Cert.OutRetRefIdeal.main_arg4) = m' ((c.tc : Thread Cert.OutRetRefIdeal.nD Cert.OutRetRefIdeal.τ).loc Cert.OutRetRefIdeal.main_arg4)
          ∧ r.2.mem ((c.tc : Thread Cert.OutRetRefIdeal.nD Cert.OutRetRefIdeal.τ).loc Cert.OutRetRefIdeal.main_arg5) = m' ((c.tc : Thread Cert.OutRetRefIdeal.nD Cert.OutRetRefIdeal.τ).loc Cert.OutRetRefIdeal.main_arg5))

def preserves_InHg_InHgIdeal : Prop :=
  True

def algebraic_InHgIdeal_InHgRefIdeal [hInHgIdeal : Cert.InHgIdeal.Facts] [hInHgRefIdeal : Cert.InHgRefIdeal.Facts] : Prop :=
  ∀ (m : (ℓ : Loc Cert.InHgIdeal.nD Cert.InHgIdeal.τ Cert.InHgIdeal.sig) → Buf (Elt Ideal) ℓ) (g : Dev Cert.InHgIdeal.nD → PrngReg)
    (m' : (ℓ : Loc Cert.InHgRefIdeal.nD Cert.InHgRefIdeal.τ Cert.InHgRefIdeal.sig) → Buf (Elt Ideal) ℓ) (g' : Dev Cert.InHgRefIdeal.nD → PrngReg), Pre_InHgIdeal m →
    (∀ c : Dev Cert.InHgIdeal.nD,
      m' ((c.tc : Thread Cert.InHgRefIdeal.nD Cert.InHgRefIdeal.τ).loc Cert.InHgRefIdeal.main_arg0) = m ((c.tc : Thread Cert.InHgIdeal.nD Cert.InHgIdeal.τ).loc Cert.InHgIdeal.main_arg0)
      ∧ m' ((c.tc : Thread Cert.InHgRefIdeal.nD Cert.InHgRefIdeal.τ).loc Cert.InHgRefIdeal.main_arg1) = m ((c.tc : Thread Cert.InHgIdeal.nD Cert.InHgIdeal.τ).loc Cert.InHgIdeal.main_arg1)
      ∧ m' ((c.tc : Thread Cert.InHgRefIdeal.nD Cert.InHgRefIdeal.τ).loc Cert.InHgRefIdeal.main_arg2) = m ((c.tc : Thread Cert.InHgIdeal.nD Cert.InHgIdeal.τ).loc Cert.InHgIdeal.main_arg2)
      ∧ m' ((c.tc : Thread Cert.InHgRefIdeal.nD Cert.InHgRefIdeal.τ).loc Cert.InHgRefIdeal.main_arg3) = m ((c.tc : Thread Cert.InHgIdeal.nD Cert.InHgIdeal.τ).loc Cert.InHgIdeal.main_arg3)
      ∧ m' ((c.tc : Thread Cert.InHgRefIdeal.nD Cert.InHgRefIdeal.τ).loc Cert.InHgRefIdeal.main_arg4) = m ((c.tc : Thread Cert.InHgIdeal.nD Cert.InHgIdeal.τ).loc Cert.InHgIdeal.main_arg4)) →
    ∃ (v0 : (c : Dev Cert.InHgIdeal.nD) → Buf (Elt Ideal) ((c.tc : Thread Cert.InHgIdeal.nD Cert.InHgIdeal.τ).loc Cert.InHgIdeal.main_v6)),
      θ_run (Cert.InHgIdeal.defs (F := Ideal)) (onTc (τ := Cert.InHgIdeal.τ) (Cert.InHgIdeal.main (F := Ideal))) ⟨m, fun _ => 0, g⟩ (fun r => ∀ c : Dev Cert.InHgIdeal.nD,
          r.2.mem ((c.tc : Thread Cert.InHgIdeal.nD Cert.InHgIdeal.τ).loc Cert.InHgIdeal.main_v6) = v0 c
          ∧ r.2.mem ((c.tc : Thread Cert.InHgIdeal.nD Cert.InHgIdeal.τ).loc Cert.InHgIdeal.main_arg0) = m ((c.tc : Thread Cert.InHgIdeal.nD Cert.InHgIdeal.τ).loc Cert.InHgIdeal.main_arg0)
          ∧ r.2.mem ((c.tc : Thread Cert.InHgIdeal.nD Cert.InHgIdeal.τ).loc Cert.InHgIdeal.main_arg1) = m ((c.tc : Thread Cert.InHgIdeal.nD Cert.InHgIdeal.τ).loc Cert.InHgIdeal.main_arg1)
          ∧ r.2.mem ((c.tc : Thread Cert.InHgIdeal.nD Cert.InHgIdeal.τ).loc Cert.InHgIdeal.main_arg2) = m ((c.tc : Thread Cert.InHgIdeal.nD Cert.InHgIdeal.τ).loc Cert.InHgIdeal.main_arg2)
          ∧ r.2.mem ((c.tc : Thread Cert.InHgIdeal.nD Cert.InHgIdeal.τ).loc Cert.InHgIdeal.main_arg3) = m ((c.tc : Thread Cert.InHgIdeal.nD Cert.InHgIdeal.τ).loc Cert.InHgIdeal.main_arg3)
          ∧ r.2.mem ((c.tc : Thread Cert.InHgIdeal.nD Cert.InHgIdeal.τ).loc Cert.InHgIdeal.main_arg4) = m ((c.tc : Thread Cert.InHgIdeal.nD Cert.InHgIdeal.τ).loc Cert.InHgIdeal.main_arg4))
      ∧ θ_run (Cert.InHgRefIdeal.defs (F := Ideal)) (onTc (τ := Cert.InHgRefIdeal.τ) (Cert.InHgRefIdeal.main (F := Ideal))) ⟨m', fun _ => 0, g'⟩ (fun r => ∀ c : Dev Cert.InHgRefIdeal.nD,
          r.2.mem ((c.tc : Thread Cert.InHgRefIdeal.nD Cert.InHgRefIdeal.τ).loc Cert.InHgRefIdeal.main_v21) = v0 c
          ∧ r.2.mem ((c.tc : Thread Cert.InHgRefIdeal.nD Cert.InHgRefIdeal.τ).loc Cert.InHgRefIdeal.main_arg0) = m' ((c.tc : Thread Cert.InHgRefIdeal.nD Cert.InHgRefIdeal.τ).loc Cert.InHgRefIdeal.main_arg0)
          ∧ r.2.mem ((c.tc : Thread Cert.InHgRefIdeal.nD Cert.InHgRefIdeal.τ).loc Cert.InHgRefIdeal.main_arg1) = m' ((c.tc : Thread Cert.InHgRefIdeal.nD Cert.InHgRefIdeal.τ).loc Cert.InHgRefIdeal.main_arg1)
          ∧ r.2.mem ((c.tc : Thread Cert.InHgRefIdeal.nD Cert.InHgRefIdeal.τ).loc Cert.InHgRefIdeal.main_arg2) = m' ((c.tc : Thread Cert.InHgRefIdeal.nD Cert.InHgRefIdeal.τ).loc Cert.InHgRefIdeal.main_arg2)
          ∧ r.2.mem ((c.tc : Thread Cert.InHgRefIdeal.nD Cert.InHgRefIdeal.τ).loc Cert.InHgRefIdeal.main_arg3) = m' ((c.tc : Thread Cert.InHgRefIdeal.nD Cert.InHgRefIdeal.τ).loc Cert.InHgRefIdeal.main_arg3)
          ∧ r.2.mem ((c.tc : Thread Cert.InHgRefIdeal.nD Cert.InHgRefIdeal.τ).loc Cert.InHgRefIdeal.main_arg4) = m' ((c.tc : Thread Cert.InHgRefIdeal.nD Cert.InHgRefIdeal.τ).loc Cert.InHgRefIdeal.main_arg4))

def preserves_InHy_InHyIdeal : Prop :=
  True

def algebraic_InHyIdeal_InHyRefIdeal [hInHyIdeal : Cert.InHyIdeal.Facts] [hInHyRefIdeal : Cert.InHyRefIdeal.Facts] : Prop :=
  ∀ (m : (ℓ : Loc Cert.InHyIdeal.nD Cert.InHyIdeal.τ Cert.InHyIdeal.sig) → Buf (Elt Ideal) ℓ) (g : Dev Cert.InHyIdeal.nD → PrngReg)
    (m' : (ℓ : Loc Cert.InHyRefIdeal.nD Cert.InHyRefIdeal.τ Cert.InHyRefIdeal.sig) → Buf (Elt Ideal) ℓ) (g' : Dev Cert.InHyRefIdeal.nD → PrngReg), Pre_InHyIdeal m →
    (∀ c : Dev Cert.InHyIdeal.nD,
      m' ((c.tc : Thread Cert.InHyRefIdeal.nD Cert.InHyRefIdeal.τ).loc Cert.InHyRefIdeal.main_arg0) = m ((c.tc : Thread Cert.InHyIdeal.nD Cert.InHyIdeal.τ).loc Cert.InHyIdeal.main_arg0)
      ∧ m' ((c.tc : Thread Cert.InHyRefIdeal.nD Cert.InHyRefIdeal.τ).loc Cert.InHyRefIdeal.main_arg1) = m ((c.tc : Thread Cert.InHyIdeal.nD Cert.InHyIdeal.τ).loc Cert.InHyIdeal.main_arg1)
      ∧ m' ((c.tc : Thread Cert.InHyRefIdeal.nD Cert.InHyRefIdeal.τ).loc Cert.InHyRefIdeal.main_arg2) = m ((c.tc : Thread Cert.InHyIdeal.nD Cert.InHyIdeal.τ).loc Cert.InHyIdeal.main_arg2)
      ∧ m' ((c.tc : Thread Cert.InHyRefIdeal.nD Cert.InHyRefIdeal.τ).loc Cert.InHyRefIdeal.main_arg3) = m ((c.tc : Thread Cert.InHyIdeal.nD Cert.InHyIdeal.τ).loc Cert.InHyIdeal.main_arg3)
      ∧ m' ((c.tc : Thread Cert.InHyRefIdeal.nD Cert.InHyRefIdeal.τ).loc Cert.InHyRefIdeal.main_arg4) = m ((c.tc : Thread Cert.InHyIdeal.nD Cert.InHyIdeal.τ).loc Cert.InHyIdeal.main_arg4)
      ∧ m' ((c.tc : Thread Cert.InHyRefIdeal.nD Cert.InHyRefIdeal.τ).loc Cert.InHyRefIdeal.main_arg5) = m ((c.tc : Thread Cert.InHyIdeal.nD Cert.InHyIdeal.τ).loc Cert.InHyIdeal.main_arg5)) →
    ∃ (v0 : (c : Dev Cert.InHyIdeal.nD) → Buf (Elt Ideal) ((c.tc : Thread Cert.InHyIdeal.nD Cert.InHyIdeal.τ).loc Cert.InHyIdeal.main_v5)),
      θ_run (Cert.InHyIdeal.defs (F := Ideal)) (onTc (τ := Cert.InHyIdeal.τ) (Cert.InHyIdeal.main (F := Ideal))) ⟨m, fun _ => 0, g⟩ (fun r => ∀ c : Dev Cert.InHyIdeal.nD,
          r.2.mem ((c.tc : Thread Cert.InHyIdeal.nD Cert.InHyIdeal.τ).loc Cert.InHyIdeal.main_v5) = v0 c
          ∧ r.2.mem ((c.tc : Thread Cert.InHyIdeal.nD Cert.InHyIdeal.τ).loc Cert.InHyIdeal.main_arg0) = m ((c.tc : Thread Cert.InHyIdeal.nD Cert.InHyIdeal.τ).loc Cert.InHyIdeal.main_arg0)
          ∧ r.2.mem ((c.tc : Thread Cert.InHyIdeal.nD Cert.InHyIdeal.τ).loc Cert.InHyIdeal.main_arg1) = m ((c.tc : Thread Cert.InHyIdeal.nD Cert.InHyIdeal.τ).loc Cert.InHyIdeal.main_arg1)
          ∧ r.2.mem ((c.tc : Thread Cert.InHyIdeal.nD Cert.InHyIdeal.τ).loc Cert.InHyIdeal.main_arg2) = m ((c.tc : Thread Cert.InHyIdeal.nD Cert.InHyIdeal.τ).loc Cert.InHyIdeal.main_arg2)
          ∧ r.2.mem ((c.tc : Thread Cert.InHyIdeal.nD Cert.InHyIdeal.τ).loc Cert.InHyIdeal.main_arg3) = m ((c.tc : Thread Cert.InHyIdeal.nD Cert.InHyIdeal.τ).loc Cert.InHyIdeal.main_arg3)
          ∧ r.2.mem ((c.tc : Thread Cert.InHyIdeal.nD Cert.InHyIdeal.τ).loc Cert.InHyIdeal.main_arg4) = m ((c.tc : Thread Cert.InHyIdeal.nD Cert.InHyIdeal.τ).loc Cert.InHyIdeal.main_arg4)
          ∧ r.2.mem ((c.tc : Thread Cert.InHyIdeal.nD Cert.InHyIdeal.τ).loc Cert.InHyIdeal.main_arg5) = m ((c.tc : Thread Cert.InHyIdeal.nD Cert.InHyIdeal.τ).loc Cert.InHyIdeal.main_arg5))
      ∧ θ_run (Cert.InHyRefIdeal.defs (F := Ideal)) (onTc (τ := Cert.InHyRefIdeal.τ) (Cert.InHyRefIdeal.main (F := Ideal))) ⟨m', fun _ => 0, g'⟩ (fun r => ∀ c : Dev Cert.InHyRefIdeal.nD,
          r.2.mem ((c.tc : Thread Cert.InHyRefIdeal.nD Cert.InHyRefIdeal.τ).loc Cert.InHyRefIdeal.main_v25) = v0 c
          ∧ r.2.mem ((c.tc : Thread Cert.InHyRefIdeal.nD Cert.InHyRefIdeal.τ).loc Cert.InHyRefIdeal.main_arg0) = m' ((c.tc : Thread Cert.InHyRefIdeal.nD Cert.InHyRefIdeal.τ).loc Cert.InHyRefIdeal.main_arg0)
          ∧ r.2.mem ((c.tc : Thread Cert.InHyRefIdeal.nD Cert.InHyRefIdeal.τ).loc Cert.InHyRefIdeal.main_arg1) = m' ((c.tc : Thread Cert.InHyRefIdeal.nD Cert.InHyRefIdeal.τ).loc Cert.InHyRefIdeal.main_arg1)
          ∧ r.2.mem ((c.tc : Thread Cert.InHyRefIdeal.nD Cert.InHyRefIdeal.τ).loc Cert.InHyRefIdeal.main_arg2) = m' ((c.tc : Thread Cert.InHyRefIdeal.nD Cert.InHyRefIdeal.τ).loc Cert.InHyRefIdeal.main_arg2)
          ∧ r.2.mem ((c.tc : Thread Cert.InHyRefIdeal.nD Cert.InHyRefIdeal.τ).loc Cert.InHyRefIdeal.main_arg3) = m' ((c.tc : Thread Cert.InHyRefIdeal.nD Cert.InHyRefIdeal.τ).loc Cert.InHyRefIdeal.main_arg3)
          ∧ r.2.mem ((c.tc : Thread Cert.InHyRefIdeal.nD Cert.InHyRefIdeal.τ).loc Cert.InHyRefIdeal.main_arg4) = m' ((c.tc : Thread Cert.InHyRefIdeal.nD Cert.InHyRefIdeal.τ).loc Cert.InHyRefIdeal.main_arg4)
          ∧ r.2.mem ((c.tc : Thread Cert.InHyRefIdeal.nD Cert.InHyRefIdeal.τ).loc Cert.InHyRefIdeal.main_arg5) = m' ((c.tc : Thread Cert.InHyRefIdeal.nD Cert.InHyRefIdeal.τ).loc Cert.InHyRefIdeal.main_arg5))

def preserves_InRt_InRtIdeal : Prop :=
  True

def algebraic_InRtIdeal_InRtRefIdeal [hInRtIdeal : Cert.InRtIdeal.Facts] [hInRtRefIdeal : Cert.InRtRefIdeal.Facts] : Prop :=
  ∀ (m : (ℓ : Loc Cert.InRtIdeal.nD Cert.InRtIdeal.τ Cert.InRtIdeal.sig) → Buf (Elt Ideal) ℓ) (g : Dev Cert.InRtIdeal.nD → PrngReg)
    (m' : (ℓ : Loc Cert.InRtRefIdeal.nD Cert.InRtRefIdeal.τ Cert.InRtRefIdeal.sig) → Buf (Elt Ideal) ℓ) (g' : Dev Cert.InRtRefIdeal.nD → PrngReg), Pre_InRtIdeal m →
    (∀ c : Dev Cert.InRtIdeal.nD,
      m' ((c.tc : Thread Cert.InRtRefIdeal.nD Cert.InRtRefIdeal.τ).loc Cert.InRtRefIdeal.main_arg0) = m ((c.tc : Thread Cert.InRtIdeal.nD Cert.InRtIdeal.τ).loc Cert.InRtIdeal.main_arg0)
      ∧ m' ((c.tc : Thread Cert.InRtRefIdeal.nD Cert.InRtRefIdeal.τ).loc Cert.InRtRefIdeal.main_arg1) = m ((c.tc : Thread Cert.InRtIdeal.nD Cert.InRtIdeal.τ).loc Cert.InRtIdeal.main_arg1)
      ∧ m' ((c.tc : Thread Cert.InRtRefIdeal.nD Cert.InRtRefIdeal.τ).loc Cert.InRtRefIdeal.main_arg2) = m ((c.tc : Thread Cert.InRtIdeal.nD Cert.InRtIdeal.τ).loc Cert.InRtIdeal.main_arg2)
      ∧ m' ((c.tc : Thread Cert.InRtRefIdeal.nD Cert.InRtRefIdeal.τ).loc Cert.InRtRefIdeal.main_arg3) = m ((c.tc : Thread Cert.InRtIdeal.nD Cert.InRtIdeal.τ).loc Cert.InRtIdeal.main_arg3)
      ∧ m' ((c.tc : Thread Cert.InRtRefIdeal.nD Cert.InRtRefIdeal.τ).loc Cert.InRtRefIdeal.main_arg4) = m ((c.tc : Thread Cert.InRtIdeal.nD Cert.InRtIdeal.τ).loc Cert.InRtIdeal.main_arg4)) →
    ∃ (v0 : (c : Dev Cert.InRtIdeal.nD) → Buf (Elt Ideal) ((c.tc : Thread Cert.InRtIdeal.nD Cert.InRtIdeal.τ).loc Cert.InRtIdeal.main_v6)),
      θ_run (Cert.InRtIdeal.defs (F := Ideal)) (onTc (τ := Cert.InRtIdeal.τ) (Cert.InRtIdeal.main (F := Ideal))) ⟨m, fun _ => 0, g⟩ (fun r => ∀ c : Dev Cert.InRtIdeal.nD,
          r.2.mem ((c.tc : Thread Cert.InRtIdeal.nD Cert.InRtIdeal.τ).loc Cert.InRtIdeal.main_v6) = v0 c
          ∧ r.2.mem ((c.tc : Thread Cert.InRtIdeal.nD Cert.InRtIdeal.τ).loc Cert.InRtIdeal.main_arg0) = m ((c.tc : Thread Cert.InRtIdeal.nD Cert.InRtIdeal.τ).loc Cert.InRtIdeal.main_arg0)
          ∧ r.2.mem ((c.tc : Thread Cert.InRtIdeal.nD Cert.InRtIdeal.τ).loc Cert.InRtIdeal.main_arg1) = m ((c.tc : Thread Cert.InRtIdeal.nD Cert.InRtIdeal.τ).loc Cert.InRtIdeal.main_arg1)
          ∧ r.2.mem ((c.tc : Thread Cert.InRtIdeal.nD Cert.InRtIdeal.τ).loc Cert.InRtIdeal.main_arg2) = m ((c.tc : Thread Cert.InRtIdeal.nD Cert.InRtIdeal.τ).loc Cert.InRtIdeal.main_arg2)
          ∧ r.2.mem ((c.tc : Thread Cert.InRtIdeal.nD Cert.InRtIdeal.τ).loc Cert.InRtIdeal.main_arg3) = m ((c.tc : Thread Cert.InRtIdeal.nD Cert.InRtIdeal.τ).loc Cert.InRtIdeal.main_arg3)
          ∧ r.2.mem ((c.tc : Thread Cert.InRtIdeal.nD Cert.InRtIdeal.τ).loc Cert.InRtIdeal.main_arg4) = m ((c.tc : Thread Cert.InRtIdeal.nD Cert.InRtIdeal.τ).loc Cert.InRtIdeal.main_arg4))
      ∧ θ_run (Cert.InRtRefIdeal.defs (F := Ideal)) (onTc (τ := Cert.InRtRefIdeal.τ) (Cert.InRtRefIdeal.main (F := Ideal))) ⟨m', fun _ => 0, g'⟩ (fun r => ∀ c : Dev Cert.InRtRefIdeal.nD,
          r.2.mem ((c.tc : Thread Cert.InRtRefIdeal.nD Cert.InRtRefIdeal.τ).loc Cert.InRtRefIdeal.main_v22) = v0 c
          ∧ r.2.mem ((c.tc : Thread Cert.InRtRefIdeal.nD Cert.InRtRefIdeal.τ).loc Cert.InRtRefIdeal.main_arg0) = m' ((c.tc : Thread Cert.InRtRefIdeal.nD Cert.InRtRefIdeal.τ).loc Cert.InRtRefIdeal.main_arg0)
          ∧ r.2.mem ((c.tc : Thread Cert.InRtRefIdeal.nD Cert.InRtRefIdeal.τ).loc Cert.InRtRefIdeal.main_arg1) = m' ((c.tc : Thread Cert.InRtRefIdeal.nD Cert.InRtRefIdeal.τ).loc Cert.InRtRefIdeal.main_arg1)
          ∧ r.2.mem ((c.tc : Thread Cert.InRtRefIdeal.nD Cert.InRtRefIdeal.τ).loc Cert.InRtRefIdeal.main_arg2) = m' ((c.tc : Thread Cert.InRtRefIdeal.nD Cert.InRtRefIdeal.τ).loc Cert.InRtRefIdeal.main_arg2)
          ∧ r.2.mem ((c.tc : Thread Cert.InRtRefIdeal.nD Cert.InRtRefIdeal.τ).loc Cert.InRtRefIdeal.main_arg3) = m' ((c.tc : Thread Cert.InRtRefIdeal.nD Cert.InRtRefIdeal.τ).loc Cert.InRtRefIdeal.main_arg3)
          ∧ r.2.mem ((c.tc : Thread Cert.InRtRefIdeal.nD Cert.InRtRefIdeal.τ).loc Cert.InRtRefIdeal.main_arg4) = m' ((c.tc : Thread Cert.InRtRefIdeal.nD Cert.InRtRefIdeal.τ).loc Cert.InRtRefIdeal.main_arg4))

def preserves_InLru_InLruIdeal : Prop :=
  True

def algebraic_InLruIdeal_InLruRefIdeal [hInLruIdeal : Cert.InLruIdeal.Facts] [hInLruRefIdeal : Cert.InLruRefIdeal.Facts] : Prop :=
  ∀ (m : (ℓ : Loc Cert.InLruIdeal.nD Cert.InLruIdeal.τ Cert.InLruIdeal.sig) → Buf (Elt Ideal) ℓ) (g : Dev Cert.InLruIdeal.nD → PrngReg)
    (m' : (ℓ : Loc Cert.InLruRefIdeal.nD Cert.InLruRefIdeal.τ Cert.InLruRefIdeal.sig) → Buf (Elt Ideal) ℓ) (g' : Dev Cert.InLruRefIdeal.nD → PrngReg), Pre_InLruIdeal m →
    (∀ c : Dev Cert.InLruIdeal.nD,
      m' ((c.tc : Thread Cert.InLruRefIdeal.nD Cert.InLruRefIdeal.τ).loc Cert.InLruRefIdeal.main_arg0) = m ((c.tc : Thread Cert.InLruIdeal.nD Cert.InLruIdeal.τ).loc Cert.InLruIdeal.main_arg0)
      ∧ m' ((c.tc : Thread Cert.InLruRefIdeal.nD Cert.InLruRefIdeal.τ).loc Cert.InLruRefIdeal.main_arg1) = m ((c.tc : Thread Cert.InLruIdeal.nD Cert.InLruIdeal.τ).loc Cert.InLruIdeal.main_arg1)
      ∧ m' ((c.tc : Thread Cert.InLruRefIdeal.nD Cert.InLruRefIdeal.τ).loc Cert.InLruRefIdeal.main_arg2) = m ((c.tc : Thread Cert.InLruIdeal.nD Cert.InLruIdeal.τ).loc Cert.InLruIdeal.main_arg2)
      ∧ m' ((c.tc : Thread Cert.InLruRefIdeal.nD Cert.InLruRefIdeal.τ).loc Cert.InLruRefIdeal.main_arg3) = m ((c.tc : Thread Cert.InLruIdeal.nD Cert.InLruIdeal.τ).loc Cert.InLruIdeal.main_arg3)
      ∧ m' ((c.tc : Thread Cert.InLruRefIdeal.nD Cert.InLruRefIdeal.τ).loc Cert.InLruRefIdeal.main_arg4) = m ((c.tc : Thread Cert.InLruIdeal.nD Cert.InLruIdeal.τ).loc Cert.InLruIdeal.main_arg4)) →
    ∃ (v0 : (c : Dev Cert.InLruIdeal.nD) → Buf (Elt Ideal) ((c.tc : Thread Cert.InLruIdeal.nD Cert.InLruIdeal.τ).loc Cert.InLruIdeal.main_v6)),
      θ_run (Cert.InLruIdeal.defs (F := Ideal)) (onTc (τ := Cert.InLruIdeal.τ) (Cert.InLruIdeal.main (F := Ideal))) ⟨m, fun _ => 0, g⟩ (fun r => ∀ c : Dev Cert.InLruIdeal.nD,
          r.2.mem ((c.tc : Thread Cert.InLruIdeal.nD Cert.InLruIdeal.τ).loc Cert.InLruIdeal.main_v6) = v0 c
          ∧ r.2.mem ((c.tc : Thread Cert.InLruIdeal.nD Cert.InLruIdeal.τ).loc Cert.InLruIdeal.main_arg0) = m ((c.tc : Thread Cert.InLruIdeal.nD Cert.InLruIdeal.τ).loc Cert.InLruIdeal.main_arg0)
          ∧ r.2.mem ((c.tc : Thread Cert.InLruIdeal.nD Cert.InLruIdeal.τ).loc Cert.InLruIdeal.main_arg1) = m ((c.tc : Thread Cert.InLruIdeal.nD Cert.InLruIdeal.τ).loc Cert.InLruIdeal.main_arg1)
          ∧ r.2.mem ((c.tc : Thread Cert.InLruIdeal.nD Cert.InLruIdeal.τ).loc Cert.InLruIdeal.main_arg2) = m ((c.tc : Thread Cert.InLruIdeal.nD Cert.InLruIdeal.τ).loc Cert.InLruIdeal.main_arg2)
          ∧ r.2.mem ((c.tc : Thread Cert.InLruIdeal.nD Cert.InLruIdeal.τ).loc Cert.InLruIdeal.main_arg3) = m ((c.tc : Thread Cert.InLruIdeal.nD Cert.InLruIdeal.τ).loc Cert.InLruIdeal.main_arg3)
          ∧ r.2.mem ((c.tc : Thread Cert.InLruIdeal.nD Cert.InLruIdeal.τ).loc Cert.InLruIdeal.main_arg4) = m ((c.tc : Thread Cert.InLruIdeal.nD Cert.InLruIdeal.τ).loc Cert.InLruIdeal.main_arg4))
      ∧ θ_run (Cert.InLruRefIdeal.defs (F := Ideal)) (onTc (τ := Cert.InLruRefIdeal.τ) (Cert.InLruRefIdeal.main (F := Ideal))) ⟨m', fun _ => 0, g'⟩ (fun r => ∀ c : Dev Cert.InLruRefIdeal.nD,
          r.2.mem ((c.tc : Thread Cert.InLruRefIdeal.nD Cert.InLruRefIdeal.τ).loc Cert.InLruRefIdeal.main_v21) = v0 c
          ∧ r.2.mem ((c.tc : Thread Cert.InLruRefIdeal.nD Cert.InLruRefIdeal.τ).loc Cert.InLruRefIdeal.main_arg0) = m' ((c.tc : Thread Cert.InLruRefIdeal.nD Cert.InLruRefIdeal.τ).loc Cert.InLruRefIdeal.main_arg0)
          ∧ r.2.mem ((c.tc : Thread Cert.InLruRefIdeal.nD Cert.InLruRefIdeal.τ).loc Cert.InLruRefIdeal.main_arg1) = m' ((c.tc : Thread Cert.InLruRefIdeal.nD Cert.InLruRefIdeal.τ).loc Cert.InLruRefIdeal.main_arg1)
          ∧ r.2.mem ((c.tc : Thread Cert.InLruRefIdeal.nD Cert.InLruRefIdeal.τ).loc Cert.InLruRefIdeal.main_arg2) = m' ((c.tc : Thread Cert.InLruRefIdeal.nD Cert.InLruRefIdeal.τ).loc Cert.InLruRefIdeal.main_arg2)
          ∧ r.2.mem ((c.tc : Thread Cert.InLruRefIdeal.nD Cert.InLruRefIdeal.τ).loc Cert.InLruRefIdeal.main_arg3) = m' ((c.tc : Thread Cert.InLruRefIdeal.nD Cert.InLruRefIdeal.τ).loc Cert.InLruRefIdeal.main_arg3)
          ∧ r.2.mem ((c.tc : Thread Cert.InLruRefIdeal.nD Cert.InLruRefIdeal.τ).loc Cert.InLruRefIdeal.main_arg4) = m' ((c.tc : Thread Cert.InLruRefIdeal.nD Cert.InLruRefIdeal.τ).loc Cert.InLruRefIdeal.main_arg4))

def preserves_OutHg_OutHgIdeal : Prop :=
  True

def algebraic_OutHgIdeal_OutHgRefIdeal [hOutHgIdeal : Cert.OutHgIdeal.Facts] [hOutHgRefIdeal : Cert.OutHgRefIdeal.Facts] : Prop :=
  ∀ (m : (ℓ : Loc Cert.OutHgIdeal.nD Cert.OutHgIdeal.τ Cert.OutHgIdeal.sig) → Buf (Elt Ideal) ℓ) (g : Dev Cert.OutHgIdeal.nD → PrngReg)
    (m' : (ℓ : Loc Cert.OutHgRefIdeal.nD Cert.OutHgRefIdeal.τ Cert.OutHgRefIdeal.sig) → Buf (Elt Ideal) ℓ) (g' : Dev Cert.OutHgRefIdeal.nD → PrngReg), Pre_OutHgIdeal m →
    (∀ c : Dev Cert.OutHgIdeal.nD,
      m' ((c.tc : Thread Cert.OutHgRefIdeal.nD Cert.OutHgRefIdeal.τ).loc Cert.OutHgRefIdeal.main_arg0) = m ((c.tc : Thread Cert.OutHgIdeal.nD Cert.OutHgIdeal.τ).loc Cert.OutHgIdeal.main_arg0)
      ∧ m' ((c.tc : Thread Cert.OutHgRefIdeal.nD Cert.OutHgRefIdeal.τ).loc Cert.OutHgRefIdeal.main_arg1) = m ((c.tc : Thread Cert.OutHgIdeal.nD Cert.OutHgIdeal.τ).loc Cert.OutHgIdeal.main_arg1)
      ∧ m' ((c.tc : Thread Cert.OutHgRefIdeal.nD Cert.OutHgRefIdeal.τ).loc Cert.OutHgRefIdeal.main_arg2) = m ((c.tc : Thread Cert.OutHgIdeal.nD Cert.OutHgIdeal.τ).loc Cert.OutHgIdeal.main_arg2)
      ∧ m' ((c.tc : Thread Cert.OutHgRefIdeal.nD Cert.OutHgRefIdeal.τ).loc Cert.OutHgRefIdeal.main_arg3) = m ((c.tc : Thread Cert.OutHgIdeal.nD Cert.OutHgIdeal.τ).loc Cert.OutHgIdeal.main_arg3)
      ∧ m' ((c.tc : Thread Cert.OutHgRefIdeal.nD Cert.OutHgRefIdeal.τ).loc Cert.OutHgRefIdeal.main_arg4) = m ((c.tc : Thread Cert.OutHgIdeal.nD Cert.OutHgIdeal.τ).loc Cert.OutHgIdeal.main_arg4)
      ∧ m' ((c.tc : Thread Cert.OutHgRefIdeal.nD Cert.OutHgRefIdeal.τ).loc Cert.OutHgRefIdeal.main_arg5) = m ((c.tc : Thread Cert.OutHgIdeal.nD Cert.OutHgIdeal.τ).loc Cert.OutHgIdeal.main_arg5)) →
    ∃ (v0 : (c : Dev Cert.OutHgIdeal.nD) → Buf (Elt Ideal) ((c.tc : Thread Cert.OutHgIdeal.nD Cert.OutHgIdeal.τ).loc Cert.OutHgIdeal.main_v6)),
      θ_run (Cert.OutHgIdeal.defs (F := Ideal)) (onTc (τ := Cert.OutHgIdeal.τ) (Cert.OutHgIdeal.main (F := Ideal))) ⟨m, fun _ => 0, g⟩ (fun r => ∀ c : Dev Cert.OutHgIdeal.nD,
          r.2.mem ((c.tc : Thread Cert.OutHgIdeal.nD Cert.OutHgIdeal.τ).loc Cert.OutHgIdeal.main_v6) = v0 c
          ∧ r.2.mem ((c.tc : Thread Cert.OutHgIdeal.nD Cert.OutHgIdeal.τ).loc Cert.OutHgIdeal.main_arg0) = m ((c.tc : Thread Cert.OutHgIdeal.nD Cert.OutHgIdeal.τ).loc Cert.OutHgIdeal.main_arg0)
          ∧ r.2.mem ((c.tc : Thread Cert.OutHgIdeal.nD Cert.OutHgIdeal.τ).loc Cert.OutHgIdeal.main_arg1) = m ((c.tc : Thread Cert.OutHgIdeal.nD Cert.OutHgIdeal.τ).loc Cert.OutHgIdeal.main_arg1)
          ∧ r.2.mem ((c.tc : Thread Cert.OutHgIdeal.nD Cert.OutHgIdeal.τ).loc Cert.OutHgIdeal.main_arg2) = m ((c.tc : Thread Cert.OutHgIdeal.nD Cert.OutHgIdeal.τ).loc Cert.OutHgIdeal.main_arg2)
          ∧ r.2.mem ((c.tc : Thread Cert.OutHgIdeal.nD Cert.OutHgIdeal.τ).loc Cert.OutHgIdeal.main_arg3) = m ((c.tc : Thread Cert.OutHgIdeal.nD Cert.OutHgIdeal.τ).loc Cert.OutHgIdeal.main_arg3)
          ∧ r.2.mem ((c.tc : Thread Cert.OutHgIdeal.nD Cert.OutHgIdeal.τ).loc Cert.OutHgIdeal.main_arg4) = m ((c.tc : Thread Cert.OutHgIdeal.nD Cert.OutHgIdeal.τ).loc Cert.OutHgIdeal.main_arg4)
          ∧ r.2.mem ((c.tc : Thread Cert.OutHgIdeal.nD Cert.OutHgIdeal.τ).loc Cert.OutHgIdeal.main_arg5) = m ((c.tc : Thread Cert.OutHgIdeal.nD Cert.OutHgIdeal.τ).loc Cert.OutHgIdeal.main_arg5))
      ∧ θ_run (Cert.OutHgRefIdeal.defs (F := Ideal)) (onTc (τ := Cert.OutHgRefIdeal.τ) (Cert.OutHgRefIdeal.main (F := Ideal))) ⟨m', fun _ => 0, g'⟩ (fun r => ∀ c : Dev Cert.OutHgRefIdeal.nD,
          r.2.mem ((c.tc : Thread Cert.OutHgRefIdeal.nD Cert.OutHgRefIdeal.τ).loc Cert.OutHgRefIdeal.main_v27) = v0 c
          ∧ r.2.mem ((c.tc : Thread Cert.OutHgRefIdeal.nD Cert.OutHgRefIdeal.τ).loc Cert.OutHgRefIdeal.main_arg0) = m' ((c.tc : Thread Cert.OutHgRefIdeal.nD Cert.OutHgRefIdeal.τ).loc Cert.OutHgRefIdeal.main_arg0)
          ∧ r.2.mem ((c.tc : Thread Cert.OutHgRefIdeal.nD Cert.OutHgRefIdeal.τ).loc Cert.OutHgRefIdeal.main_arg1) = m' ((c.tc : Thread Cert.OutHgRefIdeal.nD Cert.OutHgRefIdeal.τ).loc Cert.OutHgRefIdeal.main_arg1)
          ∧ r.2.mem ((c.tc : Thread Cert.OutHgRefIdeal.nD Cert.OutHgRefIdeal.τ).loc Cert.OutHgRefIdeal.main_arg2) = m' ((c.tc : Thread Cert.OutHgRefIdeal.nD Cert.OutHgRefIdeal.τ).loc Cert.OutHgRefIdeal.main_arg2)
          ∧ r.2.mem ((c.tc : Thread Cert.OutHgRefIdeal.nD Cert.OutHgRefIdeal.τ).loc Cert.OutHgRefIdeal.main_arg3) = m' ((c.tc : Thread Cert.OutHgRefIdeal.nD Cert.OutHgRefIdeal.τ).loc Cert.OutHgRefIdeal.main_arg3)
          ∧ r.2.mem ((c.tc : Thread Cert.OutHgRefIdeal.nD Cert.OutHgRefIdeal.τ).loc Cert.OutHgRefIdeal.main_arg4) = m' ((c.tc : Thread Cert.OutHgRefIdeal.nD Cert.OutHgRefIdeal.τ).loc Cert.OutHgRefIdeal.main_arg4)
          ∧ r.2.mem ((c.tc : Thread Cert.OutHgRefIdeal.nD Cert.OutHgRefIdeal.τ).loc Cert.OutHgRefIdeal.main_arg5) = m' ((c.tc : Thread Cert.OutHgRefIdeal.nD Cert.OutHgRefIdeal.τ).loc Cert.OutHgRefIdeal.main_arg5))

def preserves_OutHy_OutHyIdeal : Prop :=
  True

def algebraic_OutHyIdeal_OutHyRefIdeal [hOutHyIdeal : Cert.OutHyIdeal.Facts] [hOutHyRefIdeal : Cert.OutHyRefIdeal.Facts] : Prop :=
  ∀ (m : (ℓ : Loc Cert.OutHyIdeal.nD Cert.OutHyIdeal.τ Cert.OutHyIdeal.sig) → Buf (Elt Ideal) ℓ) (g : Dev Cert.OutHyIdeal.nD → PrngReg)
    (m' : (ℓ : Loc Cert.OutHyRefIdeal.nD Cert.OutHyRefIdeal.τ Cert.OutHyRefIdeal.sig) → Buf (Elt Ideal) ℓ) (g' : Dev Cert.OutHyRefIdeal.nD → PrngReg), Pre_OutHyIdeal m →
    (∀ c : Dev Cert.OutHyIdeal.nD,
      m' ((c.tc : Thread Cert.OutHyRefIdeal.nD Cert.OutHyRefIdeal.τ).loc Cert.OutHyRefIdeal.main_arg0) = m ((c.tc : Thread Cert.OutHyIdeal.nD Cert.OutHyIdeal.τ).loc Cert.OutHyIdeal.main_arg0)
      ∧ m' ((c.tc : Thread Cert.OutHyRefIdeal.nD Cert.OutHyRefIdeal.τ).loc Cert.OutHyRefIdeal.main_arg1) = m ((c.tc : Thread Cert.OutHyIdeal.nD Cert.OutHyIdeal.τ).loc Cert.OutHyIdeal.main_arg1)
      ∧ m' ((c.tc : Thread Cert.OutHyRefIdeal.nD Cert.OutHyRefIdeal.τ).loc Cert.OutHyRefIdeal.main_arg2) = m ((c.tc : Thread Cert.OutHyIdeal.nD Cert.OutHyIdeal.τ).loc Cert.OutHyIdeal.main_arg2)
      ∧ m' ((c.tc : Thread Cert.OutHyRefIdeal.nD Cert.OutHyRefIdeal.τ).loc Cert.OutHyRefIdeal.main_arg3) = m ((c.tc : Thread Cert.OutHyIdeal.nD Cert.OutHyIdeal.τ).loc Cert.OutHyIdeal.main_arg3)
      ∧ m' ((c.tc : Thread Cert.OutHyRefIdeal.nD Cert.OutHyRefIdeal.τ).loc Cert.OutHyRefIdeal.main_arg4) = m ((c.tc : Thread Cert.OutHyIdeal.nD Cert.OutHyIdeal.τ).loc Cert.OutHyIdeal.main_arg4)
      ∧ m' ((c.tc : Thread Cert.OutHyRefIdeal.nD Cert.OutHyRefIdeal.τ).loc Cert.OutHyRefIdeal.main_arg5) = m ((c.tc : Thread Cert.OutHyIdeal.nD Cert.OutHyIdeal.τ).loc Cert.OutHyIdeal.main_arg5)
      ∧ m' ((c.tc : Thread Cert.OutHyRefIdeal.nD Cert.OutHyRefIdeal.τ).loc Cert.OutHyRefIdeal.main_arg6) = m ((c.tc : Thread Cert.OutHyIdeal.nD Cert.OutHyIdeal.τ).loc Cert.OutHyIdeal.main_arg6)) →
    ∃ (v0 : (c : Dev Cert.OutHyIdeal.nD) → Buf (Elt Ideal) ((c.tc : Thread Cert.OutHyIdeal.nD Cert.OutHyIdeal.τ).loc Cert.OutHyIdeal.main_v3)),
      θ_run (Cert.OutHyIdeal.defs (F := Ideal)) (onTc (τ := Cert.OutHyIdeal.τ) (Cert.OutHyIdeal.main (F := Ideal))) ⟨m, fun _ => 0, g⟩ (fun r => ∀ c : Dev Cert.OutHyIdeal.nD,
          r.2.mem ((c.tc : Thread Cert.OutHyIdeal.nD Cert.OutHyIdeal.τ).loc Cert.OutHyIdeal.main_v3) = v0 c
          ∧ r.2.mem ((c.tc : Thread Cert.OutHyIdeal.nD Cert.OutHyIdeal.τ).loc Cert.OutHyIdeal.main_arg0) = m ((c.tc : Thread Cert.OutHyIdeal.nD Cert.OutHyIdeal.τ).loc Cert.OutHyIdeal.main_arg0)
          ∧ r.2.mem ((c.tc : Thread Cert.OutHyIdeal.nD Cert.OutHyIdeal.τ).loc Cert.OutHyIdeal.main_arg1) = m ((c.tc : Thread Cert.OutHyIdeal.nD Cert.OutHyIdeal.τ).loc Cert.OutHyIdeal.main_arg1)
          ∧ r.2.mem ((c.tc : Thread Cert.OutHyIdeal.nD Cert.OutHyIdeal.τ).loc Cert.OutHyIdeal.main_arg2) = m ((c.tc : Thread Cert.OutHyIdeal.nD Cert.OutHyIdeal.τ).loc Cert.OutHyIdeal.main_arg2)
          ∧ r.2.mem ((c.tc : Thread Cert.OutHyIdeal.nD Cert.OutHyIdeal.τ).loc Cert.OutHyIdeal.main_arg3) = m ((c.tc : Thread Cert.OutHyIdeal.nD Cert.OutHyIdeal.τ).loc Cert.OutHyIdeal.main_arg3)
          ∧ r.2.mem ((c.tc : Thread Cert.OutHyIdeal.nD Cert.OutHyIdeal.τ).loc Cert.OutHyIdeal.main_arg4) = m ((c.tc : Thread Cert.OutHyIdeal.nD Cert.OutHyIdeal.τ).loc Cert.OutHyIdeal.main_arg4)
          ∧ r.2.mem ((c.tc : Thread Cert.OutHyIdeal.nD Cert.OutHyIdeal.τ).loc Cert.OutHyIdeal.main_arg5) = m ((c.tc : Thread Cert.OutHyIdeal.nD Cert.OutHyIdeal.τ).loc Cert.OutHyIdeal.main_arg5)
          ∧ r.2.mem ((c.tc : Thread Cert.OutHyIdeal.nD Cert.OutHyIdeal.τ).loc Cert.OutHyIdeal.main_arg6) = m ((c.tc : Thread Cert.OutHyIdeal.nD Cert.OutHyIdeal.τ).loc Cert.OutHyIdeal.main_arg6))
      ∧ θ_run (Cert.OutHyRefIdeal.defs (F := Ideal)) (onTc (τ := Cert.OutHyRefIdeal.τ) (Cert.OutHyRefIdeal.main (F := Ideal))) ⟨m', fun _ => 0, g'⟩ (fun r => ∀ c : Dev Cert.OutHyRefIdeal.nD,
          r.2.mem ((c.tc : Thread Cert.OutHyRefIdeal.nD Cert.OutHyRefIdeal.τ).loc Cert.OutHyRefIdeal.main_v10) = v0 c
          ∧ r.2.mem ((c.tc : Thread Cert.OutHyRefIdeal.nD Cert.OutHyRefIdeal.τ).loc Cert.OutHyRefIdeal.main_arg0) = m' ((c.tc : Thread Cert.OutHyRefIdeal.nD Cert.OutHyRefIdeal.τ).loc Cert.OutHyRefIdeal.main_arg0)
          ∧ r.2.mem ((c.tc : Thread Cert.OutHyRefIdeal.nD Cert.OutHyRefIdeal.τ).loc Cert.OutHyRefIdeal.main_arg1) = m' ((c.tc : Thread Cert.OutHyRefIdeal.nD Cert.OutHyRefIdeal.τ).loc Cert.OutHyRefIdeal.main_arg1)
          ∧ r.2.mem ((c.tc : Thread Cert.OutHyRefIdeal.nD Cert.OutHyRefIdeal.τ).loc Cert.OutHyRefIdeal.main_arg2) = m' ((c.tc : Thread Cert.OutHyRefIdeal.nD Cert.OutHyRefIdeal.τ).loc Cert.OutHyRefIdeal.main_arg2)
          ∧ r.2.mem ((c.tc : Thread Cert.OutHyRefIdeal.nD Cert.OutHyRefIdeal.τ).loc Cert.OutHyRefIdeal.main_arg3) = m' ((c.tc : Thread Cert.OutHyRefIdeal.nD Cert.OutHyRefIdeal.τ).loc Cert.OutHyRefIdeal.main_arg3)
          ∧ r.2.mem ((c.tc : Thread Cert.OutHyRefIdeal.nD Cert.OutHyRefIdeal.τ).loc Cert.OutHyRefIdeal.main_arg4) = m' ((c.tc : Thread Cert.OutHyRefIdeal.nD Cert.OutHyRefIdeal.τ).loc Cert.OutHyRefIdeal.main_arg4)
          ∧ r.2.mem ((c.tc : Thread Cert.OutHyRefIdeal.nD Cert.OutHyRefIdeal.τ).loc Cert.OutHyRefIdeal.main_arg5) = m' ((c.tc : Thread Cert.OutHyRefIdeal.nD Cert.OutHyRefIdeal.τ).loc Cert.OutHyRefIdeal.main_arg5)
          ∧ r.2.mem ((c.tc : Thread Cert.OutHyRefIdeal.nD Cert.OutHyRefIdeal.τ).loc Cert.OutHyRefIdeal.main_arg6) = m' ((c.tc : Thread Cert.OutHyRefIdeal.nD Cert.OutHyRefIdeal.τ).loc Cert.OutHyRefIdeal.main_arg6))

def preserves_OutLru_OutLruIdeal : Prop :=
  True

def algebraic_OutLruIdeal_OutLruRefIdeal [hOutLruIdeal : Cert.OutLruIdeal.Facts] [hOutLruRefIdeal : Cert.OutLruRefIdeal.Facts] : Prop :=
  ∀ (m : (ℓ : Loc Cert.OutLruIdeal.nD Cert.OutLruIdeal.τ Cert.OutLruIdeal.sig) → Buf (Elt Ideal) ℓ) (g : Dev Cert.OutLruIdeal.nD → PrngReg)
    (m' : (ℓ : Loc Cert.OutLruRefIdeal.nD Cert.OutLruRefIdeal.τ Cert.OutLruRefIdeal.sig) → Buf (Elt Ideal) ℓ) (g' : Dev Cert.OutLruRefIdeal.nD → PrngReg), Pre_OutLruIdeal m →
    (∀ c : Dev Cert.OutLruIdeal.nD,
      m' ((c.tc : Thread Cert.OutLruRefIdeal.nD Cert.OutLruRefIdeal.τ).loc Cert.OutLruRefIdeal.main_arg0) = m ((c.tc : Thread Cert.OutLruIdeal.nD Cert.OutLruIdeal.τ).loc Cert.OutLruIdeal.main_arg0)
      ∧ m' ((c.tc : Thread Cert.OutLruRefIdeal.nD Cert.OutLruRefIdeal.τ).loc Cert.OutLruRefIdeal.main_arg1) = m ((c.tc : Thread Cert.OutLruIdeal.nD Cert.OutLruIdeal.τ).loc Cert.OutLruIdeal.main_arg1)
      ∧ m' ((c.tc : Thread Cert.OutLruRefIdeal.nD Cert.OutLruRefIdeal.τ).loc Cert.OutLruRefIdeal.main_arg2) = m ((c.tc : Thread Cert.OutLruIdeal.nD Cert.OutLruIdeal.τ).loc Cert.OutLruIdeal.main_arg2)
      ∧ m' ((c.tc : Thread Cert.OutLruRefIdeal.nD Cert.OutLruRefIdeal.τ).loc Cert.OutLruRefIdeal.main_arg3) = m ((c.tc : Thread Cert.OutLruIdeal.nD Cert.OutLruIdeal.τ).loc Cert.OutLruIdeal.main_arg3)
      ∧ m' ((c.tc : Thread Cert.OutLruRefIdeal.nD Cert.OutLruRefIdeal.τ).loc Cert.OutLruRefIdeal.main_arg4) = m ((c.tc : Thread Cert.OutLruIdeal.nD Cert.OutLruIdeal.τ).loc Cert.OutLruIdeal.main_arg4)
      ∧ m' ((c.tc : Thread Cert.OutLruRefIdeal.nD Cert.OutLruRefIdeal.τ).loc Cert.OutLruRefIdeal.main_arg5) = m ((c.tc : Thread Cert.OutLruIdeal.nD Cert.OutLruIdeal.τ).loc Cert.OutLruIdeal.main_arg5)) →
    ∃ (v0 : (c : Dev Cert.OutLruIdeal.nD) → Buf (Elt Ideal) ((c.tc : Thread Cert.OutLruIdeal.nD Cert.OutLruIdeal.τ).loc Cert.OutLruIdeal.main_v3)),
      θ_run (Cert.OutLruIdeal.defs (F := Ideal)) (onTc (τ := Cert.OutLruIdeal.τ) (Cert.OutLruIdeal.main (F := Ideal))) ⟨m, fun _ => 0, g⟩ (fun r => ∀ c : Dev Cert.OutLruIdeal.nD,
          r.2.mem ((c.tc : Thread Cert.OutLruIdeal.nD Cert.OutLruIdeal.τ).loc Cert.OutLruIdeal.main_v3) = v0 c
          ∧ r.2.mem ((c.tc : Thread Cert.OutLruIdeal.nD Cert.OutLruIdeal.τ).loc Cert.OutLruIdeal.main_arg0) = m ((c.tc : Thread Cert.OutLruIdeal.nD Cert.OutLruIdeal.τ).loc Cert.OutLruIdeal.main_arg0)
          ∧ r.2.mem ((c.tc : Thread Cert.OutLruIdeal.nD Cert.OutLruIdeal.τ).loc Cert.OutLruIdeal.main_arg1) = m ((c.tc : Thread Cert.OutLruIdeal.nD Cert.OutLruIdeal.τ).loc Cert.OutLruIdeal.main_arg1)
          ∧ r.2.mem ((c.tc : Thread Cert.OutLruIdeal.nD Cert.OutLruIdeal.τ).loc Cert.OutLruIdeal.main_arg2) = m ((c.tc : Thread Cert.OutLruIdeal.nD Cert.OutLruIdeal.τ).loc Cert.OutLruIdeal.main_arg2)
          ∧ r.2.mem ((c.tc : Thread Cert.OutLruIdeal.nD Cert.OutLruIdeal.τ).loc Cert.OutLruIdeal.main_arg3) = m ((c.tc : Thread Cert.OutLruIdeal.nD Cert.OutLruIdeal.τ).loc Cert.OutLruIdeal.main_arg3)
          ∧ r.2.mem ((c.tc : Thread Cert.OutLruIdeal.nD Cert.OutLruIdeal.τ).loc Cert.OutLruIdeal.main_arg4) = m ((c.tc : Thread Cert.OutLruIdeal.nD Cert.OutLruIdeal.τ).loc Cert.OutLruIdeal.main_arg4)
          ∧ r.2.mem ((c.tc : Thread Cert.OutLruIdeal.nD Cert.OutLruIdeal.τ).loc Cert.OutLruIdeal.main_arg5) = m ((c.tc : Thread Cert.OutLruIdeal.nD Cert.OutLruIdeal.τ).loc Cert.OutLruIdeal.main_arg5))
      ∧ θ_run (Cert.OutLruRefIdeal.defs (F := Ideal)) (onTc (τ := Cert.OutLruRefIdeal.τ) (Cert.OutLruRefIdeal.main (F := Ideal))) ⟨m', fun _ => 0, g'⟩ (fun r => ∀ c : Dev Cert.OutLruRefIdeal.nD,
          r.2.mem ((c.tc : Thread Cert.OutLruRefIdeal.nD Cert.OutLruRefIdeal.τ).loc Cert.OutLruRefIdeal.main_v22) = v0 c
          ∧ r.2.mem ((c.tc : Thread Cert.OutLruRefIdeal.nD Cert.OutLruRefIdeal.τ).loc Cert.OutLruRefIdeal.main_arg0) = m' ((c.tc : Thread Cert.OutLruRefIdeal.nD Cert.OutLruRefIdeal.τ).loc Cert.OutLruRefIdeal.main_arg0)
          ∧ r.2.mem ((c.tc : Thread Cert.OutLruRefIdeal.nD Cert.OutLruRefIdeal.τ).loc Cert.OutLruRefIdeal.main_arg1) = m' ((c.tc : Thread Cert.OutLruRefIdeal.nD Cert.OutLruRefIdeal.τ).loc Cert.OutLruRefIdeal.main_arg1)
          ∧ r.2.mem ((c.tc : Thread Cert.OutLruRefIdeal.nD Cert.OutLruRefIdeal.τ).loc Cert.OutLruRefIdeal.main_arg2) = m' ((c.tc : Thread Cert.OutLruRefIdeal.nD Cert.OutLruRefIdeal.τ).loc Cert.OutLruRefIdeal.main_arg2)
          ∧ r.2.mem ((c.tc : Thread Cert.OutLruRefIdeal.nD Cert.OutLruRefIdeal.τ).loc Cert.OutLruRefIdeal.main_arg3) = m' ((c.tc : Thread Cert.OutLruRefIdeal.nD Cert.OutLruRefIdeal.τ).loc Cert.OutLruRefIdeal.main_arg3)
          ∧ r.2.mem ((c.tc : Thread Cert.OutLruRefIdeal.nD Cert.OutLruRefIdeal.τ).loc Cert.OutLruRefIdeal.main_arg4) = m' ((c.tc : Thread Cert.OutLruRefIdeal.nD Cert.OutLruRefIdeal.τ).loc Cert.OutLruRefIdeal.main_arg4)
          ∧ r.2.mem ((c.tc : Thread Cert.OutLruRefIdeal.nD Cert.OutLruRefIdeal.τ).loc Cert.OutLruRefIdeal.main_arg5) = m' ((c.tc : Thread Cert.OutLruRefIdeal.nD Cert.OutLruRefIdeal.τ).loc Cert.OutLruRefIdeal.main_arg5))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v2)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v2) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_HyPre_HyPreIdeal : Prop :=
  True

def algebraic_HyPreIdeal_HyPreRefIdeal [hHyPreIdeal : Cert.HyPreIdeal.Facts] [hHyPreRefIdeal : Cert.HyPreRefIdeal.Facts] : Prop :=
  ∀ (m : (ℓ : Loc Cert.HyPreIdeal.nD Cert.HyPreIdeal.τ Cert.HyPreIdeal.sig) → Buf (Elt Ideal) ℓ) (g : Dev Cert.HyPreIdeal.nD → PrngReg)
    (m' : (ℓ : Loc Cert.HyPreRefIdeal.nD Cert.HyPreRefIdeal.τ Cert.HyPreRefIdeal.sig) → Buf (Elt Ideal) ℓ) (g' : Dev Cert.HyPreRefIdeal.nD → PrngReg), Pre_HyPreIdeal m →
    (∀ c : Dev Cert.HyPreIdeal.nD,
      m' ((c.tc : Thread Cert.HyPreRefIdeal.nD Cert.HyPreRefIdeal.τ).loc Cert.HyPreRefIdeal.main_arg0) = m ((c.tc : Thread Cert.HyPreIdeal.nD Cert.HyPreIdeal.τ).loc Cert.HyPreIdeal.main_arg0)
      ∧ m' ((c.tc : Thread Cert.HyPreRefIdeal.nD Cert.HyPreRefIdeal.τ).loc Cert.HyPreRefIdeal.main_arg1) = m ((c.tc : Thread Cert.HyPreIdeal.nD Cert.HyPreIdeal.τ).loc Cert.HyPreIdeal.main_arg1)
      ∧ m' ((c.tc : Thread Cert.HyPreRefIdeal.nD Cert.HyPreRefIdeal.τ).loc Cert.HyPreRefIdeal.main_arg2) = m ((c.tc : Thread Cert.HyPreIdeal.nD Cert.HyPreIdeal.τ).loc Cert.HyPreIdeal.main_arg2)) →
    ∃ (v0 : (c : Dev Cert.HyPreIdeal.nD) → Buf (Elt Ideal) ((c.tc : Thread Cert.HyPreIdeal.nD Cert.HyPreIdeal.τ).loc Cert.HyPreIdeal.main_v1_0)) (v1 : (c : Dev Cert.HyPreIdeal.nD) → Buf (Elt Ideal) ((c.tc : Thread Cert.HyPreIdeal.nD Cert.HyPreIdeal.τ).loc Cert.HyPreIdeal.main_v1_1)),
      θ_run (Cert.HyPreIdeal.defs (F := Ideal)) (onTc (τ := Cert.HyPreIdeal.τ) (Cert.HyPreIdeal.main (F := Ideal))) ⟨m, fun _ => 0, g⟩ (fun r => ∀ c : Dev Cert.HyPreIdeal.nD,
          r.2.mem ((c.tc : Thread Cert.HyPreIdeal.nD Cert.HyPreIdeal.τ).loc Cert.HyPreIdeal.main_v1_0) = v0 c
          ∧ r.2.mem ((c.tc : Thread Cert.HyPreIdeal.nD Cert.HyPreIdeal.τ).loc Cert.HyPreIdeal.main_v1_1) = v1 c
          ∧ r.2.mem ((c.tc : Thread Cert.HyPreIdeal.nD Cert.HyPreIdeal.τ).loc Cert.HyPreIdeal.main_arg0) = m ((c.tc : Thread Cert.HyPreIdeal.nD Cert.HyPreIdeal.τ).loc Cert.HyPreIdeal.main_arg0)
          ∧ r.2.mem ((c.tc : Thread Cert.HyPreIdeal.nD Cert.HyPreIdeal.τ).loc Cert.HyPreIdeal.main_arg1) = m ((c.tc : Thread Cert.HyPreIdeal.nD Cert.HyPreIdeal.τ).loc Cert.HyPreIdeal.main_arg1)
          ∧ r.2.mem ((c.tc : Thread Cert.HyPreIdeal.nD Cert.HyPreIdeal.τ).loc Cert.HyPreIdeal.main_arg2) = m ((c.tc : Thread Cert.HyPreIdeal.nD Cert.HyPreIdeal.τ).loc Cert.HyPreIdeal.main_arg2))
      ∧ θ_run (Cert.HyPreRefIdeal.defs (F := Ideal)) (onTc (τ := Cert.HyPreRefIdeal.τ) (Cert.HyPreRefIdeal.main (F := Ideal))) ⟨m', fun _ => 0, g'⟩ (fun r => ∀ c : Dev Cert.HyPreRefIdeal.nD,
          r.2.mem ((c.tc : Thread Cert.HyPreRefIdeal.nD Cert.HyPreRefIdeal.τ).loc Cert.HyPreRefIdeal.main_v32) = v0 c
          ∧ r.2.mem ((c.tc : Thread Cert.HyPreRefIdeal.nD Cert.HyPreRefIdeal.τ).loc Cert.HyPreRefIdeal.main_v35) = v1 c
          ∧ r.2.mem ((c.tc : Thread Cert.HyPreRefIdeal.nD Cert.HyPreRefIdeal.τ).loc Cert.HyPreRefIdeal.main_arg0) = m' ((c.tc : Thread Cert.HyPreRefIdeal.nD Cert.HyPreRefIdeal.τ).loc Cert.HyPreRefIdeal.main_arg0)
          ∧ r.2.mem ((c.tc : Thread Cert.HyPreRefIdeal.nD Cert.HyPreRefIdeal.τ).loc Cert.HyPreRefIdeal.main_arg1) = m' ((c.tc : Thread Cert.HyPreRefIdeal.nD Cert.HyPreRefIdeal.τ).loc Cert.HyPreRefIdeal.main_arg1)
          ∧ r.2.mem ((c.tc : Thread Cert.HyPreRefIdeal.nD Cert.HyPreRefIdeal.τ).loc Cert.HyPreRefIdeal.main_arg2) = m' ((c.tc : Thread Cert.HyPreRefIdeal.nD Cert.HyPreRefIdeal.τ).loc Cert.HyPreRefIdeal.main_arg2))

def Claim : Prop :=
  ∃ (hRetFwd : Cert.RetFwd.Facts) (hRetFwdIdeal : Cert.RetFwdIdeal.Facts) (hRetFwdRefIdeal : Cert.RetFwdRefIdeal.Facts) (hRetBwd : Cert.RetBwd.Facts) (hRetBwdIdeal : Cert.RetBwdIdeal.Facts) (hRetBwdRefIdeal : Cert.RetBwdRefIdeal.Facts) (hOutRet : Cert.OutRet.Facts) (hOutRetIdeal : Cert.OutRetIdeal.Facts) (hOutRetRefIdeal : Cert.OutRetRefIdeal.Facts) (hInHg : Cert.InHg.Facts) (hInHgIdeal : Cert.InHgIdeal.Facts) (hInHgRefIdeal : Cert.InHgRefIdeal.Facts) (hInHy : Cert.InHy.Facts) (hInHyIdeal : Cert.InHyIdeal.Facts) (hInHyRefIdeal : Cert.InHyRefIdeal.Facts) (hInRt : Cert.InRt.Facts) (hInRtIdeal : Cert.InRtIdeal.Facts) (hInRtRefIdeal : Cert.InRtRefIdeal.Facts) (hInLru : Cert.InLru.Facts) (hInLruIdeal : Cert.InLruIdeal.Facts) (hInLruRefIdeal : Cert.InLruRefIdeal.Facts) (hOutHg : Cert.OutHg.Facts) (hOutHgIdeal : Cert.OutHgIdeal.Facts) (hOutHgRefIdeal : Cert.OutHgRefIdeal.Facts) (hOutHy : Cert.OutHy.Facts) (hOutHyIdeal : Cert.OutHyIdeal.Facts) (hOutHyRefIdeal : Cert.OutHyRefIdeal.Facts) (hOutLru : Cert.OutLru.Facts) (hOutLruIdeal : Cert.OutLruIdeal.Facts) (hOutLruRefIdeal : Cert.OutLruRefIdeal.Facts) (hAdaln : Cert.Adaln.Facts) (hAdalnIdeal : Cert.AdalnIdeal.Facts) (hAdalnRefIdeal : Cert.AdalnRefIdeal.Facts) (hHyPre : Cert.HyPre.Facts) (hHyPreIdeal : Cert.HyPreIdeal.Facts) (hHyPreRefIdeal : Cert.HyPreRefIdeal.Facts) (hPre_finite : Cert.Pre_finite.Facts) (hPre_finite_proj : Cert.Pre_finite_proj.Facts),
    quiescent_RetFwd (hRetFwd := hRetFwd)
    ∧ quiescent_RetFwdIdeal (hRetFwdIdeal := hRetFwdIdeal)
    ∧ quiescent_RetFwdIdeal_pre_finite (hRetFwdIdeal := hRetFwdIdeal) (hPre_finite := hPre_finite)
    ∧ quiescent_RetFwdRefIdeal (hRetFwdRefIdeal := hRetFwdRefIdeal)
    ∧ quiescent_RetFwdRefIdeal_pre_finite (hRetFwdRefIdeal := hRetFwdRefIdeal) (hPre_finite := hPre_finite)
    ∧ quiescent_RetBwd (hRetBwd := hRetBwd)
    ∧ quiescent_RetBwdIdeal (hRetBwdIdeal := hRetBwdIdeal)
    ∧ quiescent_RetBwdIdeal_pre_finite_proj (hRetBwdIdeal := hRetBwdIdeal) (hPre_finite_proj := hPre_finite_proj)
    ∧ quiescent_RetBwdRefIdeal (hRetBwdRefIdeal := hRetBwdRefIdeal)
    ∧ quiescent_RetBwdRefIdeal_pre_finite_proj (hRetBwdRefIdeal := hRetBwdRefIdeal) (hPre_finite_proj := hPre_finite_proj)
    ∧ quiescent_OutRet (hOutRet := hOutRet)
    ∧ quiescent_OutRetIdeal (hOutRetIdeal := hOutRetIdeal)
    ∧ quiescent_OutRetRefIdeal (hOutRetRefIdeal := hOutRetRefIdeal)
    ∧ quiescent_InHg (hInHg := hInHg)
    ∧ quiescent_InHgIdeal (hInHgIdeal := hInHgIdeal)
    ∧ quiescent_InHgRefIdeal (hInHgRefIdeal := hInHgRefIdeal)
    ∧ quiescent_InHy (hInHy := hInHy)
    ∧ quiescent_InHyIdeal (hInHyIdeal := hInHyIdeal)
    ∧ quiescent_InHyRefIdeal (hInHyRefIdeal := hInHyRefIdeal)
    ∧ quiescent_InRt (hInRt := hInRt)
    ∧ quiescent_InRtIdeal (hInRtIdeal := hInRtIdeal)
    ∧ quiescent_InRtRefIdeal (hInRtRefIdeal := hInRtRefIdeal)
    ∧ quiescent_InLru (hInLru := hInLru)
    ∧ quiescent_InLruIdeal (hInLruIdeal := hInLruIdeal)
    ∧ quiescent_InLruRefIdeal (hInLruRefIdeal := hInLruRefIdeal)
    ∧ quiescent_OutHg (hOutHg := hOutHg)
    ∧ quiescent_OutHgIdeal (hOutHgIdeal := hOutHgIdeal)
    ∧ quiescent_OutHgRefIdeal (hOutHgRefIdeal := hOutHgRefIdeal)
    ∧ quiescent_OutHy (hOutHy := hOutHy)
    ∧ quiescent_OutHyIdeal (hOutHyIdeal := hOutHyIdeal)
    ∧ quiescent_OutHyRefIdeal (hOutHyRefIdeal := hOutHyRefIdeal)
    ∧ quiescent_OutLru (hOutLru := hOutLru)
    ∧ quiescent_OutLruIdeal (hOutLruIdeal := hOutLruIdeal)
    ∧ quiescent_OutLruRefIdeal (hOutLruRefIdeal := hOutLruRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_HyPre (hHyPre := hHyPre)
    ∧ quiescent_HyPreIdeal (hHyPreIdeal := hHyPreIdeal)
    ∧ quiescent_HyPreRefIdeal (hHyPreRefIdeal := hHyPreRefIdeal)
    ∧ preserves_RetFwd_RetFwdIdeal
    ∧ algebraic_RetFwdIdeal_RetFwdRefIdeal_pre_finite (hRetFwdIdeal := hRetFwdIdeal) (hRetFwdRefIdeal := hRetFwdRefIdeal) (hPre_finite := hPre_finite)
    ∧ preserves_RetBwd_RetBwdIdeal
    ∧ algebraic_RetBwdIdeal_RetBwdRefIdeal_pre_finite_proj (hRetBwdIdeal := hRetBwdIdeal) (hRetBwdRefIdeal := hRetBwdRefIdeal) (hPre_finite_proj := hPre_finite_proj)
    ∧ preserves_OutRet_OutRetIdeal
    ∧ algebraic_OutRetIdeal_OutRetRefIdeal (hOutRetIdeal := hOutRetIdeal) (hOutRetRefIdeal := hOutRetRefIdeal)
    ∧ preserves_InHg_InHgIdeal
    ∧ algebraic_InHgIdeal_InHgRefIdeal (hInHgIdeal := hInHgIdeal) (hInHgRefIdeal := hInHgRefIdeal)
    ∧ preserves_InHy_InHyIdeal
    ∧ algebraic_InHyIdeal_InHyRefIdeal (hInHyIdeal := hInHyIdeal) (hInHyRefIdeal := hInHyRefIdeal)
    ∧ preserves_InRt_InRtIdeal
    ∧ algebraic_InRtIdeal_InRtRefIdeal (hInRtIdeal := hInRtIdeal) (hInRtRefIdeal := hInRtRefIdeal)
    ∧ preserves_InLru_InLruIdeal
    ∧ algebraic_InLruIdeal_InLruRefIdeal (hInLruIdeal := hInLruIdeal) (hInLruRefIdeal := hInLruRefIdeal)
    ∧ preserves_OutHg_OutHgIdeal
    ∧ algebraic_OutHgIdeal_OutHgRefIdeal (hOutHgIdeal := hOutHgIdeal) (hOutHgRefIdeal := hOutHgRefIdeal)
    ∧ preserves_OutHy_OutHyIdeal
    ∧ algebraic_OutHyIdeal_OutHyRefIdeal (hOutHyIdeal := hOutHyIdeal) (hOutHyRefIdeal := hOutHyRefIdeal)
    ∧ preserves_OutLru_OutLruIdeal
    ∧ algebraic_OutLruIdeal_OutLruRefIdeal (hOutLruIdeal := hOutLruIdeal) (hOutLruRefIdeal := hOutLruRefIdeal)
    ∧ preserves_Adaln_AdalnIdeal
    ∧ algebraic_AdalnIdeal_AdalnRefIdeal (hAdalnIdeal := hAdalnIdeal) (hAdalnRefIdeal := hAdalnRefIdeal)
    ∧ preserves_HyPre_HyPreIdeal
    ∧ algebraic_HyPreIdeal_HyPreRefIdeal (hHyPreIdeal := hHyPreIdeal) (hHyPreRefIdeal := hHyPreRefIdeal)
-- ==== Pre_finite.lean ====
abbrev S4x8192x6144 : Shape := ⟨3, ![4, 8192, 6144]⟩
abbrev S4x8192x4096 : Shape := ⟨3, ![4, 8192, 4096]⟩
abbrev S_ : Shape := ⟨0, ![]⟩

class Facts : Prop where
  slices_S4x8192x6144_S4x8192x4096_0_0_0 : S4x8192x6144.Slices ![0, 0, 0] S4x8192x4096
  bitsLt_bf16_f32 : FTy.bits .bf16 < FTy.bits .f32
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel

variable [Facts]

def fn {F : FTy → Type} [FloatOps F] (main_arg0 : FVec F S4x8192x6144 .bf16) : IVec S_ 1 :=
  let main_v0 : FVec F S4x8192x4096 .bf16 := (extractStridedSlice S4x8192x4096 ![0, 0, 0] · slices_S4x8192x6144_S4x8192x4096_0_0_0) main_arg0
  let main_v1 : FVec F S4x8192x4096 .f32 := (extf .f32 · bitsLt_bf16_f32) main_v0
  let main_v2 : FVec F S4x8192x4096 .f32 := Host.absf main_v1
  let main_cst : FVec F S_ .f32 := constant S_ .f32 0x7F800000#32
  let main_v3 : FVec F S4x8192x4096 .f32 := broadcastInDim S4x8192x4096 ![] bcast_S_S4x8192x4096 main_cst
  let main_v4 : IVec S4x8192x4096 1 := cmpf .olt main_v2 main_v3
  let main_c : IVec S_ 1 := constantI S_ 1 1#1
  let main_v5 : IVec S_ 1 := (fun x v => Host.reduce IntOp.andi x v reducesTo_S4x8192x4096_S_d0_1_2 h_S_) main_v4 main_c
  main_v5
-- ==== Pre_finite_proj.lean ====
abbrev S4x8192x6144 : Shape := ⟨3, ![4, 8192, 6144]⟩
abbrev S4x8192x2048 : Shape := ⟨3, ![4, 8192, 2048]⟩
abbrev S4x8192x4096 : Shape := ⟨3, ![4, 8192, 4096]⟩
abbrev S_ : Shape := ⟨0, ![]⟩

class Facts : Prop where
  slices_S4x8192x6144_S4x8192x4096_0_0_0 : S4x8192x6144.Slices ![0, 0, 0] S4x8192x4096
  bitsLt_bf16_f32 : FTy.bits .bf16 < FTy.bits .f32
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel

variable [Facts]

def fn {F : FTy → Type} [FloatOps F] (main_arg0 : FVec F S4x8192x6144 .bf16) (main_arg1 : FVec F S4x8192x2048 .bf16) : IVec S_ 1 :=
  let main_v0 : FVec F S4x8192x4096 .bf16 := (extractStridedSlice S4x8192x4096 ![0, 0, 0] · slices_S4x8192x6144_S4x8192x4096_0_0_0) main_arg0
  let main_v1 : FVec F S4x8192x4096 .f32 := (extf .f32 · bitsLt_bf16_f32) main_v0
  let main_v2 : FVec F S4x8192x4096 .f32 := Host.absf main_v1
  let main_cst : FVec F S_ .f32 := constant S_ .f32 0x7F800000#32
  let main_v3 : FVec F S4x8192x4096 .f32 := broadcastInDim S4x8192x4096 ![] bcast_S_S4x8192x4096 main_cst
  let main_v4 : IVec S4x8192x4096 1 := cmpf .olt main_v2 main_v3
  let main_c : IVec S_ 1 := constantI S_ 1 1#1
  let main_v5 : IVec S_ 1 := (fun x v => Host.reduce IntOp.andi x v reducesTo_S4x8192x4096_S_d0_1_2 h_S_) main_v4 main_c
  main_v5
-- ==== RetFwd.lean ====
abbrev S4x8192x6144 : Shape := ⟨3, ![4, 8192, 6144]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S4x1 : Shape := ⟨2, ![4, 1]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x256 : Shape := ⟨2, ![4, 256]⟩
abbrev S4x256x1 : Shape := ⟨3, ![4, 256, 1]⟩
abbrev S4x256x512 : Shape := ⟨3, ![4, 256, 512]⟩
abbrev S4x1x512 : Shape := ⟨3, ![4, 1, 512]⟩
abbrev S4x8192x2048 : Shape := ⟨3, ![4, 8192, 2048]⟩
abbrev S1x256x1024 : Shape := ⟨3, ![1, 256, 1024]⟩
abbrev S1x256x2048 : Shape := ⟨3, ![1, 256, 2048]⟩
abbrev S256x128 : Shape := ⟨2, ![256, 128]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 85
  | .vmem => 17
  | .smem => 0
  | _ => 0

abbrev bufTy : (tb : Table) → Fin (tcTables nBuf tb) → BufTy
  | .hbm, ⟨0, _⟩ => ⟨S4x8192x6144, .bf16⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S8192, .f32⟩
  | .hbm, ⟨16, _⟩ => ⟨S8192x1, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4x1, .f32⟩
  | .hbm, ⟨34, _⟩ => ⟨S256, .f32⟩
  | .hbm, ⟨35, _⟩ => ⟨S1x256, .f32⟩
  | .hbm, ⟨36, _⟩ => ⟨S256, .f32⟩
  | .hbm, ⟨37, _⟩ => ⟨S256x1, .f32⟩
  | .hbm, ⟨38, _⟩ => ⟨S256, .f32⟩
  | .hbm, ⟨39, _⟩ => ⟨S1x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .i1⟩
  | .hbm, ⟨46, _⟩ => ⟨S4x1x1, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S1x256x256, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S_, .f32⟩
  | .hbm, ⟨56, _⟩ => ⟨S_, .f32⟩
  | .hbm, ⟨57, _⟩ => ⟨S4x256x256, .i1⟩
  | .hbm, ⟨58, _⟩ => ⟨S4x256x256, .f32⟩
  | .hbm, ⟨59, _⟩ => ⟨S4x256x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S4x256, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S4x256, .f32⟩
  | .hbm, ⟨74, _⟩ => ⟨S_, .f32⟩
  | .hbm, ⟨75, _⟩ => ⟨S4x1, .f32⟩
  | .hbm, ⟨76, _⟩ => ⟨S4x1, .f32⟩
  | .hbm, ⟨77, _⟩ => ⟨S4x1, .f32⟩
  | .hbm, ⟨78, _⟩ => ⟨S4x256x1, .f32⟩
  | .hbm, ⟨79, _⟩ => ⟨S4x256x512, .f32⟩
  | .hbm, ⟨80, _⟩ => ⟨S4x256x1, .f32⟩
  | .hbm, ⟨81, _⟩ => ⟨S4x256x256, .f32⟩
  | .hbm, ⟨82, _⟩ => ⟨S4x1x1, .f32⟩
  | .hbm, ⟨83, _⟩ => ⟨S4x1x512, .f32⟩
  | .hbm, ⟨84, _⟩ => ⟨S4x8192x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x256x256, .f32⟩
  | .local _ .vmem, ⟨11, _⟩ => ⟨S4x256x512, .f32⟩
  | .local _ .vmem, ⟨12, _⟩ => ⟨S4x256x256, .f32⟩
  | .local _ .vmem, ⟨13, _⟩ => ⟨S4x1x512, .f32⟩
  | .local _ .vmem, ⟨14, _⟩ => ⟨S1x256x2048, .bf16⟩
  | .local _ .vmem, ⟨15, _⟩ => ⟨S1x256x2048, .bf16⟩
  | .local _ .vmem, ⟨16, _⟩ => ⟨S4x256x512, .f32⟩
  | _, _ => ⟨S4x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_5 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_6 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_7 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RetFwdRefIdeal.lean ====
abbrev S4x8192x6144 : Shape := ⟨3, ![4, 8192, 6144]⟩
abbrev S4x8192x1024 : Shape := ⟨3, ![4, 8192, 1024]⟩
abbrev S4x8192x2048 : Shape := ⟨3, ![4, 8192, 2048]⟩
abbrev S4x8192x4x256 : Shape := ⟨4, ![4, 8192, 4, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S4x8192x4x128 : Shape := ⟨4, ![4, 8192, 4, 128]⟩
abbrev S4x8192x4x512 : Shape := ⟨4, ![4, 8192, 4, 512]⟩
abbrev S4 : Shape := ⟨1, ![4]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x4x8192x8192 : Shape := ⟨4, ![4, 4, 8192, 8192]⟩
abbrev S1x4x8192x8192 : Shape := ⟨4, ![1, 4, 8192, 8192]⟩
abbrev S4x4x512x8192 : Shape := ⟨4, ![4, 4, 512, 8192]⟩

abbrev nBuf : Space → Nat
  | .hbm => 127
  | .vmem => 0
  | .smem => 0
  | _ => 0

abbrev bufTy : (tb : Table) → Fin (tcTables nBuf tb) → BufTy
  | .hbm, ⟨0, _⟩ => ⟨S4x8192x6144, .bf16⟩
  | .hbm, ⟨1, _⟩ => ⟨S4x8192x6144, .f32⟩
  | .hbm, ⟨2, _⟩ => ⟨S4x8192x1024, .f32⟩
  | .hbm, ⟨3, _⟩ => ⟨S4x8192x1024, .f32⟩
  | .hbm, ⟨4, _⟩ => ⟨S4x8192x2048, .f32⟩
  | .hbm, ⟨5, _⟩ => ⟨S4x8192x2048, .f32⟩
  | .hbm, ⟨6, _⟩ => ⟨S4x8192x4x256, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S8192, .f32⟩
  | .hbm, ⟨22, _⟩ => ⟨S8192x1, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S1x8192x1x128, .f32⟩
  | .hbm, ⟨29, _⟩ => ⟨S8192x128, .f32⟩
  | .hbm, ⟨30, _⟩ => ⟨S1x8192x1x128, .f32⟩
  | .hbm, ⟨31, _⟩ => ⟨S4x8192x4x128, .f32⟩
  | .hbm, ⟨32, _⟩ => ⟨S4x8192x4x128, .f32⟩
  | .hbm, ⟨33, _⟩ => ⟨S4x8192x4x128, .f32⟩
  | .hbm, ⟨34, _⟩ => ⟨S4x8192x4x128, .f32⟩
  | .hbm, ⟨35, _⟩ => ⟨S4x8192x4x128, .f32⟩
  | .hbm, ⟨36, _⟩ => ⟨S4x8192x4x128, .f32⟩
  | .hbm, ⟨37, _⟩ => ⟨S4x8192x4x128, .f32⟩
  | .hbm, ⟨38, _⟩ => ⟨S4x8192x4x128, .f32⟩
  | .hbm, ⟨39, _⟩ => ⟨S4x8192x4x128, .f32⟩
  | .hbm, ⟨40, _⟩ => ⟨S4x8192x4x128, .f32⟩
  | .hbm, ⟨41, _⟩ => ⟨S4x8192x4x128, .f32⟩
  | .hbm, ⟨42, _⟩ => ⟨S4x8192x4x128, .f32⟩
  | .hbm, ⟨43, _⟩ => ⟨S4x8192x4x256, .f32⟩
  | .hbm, ⟨44, _⟩ => ⟨S4x8192x4x256, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S8192, .f32⟩
  | .hbm, ⟨60, _⟩ => ⟨S8192x1, .f32⟩
  | .hbm, ⟨61, _⟩ => ⟨S1x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S1x8192x1x128, .f32⟩
  | .hbm, ⟨67, _⟩ => ⟨S8192x128, .f32⟩
  | .hbm, ⟨68, _⟩ => ⟨S1x8192x1x128, .f32⟩
  | .hbm, ⟨69, _⟩ => ⟨S4x8192x4x128, .f32⟩
  | .hbm, ⟨70, _⟩ => ⟨S4x8192x4x128, .f32⟩
  | .hbm, ⟨71, _⟩ => ⟨S4x8192x4x128, .f32⟩
  | .hbm, ⟨72, _⟩ => ⟨S4x8192x4x128, .f32⟩
  | .hbm, ⟨73, _⟩ => ⟨S4x8192x4x128, .f32⟩
  | .hbm, ⟨74, _⟩ => ⟨S4x8192x4x128, .f32⟩
  | .hbm, ⟨75, _⟩ => ⟨S4x8192x4x128, .f32⟩
  | .hbm, ⟨76, _⟩ => ⟨S4x8192x4x128, .f32⟩
  | .hbm, ⟨77, _⟩ => ⟨S4x8192x4x128, .f32⟩
  | .hbm, ⟨78, _⟩ => ⟨S4x8192x4x128, .f32⟩
  | .hbm, ⟨79, _⟩ => ⟨S4x8192x4x128, .f32⟩
  | .hbm, ⟨80, _⟩ => ⟨S4x8192x4x128, .f32⟩
  | .hbm, ⟨81, _⟩ => ⟨S4x8192x4x256, .f32⟩
  | .hbm, ⟨82, _⟩ => ⟨S_, .f32⟩
  | .hbm, ⟨83, _⟩ => ⟨S4x8192x4x256, .f32⟩
  | .hbm, ⟨84, _⟩ => ⟨S4x8192x4x256, .f32⟩
  | .hbm, ⟨85, _⟩ => ⟨S4x8192x4x512, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S_, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S8192, .f32⟩
  | .hbm, ⟨97, _⟩ => ⟨S8192x1, .f32⟩
  | .hbm, ⟨98, _⟩ => ⟨S1x8192, .f32⟩
  | .hbm, ⟨99, _⟩ => ⟨S8192x8192, .f32⟩
  | .hbm, ⟨100, _⟩ => ⟨S8192x8192, .f32⟩
  | .hbm, ⟨101, _⟩ => ⟨S8192x8192, .f32⟩
  | .hbm, ⟨102, _⟩ => ⟨S_, .f32⟩
  | .hbm, ⟨103, _⟩ => ⟨S8192x8192, .f32⟩
  | .hbm, ⟨104, _⟩ => ⟨S8192x8192, .i1⟩
  | .hbm, ⟨105, _⟩ => ⟨S4x1x1, .f32⟩
  | .hbm, ⟨106, _⟩ => ⟨S_, .f32⟩
  | .hbm, ⟨107, _⟩ => ⟨S8192x8192, .f32⟩
  | .hbm, ⟨108, _⟩ => ⟨S8192x8192, .f32⟩
  | .hbm, ⟨109, _⟩ => ⟨S1x8192x8192, .f32⟩
  | .hbm, ⟨110, _⟩ => ⟨S4x8192x8192, .f32⟩
  | .hbm, ⟨111, _⟩ => ⟨S4x8192x8192, .f32⟩
  | .hbm, ⟨112, _⟩ => ⟨S4x8192x8192, .f32⟩
  | .hbm, ⟨113, _⟩ => ⟨S4x8192x8192, .f32⟩
  | .hbm, ⟨114, _⟩ => ⟨S_, .f32⟩
  | .hbm, ⟨115, _⟩ => ⟨S_, .f32⟩
  | .hbm, ⟨116, _⟩ => ⟨S4x8192x8192, .i1⟩
  | .hbm, ⟨117, _⟩ => ⟨S4x8192x8192, .f32⟩
  | .hbm, ⟨118, _⟩ => ⟨S4x8192x8192, .f32⟩
  | .hbm, ⟨119, _⟩ => ⟨S4x4x8192x8192, .f32⟩
  | .hbm, ⟨120, _⟩ => ⟨S1x4x8192x8192, .f32⟩
  | .hbm, ⟨121, _⟩ => ⟨S4x4x8192x8192, .f32⟩
  | .hbm, ⟨122, _⟩ => ⟨S4x4x8192x8192, .f32⟩
  | .hbm, ⟨123, _⟩ => ⟨S4x4x512x8192, .f32⟩
  | .hbm, ⟨124, _⟩ => ⟨S4x8192x4x512, .f32⟩
  | .hbm, ⟨125, _⟩ => ⟨S4x8192x2048, .f32⟩
  | .hbm, ⟨126, _⟩ => ⟨S4x8192x2048, .bf16⟩
  | _, _ => ⟨S4x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_3 : Ref sig .tc := ⟨.hbm, 46, rfl⟩
abbrev main_v41 : Ref sig .tc := ⟨.hbm, 47, rfl⟩
abbrev main_v42 : Ref sig .tc := ⟨.hbm, 48, rfl⟩
abbrev main_cst_4 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_5 : Ref sig .tc := ⟨.hbm, 53, rfl⟩
abbrev main_v46 : Ref sig .tc := ⟨.hbm, 54, rfl⟩
abbrev main_v47 : Ref sig .tc := ⟨.hbm, 55, rfl⟩
abbrev main_cst_6 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_7 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_8 : Ref sig .tc := ⟨.hbm, 87, rfl⟩
abbrev main_v77 : Ref sig .tc := ⟨.hbm, 88, rfl⟩
abbrev main_v78 : Ref sig .tc := ⟨.hbm, 89, rfl⟩
abbrev main_cst_9 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_10 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_11 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_12 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩

abbrev nD : Nat := 1
abbrev τ : Topo := Topo.v7x

variable {F : FTy → Type} [FloatOps F]
-- ==== RetBwd.lean ====
abbrev S4x8192x6144 : Shape := ⟨3, ![4, 8192, 6144]⟩
abbrev S4x8192x2048 : Shape := ⟨3, ![4, 8192, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S4x1 : Shape := ⟨2, ![4, 1]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x256 : Shape := ⟨2, ![4, 256]⟩
abbrev S4x256x1 : Shape := ⟨3, ![4, 256, 1]⟩
abbrev S4x256x512 : Shape := ⟨3, ![4, 256, 512]⟩
abbrev S4x1x512 : Shape := ⟨3, ![4, 1, 512]⟩
abbrev S1x256x1024 : Shape := ⟨3, ![1, 256, 1024]⟩
abbrev S1x256x2048 : Shape := ⟨3, ![1, 256, 2048]⟩
abbrev S256x128 : Shape := ⟨2, ![256, 128]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 84
  | .vmem => 19
  | .smem => 0
  | _ => 0

abbrev bufTy : (tb : Table) → Fin (tcTables nBuf tb) → BufTy
  | .hbm, ⟨0, _⟩ => ⟨S4x8192x6144, .bf16⟩
  | .hbm, ⟨1, _⟩ => ⟨S4x8192x2048, .bf16⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4x1, .f32⟩
  | .hbm, ⟨35, _⟩ => ⟨S256, .f32⟩
  | .hbm, ⟨36, _⟩ => ⟨S1x256, .f32⟩
  | .hbm, ⟨37, _⟩ => ⟨S256, .f32⟩
  | .hbm, ⟨38, _⟩ => ⟨S256x1, .f32⟩
  | .hbm, ⟨39, _⟩ => ⟨S256, .f32⟩
  | .hbm, ⟨40, _⟩ => ⟨S1x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .i1⟩
  | .hbm, ⟨48, _⟩ => ⟨S4x1x1, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S1x256x256, .f32⟩
  | .hbm, ⟨53, _⟩ => ⟨S4x256x256, .f32⟩
  | .hbm, ⟨54, _⟩ => ⟨S4x256x256, .f32⟩
  | .hbm, ⟨55, _⟩ => ⟨S4x256x256, .f32⟩
  | .hbm, ⟨56, _⟩ => ⟨S4x256x256, .f32⟩
  | .hbm, ⟨57, _⟩ => ⟨S_, .f32⟩
  | .hbm, ⟨58, _⟩ => ⟨S_, .f32⟩
  | .hbm, ⟨59, _⟩ => ⟨S4x256x256, .i1⟩
  | .hbm, ⟨60, _⟩ => ⟨S4x256x256, .f32⟩
  | .hbm, ⟨61, _⟩ => ⟨S4x256x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S_, .f32⟩
  | .hbm, ⟨74, _⟩ => ⟨S4x1, .f32⟩
  | .hbm, ⟨75, _⟩ => ⟨S4x1, .f32⟩
  | .hbm, ⟨76, _⟩ => ⟨S4x1, .f32⟩
  | .hbm, ⟨77, _⟩ => ⟨S4x256x1, .f32⟩
  | .hbm, ⟨78, _⟩ => ⟨S4x256x512, .f32⟩
  | .hbm, ⟨79, _⟩ => ⟨S4x256x1, .f32⟩
  | .hbm, ⟨80, _⟩ => ⟨S4x256x256, .f32⟩
  | .hbm, ⟨81, _⟩ => ⟨S4x1x1, .f32⟩
  | .hbm, ⟨82, _⟩ => ⟨S4x1x512, .f32⟩
  | .hbm, ⟨83, _⟩ => ⟨S4x8192x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x256x256, .f32⟩
  | .local _ .vmem, ⟨11, _⟩ => ⟨S4x256x512, .f32⟩
  | .local _ .vmem, ⟨12, _⟩ => ⟨S4x256x256, .f32⟩
  | .local _ .vmem, ⟨13, _⟩ => ⟨S4x1x512, .f32⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S4x256x512, .f32⟩
  | _, _ => ⟨S4x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let c0_i32 : BitVec 32 := 0#32
  ![arg0.toNat, v0.toNat, c1_i32.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetBwdRefIdeal.lean ====
abbrev S4x8192x6144 : Shape := ⟨3, ![4, 8192, 6144]⟩
abbrev S4x8192x2048 : Shape := ⟨3, ![4, 8192, 2048]⟩
abbrev S4x8192x1024 : Shape := ⟨3, ![4, 8192, 1024]⟩
abbrev S4x8192x4x256 : Shape := ⟨4, ![4, 8192, 4, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S4x8192x4x128 : Shape := ⟨4, ![4, 8192, 4, 128]⟩
abbrev S4x8192x4x512 : Shape := ⟨4, ![4, 8192, 4, 512]⟩
abbrev S4 : Shape := ⟨1, ![4]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x4x8192x8192 : Shape := ⟨4, ![4, 4, 8192, 8192]⟩
abbrev S1x4x8192x8192 : Shape := ⟨4, ![1, 4, 8192, 8192]⟩
abbrev S4x4x512x8192 : Shape := ⟨4, ![4, 4, 512, 8192]⟩

abbrev nBuf : Space → Nat
  | .hbm => 134
  | .vmem => 0
  | .smem => 0
  | _ => 0

abbrev hbmTy0_0 (i : Nat) : BufTy := match i % 128 with
  | 0 => ⟨S4x8192x6144, .bf16⟩
  | 1 => ⟨S4x8192x2048, .bf16⟩
  | 2 => ⟨S4x8192x6144, .f32⟩
  | 3 => ⟨S4x8192x1024, .f32⟩
  | 4 => ⟨S4x8192x1024, .f32⟩
  | 5 => ⟨S4x8192x2048, .f32⟩
  | 6 => ⟨S4x8192x2048, .f32⟩
  | 7 => ⟨S4x8192x4x256, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S8192, .f32⟩
  | 23 => ⟨S8192x1, .f32⟩
  | 24 => ⟨S1x128, .f32⟩
  | 25 => ⟨S8192x128, .f32⟩
  | 26 => ⟨S8192x128, .f32⟩
  | 27 => ⟨S8192x128, .f32⟩
  | 28 => ⟨S8192x128, .f32⟩
  | 29 => ⟨S1x8192x1x128, .f32⟩
  | 30 => ⟨S8192x128, .f32⟩
  | 31 => ⟨S1x8192x1x128, .f32⟩
  | 32 => ⟨S4x8192x4x128, .f32⟩
  | 33 => ⟨S4x8192x4x128, .f32⟩
  | 34 => ⟨S4x8192x4x128, .f32⟩
  | 35 => ⟨S4x8192x4x128, .f32⟩
  | 36 => ⟨S4x8192x4x128, .f32⟩
  | 37 => ⟨S4x8192x4x128, .f32⟩
  | 38 => ⟨S4x8192x4x128, .f32⟩
  | 39 => ⟨S4x8192x4x128, .f32⟩
  | 40 => ⟨S4x8192x4x128, .f32⟩
  | 41 => ⟨S4x8192x4x128, .f32⟩
  | 42 => ⟨S4x8192x4x128, .f32⟩
  | 43 => ⟨S4x8192x4x128, .f32⟩
  | 44 => ⟨S4x8192x4x256, .f32⟩
  | 45 => ⟨S4x8192x4x256, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S8192, .f32⟩
  | 61 => ⟨S8192x1, .f32⟩
  | 62 => ⟨S1x128, .f32⟩
  | 63 => ⟨S8192x128, .f32⟩
  | 64 => ⟨S8192x128, .f32⟩
  | 65 => ⟨S8192x128, .f32⟩
  | 66 => ⟨S8192x128, .f32⟩
  | 67 => ⟨S1x8192x1x128, .f32⟩
  | 68 => ⟨S8192x128, .f32⟩
  | 69 => ⟨S1x8192x1x128, .f32⟩
  | 70 => ⟨S4x8192x4x128, .f32⟩
  | 71 => ⟨S4x8192x4x128, .f32⟩
  | 72 => ⟨S4x8192x4x128, .f32⟩
  | 73 => ⟨S4x8192x4x128, .f32⟩
  | 74 => ⟨S4x8192x4x128, .f32⟩
  | 75 => ⟨S4x8192x4x128, .f32⟩
  | 76 => ⟨S4x8192x4x128, .f32⟩
  | 77 => ⟨S4x8192x4x128, .f32⟩
  | 78 => ⟨S4x8192x4x128, .f32⟩
  | 79 => ⟨S4x8192x4x128, .f32⟩
  | 80 => ⟨S4x8192x4x128, .f32⟩
  | 81 => ⟨S4x8192x4x128, .f32⟩
  | 82 => ⟨S4x8192x4x256, .f32⟩
  | 83 => ⟨S_, .f32⟩
  | 84 => ⟨S4x8192x4x256, .f32⟩
  | 85 => ⟨S4x8192x4x256, .f32⟩
  | 86 => ⟨S4x8192x4x512, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S4, .f32⟩
  | 95 => ⟨S4, .f32⟩
  | 96 => ⟨S4, .f32⟩
  | 97 => ⟨S4x8192x4x256, .f32⟩
  | 98 => ⟨S4x8192x4x256, .f32⟩
  | 99 => ⟨S4x8192x4x512, .f32⟩
  | 100 => ⟨S8192, .f32⟩
  | 101 => ⟨S8192x1, .f32⟩
  | 102 => ⟨S1x8192, .f32⟩
  | 103 => ⟨S8192x8192, .f32⟩
  | 104 => ⟨S8192x8192, .f32⟩
  | 105 => ⟨S8192x8192, .f32⟩
  | 106 => ⟨S_, .f32⟩
  | 107 => ⟨S8192x8192, .f32⟩
  | 108 => ⟨S8192x8192, .i1⟩
  | 109 => ⟨S4x1x1, .f32⟩
  | 110 => ⟨S_, .f32⟩
  | 111 => ⟨S8192x8192, .f32⟩
  | 112 => ⟨S8192x8192, .f32⟩
  | 113 => ⟨S1x8192x8192, .f32⟩
  | 114 => ⟨S4x8192x8192, .f32⟩
  | 115 => ⟨S4x8192x8192, .f32⟩
  | 116 => ⟨S4x8192x8192, .f32⟩
  | 117 => ⟨S4x8192x8192, .f32⟩
  | 118 => ⟨S_, .f32⟩
  | 119 => ⟨S_, .f32⟩
  | 120 => ⟨S4x8192x8192, .i1⟩
  | 121 => ⟨S4x8192x8192, .f32⟩
  | 122 => ⟨S4x8192x8192, .f32⟩
  | 123 => ⟨S4x4x8192x8192, .f32⟩
  | 124 => ⟨S1x4x8192x8192, .f32⟩
  | 125 => ⟨S4x4x8192x8192, .f32⟩
  | 126 => ⟨S4x4x8192x8192, .f32⟩
  | 127 => ⟨S4x4x512x8192, .f32⟩
  | _ => ⟨S4x8192x6144, .bf16⟩

abbrev hbmTy0_1 (i : Nat) : BufTy := match i % 128 with
  | 0 => ⟨S4x8192x4x512, .f32⟩
  | 1 => ⟨S4x8192x4x512, .f32⟩
  | 2 => ⟨S4x8192x2048, .f32⟩
  | 3 => ⟨S4x8192x2048, .f32⟩
  | 4 => ⟨S4x8192x2048, .f32⟩
  | 5 => ⟨S4x8192x2048, .bf16⟩
  | _ => ⟨S4x8192x6144, .bf16⟩

abbrev hbmTy (i : Nat) : BufTy := match i / 128 with
  | 0 => hbmTy0_0 i
  | 1 => hbmTy0_1 i
  | _ => ⟨S4x8192x6144, .bf16⟩

abbrev bufTy : (tb : Table) → Fin (tcTables nBuf tb) → BufTy
  | .hbm, ⟨i, _⟩ => hbmTy i
  | _, _ => ⟨S4x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_7 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_8 : Ref sig .tc := ⟨.hbm, 88, rfl⟩
abbrev main_v77 : Ref sig .tc := ⟨.hbm, 89, rfl⟩
abbrev main_v78 : Ref sig .tc := ⟨.hbm, 90, rfl⟩
abbrev main_cst_9 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_10 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_11 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_12 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩

abbrev nD : Nat := 1
abbrev τ : Topo := Topo.v7x

variable {F : FTy → Type} [FloatOps F]
-- ==== OutRet.lean ====
abbrev S4x8192x2048 : Shape := ⟨3, ![4, 8192, 2048]⟩
abbrev S4x8192x6144 : Shape := ⟨3, ![4, 8192, 6144]⟩
abbrev S2048 : Shape := ⟨1, ![2048]⟩
abbrev S2048x1024 : Shape := ⟨2, ![2048, 1024]⟩
abbrev S4x8192x1024 : Shape := ⟨3, ![4, 8192, 1024]⟩
abbrev S4x1024 : Shape := ⟨2, ![4, 1024]⟩
abbrev S1x2048 : Shape := ⟨2, ![1, 2048]⟩
abbrev S4x1x1024 : Shape := ⟨3, ![4, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x6144, .bf16⟩
  | .hbm, ⟨2, _⟩ => ⟨S2048, .f32⟩
  | .hbm, ⟨3, _⟩ => ⟨S2048x1024, .f32⟩
  | .hbm, ⟨4, _⟩ => ⟨S4x8192x1024, .f32⟩
  | .hbm, ⟨5, _⟩ => ⟨S4x1024, .f32⟩
  | .hbm, ⟨6, _⟩ => ⟨S1x2048, .f32⟩
  | .hbm, ⟨7, _⟩ => ⟨S2048x1024, .bf16⟩
  | .hbm, ⟨8, _⟩ => ⟨S4x1x1024, .f32⟩
  | .hbm, ⟨9, _⟩ => ⟨S4x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048, .f32⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRetRefIdeal.lean ====
abbrev S4x8192x2048 : Shape := ⟨3, ![4, 8192, 2048]⟩
abbrev S4x8192x6144 : Shape := ⟨3, ![4, 8192, 6144]⟩
abbrev S2048 : Shape := ⟨1, ![2048]⟩
abbrev S2048x1024 : Shape := ⟨2, ![2048, 1024]⟩
abbrev S4x8192x1024 : Shape := ⟨3, ![4, 8192, 1024]⟩
abbrev S4x1024 : Shape := ⟨2, ![4, 1024]⟩
abbrev S4x8192x4x512 : Shape := ⟨4, ![4, 8192, 4, 512]⟩
abbrev S_ : Shape := ⟨0, ![]⟩
abbrev S4x8192x4 : Shape := ⟨3, ![4, 8192, 4]⟩
abbrev S4x8192x4x1 : Shape := ⟨4, ![4, 8192, 4, 1]⟩
abbrev S1x1x2048 : Shape := ⟨3, ![1, 1, 2048]⟩
abbrev S4x1x1024 : Shape := ⟨3, ![4, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x6144, .bf16⟩
  | .hbm, ⟨2, _⟩ => ⟨S2048, .f32⟩
  | .hbm, ⟨3, _⟩ => ⟨S2048x1024, .f32⟩
  | .hbm, ⟨4, _⟩ => ⟨S4x8192x1024, .f32⟩
  | .hbm, ⟨5, _⟩ => ⟨S4x1024, .f32⟩
  | .hbm, ⟨6, _⟩ => ⟨S4x8192x6144, .f32⟩
  | .hbm, ⟨7, _⟩ => ⟨S4x8192x1024, .f32⟩
  | .hbm, ⟨8, _⟩ => ⟨S4x8192x1024, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S4x8192x4x512, .f32⟩
  | .hbm, ⟨13, _⟩ => ⟨S4x8192x4x512, .f32⟩
  | .hbm, ⟨14, _⟩ => ⟨S_, .f32⟩
  | .hbm, ⟨15, _⟩ => ⟨S4x8192x4, .f32⟩
  | .hbm, ⟨16, _⟩ => ⟨S4x8192x4x1, .f32⟩
  | .hbm, ⟨17, _⟩ => ⟨S_, .f32⟩
  | .hbm, ⟨18, _⟩ => ⟨S4x8192x4x1, .f32⟩
  | .hbm, ⟨19, _⟩ => ⟨S4x8192x4x1, .f32⟩
  | .hbm, ⟨20, _⟩ => ⟨S_, .f32⟩
  | .hbm, ⟨21, _⟩ => ⟨S4x8192x4x1, .f32⟩
  | .hbm, ⟨22, _⟩ => ⟨S4x8192x4x1, .f32⟩
  | .hbm, ⟨23, _⟩ => ⟨S4x8192x4x1, .f32⟩
  | .hbm, ⟨24, _⟩ => ⟨S4x8192x4x512, .f32⟩
  | .hbm, ⟨25, _⟩ => ⟨S4x8192x4x512, .f32⟩
  | .hbm, ⟨26, _⟩ => ⟨S4x8192x2048, .f32⟩
  | .hbm, ⟨27, _⟩ => ⟨S1x1x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192x2048, .f32⟩
  | .hbm, ⟨34, _⟩ => ⟨S4x8192x2048, .f32⟩
  | .hbm, ⟨35, _⟩ => ⟨S_, .f32⟩
  | .hbm, ⟨36, _⟩ => ⟨S4x8192x2048, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S4x8192x1024, .f32⟩
  | .hbm, ⟨41, _⟩ => ⟨S4x1x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== InHg.lean ====
abbrev S4x8192x1024 : Shape := ⟨3, ![4, 8192, 1024]⟩
abbrev S1024 : Shape := ⟨1, ![1024]⟩
abbrev S4x1024 : Shape := ⟨2, ![4, 1024]⟩
abbrev S1024x10240 : Shape := ⟨2, ![1024, 10240]⟩
abbrev S_ : Shape := ⟨0, ![]⟩
abbrev S10240 : Shape := ⟨1, ![10240]⟩
abbrev S1x1024 : Shape := ⟨2, ![1, 1024]⟩
abbrev S4x1x1024 : Shape := ⟨3, ![4, 1, 1024]⟩
abbrev S1x10240 : Shape := ⟨2, ![1, 10240]⟩
abbrev S4x8192x10240 : Shape := ⟨3, ![4, 8192, 10240]⟩
abbrev S1x1024x1024 : Shape := ⟨3, ![1, 1024, 1024]⟩
abbrev S1x1x1024 : Shape := ⟨3, ![1, 1, 1024]⟩
abbrev S1024x1024 : Shape := ⟨2, ![1024, 1024]⟩
abbrev S8192x1024 : Shape := ⟨2, ![8192, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x10240, .f32⟩
  | .hbm, ⟨5, _⟩ => ⟨S1024x10240, .bf16⟩
  | .hbm, ⟨6, _⟩ => ⟨S_, .f32⟩
  | .hbm, ⟨7, _⟩ => ⟨S10240, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S1x10240, .f32⟩
  | .hbm, ⟨12, _⟩ => ⟨S4x8192x10240, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8192x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 10, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v44 : Index := Scalar.indexCast v1
  let c0_23 : Index := 0#32
  ![v44.toNat, 0]
def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v5 : Index := Scalar.indexCast v1
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== InHgRefIdeal.lean ====
abbrev S4x8192x1024 : Shape := ⟨3, ![4, 8192, 1024]⟩
abbrev S1024 : Shape := ⟨1, ![1024]⟩
abbrev S4x1024 : Shape := ⟨2, ![4, 1024]⟩
abbrev S1024x10240 : Shape := ⟨2, ![1024, 10240]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x10240 : Shape := ⟨3, ![4, 8192, 10240]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x10240, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x10240, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== InHy.lean ====
abbrev S4x8192x1024 : Shape := ⟨3, ![4, 8192, 1024]⟩
abbrev S1024 : Shape := ⟨1, ![1024]⟩
abbrev S4x1024 : Shape := ⟨2, ![4, 1024]⟩
abbrev S1024x8192 : Shape := ⟨2, ![1024, 8192]⟩
abbrev S8192 : Shape := ⟨1, ![8192]⟩
abbrev S1x1024 : Shape := ⟨2, ![1, 1024]⟩
abbrev S4x1x1024 : Shape := ⟨3, ![4, 1, 1024]⟩
abbrev S1x8192 : Shape := ⟨2, ![1, 8192]⟩
abbrev S4x8192x8192 : Shape := ⟨3, ![4, 8192, 8192]⟩
abbrev S1x1024x1024 : Shape := ⟨3, ![1, 1024, 1024]⟩
abbrev S1x1x1024 : Shape := ⟨3, ![1, 1, 1024]⟩
abbrev S1024x1024 : Shape := ⟨2, ![1024, 1024]⟩
abbrev S8192x1024 : Shape := ⟨2, ![8192, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x8192, .f32⟩
  | .hbm, ⟨5, _⟩ => ⟨S8192, .f32⟩
  | .hbm, ⟨6, _⟩ => ⟨S1024x8192, .bf16⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S1x8192, .f32⟩
  | .hbm, ⟨11, _⟩ => ⟨S4x8192x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S8192x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v45 : Index := Scalar.indexCast v1
  let c0_23 : Index := 0#32
  ![v45.toNat, 0]
def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v5 : Index := Scalar.indexCast v1
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== InHyRefIdeal.lean ====
abbrev S4x8192x1024 : Shape := ⟨3, ![4, 8192, 1024]⟩
abbrev S1024 : Shape := ⟨1, ![1024]⟩
abbrev S4x1024 : Shape := ⟨2, ![4, 1024]⟩
abbrev S1024x8192 : Shape := ⟨2, ![1024, 8192]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x8192 : Shape := ⟨3, ![4, 8192, 8192]⟩
abbrev S1x1x8192 : Shape := ⟨3, ![1, 1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x8192, .f32⟩
  | .hbm, ⟨5, _⟩ => ⟨S8192, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x8192, .f32⟩
  | .hbm, ⟨32, _⟩ => ⟨S1x1x8192, .f32⟩
  | .hbm, ⟨33, _⟩ => ⟨S4x8192x8192, .f32⟩
  | .hbm, ⟨34, _⟩ => ⟨S4x8192x8192, .f32⟩
  | .hbm, ⟨35, _⟩ => ⟨S4x8192x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== InRt.lean ====
abbrev S4x8192x1024 : Shape := ⟨3, ![4, 8192, 1024]⟩
abbrev S1024 : Shape := ⟨1, ![1024]⟩
abbrev S4x1024 : Shape := ⟨2, ![4, 1024]⟩
abbrev S1024x6144 : Shape := ⟨2, ![1024, 6144]⟩
abbrev S_ : Shape := ⟨0, ![]⟩
abbrev S6144 : Shape := ⟨1, ![6144]⟩
abbrev S1x1024 : Shape := ⟨2, ![1, 1024]⟩
abbrev S4x1x1024 : Shape := ⟨3, ![4, 1, 1024]⟩
abbrev S1x6144 : Shape := ⟨2, ![1, 6144]⟩
abbrev S4x8192x6144 : Shape := ⟨3, ![4, 8192, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S8192x1024 : Shape := ⟨2, ![8192, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x6144, .f32⟩
  | .hbm, ⟨5, _⟩ => ⟨S1024x6144, .bf16⟩
  | .hbm, ⟨6, _⟩ => ⟨S_, .f32⟩
  | .hbm, ⟨7, _⟩ => ⟨S6144, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S1x6144, .f32⟩
  | .hbm, ⟨12, _⟩ => ⟨S4x8192x6144, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S8192x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 6, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v45 : Index := Scalar.indexCast v1
  let c0_23 : Index := 0#32
  ![v45.toNat, 0]
def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v5 : Index := Scalar.indexCast v1
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== InRtRefIdeal.lean ====
abbrev S4x8192x1024 : Shape := ⟨3, ![4, 8192, 1024]⟩
abbrev S1024 : Shape := ⟨1, ![1024]⟩
abbrev S4x1024 : Shape := ⟨2, ![4, 1024]⟩
abbrev S1024x6144 : Shape := ⟨2, ![1024, 6144]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x6144 : Shape := ⟨3, ![4, 8192, 6144]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x6144, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x6144, .f32⟩
  | .hbm, ⟨31, _⟩ => ⟨S4x8192x6144, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== InLru.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S_ : Shape := ⟨0, ![]⟩
abbrev S4096 : Shape := ⟨1, ![4096]⟩
abbrev S1x1024 : Shape := ⟨2, ![1, 1024]⟩
abbrev S4x1x1024 : Shape := ⟨3, ![4, 1, 1024]⟩
abbrev S1x4096 : Shape := ⟨2, ![1, 4096]⟩
abbrev S4x8192x4096 : Shape := ⟨3, ![4, 8192, 4096]⟩
abbrev S1x1024x1024 : Shape := ⟨3, ![1, 1024, 1024]⟩
abbrev S1x1x1024 : Shape := ⟨3, ![1, 1, 1024]⟩
abbrev S1024x1024 : Shape := ⟨2, ![1024, 1024]⟩
abbrev S8192x1024 : Shape := ⟨2, ![8192, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S1024x4096, .bf16⟩
  | .hbm, ⟨6, _⟩ => ⟨S_, .f32⟩
  | .hbm, ⟨7, _⟩ => ⟨S4096, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S1x4096, .f32⟩
  | .hbm, ⟨12, _⟩ => ⟨S4x8192x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S8192x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v44 : Index := Scalar.indexCast v1
  let c0_23 : Index := 0#32
  ![v44.toNat, 0]
def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v5 : Index := Scalar.indexCast v1
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== InLruRefIdeal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x4096, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutHg.lean ====
abbrev S4x8192x2048 : Shape := ⟨3, ![4, 8192, 2048]⟩
abbrev S4x8192x10240 : Shape := ⟨3, ![4, 8192, 10240]⟩
abbrev S128 : Shape := ⟨1, ![128]⟩
abbrev S2048x1024 : Shape := ⟨2, ![2048, 1024]⟩
abbrev S4x8192x1024 : Shape := ⟨3, ![4, 8192, 1024]⟩
abbrev S4x1024 : Shape := ⟨2, ![4, 1024]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S4x1x1024 : Shape := ⟨3, ![4, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x10240, .f32⟩
  | .hbm, ⟨2, _⟩ => ⟨S128, .f32⟩
  | .hbm, ⟨3, _⟩ => ⟨S2048x1024, .f32⟩
  | .hbm, ⟨4, _⟩ => ⟨S4x8192x1024, .f32⟩
  | .hbm, ⟨5, _⟩ => ⟨S4x1024, .f32⟩
  | .hbm, ⟨6, _⟩ => ⟨S1x128, .f32⟩
  | .hbm, ⟨7, _⟩ => ⟨S16x128, .f32⟩
  | .hbm, ⟨8, _⟩ => ⟨S2048, .f32⟩
  | .hbm, ⟨9, _⟩ => ⟨S1x2048, .f32⟩
  | .hbm, ⟨10, _⟩ => ⟨S2048x1024, .bf16⟩
  | .hbm, ⟨11, _⟩ => ⟨S4x1x1024, .f32⟩
  | .hbm, ⟨12, _⟩ => ⟨S4x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x2048, .f32⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutHgRefIdeal.lean ====
abbrev S4x8192x2048 : Shape := ⟨3, ![4, 8192, 2048]⟩
abbrev S4x8192x10240 : Shape := ⟨3, ![4, 8192, 10240]⟩
abbrev S128 : Shape := ⟨1, ![128]⟩
abbrev S2048x1024 : Shape := ⟨2, ![2048, 1024]⟩
abbrev S4x8192x1024 : Shape := ⟨3, ![4, 8192, 1024]⟩
abbrev S4x1024 : Shape := ⟨2, ![4, 1024]⟩
abbrev S4x8192x16x128 : Shape := ⟨4, ![4, 8192, 16, 128]⟩
abbrev S_ : Shape := ⟨0, ![]⟩
abbrev S4x8192x16 : Shape := ⟨3, ![4, 8192, 16]⟩
abbrev S4x8192x16x1 : Shape := ⟨4, ![4, 8192, 16, 1]⟩
abbrev S1x1x1x128 : Shape := ⟨4, ![1, 1, 1, 128]⟩
abbrev S4x1x1024 : Shape := ⟨3, ![4, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x10240, .f32⟩
  | .hbm, ⟨2, _⟩ => ⟨S128, .f32⟩
  | .hbm, ⟨3, _⟩ => ⟨S2048x1024, .f32⟩
  | .hbm, ⟨4, _⟩ => ⟨S4x8192x1024, .f32⟩
  | .hbm, ⟨5, _⟩ => ⟨S4x1024, .f32⟩
  | .hbm, ⟨6, _⟩ => ⟨S4x8192x2048, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S4x8192x16x128, .f32⟩
  | .hbm, ⟨13, _⟩ => ⟨S4x8192x16x128, .f32⟩
  | .hbm, ⟨14, _⟩ => ⟨S_, .f32⟩
  | .hbm, ⟨15, _⟩ => ⟨S4x8192x16, .f32⟩
  | .hbm, ⟨16, _⟩ => ⟨S4x8192x16x1, .f32⟩
  | .hbm, ⟨17, _⟩ => ⟨S_, .f32⟩
  | .hbm, ⟨18, _⟩ => ⟨S4x8192x16x1, .f32⟩
  | .hbm, ⟨19, _⟩ => ⟨S4x8192x16x1, .f32⟩
  | .hbm, ⟨20, _⟩ => ⟨S_, .f32⟩
  | .hbm, ⟨21, _⟩ => ⟨S4x8192x16x1, .f32⟩
  | .hbm, ⟨22, _⟩ => ⟨S4x8192x16x1, .f32⟩
  | .hbm, ⟨23, _⟩ => ⟨S4x8192x16x1, .f32⟩
  | .hbm, ⟨24, _⟩ => ⟨S4x8192x16x128, .f32⟩
  | .hbm, ⟨25, _⟩ => ⟨S4x8192x16x128, .f32⟩
  | .hbm, ⟨26, _⟩ => ⟨S1x1x1x128, .f32⟩
  | .hbm, ⟨27, _⟩ => ⟨S4x8192x16x128, .f32⟩
  | .hbm, ⟨28, _⟩ => ⟨S4x8192x16x128, .f32⟩
  | .hbm, ⟨29, _⟩ => ⟨S4x8192x2048, .f32⟩
  | .hbm, ⟨30, _⟩ => ⟨S4x1x1024, .f32⟩
  | .hbm, ⟨31, _⟩ => ⟨S4x8192x2048, .f32⟩
  | .hbm, ⟨32, _⟩ => ⟨S4x8192x2048, .f32⟩
  | .hbm, ⟨33, _⟩ => ⟨S_, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== OutHy.lean ====
abbrev S4x8192x2048 : Shape := ⟨3, ![4, 8192, 2048]⟩
abbrev S2048 : Shape := ⟨1, ![2048]⟩
abbrev S2048x1024 : Shape := ⟨2, ![2048, 1024]⟩
abbrev S4x8192x1024 : Shape := ⟨3, ![4, 8192, 1024]⟩
abbrev S4x1024 : Shape := ⟨2, ![4, 1024]⟩
abbrev S1x2048 : Shape := ⟨2, ![1, 2048]⟩
abbrev S4x1x1024 : Shape := ⟨3, ![4, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x2048, .bf16⟩
  | .hbm, ⟨3, _⟩ => ⟨S2048, .f32⟩
  | .hbm, ⟨4, _⟩ => ⟨S2048x1024, .f32⟩
  | .hbm, ⟨5, _⟩ => ⟨S4x8192x1024, .f32⟩
  | .hbm, ⟨6, _⟩ => ⟨S4x1024, .f32⟩
  | .hbm, ⟨7, _⟩ => ⟨S1x2048, .f32⟩
  | .hbm, ⟨8, _⟩ => ⟨S2048x1024, .bf16⟩
  | .hbm, ⟨9, _⟩ => ⟨S4x1x1024, .f32⟩
  | .hbm, ⟨10, _⟩ => ⟨S4x8192x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .bf16⟩
  | .local _ .vmem, ⟨5, _⟩ => ⟨S1x512x2048, .bf16⟩
  | .local _ .vmem, ⟨6, _⟩ => ⟨S1x2048, .f32⟩
  | .local _ .vmem, ⟨7, _⟩ => ⟨S2048x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutHyRefIdeal.lean ====
abbrev S4x8192x2048 : Shape := ⟨3, ![4, 8192, 2048]⟩
abbrev S2048 : Shape := ⟨1, ![2048]⟩
abbrev S2048x1024 : Shape := ⟨2, ![2048, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x2048, .bf16⟩
  | .hbm, ⟨3, _⟩ => ⟨S2048, .f32⟩
  | .hbm, ⟨4, _⟩ => ⟨S2048x1024, .f32⟩
  | .hbm, ⟨5, _⟩ => ⟨S4x8192x1024, .f32⟩
  | .hbm, ⟨6, _⟩ => ⟨S4x1024, .f32⟩
  | .hbm, ⟨7, _⟩ => ⟨S4x1x1024, .f32⟩
  | .hbm, ⟨8, _⟩ => ⟨S4x8192x2048, .f32⟩
  | .hbm, ⟨9, _⟩ => ⟨S1x1x2048, .f32⟩
  | .hbm, ⟨10, _⟩ => ⟨S4x8192x2048, .f32⟩
  | .hbm, ⟨11, _⟩ => ⟨S4x8192x2048, .f32⟩
  | .hbm, ⟨12, _⟩ => ⟨S4x8192x2048, .f32⟩
  | .hbm, ⟨13, _⟩ => ⟨S4x8192x2048, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== OutLru.lean ====
abbrev S4x8192x2048 : Shape := ⟨3, ![4, 8192, 2048]⟩
abbrev S4x8192x4096 : Shape := ⟨3, ![4, 8192, 4096]⟩
abbrev S2048x1024 : Shape := ⟨2, ![2048, 1024]⟩
abbrev S4x8192x1024 : Shape := ⟨3, ![4, 8192, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x4096, .f32⟩
  | .hbm, ⟨2, _⟩ => ⟨S2048x1024, .f32⟩
  | .hbm, ⟨3, _⟩ => ⟨S4x8192x1024, .f32⟩
  | .hbm, ⟨4, _⟩ => ⟨S4x1024, .f32⟩
  | .hbm, ⟨5, _⟩ => ⟨S1024, .f32⟩
  | .hbm, ⟨6, _⟩ => ⟨S2048x1024, .bf16⟩
  | .hbm, ⟨7, _⟩ => ⟨S4x1x1024, .f32⟩
  | .hbm, ⟨8, _⟩ => ⟨S1x1024, .f32⟩
  | .hbm, ⟨9, _⟩ => ⟨S4x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutLruRefIdeal.lean ====
abbrev S4x8192x2048 : Shape := ⟨3, ![4, 8192, 2048]⟩
abbrev S4x8192x4096 : Shape := ⟨3, ![4, 8192, 4096]⟩
abbrev S2048x1024 : Shape := ⟨2, ![2048, 1024]⟩
abbrev S4x8192x1024 : Shape := ⟨3, ![4, 8192, 1024]⟩
abbrev S4x1024 : Shape := ⟨2, ![4, 1024]⟩
abbrev S1024 : Shape := ⟨1, ![1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x4096, .f32⟩
  | .hbm, ⟨2, _⟩ => ⟨S2048x1024, .f32⟩
  | .hbm, ⟨3, _⟩ => ⟨S4x8192x1024, .f32⟩
  | .hbm, ⟨4, _⟩ => ⟨S4x1024, .f32⟩
  | .hbm, ⟨5, _⟩ => ⟨S1024, .f32⟩
  | .hbm, ⟨6, _⟩ => ⟨S4x8192x2048, .f32⟩
  | .hbm, ⟨7, _⟩ => ⟨S4x8192x2048, .f32⟩
  | .hbm, ⟨8, _⟩ => ⟨S4x1x1024, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S_, .f32⟩
  | .hbm, ⟨13, _⟩ => ⟨S4x8192x2048, .f32⟩
  | .hbm, ⟨14, _⟩ => ⟨S4x8192x2048, .f32⟩
  | .hbm, ⟨15, _⟩ => ⟨S_, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Adaln.lean ====
abbrev S16x1024 : Shape := ⟨2, ![16, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x16x3072 : Shape := ⟨3, ![4, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x1024x3072, .bf16⟩
  | .hbm, ⟨4, _⟩ => ⟨S4x1x3072, .f32⟩
  | .hbm, ⟨5, _⟩ => ⟨S4x16x3072, .f32⟩
  | .local _ .vmem, ⟨0, _⟩ => ⟨S16x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S16x1024 : Shape := ⟨2, ![16, 1024]⟩
abbrev S4x1024x3072 : Shape := ⟨3, ![4, 1024, 3072]⟩
abbrev S4x3072 : Shape := ⟨2, ![4, 3072]⟩
abbrev S_ : Shape := ⟨0, ![]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x3072x16, .f32⟩
  | .hbm, ⟨13, _⟩ => ⟨S4x16x3072, .f32⟩
  | .hbm, ⟨14, _⟩ => ⟨S4x1x3072, .f32⟩
  | .hbm, ⟨15, _⟩ => ⟨S4x16x3072, .f32⟩
  | .hbm, ⟨16, _⟩ => ⟨S4x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== HyPre.lean ====
abbrev S4x8192x8192 : Shape := ⟨3, ![4, 8192, 8192]⟩
abbrev S3x6144 : Shape := ⟨2, ![3, 6144]⟩
abbrev S6144 : Shape := ⟨1, ![6144]⟩
abbrev S1x6144 : Shape := ⟨2, ![1, 6144]⟩
abbrev S4x8192x2048 : Shape := ⟨3, ![4, 8192, 2048]⟩
abbrev S1x512x512 : Shape := ⟨3, ![1, 512, 512]⟩
abbrev S1x16x512 : Shape := ⟨3, ![1, 16, 512]⟩
abbrev S3x512 : Shape := ⟨2, ![3, 512]⟩
abbrev S1x512 : Shape := ⟨2, ![1, 512]⟩
abbrev S528x512 : Shape := ⟨2, ![528, 512]⟩
abbrev S1x8x512 : Shape := ⟨3, ![1, 8, 512]⟩
abbrev S8x512 : Shape := ⟨2, ![8, 512]⟩
abbrev S512x512 : Shape := ⟨2, ![512, 512]⟩

abbrev nBuf : Space → Nat
  | .hbm => 6
  | .vmem => 39
  | .smem => 0
  | _ => 0

abbrev bufTy : (tb : Table) → Fin (tcTables nBuf tb) → BufTy
  | .hbm, ⟨0, _⟩ => ⟨S4x8192x8192, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S4x8192x2048, .f32⟩
  | .hbm, ⟨5, _⟩ => ⟨S4x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x512x512, .bf16⟩
  | .local _ .vmem, ⟨19, _⟩ => ⟨S1x512x512, .bf16⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S3x512, .f32⟩
  | .local _ .vmem, ⟨25, _⟩ => ⟨S3x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .bf16⟩
  | .local _ .vmem, ⟨35, _⟩ => ⟨S1x512x512, .bf16⟩
  | .local _ .vmem, ⟨36, _⟩ => ⟨S528x512, .f32⟩
  | .local _ .vmem, ⟨37, _⟩ => ⟨S528x512, .f32⟩
  | .local _ .vmem, ⟨38, _⟩ => ⟨S528x512, .f32⟩
  | _, _ => ⟨S4x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg2
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let v3 : BitVec 32 := Scalar.addi c0_i32 arg2
  let c0_i32_0 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.addi c4_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c8_i32 : BitVec 32 := 8#32
  let v3 : BitVec 32 := Scalar.addi c8_i32 arg2
  let c0_i32 : BitVec 32 := 0#32
  ![arg0.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== HyPreRefIdeal.lean ====
abbrev S4x8192x8192 : Shape := ⟨3, ![4, 8192, 8192]⟩
abbrev S3x6144 : Shape := ⟨2, ![3, 6144]⟩
abbrev S6144 : Shape := ⟨1, ![6144]⟩
abbrev S4x8192x6144 : Shape := ⟨3, ![4, 8192, 6144]⟩
abbrev S_ : Shape := ⟨0, ![]⟩
abbrev S4x8194x6144 : Shape := ⟨3, ![4, 8194, 6144]⟩
abbrev S1x6144 : Shape := ⟨2, ![1, 6144]⟩
abbrev S1x1x6144 : Shape := ⟨3, ![1, 1, 6144]⟩
abbrev S4x8192x2048 : Shape := ⟨3, ![4, 8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x8192, .bf16⟩
  | .hbm, ⟨1, _⟩ => ⟨S3x6144, .f32⟩
  | .hbm, ⟨2, _⟩ => ⟨S6144, .f32⟩
  | .hbm, ⟨3, _⟩ => ⟨S4x8192x8192, .f32⟩
  | .hbm, ⟨4, _⟩ => ⟨S4x8192x6144, .f32⟩
  | .hbm, ⟨5, _⟩ => ⟨S_, .i32⟩
  | .hbm, ⟨6, _⟩ => ⟨S_, .f32⟩
  | .hbm, ⟨7, _⟩ => ⟨S4x8194x6144, .f32⟩
  | .hbm, ⟨8, _⟩ => ⟨S1x6144, .f32⟩
  | .hbm, ⟨9, _⟩ => ⟨S6144, .f32⟩
  | .hbm, ⟨10, _⟩ => ⟨S4x8192x6144, .f32⟩
  | .hbm, ⟨11, _⟩ => ⟨S1x1x6144, .f32⟩
  | .hbm, ⟨12, _⟩ => ⟨S4x8192x6144, .f32⟩
  | .hbm, ⟨13, _⟩ => ⟨S4x8192x6144, .f32⟩
  | .hbm, ⟨14, _⟩ => ⟨S_, .f32⟩
  | .hbm, ⟨15, _⟩ => ⟨S4x8192x6144, .f32⟩
  | .hbm, ⟨16, _⟩ => ⟨S4x8192x6144, .f32⟩
  | .hbm, ⟨17, _⟩ => ⟨S1x6144, .f32⟩
  | .hbm, ⟨18, _⟩ => ⟨S6144, .f32⟩
  | .hbm, ⟨19, _⟩ => ⟨S4x8192x6144, .f32⟩
  | .hbm, ⟨20, _⟩ => ⟨S1x1x6144, .f32⟩
  | .hbm, ⟨21, _⟩ => ⟨S4x8192x6144, .f32⟩
  | .hbm, ⟨22, _⟩ => ⟨S4x8192x6144, .f32⟩
  | .hbm, ⟨23, _⟩ => ⟨S4x8192x6144, .f32⟩
  | .hbm, ⟨24, _⟩ => ⟨S1x6144, .f32⟩
  | .hbm, ⟨25, _⟩ => ⟨S6144, .f32⟩
  | .hbm, ⟨26, _⟩ => ⟨S4x8192x6144, .f32⟩
  | .hbm, ⟨27, _⟩ => ⟨S1x1x6144, .f32⟩
  | .hbm, ⟨28, _⟩ => ⟨S4x8192x6144, .f32⟩
  | .hbm, ⟨29, _⟩ => ⟨S4x8192x6144, .f32⟩
  | .hbm, ⟨30, _⟩ => ⟨S4x8192x6144, .f32⟩
  | .hbm, ⟨31, _⟩ => ⟨S1x1x6144, .f32⟩
  | .hbm, ⟨32, _⟩ => ⟨S4x8192x6144, .f32⟩
  | .hbm, ⟨33, _⟩ => ⟨S4x8192x6144, .f32⟩
  | .hbm, ⟨34, _⟩ => ⟨S4x8192x2048, .f32⟩
  | .hbm, ⟨35, _⟩ => ⟨S4x8192x2048, .f32⟩
  | .hbm, ⟨36, _⟩ => ⟨S4x8192x2048, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192x2048, .f32⟩
  | .hbm, ⟨43, _⟩ => ⟨S4x8192x2048, .f32⟩
  | .hbm, ⟨44, _⟩ => ⟨S_, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S4x8192x2048, .f32⟩
  | .hbm, ⟨49, _⟩ => ⟨S4x8192x2048, .bf16⟩
  | _, _ => ⟨S4x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.OutRetValue.lean ====
/-
  The value of the retention output projection: what one block of the kernel holds, what the reference holds at the
  same place, and that both are the same expression of the arguments' elements.
-/
module

public import proofs.«01_k».proof.Proof.Gen.OutRetIdeal.Value
public import proofs.«01_k».proof.Proof.Gen.OutRetRefIdeal.Run
public import proofs.«01_k».proof.Proof.Gen.OutRetRefIdeal.Read
public import proofs.«01_k».proof.Defs
public import Idealize.ShloMosaic.Lib.Pointwise

@[expose] public section

noncomputable section

namespace OutRet

open Idealize.ShloMosaic Idealize.SL.Sem

/-- The mean square of the head that column `k` lies in, plus epsilon. -/
def headMean (o : Fin 2048 → EReal) (k : Fin 2048) : EReal :=
  Ideal.div (∑ x : Fin 512, o ⟨k.val / 512 * 512 + x.val, by omega⟩ * o ⟨k.val / 512 * 512 + x.val, by omega⟩)
    (Ideal.ofBits FTy.f32 1140850688#32) + Ideal.ofBits FTy.f32 897988541#32

/-- Column `k` of the row that enters the projection: the head-normalised row, its weight, and the gate `z · σ(z)`. -/
def gated (o g z : Fin 2048 → EReal) (k : Fin 2048) : EReal :=
  o k * Ideal.rsqrt (headMean o k) * g k * (z k * Ideal.logistic (z k))

/-- One element of the result: the residual plus the gated projection. -/
def outVal (o g z w : Fin 2048 → EReal) (x gate : EReal) : EReal := x + gate * ∑ k, gated o g z k * w k

/-! ## One block of the kernel -/

section Block
open Cert.OutRetIdeal Cert.OutRetIdeal.Gen

theorem wide_apply (x0 : Vec Ideal S1x512x2048 .bf16) (r : Fin 512) (k : Fin 2048) : k0_pay2 x0 (ix2 r k) = x0 (ix3 0 r k) := by
  pointwise [k0_pay2]

/-- The block's element at row `r`, column `c`. -/
theorem block_apply (x0 x1 : Vec Ideal S1x512x2048 .bf16) (x2 : Vec Ideal S1x2048 .f32) (x3 : Vec Ideal S2048x1024 .bf16)
    (x4 : Vec Ideal S1x512x1024 .f32) (x5 : Vec Ideal S1x1x1024 .f32) (r : Fin 512) (c : Fin 1024) :
    k0_pay1 (k0_pay3 x0) (k0_pay4 x0) (k0_pay5 x0) (k0_pay6 x0) (k0_pay7 x0) (k0_pay8 (F := Ideal)) x2 x1 x4 x5 x3 (ix3 0 r c)
      = outVal (fun k => x0 (ix3 0 r k)) (fun k => x2 (ix2 0 k)) (fun k => x1 (ix3 0 r k)) (fun k => x3 (ix2 k c))
          (x4 (ix3 0 r c)) (x5 (ix3 0 0 c)) := by
  pointwise [k0_pay1, k0_pay3, k0_pay4, k0_pay5, k0_pay6, k0_pay7, k0_pay8, wide_apply, dot_S512x2048_S2048x1024_S512x1024_1_0_0_1_n_n]
  refine congrArg (x4 (ix3 0 r c) + x5 (ix3 0 0 c) * ·) (Finset.sum_congr rfl fun k _ => ?_)
  refine congrArg (· * _ * _ * _) ?_
  unfold headMean
  have key : ∀ (h : Fin 4) (hk : k.val / 512 = h.val), (∑ x : Fin 512, x0 (ix3 0 r ⟨k.val / 512 * 512 + x.val, by omega⟩) * x0 (ix3 0 r ⟨k.val / 512 * 512 + x.val, by omega⟩))
      = ∑ x : Fin 512, x0 (ix3 0 r ⟨512 * h.val + x.val, by omega⟩) * x0 (ix3 0 r ⟨512 * h.val + x.val, by omega⟩) := by
    intro h hk
    refine Finset.sum_congr rfl fun x _ => ?_
    have e : (⟨k.val / 512 * 512 + x.val, by omega⟩ : Fin 2048) = ⟨512 * h.val + x.val, by omega⟩ := Fin.ext (by simp only [hk]; omega)
    rw [e]
  have pick : ∀ (h : Fin 4) (y : Fin 512) (e : (⟨512 * h.val + y.val, by omega⟩ : Fin 2048) = k),
      x0 (ix3 0 r ⟨512 * h.val + y.val, by omega⟩) * Ideal.rsqrt (Ideal.div (∑ x : Fin 512, x0 (ix3 0 r ⟨512 * h.val + x.val, by omega⟩) * x0 (ix3 0 r ⟨512 * h.val + x.val, by omega⟩))
        (Ideal.ofBits FTy.f32 1140850688#32) + Ideal.ofBits FTy.f32 897988541#32)
      = x0 (ix3 0 r k) * Ideal.rsqrt (Ideal.div (∑ x : Fin 512, x0 (ix3 0 r ⟨k.val / 512 * 512 + x.val, by omega⟩) * x0 (ix3 0 r ⟨k.val / 512 * 512 + x.val, by omega⟩))
        (Ideal.ofBits FTy.f32 1140850688#32) + Ideal.ofBits FTy.f32 897988541#32) := by
    intro h y e
    rw [key h (by rw [← e]; show (512 * h.val + y.val) / 512 = h.val; omega), e]
  by_cases h0 : k.val < 512
  · rw [dif_pos h0]
    simpa using pick 0 ⟨k.val, h0⟩ (Fin.ext (by simp))
  · rw [dif_neg h0]
    by_cases h1 : k.val - 512 < 512
    · rw [dif_pos h1]
      exact pick 1 ⟨k.val - 512, h1⟩ (Fin.ext (by simp; omega))
    · rw [dif_neg h1]
      by_cases h2 : k.val - 512 - 512 < 512
      · rw [dif_pos h2]
        exact pick 2 ⟨k.val - 512 - 512, h2⟩ (Fin.ext (by simp; omega))
      · rw [dif_neg h2]
        exact pick 3 ⟨k.val - 512 - 512 - 512, by omega⟩ (Fin.ext (by simp; omega))

end Block

/-! ## The reference -/

section Reference
open Cert.OutRetRefIdeal Cert.OutRetRefIdeal.Read

theorem ref_apply (x0 : Vec Ideal S4x8192x2048 .bf16) (x1 : Vec Ideal S4x8192x6144 .bf16) (x2 : Vec Ideal S2048 .f32) (x3 : Vec Ideal S2048x1024 .f32)
    (x4 : Vec Ideal S4x8192x1024 .f32) (x5 : Vec Ideal S4x1024 .f32) (b : Fin 4) (n : Fin 8192) (c : Fin 1024) :
    val_main_v27 x0 x1 x2 x3 x4 x5 (ix3 b n c)
      = outVal (fun k => x0 (ix3 b n k)) (fun k => x2 (ix1 k)) (fun k => x1 (ix3 b n ⟨4096 + k.val, by omega⟩)) (fun k => x3 (ix2 k c))
          (x4 (ix3 b n c)) (x5 (ix2 b c)) := by
  pointwise [val_main_v27, val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v0, val_main_cst, val_main_cst_0, val_main_cst_1,
    val_main_call0_v0, val_main_call0_v1, val_main_call0_v2, val_main_call0_v3, val_main_call0_v4, val_main_call0_v5, val_main_call0_cst, val_main_call0_cst_0, dot_S4x8192x2048_S2048x1024_S4x8192x1024_2_0_01_1_n_n]
  rfl

end Reference

/-! ## The kernel's array is the reference's -/

section Whole
open Cert.OutRetIdeal Cert.OutRetIdeal.Gen Cert.OutRetIdeal.Value Idealize.ShloMosaic.TcCoe

variable (m : (ℓ : Loc nD τ sig) → Buf (Elt Ideal) ℓ) (c : Dev nD)

/-- The weight of the norm as the region finds it: the argument as a row. -/
theorem V_g : V m c main_v0 = shapeCast S1x2048 (m ((c : Thread nD τ).loc main_arg2)) shapeCasts_S2048_S1x2048 := by
  simp only [V, hostOps0, List.flatten_cons, List.flatten_nil, List.append_nil, List.cons_append, List.nil_append]
  after_results_simp <;> rfl

/-- The projection's weight as the region finds it. -/
theorem V_w : V m c main_v1 = (truncf .bf16 (m ((c : Thread nD τ).loc main_arg3) : FVec Ideal S2048x1024 .f32) bitsLt_bf16_f32 : FVec Ideal S2048x1024 .bf16) := by
  simp only [V, hostOps0, List.flatten_cons, List.flatten_nil, List.append_nil, List.cons_append, List.nil_append]
  after_results_simp <;> rfl

/-- The gate as the region finds it. -/
theorem V_gate : V m c main_v2 = shapeCast S4x1x1024 (m ((c : Thread nD τ).loc main_arg5)) shapeCasts_S4x1024_S4x1x1024 := by
  simp only [V, hostOps0, List.flatten_cons, List.flatten_nil, List.append_nil, List.cons_append, List.nil_append]
  after_results_simp <;> rfl

/-- The block indices of every window at every point. -/
theorem idx_facts : ∀ t : Fin cfg0.N, win0_6.index t = ![t.val / 16, t.val % 16, 0] ∧ win0_0.index t = ![t.val / 16, t.val % 16, 0]
    ∧ win0_1.index t = ![t.val / 16, t.val % 16, 2] ∧ win0_2.index t = ![0, 0] ∧ win0_3.index t = ![0, 0]
    ∧ win0_4.index t = ![t.val / 16, t.val % 16, 0] ∧ win0_5.index t = ![t.val / 16, 0, 0] :=
  (by decide +kernel : ∀ t : Fin grid0.N, _)

/-- The body's store covers the block: what it leaves is the payload of the loaded blocks. -/
theorem out_eq (x0 x1 : Vec Ideal S1x512x2048 .bf16) (x2 : Vec Ideal S1x2048 .f32) (x3 : Vec Ideal S2048x1024 .bf16)
    (x4 : Vec Ideal S1x512x1024 .f32) (x5 : Vec Ideal S1x1x1024 .f32) : out0_6 x0 x1 x2 x3 x4 x5
      = k0_pay1 (k0_pay3 x0) (k0_pay4 x0) (k0_pay5 x0) (k0_pay6 x0) (k0_pay7 x0) (k0_pay8 (F := Ideal)) x2 x1 x4 x5 x3 := by
  have hz3 : (![0, 0, 0] : Fin 3 → Nat) = fun _ => 0 := by decide
  have hz2 : (![0, 0] : Fin 2 → Nat) = fun _ => 0 := by decide
  unfold out0_6
  rw [View.canon_cons_unit_zero (S := S1x512x1024) hz3, View.ld_unit_zero (S := S1x512x2048) hz3, View.ld_unit_zero (S := S1x512x2048) hz3, View.ld_unit_zero (S := S1x2048) hz2,
    View.ld_unit_zero (S := S2048x1024) hz2, View.ld_unit_zero (S := S1x512x1024) hz3, View.ld_unit_zero (S := S1x1x1024) hz3]

/-- The reference's result as a function of the kernel's launch memory. -/
def G : Buf (Elt Ideal) ((c : Thread nD τ).loc main_v3) :=
  Cert.OutRetRefIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

variable (t : Fin cfg0.N)

/-- The batch a point works on. -/
abbrev bOf : Fin 4 := ⟨t.val / 16, by have : t.val < 64 := t.isLt; omega⟩
/-- The token in row `r` of a point's block. -/
abbrev nOf (r : Fin 512) : Fin 8192 := ⟨t.val % 16 * 512 + r.val, by omega⟩

theorem row_apply (v : FVec Ideal S2048 .f32) (k : Fin 2048) : shapeCast S1x2048 v shapeCasts_S2048_S1x2048 (ix2 0 k) = v (ix1 k) := by
  pointwise

theorem gate_apply (v : FVec Ideal S4x1024 .f32) (b : Fin 4) (k : Fin 1024) : shapeCast S4x1x1024 v shapeCasts_S4x1024_S4x1x1024 (ix3 b 0 k) = v (ix2 b k) := by
  pointwise

theorem blk_o (r : Fin 512) (k : Fin 2048) : iblk m c 0 t (ix3 0 r k) = m ((c : Thread nD τ).loc main_arg0) (ix3 (bOf t) (nOf t r) k) := by
  obtain ⟨-, e, -⟩ := idx_facts t
  refine Eq.trans ?_ (congrFun (V_main_arg0 m c) _)
  refine congrArg (V m c main_arg0) ?_
  funext a; apply Fin.ext
  match a with
  | ⟨0, _⟩ => show win0_0.index t (0 : Fin 3) * 1 + 1 * 0 = _; rw [e]; show t.val / 16 * 1 + 1 * 0 = t.val / 16; omega
  | ⟨1, _⟩ => show win0_0.index t (1 : Fin 3) * 512 + 1 * r.val = _; rw [e]; show t.val % 16 * 512 + 1 * r.val = t.val % 16 * 512 + r.val; omega
  | ⟨2, _⟩ => show win0_0.index t (2 : Fin 3) * 2048 + 1 * k.val = _; rw [e]; show 0 * 2048 + 1 * k.val = k.val; omega

theorem blk_z (r : Fin 512) (k : Fin 2048) :
    iblk m c 1 t (ix3 0 r k) = m ((c : Thread nD τ).loc main_arg1) (ix3 (bOf t) (nOf t r) ⟨4096 + k.val, by omega⟩) := by
  obtain ⟨-, -, e, -⟩ := idx_facts t
  refine Eq.trans ?_ (congrFun (V_main_arg1 m c) _)
  refine congrArg (V m c main_arg1) ?_
  funext a; apply Fin.ext
  match a with
  | ⟨0, _⟩ => show win0_1.index t (0 : Fin 3) * 1 + 1 * 0 = _; rw [e]; show t.val / 16 * 1 + 1 * 0 = t.val / 16; omega
  | ⟨1, _⟩ => show win0_1.index t (1 : Fin 3) * 512 + 1 * r.val = _; rw [e]; show t.val % 16 * 512 + 1 * r.val = t.val % 16 * 512 + r.val; omega
  | ⟨2, _⟩ => show win0_1.index t (2 : Fin 3) * 2048 + 1 * k.val = _; rw [e]; show 2 * 2048 + 1 * k.val = 4096 + k.val; omega

theorem blk_g (k : Fin 2048) : iblk m c 2 t (ix2 0 k) = m ((c : Thread nD τ).loc main_arg2) (ix1 k) := by
  obtain ⟨-, -, -, e, -⟩ := idx_facts t
  have hi : ((cfg0.win 2).blk t).view.emb (ix2 0 k) = (ix2 0 k : S1x2048.Idx) := by
    funext a; apply Fin.ext
    match a with
    | ⟨0, _⟩ => show win0_2.index t (0 : Fin 2) * 1 + 1 * 0 = _; rw [e]; rfl
    | ⟨1, _⟩ => show win0_2.index t (1 : Fin 2) * 2048 + 1 * k.val = _; rw [e]; show 0 * 2048 + 1 * k.val = k.val; omega
  show V m c main_v0 (((cfg0.win 2).blk t).view.emb (ix2 0 k)) = _
  rw [hi, V_g]
  exact row_apply _ k

theorem blk_w (k : Fin 2048) (l : Fin 1024) : iblk m c 3 t (ix2 k l) = m ((c : Thread nD τ).loc main_arg3) (ix2 k l) := by
  obtain ⟨-, -, -, -, e, -⟩ := idx_facts t
  have hi : ((cfg0.win 3).blk t).view.emb (ix2 k l) = (ix2 k l : S2048x1024.Idx) := by
    funext a; apply Fin.ext
    match a with
    | ⟨0, _⟩ => show win0_3.index t (0 : Fin 2) * 2048 + 1 * k.val = _; rw [e]; show 0 * 2048 + 1 * k.val = k.val; omega
    | ⟨1, _⟩ => show win0_3.index t (1 : Fin 2) * 1024 + 1 * l.val = _; rw [e]; show 0 * 1024 + 1 * l.val = l.val; omega
  show V m c main_v1 (((cfg0.win 3).blk t).view.emb (ix2 k l)) = _
  rw [hi, V_w]
  rfl

theorem blk_x (r : Fin 512) (k : Fin 1024) : iblk m c 4 t (ix3 0 r k) = m ((c : Thread nD τ).loc main_arg4) (ix3 (bOf t) (nOf t r) k) := by
  obtain ⟨-, -, -, -, -, e, -⟩ := idx_facts t
  refine Eq.trans ?_ (congrFun (V_main_arg4 m c) _)
  refine congrArg (V m c main_arg4) ?_
  funext a; apply Fin.ext
  match a with
  | ⟨0, _⟩ => show win0_4.index t (0 : Fin 3) * 1 + 1 * 0 = _; rw [e]; show t.val / 16 * 1 + 1 * 0 = t.val / 16; omega
  | ⟨1, _⟩ => show win0_4.index t (1 : Fin 3) * 512 + 1 * r.val = _; rw [e]; show t.val % 16 * 512 + 1 * r.val = t.val % 16 * 512 + r.val; omega
  | ⟨2, _⟩ => show win0_4.index t (2 : Fin 3) * 1024 + 1 * k.val = _; rw [e]; show 0 * 1024 + 1 * k.val = k.val; omega

theorem blk_gate (k : Fin 1024) : iblk m c 5 t (ix3 0 0 k) = m ((c : Thread nD τ).loc main_arg5) (ix2 (bOf t) k) := by
  obtain ⟨-, -, -, -, -, -, e⟩ := idx_facts t
  have hi : ((cfg0.win 5).blk t).view.emb (ix3 0 0 k) = (ix3 (bOf t) 0 k : S4x1x1024.Idx) := by
    funext a; apply Fin.ext
    match a with
    | ⟨0, _⟩ => show win0_5.index t (0 : Fin 3) * 1 + 1 * 0 = _; rw [e]; show t.val / 16 * 1 + 1 * 0 = t.val / 16; omega
    | ⟨1, _⟩ => show win0_5.index t (1 : Fin 3) * 1 + 1 * 0 = _; rw [e]; rfl
    | ⟨2, _⟩ => show win0_5.index t (2 : Fin 3) * 1024 + 1 * k.val = _; rw [e]; show 0 * 1024 + 1 * k.val = k.val; omega
  show V m c main_v2 (((cfg0.win 5).blk t).view.emb (ix3 0 0 k)) = _
  rw [hi, V_gate]
  exact gate_apply _ _ k

/-- What a point writes back is its block of the reference's result. -/
theorem flushed_eq : (dats m 0 c).flushed 6 t = ((cfg0.win 6).blk t).view.read (Elt Ideal) (G m c) := by
  rw [flushed6]
  obtain ⟨e6, -⟩ := idx_facts t
  funext y
  obtain ⟨u, r, k, rfl⟩ : ∃ (u : Fin 1) (r : Fin 512) (k : Fin 1024), y = ix3 u r k := ⟨y 0, y 1, y 2, eq_ix3 y⟩
  obtain rfl : u = 0 := Subsingleton.elim _ _
  show out0_6 _ _ _ _ _ _ (ix3 0 r k) = G m c (((cfg0.win 6).blk t).view.emb (ix3 0 r k))
  have hz : ((cfg0.win 6).blk t).view.emb (ix3 0 r k) = ix3 (bOf t) (nOf t r) k := by
    funext a; apply Fin.ext
    match a with
    | ⟨0, _⟩ => show win0_6.index t (0 : Fin 3) * 1 + 1 * 0 = _; rw [e6]; show t.val / 16 * 1 + 1 * 0 = t.val / 16; omega
    | ⟨1, _⟩ => show win0_6.index t (1 : Fin 3) * 512 + 1 * r.val = _; rw [e6]; show t.val % 16 * 512 + 1 * r.val = t.val % 16 * 512 + r.val; omega
    | ⟨2, _⟩ => show win0_6.index t (2 : Fin 3) * 1024 + 1 * k.val = _; rw [e6]; show 0 * 1024 + 1 * k.val = k.val; omega
  rw [hz]
  unfold G
  rw [ref_apply, out_eq, block_apply]
  simp only [blk_o, blk_z, blk_g, blk_w, blk_x, blk_gate]

/-- Every element of the array lies in some point's block. -/
theorem covered (i : S4x8192x1024.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = 16 * (i 0).val + (i 1).val / 512 := ⟨⟨16 * (i 0).val + (i 1).val / 512, by show _ < 64; omega⟩, rfl⟩
  refine ⟨t, (by decide +kernel : ∀ t : Fin grid0.N, win0_6.flush t = true) t, ?_⟩
  show i ∈ ((View.whole main_v3).slice (win0_6.rect t)).set
  rw [View.set_slice_whole, Rect.mem_set_unit]
  have e := (idx_facts t).1
  intro a
  match a with
  | ⟨0, _⟩ =>
    show win0_6.index t (0 : Fin 3) * 1 ≤ (i 0).val ∧ (i 0).val < win0_6.index t (0 : Fin 3) * 1 + 1
    rw [e]
    show t.val / 16 * 1 ≤ (i 0).val ∧ (i 0).val < t.val / 16 * 1 + 1
    omega
  | ⟨1, _⟩ =>
    show win0_6.index t (1 : Fin 3) * 512 ≤ (i 1).val ∧ (i 1).val < win0_6.index t (1 : Fin 3) * 512 + 512
    rw [e]
    show t.val % 16 * 512 ≤ (i 1).val ∧ (i 1).val < t.val % 16 * 512 + 512
    omega
  | ⟨2, _⟩ =>
    show win0_6.index t (2 : Fin 3) * 1024 ≤ (i 2).val ∧ (i 2).val < win0_6.index t (2 : Fin 3) * 1024 + 1024
    rw [e]
    show 0 * 1024 ≤ (i 2).val ∧ (i 2).val < 0 * 1024 + 1024
    omega

/-- The kernel's array after the run is the reference's result. -/
theorem final : (dats m 0 c).arrAt 6 cfg0.N = G m c :=
  (dats m 0 c).arrAt_eq_of_cover 6 _ (fun t _ => flushed_eq m c t) covered

end Whole

/-! ## The claims -/

section Claims
open Cert.OutRetIdeal Cert.OutRetIdeal.Gen Idealize.ShloMosaic.TcCoe

/-- From memories that agree on the arguments, the kernel and the reference end with the same result. -/
theorem equal : Cert.algebraic_OutRetIdeal_OutRetRefIdeal := by
  intro m ρ m' ρ' _ hag
  refine ⟨fun c => G m c, (θ_run _ _ _).mono (fun r h c => ⟨(h c).1.trans (final m c), (h c).2⟩) (Cert.OutRetIdeal.Value.run_blocks m ρ), ?_⟩
  refine (θ_run _ _ _).mono (fun _ h c => ⟨(h c).1.trans ?_, (h c).2⟩) (Cert.OutRetRefIdeal.Value.run m' ρ')
  obtain ⟨h0, h1, h2, h3, h4, h5⟩ := hag c
  rw [Cert.OutRetRefIdeal.Read.val_main_v27_eq, h0, h1, h2, h3, h4, h5]
  rfl

end Claims

end OutRet
end
-- ==== Proof.Chunk.lean ====
/- Decayed attention over a sequence, summed directly and summed block by block with a carried state: the two agree.
   Everything here is about real numbers and finite sums; nothing about programs. -/
module

public import Mathlib.Analysis.SpecialFunctions.Exp
public import Mathlib.Algebra.BigOperators.Ring.Finset
public import Mathlib.Algebra.BigOperators.Intervals

@[expose] public section

noncomputable section

namespace Retention

open Finset

/-- The weight a distance `x` gets: `exp (lg * x)` for a step back or none, nothing for a step forward. -/
def decay (lg x : ℝ) : ℝ := if 0 ≤ x then Real.exp (lg * max x 0) else 0

/-- The state after `c` blocks of `C` rows: decayed by a whole block and increased by the block's own rows, each
    decayed to the block's end. -/
def stateAt {D : Type} (C : ℕ) (lg : ℝ) (k : ℕ → D → ℝ) (v : ℕ → ℝ) : ℕ → D → ℝ
  | 0, _ => 0
  | c + 1, d => Real.exp (lg * C) * stateAt C lg k v c d
      + ∑ j ∈ range C, k (C * c + j) d * Real.exp (lg * (C - 1 - j)) * v (C * c + j)

/-- The state is the decayed sum over all rows before the block. -/
theorem stateAt_eq {D : Type} (C : ℕ) (lg : ℝ) (k : ℕ → D → ℝ) (v : ℕ → ℝ) (c : ℕ) (d : D) :
    stateAt C lg k v c d = ∑ m ∈ range (C * c), k m d * Real.exp (lg * ((C * c : ℕ) - 1 - m)) * v m := by
  induction c with
  | zero => simp [stateAt]
  | succ c ih =>
    rw [stateAt, ih, Nat.mul_succ, Finset.sum_range_add, Finset.mul_sum]
    congr 1
    · refine Finset.sum_congr rfl fun m _ => ?_
      have : Real.exp (lg * ((C * c + C : ℕ) - 1 - m)) = Real.exp (lg * C) * Real.exp (lg * ((C * c : ℕ) - 1 - m)) := by
        rw [← Real.exp_add]; push_cast; congr 1; ring
      rw [this]; ring
    · refine Finset.sum_congr rfl fun j _ => ?_
      congr 3
      push_cast; ring

/-- One row's direct sum over a sequence of `L` rows is its sum inside its own block plus what the carried state
    contributes. -/
theorem direct_eq_blocked {D : Type} [Fintype D] (C L : ℕ) (lg : ℝ) (q : D → ℝ) (k : ℕ → D → ℝ) (v : ℕ → ℝ)
    (c i : ℕ) (hi : i < C) (hL : C * c + C ≤ L) :
    ∑ m ∈ range L, (∑ d, q d * k m d) * decay lg ((C * c + i : ℕ) - m) * v m
      = ∑ j ∈ range C, (∑ d, q d * k (C * c + j) d) * decay lg (i - j) * v (C * c + j)
        + Real.exp (lg * (i + 1)) * ∑ d, q d * stateAt C lg k v c d := by
  obtain ⟨r, rfl⟩ := Nat.exists_eq_add_of_le hL
  rw [Finset.sum_range_add, Finset.sum_range_add]
  have h3 : ∑ x ∈ range r, (∑ d, q d * k (C * c + C + x) d) * decay lg ((C * c + i : ℕ) - (C * c + C + x : ℕ)) * v (C * c + C + x) = 0 := by
    refine Finset.sum_eq_zero fun x _ => ?_
    have : ¬ (0 : ℝ) ≤ ((C * c + i : ℕ) : ℝ) - (C * c + C + x : ℕ) := by
      rw [not_le, sub_neg]; exact_mod_cast (by omega)
    rw [decay, if_neg this]; ring
  have h2 : ∑ x ∈ range C, (∑ d, q d * k (C * c + x) d) * decay lg ((C * c + i : ℕ) - (C * c + x : ℕ)) * v (C * c + x)
      = ∑ j ∈ range C, (∑ d, q d * k (C * c + j) d) * decay lg (i - j) * v (C * c + j) := by
    refine Finset.sum_congr rfl fun j _ => ?_
    congr 3; push_cast; ring
  have h1 : ∑ x ∈ range (C * c), (∑ d, q d * k x d) * decay lg ((C * c + i : ℕ) - x) * v x
      = Real.exp (lg * (i + 1)) * ∑ d, q d * stateAt C lg k v c d := by
    simp only [stateAt_eq, Finset.mul_sum]
    rw [Finset.sum_comm]
    refine Finset.sum_congr rfl fun m hm => ?_
    have hm' : m < C * c := Finset.mem_range.mp hm
    have h0 : (0 : ℝ) ≤ ((C * c + i : ℕ) : ℝ) - m := by
      rw [sub_nonneg]; exact_mod_cast (by omega)
    rw [decay, if_pos h0, max_eq_left h0, Finset.sum_mul, Finset.sum_mul]
    refine Finset.sum_congr rfl fun d _ => ?_
    have : Real.exp (lg * ((C * c + i : ℕ) - m)) = Real.exp (lg * (i + 1)) * Real.exp (lg * ((C * c : ℕ) - 1 - m)) := by
      rw [← Real.exp_add]; push_cast; congr 1; ring
    rw [this]; ring
  rw [h1, h2, h3, add_zero, add_comm]

end Retention

end
-- ==== Proof.Reals.lean ====
/-
  Real arithmetic inside the extended reals: sums and case splits of real numbers, the printed constants as real numbers,
  and the pieces of one retention head written over the reals.
-/
module

public import proofs.«01_k».proof.Proof.OutRetValue
public import proofs.«01_k».proof.Proof.Chunk

@[expose] public section

noncomputable section

namespace Retention

open Idealize.ShloMosaic

theorem ofBool_eq_one {b : Bool} (h : BitVec.ofBool b = 1#1) : b = true := by
  cases b
  · exact absurd h (by decide)
  · rfl

theorem col_lt (h : Fin 4) (e : Fin 512) : 512 * (h : ℕ) + (e : ℕ) < 2048 := by omega

/-- An index of rank three from the numbers of its coordinates. -/
theorem idx_eq {a b c : ℕ} (x : (⟨3, ![a, b, c]⟩ : Shape).Idx) (p : Fin a) (q : Fin b) (r : Fin c)
    (h0 : (x 0 : ℕ) = p) (h1 : (x 1 : ℕ) = q) (h2 : (x 2 : ℕ) = r) : x = ix3 p q r := by
  rw [eq_ix3 x]
  exact congr (congr (congrArg _ (Fin.ext h0)) (Fin.ext h1)) (Fin.ext h2)

/-- Pieces laid over others hide them wherever the upper ones reach. -/
theorem canon_append_of_cover {S : Shape} {e : EltTy} {Val : EltTy → Type} [∀ e, Nonempty (Val e)]
    (L L' : List (View.Piece Val S e)) (y : S.Idx) (hc : ∃ p ∈ L, y ∈ p.1.set) : View.canon (L ++ L') y = View.canon L y := by
  induction L with
  | nil => obtain ⟨p, hp, _⟩ := hc; simp at hp
  | cons p L ih =>
    rw [List.cons_append]
    by_cases hy : y ∈ p.1.set
    · obtain ⟨x, rfl⟩ := p.1.exists_idx_of_mem hy
      rw [show p.1.idx x = p.1.emb x from rfl, View.canon_cons_emb, View.canon_cons_emb]
    · rw [View.canon_cons_of_not_mem _ _ hy, View.canon_cons_of_not_mem _ _ hy]
      refine ih ?_
      obtain ⟨q, hq, hy'⟩ := hc
      rcases List.mem_cons.mp hq with rfl | hq
      · exact absurd hy' hy
      · exact ⟨q, hq, hy'⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_dite {p : Prop} [Decidable p] (a b : ℝ) :
    (if _h : p then ((a : ℝ) : EReal) else ((b : ℝ) : EReal)) = ((if p then a else b : ℝ) : EReal) := by
  by_cases h : p <;> simp [h]

theorem ite_coe {p : Prop} [Decidable p] (a b : ℝ) :
    (if p then ((a : ℝ) : EReal) else ((b : ℝ) : EReal)) = ((if p then a else b : ℝ) : EReal) := by
  by_cases h : p <;> simp [h]

theorem bits_sixteenth : Ideal.ofBits FTy.f32 1031798784#32 = ((1 / 16 : ℝ) : EReal) := by
  simp [Ideal.ofBits, Ideal.ieee, -EReal.coe_mul]; norm_num
theorem bits_tenThousand : Ideal.ofBits FTy.f32 1176256512#32 = ((10000 : ℝ) : EReal) := by
  simp [Ideal.ofBits, Ideal.ieee, -EReal.coe_mul]; norm_num
theorem bits_256 : Ideal.ofBits FTy.f32 1132462080#32 = ((256 : ℝ) : EReal) := by
  simp [Ideal.ofBits, Ideal.ieee, -EReal.coe_mul]; norm_num
theorem bits_255 : Ideal.ofBits FTy.f32 1132396544#32 = ((255 : ℝ) : EReal) := by
  simp [Ideal.ofBits, Ideal.ieee, -EReal.coe_mul]; norm_num
theorem bits_2 : Ideal.ofBits FTy.f32 1073741824#32 = ((2 : ℝ) : EReal) := by
  simp [Ideal.ofBits, Ideal.ieee, -EReal.coe_mul]; norm_num
theorem bits_1 : Ideal.ofBits FTy.f32 1065353216#32 = ((1 : ℝ) : EReal) := by
  simp [Ideal.ofBits, Ideal.ieee, -EReal.coe_mul]; norm_num
theorem bits_0 : Ideal.ofBits FTy.f32 0#32 = ((0 : ℝ) : EReal) := by
  simp [Ideal.ofBits, Ideal.ieee, -EReal.coe_mul]
theorem bits_neg5 : Ideal.ofBits FTy.f32 3231711232#32 = ((-5 : ℝ) : EReal) := by
  simp [Ideal.ofBits, Ideal.ieee, -EReal.coe_mul]; norm_num
theorem bits_neg55 : Ideal.ofBits FTy.f32 3232759808#32 = ((-(11/2) : ℝ) : EReal) := by
  simp [Ideal.ofBits, Ideal.ieee, -EReal.coe_mul]; norm_num

/-- The natural logarithm of two as the programs write it. -/
def ln2 : ℝ := 11629080 / 16777216
theorem bits_ln2 : Ideal.ofBits FTy.f32 1060205080#32 = ((ln2 : ℝ) : EReal) := by
  simp [Ideal.ofBits, Ideal.ieee, -EReal.coe_mul, ln2]; norm_num

/-- A row of 256 entries turned by the angles whose cosines and sines are `cs` and `sn`: entry `d` of the first half is paired
    with entry `128 + d`. -/
def rot (x cs sn : ℕ → ℝ) (d : ℕ) : ℝ :=
  if d < 128 then x d * cs d - x (128 + d) * sn d
  else x (d - 128) * sn (d - 128) + x (128 + (d - 128)) * cs (d - 128)

/-- One block's new state of head `h` at `(d, e)`, from the block's keys and values, the tables and the state before. -/
def newState (K V : ℕ → ℕ → ℝ) (CS SN : ℕ → ℕ → ℝ) (KD : ℕ → ℕ → ℕ → ℝ) (CD : ℕ → ℕ → ℝ) (S : ℕ → ℕ → ℕ → ℝ) (h d e : ℕ) : ℝ :=
  CD h e * S h d e
    + ∑ j : Fin 256, rot (fun d => K j (256 * h + d)) (CS j) (SN j) d * (1 / 16) * KD h j d * V j (512 * h + e)

/-- One block's output row `i` of head `h` at column `e`. -/
def headOut (Q K V : ℕ → ℕ → ℝ) (CS SN : ℕ → ℕ → ℝ) (DEC QD : ℕ → ℕ → ℕ → ℝ) (S : ℕ → ℕ → ℕ → ℝ) (h i e : ℕ) : ℝ :=
  ∑ j : Fin 256, (∑ d : Fin 256, rot (fun d => Q i (256 * h + d)) (CS i) (SN i) d
        * (rot (fun d => K j (256 * h + d)) (CS j) (SN j) d * (1 / 16))) * DEC h i j * V j (512 * h + e)
    + QD h i e * ∑ d : Fin 256, rot (fun d => Q i (256 * h + d)) (CS i) (SN i) d * S h d e

/-- The two halves of a turned row. -/
def rotLo (x cs sn : ℕ → ℝ) (d : ℕ) : ℝ := x d * cs d - x (128 + d) * sn d
def rotHi (x cs sn : ℕ → ℝ) (d : ℕ) : ℝ := x d * sn d + x (128 + d) * cs d

theorem sum_halves (f : ℕ → ℝ) : ∑ d : Fin 256, f d = ∑ d : Fin 128, f d + ∑ d : Fin 128, f (128 + d) := by
  have := Fin.sum_univ_add (a := 128) (b := 128) (fun d => f d)
  simpa [Nat.add_comm] using this

theorem rot_lo (x cs sn : ℕ → ℝ) (d : Fin 128) : rot x cs sn d = rotLo x cs sn d := if_pos d.isLt
theorem rot_hi (x cs sn : ℕ → ℝ) (d : Fin 128) : rot x cs sn (128 + d) = rotHi x cs sn d := by
  rw [rot, if_neg (by omega), Nat.add_sub_cancel_left]; rfl

/-- `headOut` with every sum over a head's 256 entries cut into its two halves. -/
theorem headOut_halves (Q K V : ℕ → ℕ → ℝ) (CS SN : ℕ → ℕ → ℝ) (DEC QD : ℕ → ℕ → ℕ → ℝ) (S : ℕ → ℕ → ℕ → ℝ) (h i e : ℕ) :
    headOut Q K V CS SN DEC QD S h i e =
      ∑ j : Fin 256, (∑ d : Fin 128, rotLo (fun d => Q i (256 * h + d)) (CS i) (SN i) d
            * (rotLo (fun d => K j (256 * h + d)) (CS j) (SN j) d * (1 / 16))
          + ∑ d : Fin 128, rotHi (fun d => Q i (256 * h + d)) (CS i) (SN i) d
            * (rotHi (fun d => K j (256 * h + d)) (CS j) (SN j) d * (1 / 16))) * DEC h i j * V j (512 * h + e)
      + QD h i e * (∑ d : Fin 128, rotLo (fun d => Q i (256 * h + d)) (CS i) (SN i) d * S h d e
          + ∑ d : Fin 128, rotHi (fun d => Q i (256 * h + d)) (CS i) (SN i) d * S h (128 + d) e) := by
  unfold headOut
  rw [sum_halves (fun d => rot (fun d => Q i (256 * h + d)) (CS i) (SN i) d * S h d e)]
  simp only [rot_lo, rot_hi]
  congr 1
  refine Finset.sum_congr rfl fun j _ => ?_
  rw [sum_halves (fun d => rot (fun d => Q i (256 * h + d)) (CS i) (SN i) d
        * (rot (fun d => K j (256 * h + d)) (CS j) (SN j) d * (1 / 16)))]
  simp only [rot_lo, rot_hi]

end Retention
end
-- ==== Proof.Layer.lean ====
/-
  One batch row of the retention over the reals: the sums that the plain formula takes over the whole sequence, and the
  sums that one block takes with the carried state; and the tables both use, as real numbers.
-/
module

public import proofs.«01_k».proof.Proof.Reals
public import Idealize.ShloMosaic.Lib.StableHlo.ReadAt

@[expose] public section

noncomputable section

namespace Retention

open Idealize.ShloMosaic Finset

/-! The tables. -/

theorem sitofp_fin {N : ℕ} (i : Fin N) (hN : N ≤ 2147483648) :
    (FloatOps.sitofp FTy.f32 (BitVec.ofNat 32 (i : ℕ)) : Ideal FTy.f32) = (((i : ℕ) : ℝ) : EReal) := by
  show (((BitVec.ofNat 32 (i : ℕ)).toInt : ℝ) : EReal) = _
  have h : (BitVec.ofNat 32 (i : ℕ)).toInt = ((i : ℕ) : ℤ) := by
    have := i.isLt
    rw [BitVec.toInt_eq_toNat_of_lt] <;> rw [BitVec.toNat_ofNat, Nat.mod_eq_of_lt] <;> omega
  rw [h]; simp

/-- The angle of position `n` and pair `d`. -/
def ang (n d : ℕ) : ℝ := n * Real.rpow 10000 (-(2 * d) / 256)

theorem ang_coe {N D : ℕ} (n : Fin N) (d : Fin D) (hN : N ≤ 2147483648) (hD : D ≤ 2147483648) :
    (FloatOps.sitofp FTy.f32 (BitVec.ofNat 32 (n : ℕ)) : Ideal FTy.f32) * Ideal.pow (Ideal.ofBits FTy.f32 1176256512#32)
      (Ideal.div (-(Ideal.ofBits FTy.f32 1073741824#32 * (FloatOps.sitofp FTy.f32 (BitVec.ofNat 32 (d : ℕ)) : Ideal FTy.f32)))
        (Ideal.ofBits FTy.f32 1132462080#32)) = ((ang n d : ℝ) : EReal) := by
  rw [sitofp_fin n hN, sitofp_fin d hD, bits_tenThousand, bits_2, bits_256, ← EReal.coe_mul, ← EReal.coe_neg,
    Ideal.div_coe (by norm_num : (256 : ℝ) ≠ 0), ← EReal.coe_mul, Ideal.pow_coe_coe, ← EReal.coe_mul]
  unfold ang
  rw [mul_one_div]

/-- The logarithm of the decay per row: `log (1 - 2^(a - h))` with two to the power written `exp (ln2 * _)`. -/
def lgOf (a : ℝ) (h : ℕ) : ℝ := Real.log (1 + -Real.exp (ln2 * (a - h)))

theorem lg_coe (a : ℝ) (ha : a ≤ -5) (A : EReal) (hA : A = ((a : ℝ) : EReal)) {N : ℕ} (h : Fin N) (hN : N ≤ 2147483648) :
    Ideal.log1p (-Ideal.exp (Ideal.ofBits FTy.f32 1060205080#32
      * (A - (FloatOps.sitofp FTy.f32 (BitVec.ofNat 32 (h : ℕ)) : Ideal FTy.f32)))) = ((lgOf a h : ℝ) : EReal) := by
  rw [sitofp_fin h hN, hA, bits_ln2, ← EReal.coe_sub, ← EReal.coe_mul, Ideal.exp_coe, ← EReal.coe_neg]
  show Ideal.log (1 + ((_ : ℝ) : EReal)) = _
  rw [← EReal.coe_one, ← EReal.coe_add, Ideal.log_coe, if_neg]
  · rfl
  · have : ln2 * (a - (h : ℕ)) < 0 := by
      have h1 : (0 : ℝ) ≤ ((h : ℕ) : ℝ) := Nat.cast_nonneg _
      have h2 : (0 : ℝ) < ln2 := by unfold ln2; norm_num
      nlinarith
    have := (Real.exp_lt_exp.mpr this).trans_eq Real.exp_zero
    linarith

theorem lg5_coe {N : ℕ} (h : Fin N) (hN : N ≤ 2147483648) :
    Ideal.log1p (-Ideal.exp (Ideal.ofBits FTy.f32 1060205080#32 * (Ideal.ofBits FTy.f32 3231711232#32
      - (FloatOps.sitofp FTy.f32 (BitVec.ofNat 32 (h : ℕ)) : Ideal FTy.f32)))) = ((lgOf (-5) h : ℝ) : EReal) :=
  lg_coe _ (by norm_num) _ bits_neg5 h hN

theorem lg55_coe {N : ℕ} (h : Fin N) (hN : N ≤ 2147483648) :
    Ideal.log1p (-Ideal.exp (Ideal.ofBits FTy.f32 1060205080#32 * (Ideal.ofBits FTy.f32 3232759808#32
      - (FloatOps.sitofp FTy.f32 (BitVec.ofNat 32 (h : ℕ)) : Ideal FTy.f32)))) = ((lgOf (-(11 / 2)) h : ℝ) : EReal) :=
  lg_coe _ (by norm_num) _ bits_neg55 h hN

theorem zero_const {S : Shape} (i : S.Idx) : id (constant (F := Ideal) S FTy.f32 0#32) i = ((0 : ℝ) : EReal) := bits_0

theorem max_coe (x : ℝ) : max ((x : ℝ) : EReal) 0 = ((max x 0 : ℝ) : EReal) := by
  rw [← EReal.coe_zero]; exact (EReal.coe_strictMono.monotone.map_max).symm

theorem decay_coe (lg x : ℝ) :
    (if 0 ≤ ((x : ℝ) : EReal) then ((Real.exp (lg * max x 0) : ℝ) : EReal) else ((0 : ℝ) : EReal)) = ((decay lg x : ℝ) : EReal) := by
  unfold decay
  simp only [EReal.coe_nonneg]
  exact ite_coe _ _

/-! The input rows as real numbers. -/

/-- The projected rows as real numbers: batch `b`, position `n`, column `j`. -/
def rowsOf (X : (⟨3, ![4, 8192, 6144]⟩ : Shape).Idx → EReal) (b n j : ℕ) : ℝ :=
  if h : b < 4 ∧ n < 8192 ∧ j < 6144 then (X (ix3 ⟨b, h.1⟩ ⟨n, h.2.1⟩ ⟨j, h.2.2⟩)).toReal else 0

/-- Every query, key and value is a real number. -/
def FiniteRows (X : (⟨3, ![4, 8192, 6144]⟩ : Shape).Idx → EReal) : Prop :=
  ∀ (b : Fin 4) (n : Fin 8192) (j : Fin 6144), j.val < 4096 → X (ix3 b n j) ≠ ⊤ ∧ X (ix3 b n j) ≠ ⊥

theorem rowsOf_coe {X : (⟨3, ![4, 8192, 6144]⟩ : Shape).Idx → EReal} (hX : FiniteRows X) (b : Fin 4) (n : Fin 8192) (j : Fin 6144)
    (hj : j.val < 4096) : X (ix3 b n j) = ((rowsOf X b n j : ℝ) : EReal) := by
  unfold rowsOf
  rw [dif_pos ⟨b.isLt, n.isLt, j.isLt⟩]
  exact (EReal.coe_toReal (hX b n j hj).1 (hX b n j hj).2).symm

theorem finite_of_abs_lt {x : EReal} (h : max x (-x) < ⊤) : x ≠ ⊤ ∧ x ≠ ⊥ := by
  constructor <;> rintro rfl <;> simp at h

theorem bits_inf : Ideal.ofBits FTy.f32 2139095040#32 = ⊤ := by
  simp [Ideal.ofBits, Ideal.ieee]

/-! The sums. `A n` is the row of logical position `n`: queries, keys and values side by side. -/

variable (A CS SN : ℕ → ℕ → ℝ)

def qRow (h n d : ℕ) : ℝ := rot (fun d => A n (256 * h + d)) (CS n) (SN n) d
def kRow (h n d : ℕ) : ℝ := rot (fun d => A n (1024 + (256 * h + d))) (CS n) (SN n) d * (1 / 16)
def vRow (h e n : ℕ) : ℝ := A n (2048 + (512 * h + e))

/-- The layer's formula: head `h`, column `e`, position `n`. -/
def layer (L : ℕ) (lg : ℝ) (h e n : ℕ) : ℝ :=
  ∑ m ∈ range L, (∑ d : Fin 256, qRow A CS SN h n d * kRow A CS SN h m d) * decay lg ((n : ℝ) - m) * vRow A h e m

/-- The state after `c` blocks. -/
def state (lg : ℝ) (h : ℕ) (c d e : ℕ) : ℝ := stateAt 256 lg (kRow A CS SN h) (vRow A h e) c d

theorem state_zero (lg : ℝ) (h d e : ℕ) : state A CS SN lg h 0 d e = 0 := rfl

theorem newState_eq (lg : ℕ → ℝ) (c h d e : ℕ) :
    newState (fun i j => A (256 * c + i) (1024 + j)) (fun i j => A (256 * c + i) (2048 + j))
      (fun i => CS (256 * c + i)) (fun i => SN (256 * c + i)) (fun h i _ => Real.exp (lg h * (255 - i)))
      (fun h _ => Real.exp (lg h * 256)) (fun h d e => state A CS SN (lg h) h c d e) h d e
    = state A CS SN (lg h) h (c + 1) d e := by
  unfold newState state
  rw [stateAt, Finset.sum_range]
  push_cast
  congr 1
  refine Finset.sum_congr rfl fun j _ => ?_
  norm_num [kRow, vRow]

theorem headOut_eq (lg : ℕ → ℝ) (L c h e i : ℕ) (hi : i < 256) (hL : 256 * c + 256 ≤ L) :
    headOut (fun i j => A (256 * c + i) j) (fun i j => A (256 * c + i) (1024 + j)) (fun i j => A (256 * c + i) (2048 + j))
      (fun i => CS (256 * c + i)) (fun i => SN (256 * c + i)) (fun h i j => decay (lg h) ((i : ℝ) - j))
      (fun h i _ => Real.exp (lg h * (i + 1))) (fun h d e => state A CS SN (lg h) h c d e) h i e
    = layer A CS SN L (lg h) h e (256 * c + i) := by
  have hd := direct_eq_blocked 256 L (lg h) (fun d : Fin 256 => qRow A CS SN h (256 * c + i) d)
    (fun n d => kRow A CS SN h n d) (vRow A h e) c i hi hL
  unfold layer
  refine Eq.trans ?_ hd.symm
  unfold headOut
  rw [Finset.sum_range]
  congr 1
  congr 1
  refine Finset.sum_congr rfl fun d _ => ?_
  congr 1
  simp only [state, stateAt_eq]

/-- The layer's formula with each score cut into its two halves and the factors in another order. -/
theorem layer_halves (L : ℕ) (lg : ℝ) (h e n : ℕ) :
    layer A CS SN L lg h e n = ∑ m : Fin L, vRow A h e m *
      ((∑ d : Fin 128, rotLo (fun d => A n (256 * h + d)) (CS n) (SN n) d
            * (rotLo (fun d => A m (1024 + (256 * h + d))) (CS m) (SN m) d * (1 / 16))
        + ∑ d : Fin 128, rotHi (fun d => A n (256 * h + d)) (CS n) (SN n) d
            * (rotHi (fun d => A m (1024 + (256 * h + d))) (CS m) (SN m) d * (1 / 16))) * decay lg ((n : ℝ) - m)) := by
  unfold layer
  rw [Finset.sum_range]
  refine Finset.sum_congr rfl fun m _ => ?_
  rw [mul_comm (vRow A h e m)]
  congr 2
  rw [sum_halves (fun d => qRow A CS SN h n d * kRow A CS SN h m d)]
  simp only [qRow, kRow, rot_lo, rot_hi]

end Retention
end
-- ==== Proof.RetFwdBody.lean ====
/-
  One grid point of the forward retention kernel over the reals: if every block it reads and the state it starts from
  hold real numbers, its new state and its output block are the formulas `newState` and `headOut`.
-/
module

public import proofs.«01_k».proof.Proof.Gen.RetFwdIdeal.Value
public import proofs.«01_k».proof.Proof.Layer
public import Idealize.ShloMosaic.Lib.Pointwise
public import Idealize.ShloMosaic.Lib.Pipeline.ValueKit
public import Idealize.ShloMosaic.Lib.Pipeline.ReadBack

@[expose] public section

set_option maxRecDepth 16384
noncomputable section
open Idealize.ShloMosaic Idealize.SL.Sem Idealize.ShloMosaic.TcCoe Idealize.ShloMosaic.Tactic

namespace RetF
open Cert.RetFwdIdeal Cert.RetFwdIdeal.Gen
variable (m : (ℓ : Loc nD τ sig) → Buf (Elt Ideal) ℓ)

open Retention

/-- The state a grid point starts from: nothing at the first point of a batch, what the point before left otherwise. -/
def startState (c : Dev nD) (t : Fin cfg0.N) : Vec Ideal S4x256x512 .f32 :=
  if t.val % 32 = 0 then k0_pay2 (F := Ideal) else (outsAt0 m c (t.val - 1) (Nat.lt_of_le_of_lt (Nat.sub_le _ _) t.isLt)).2

/-- The new state. -/
theorem step_state (c : Dev nD) (t : Fin cfg0.N) (h : Fin 4) (d : Fin 256) (e : Fin 512)
    (K V CS SN : ℕ → ℕ → ℝ) (KD S : ℕ → ℕ → ℕ → ℝ) (CD : ℕ → ℕ → ℝ)
    (hx1 : ∀ i j, iblk m c 1 t (ix3 0 i j) = ((K i j : ℝ) : EReal))
    (hx2 : ∀ i j, iblk m c 2 t (ix3 0 i j) = ((V i j : ℝ) : EReal))
    (hx3 : ∀ i j, iblk m c 3 t (ix2 i j) = ((CS i j : ℝ) : EReal))
    (hx4 : ∀ i j, iblk m c 4 t (ix2 i j) = ((SN i j : ℝ) : EReal))
    (hx7 : ∀ h i j, iblk m c 7 t (ix3 h i j) = ((KD h i j : ℝ) : EReal))
    (hx8 : ∀ h j, iblk m c 8 t (ix3 h 0 j) = ((CD h j : ℝ) : EReal))
    (hS : ∀ h i j, startState m c t (ix3 h i j) = ((S h i j : ℝ) : EReal)) :
    (outsAt0 m c t.val t.isLt).2 (ix3 h d e) = ((newState K V CS SN KD CD S h d e : ℝ) : EReal) := by
  unfold startState at hS
  by_cases ht : t.val % 32 = 0
  on_goal 1 =>
    rw [if_pos ht] at hS
    rw [outsAt0_A m c t ht]
    dsimp only
    frame_open
    simp (disch := decide) only [↓ View.readCov_skip, ↓ View.readCov_cons_toLoadRect, ↓ View.readCov_fill]
    frame_out
    refine (canon_append_of_cover [_, _, _, _] [_] _ (View.cover_of_tiled_head _ _ _ (by rfl) _)).trans ?_
    generalize (k0_pay2 (F := Ideal)) = x9 at hS ⊢
  on_goal 2 =>
    rw [if_neg ht] at hS
    rw [outsAt0_B m c t ht]
    dsimp only
    frame_open
    simp (disch := decide) only [↓ View.readCov_skip, ↓ View.readCov_cons_toLoadRect, ↓ View.readCov_fill]
    frame_out
    generalize (outsAt0 m c (t.val - 1) _).2 = x9 at hS ⊢
  all_goals
    generalize iblk m c 1 t = x1 at hx1 ⊢
    generalize iblk m c 2 t = x2 at hx2 ⊢
    generalize iblk m c 3 t = x3 at hx3 ⊢
    generalize iblk m c 4 t = x4 at hx4 ⊢
    generalize iblk m c 7 t = x7 at hx7 ⊢
    generalize iblk m c 8 t = x8 at hx8 ⊢
    canon_tiles x h <;>
      (obtain rfl := idx_eq x 0 d e (Nat.lt_one_iff.mp x0_lt) h1.symm h2.symm) <;>
      unfold_payloads <;>
      pointwise [] <;>
      simp only [read_unread_whole, hx1, hx2, hx3, hx4, hx7, hx8, hS, bits_sixteenth, ← EReal.coe_mul, ← EReal.coe_add,
        ← EReal.coe_sub, coe_dite, coe_sum] <;>
      first
        | (obtain rfl : h = 3 := Fin.ext (by simpa using h0)); rfl
        | (obtain rfl : h = 2 := Fin.ext (by simpa using h0)); rfl
        | (obtain rfl : h = 1 := Fin.ext (by simpa using h0)); rfl
        | (obtain rfl : h = 0 := Fin.ext (by simpa using h0)); simp [newState, rot]

/-- The output block: row `i`, head `h`, column `e` of the head. -/
theorem step_out (c : Dev nD) (t : Fin cfg0.N) (h : Fin 4) (i : Fin 256) (e : Fin 512)
    (Q K V CS SN : ℕ → ℕ → ℝ) (DEC QD S : ℕ → ℕ → ℕ → ℝ)
    (hx0 : ∀ i j, iblk m c 0 t (ix3 0 i j) = ((Q i j : ℝ) : EReal))
    (hx1 : ∀ i j, iblk m c 1 t (ix3 0 i j) = ((K i j : ℝ) : EReal))
    (hx2 : ∀ i j, iblk m c 2 t (ix3 0 i j) = ((V i j : ℝ) : EReal))
    (hx3 : ∀ i j, iblk m c 3 t (ix2 i j) = ((CS i j : ℝ) : EReal))
    (hx4 : ∀ i j, iblk m c 4 t (ix2 i j) = ((SN i j : ℝ) : EReal))
    (hx5 : ∀ h i j, iblk m c 5 t (ix3 h i j) = ((DEC h i j : ℝ) : EReal))
    (hx6 : ∀ h i j, iblk m c 6 t (ix3 h i j) = ((QD h i j : ℝ) : EReal))
    (hS : ∀ h i j, startState m c t (ix3 h i j) = ((S h i j : ℝ) : EReal)) :
    (outsAt0 m c t.val t.isLt).1 (ix3 0 i ⟨512 * h + e, col_lt h e⟩) = ((headOut Q K V CS SN DEC QD S h i e : ℝ) : EReal) := by
  unfold startState at hS
  by_cases ht : t.val % 32 = 0
  on_goal 1 =>
    rw [if_pos ht] at hS
    rw [outsAt0_A m c t ht]
    dsimp only
    frame_open
    simp (disch := decide) only [↓ View.readCov_skip, ↓ View.readCov_cons_toLoadRect, ↓ View.readCov_fill]
    frame_out
    generalize (k0_pay2 (F := Ideal)) = x9 at hS ⊢
  on_goal 2 =>
    rw [if_neg ht] at hS
    rw [outsAt0_B m c t ht]
    dsimp only
    frame_open
    simp (disch := decide) only [↓ View.readCov_skip, ↓ View.readCov_cons_toLoadRect, ↓ View.readCov_fill]
    frame_out
    generalize (outsAt0 m c (t.val - 1) _).2 = x9 at hS ⊢
  all_goals
    generalize iblk m c 0 t = x0 at hx0 ⊢
    generalize iblk m c 1 t = x1 at hx1 ⊢
    generalize iblk m c 2 t = x2 at hx2 ⊢
    generalize iblk m c 3 t = x3 at hx3 ⊢
    generalize iblk m c 4 t = x4 at hx4 ⊢
    generalize iblk m c 5 t = x5 at hx5 ⊢
    generalize iblk m c 6 t = x6 at hx6 ⊢
    canon_tiles x h <;>
      (have e2 : 512 * (h : ℕ) + e = _ := h2) <;>
      (obtain rfl := idx_eq x 0 i e (Nat.lt_one_iff.mp x0_lt) h1.symm (by omega)) <;>
      (simp only [ix3_2] at e2) <;>
      unfold_payloads <;>
      pointwise [] <;>
      simp only [read_unread_whole, hx0, hx1, hx2, hx3, hx4, hx5, hx6, hS, bits_sixteenth, ← EReal.coe_mul, ← EReal.coe_add,
        ← EReal.coe_sub, coe_dite, coe_sum] <;>
      rw [headOut_halves] <;>
      first
        | (obtain rfl : h = 3 := Fin.ext (by show (h : ℕ) = 3; omega)); rfl
        | (obtain rfl : h = 2 := Fin.ext (by show (h : ℕ) = 2; omega)); rfl
        | (obtain rfl : h = 1 := Fin.ext (by show (h : ℕ) = 1; omega)); rfl
        | (obtain rfl : h = 0 := Fin.ext (by show (h : ℕ) = 0; omega)); simp [rotLo, rotHi]
end RetF
end
-- ==== Proof.RetFwdValue.lean ====
/-
  The value of the forward retention kernel: its tables and its input blocks as real numbers, what every grid point
  leaves, and that the result array is the layer's formula, which the reference also computes.
-/
module

public import proofs.«01_k».proof.Proof.RetFwdBody
public import proofs.«01_k».proof.Proof.Gen.RetFwdRefIdeal.Run
public import proofs.«01_k».proof.Proof.Gen.RetFwdRefIdeal.Read
public import proofs.«01_k».proof.Proof.Gen.Pre_finite
public import proofs.«01_k».proof.Defs
public import Idealize.ShloMosaic.Lib.ReduceAll

@[expose] public section

set_option maxRecDepth 16384
noncomputable section
open Idealize.ShloMosaic Idealize.SL.Sem Idealize.ShloMosaic.TcCoe Idealize.ShloMosaic.Tactic

namespace RetF
open Retention

/-- The precondition says that every query, key and value is a real number. -/
theorem finite_rows (X : FVec Ideal Cert.Pre_finite.S4x8192x6144 .bf16) (h : Cert.Pre_finite.fn (F := Ideal) X = fun _ => 1#1) :
    FiniteRows X := by
  intro b n j hj
  have h1 := congrFun h ix0
  unfold Cert.Pre_finite.fn at h1
  have : Subsingleton Cert.Pre_finite.S_.Idx := ⟨fun a b => funext fun i => i.elim0⟩
  have h2 := Host.reduce_andi_all _ _ _ _ _ h1 (ix3 b n ⟨j.val, hj⟩)
  revert h2
  pointwise []
  intro h3
  refine finite_of_abs_lt ?_
  have h4 : FloatOps.absf (X (ix3 b n j)) < Ideal.ofBits FTy.f32 2139095040#32 := of_decide_eq_true (ofBool_eq_one h3)
  rwa [bits_inf] at h4

section reference
open Cert.RetFwdRefIdeal Cert.RetFwdRefIdeal.Read

/-- The head a column belongs to. -/
def headOf (l : Fin 2048) : Fin 4 := ⟨l.val / 512, by omega⟩

/-- The place of a column inside its head. -/
def placeOf (l : Fin 2048) : Fin 512 := ⟨l.val % 512, by omega⟩

/-- What the reference computes. -/
theorem ref_apply (X : FVec Ideal S4x8192x6144 .bf16) (hX : FiniteRows X) (b : Fin 4)
    (n : Fin 8192) (l : Fin 2048) :
    val_main_v108 (F := Ideal) X (ix3 b n l)
      = ((layer (rowsOf X b) (fun n d => Real.cos (ang n d)) (fun n d => Real.sin (ang n d)) 8192
          (lgOf (-5) (headOf l)) (headOf l) (placeOf l) n : ℝ) : EReal) := by
  have hl := l.isLt
  rw [layer_halves]
  pointwise [val_main_v0, val_main_v1, val_main_v2, val_main_v3, val_main_v4, val_main_v5, val_main_v6, val_main_cst,
    val_main_v7, val_main_v8, val_main_cst_0, val_main_v9, val_main_v10, val_main_v11, val_main_cst_1, val_main_v12,
    val_main_v13, val_main_cst_2, val_main_v14, val_main_v15, val_main_v16, val_main_v17, val_main_v18, val_main_v19,
    val_main_v20, val_main_v21, val_main_v22, val_main_v23, val_main_v24, val_main_v25, val_main_v26, val_main_v27,
    val_main_v28, val_main_v29, val_main_v30, val_main_v31, val_main_v32, val_main_v33, val_main_v34, val_main_v35,
    val_main_v36, val_main_v37, val_main_v38, val_main_v39, val_main_v40, val_main_cst_3, val_main_v41, val_main_v42,
    val_main_cst_4, val_main_v43, val_main_v44, val_main_v45, val_main_cst_5, val_main_v46, val_main_v47,
    val_main_cst_6, val_main_v48, val_main_v49, val_main_v50, val_main_v51, val_main_v52, val_main_v53, val_main_v54,
    val_main_v55, val_main_v56, val_main_v57, val_main_v58, val_main_v59, val_main_v60, val_main_v61, val_main_v62,
    val_main_v63, val_main_v64, val_main_v65, val_main_v66, val_main_v67, val_main_v68, val_main_v69, val_main_v70,
    val_main_v71, val_main_v72, val_main_cst_7, val_main_v73, val_main_v74, val_main_v75, val_main_v76,
    val_main_cst_8, val_main_v77, val_main_v78, val_main_cst_9, val_main_v79, val_main_v80, val_main_v81,
    val_main_v82, val_main_v83, val_main_v84, val_main_v85, val_main_v86, val_main_v87, val_main_v88, val_main_v89,
    val_main_cst_10, val_main_v90, val_main_v91, val_main_v92, val_main_cst_11, val_main_v93, val_main_v94,
    val_main_v95, val_main_v96, val_main_v97, val_main_v98, val_main_v99, val_main_cst_12, val_main_call0_v0,
    val_main_call0_v1, val_main_call0_v2, val_main_v100, val_main_v101, val_main_v102, val_main_v103, val_main_v104,
    val_main_v105, val_main_v106, val_main_v107, val_main_v108]
  simp (disch := norm_num) only [ang_coe, lg5_coe]
  simp (disch := norm_num) only [sitofp_fin, zero_const, ← EReal.coe_sub, max_coe, Ideal.cos_coe, Ideal.sin_coe, bits_sixteenth]
  have hlg := lg5_coe (headOf l) (by norm_num)
  dsimp only [headOf] at hlg
  simp (disch := (dsimp only; omega)) only [rowsOf_coe hX, hlg]
  simp only [← EReal.coe_mul, ← EReal.coe_add, ← EReal.coe_sub, Ideal.exp_coe, decay_coe, coe_sum]
  simp only [vRow, rotLo, rotHi, headOf, placeOf, Nat.mul_comm (l.val / 512) 256, Nat.div_add_mod, mul_comm _ (1/16 : ℝ)]

end reference

section kernel
open Cert.RetFwdIdeal Cert.RetFwdIdeal.Gen Cert.RetFwdIdeal.Value
variable (m : (ℓ : Loc nD τ sig) → Buf (Elt Ideal) ℓ) (c : Dev nD)

/-! The tables the host makes. -/

theorem V_cos (n : Fin 8192) (d : Fin 128) : V m c main_v16 (ix2 n d) = ((Real.cos (ang n d) : ℝ) : EReal) := by
  unfold V
  after_reads_at
  simp (disch := norm_num) only [ang_coe, Ideal.cos_coe]

theorem V_sin (n : Fin 8192) (d : Fin 128) : V m c main_v17 (ix2 n d) = ((Real.sin (ang n d) : ℝ) : EReal) := by
  unfold V
  after_reads_at
  simp (disch := norm_num) only [ang_coe, Ideal.sin_coe]

theorem V_dec (h : Fin 4) (i j : Fin 256) :
    V m c main_v46 (ix3 h i j) = ((decay (lgOf (-5) h) ((i : ℝ) - j) : ℝ) : EReal) := by
  unfold V
  after_reads_at
  simp (disch := norm_num) only [lg5_coe]
  simp (disch := norm_num) only [sitofp_fin, zero_const, ← EReal.coe_sub, max_coe]
  simp only [← EReal.coe_mul, Ideal.exp_coe, decay_coe]

theorem V_qd (h : Fin 4) (i : Fin 256) (j : Fin 512) :
    V m c main_v63 (ix3 h i j) = ((Real.exp (lgOf (-5) h * ((i : ℝ) + 1)) : ℝ) : EReal) := by
  unfold V
  after_reads_at
  simp (disch := norm_num) only [lg5_coe]
  simp (disch := norm_num) only [sitofp_fin, ← EReal.coe_one]
  simp only [← EReal.coe_add, ← EReal.coe_mul, Ideal.exp_coe]

theorem V_kd (h : Fin 4) (i : Fin 256) (j : Fin 256) :
    V m c main_v65 (ix3 h i j) = ((Real.exp (lgOf (-5) h * (255 - (i : ℝ))) : ℝ) : EReal) := by
  unfold V
  after_reads_at
  simp (disch := norm_num) only [lg5_coe]
  simp (disch := norm_num) only [sitofp_fin, bits_255]
  simp only [← EReal.coe_sub, ← EReal.coe_mul, Ideal.exp_coe]

theorem V_cd (h : Fin 4) (j : Fin 1) (k : Fin 512) :
    V m c main_v67 (ix3 h j k) = ((Real.exp (lgOf (-5) h * 256) : ℝ) : EReal) := by
  unfold V
  after_reads_at
  simp (disch := norm_num) only [lg5_coe]
  simp (disch := norm_num) only [bits_256]
  simp only [← EReal.coe_mul, Ideal.exp_coe]

/-- The block indices of every input window at every point. -/
theorem idx_facts : ∀ t : Fin cfg0.N, win0_0.index t = ![t.val / 32, t.val % 32, 0] ∧ win0_1.index t = ![t.val / 32, t.val % 32, 1]
    ∧ win0_2.index t = ![t.val / 32, t.val % 32, 1] ∧ win0_3.index t = ![t.val % 32, 0] ∧ win0_4.index t = ![t.val % 32, 0]
    ∧ win0_5.index t = ![0, 0, 0] ∧ win0_6.index t = ![0, 0, 0] ∧ win0_7.index t = ![0, 0, 0] ∧ win0_8.index t = ![0, 0, 0] :=
  (by decide +kernel : ∀ t : Fin grid0.N, _)

variable (t : Fin cfg0.N)

/-- The batch a point works on. -/
abbrev bOf : Fin 4 := ⟨t.val / 32, by have : t.val < 128 := t.isLt; omega⟩

/-- The position in row `i` of a point's block. -/
abbrev nOf (i : Fin 256) : Fin 8192 := ⟨256 * (t.val % 32) + i.val, by omega⟩

section blocks
variable (hX : FiniteRows (m ((c : Thread nD τ).loc main_arg0)))
include hX

theorem blk_q (i : Fin 256) (j : Fin 1024) : iblk m c 0 t (ix3 0 i j)
    = ((rowsOf (m ((c : Thread nD τ).loc main_arg0)) (t.val / 32) (256 * (t.val % 32) + i) j : ℝ) : EReal) := by
  obtain ⟨e, -⟩ := idx_facts t
  refine Eq.trans (congrFun (V_main_arg0 m c) _) ?_
  refine Eq.trans (congrArg (m ((c : Thread nD τ).loc main_arg0)) ?_) (rowsOf_coe hX (bOf t) (nOf t i) ⟨j.val, by omega⟩ (by dsimp only; omega))
  funext a; apply Fin.ext
  match a with
  | ⟨0, _⟩ => show win0_0.index t (0 : Fin 3) * 1 + 1 * 0 = _; rw [e]; show t.val / 32 * 1 + 1 * 0 = t.val / 32; omega
  | ⟨1, _⟩ => show win0_0.index t (1 : Fin 3) * 256 + 1 * i.val = _; rw [e]; show t.val % 32 * 256 + 1 * i.val = 256 * (t.val % 32) + i.val; omega
  | ⟨2, _⟩ => show win0_0.index t (2 : Fin 3) * 1024 + 1 * j.val = _; rw [e]; show 0 * 1024 + 1 * j.val = j.val; omega

theorem blk_k (i : Fin 256) (j : Fin 1024) : iblk m c 1 t (ix3 0 i j)
    = ((rowsOf (m ((c : Thread nD τ).loc main_arg0)) (t.val / 32) (256 * (t.val % 32) + i) (1024 + j) : ℝ) : EReal) := by
  obtain ⟨-, e, -⟩ := idx_facts t
  refine Eq.trans (congrFun (V_main_arg0 m c) _) ?_
  refine Eq.trans (congrArg (m ((c : Thread nD τ).loc main_arg0)) ?_) (rowsOf_coe hX (bOf t) (nOf t i) ⟨1024 + j.val, by omega⟩ (by dsimp only; omega))
  funext a; apply Fin.ext
  match a with
  | ⟨0, _⟩ => show win0_1.index t (0 : Fin 3) * 1 + 1 * 0 = _; rw [e]; show t.val / 32 * 1 + 1 * 0 = t.val / 32; omega
  | ⟨1, _⟩ => show win0_1.index t (1 : Fin 3) * 256 + 1 * i.val = _; rw [e]; show t.val % 32 * 256 + 1 * i.val = 256 * (t.val % 32) + i.val; omega
  | ⟨2, _⟩ => show win0_1.index t (2 : Fin 3) * 1024 + 1 * j.val = _; rw [e]; show 1 * 1024 + 1 * j.val = 1024 + j.val; omega

theorem blk_v (i : Fin 256) (j : Fin 2048) : iblk m c 2 t (ix3 0 i j)
    = ((rowsOf (m ((c : Thread nD τ).loc main_arg0)) (t.val / 32) (256 * (t.val % 32) + i) (2048 + j) : ℝ) : EReal) := by
  obtain ⟨-, -, e, -⟩ := idx_facts t
  refine Eq.trans (congrFun (V_main_arg0 m c) _) ?_
  refine Eq.trans (congrArg (m ((c : Thread nD τ).loc main_arg0)) ?_) (rowsOf_coe hX (bOf t) (nOf t i) ⟨2048 + j.val, by omega⟩ (by dsimp only; omega))
  funext a; apply Fin.ext
  match a with
  | ⟨0, _⟩ => show win0_2.index t (0 : Fin 3) * 1 + 1 * 0 = _; rw [e]; show t.val / 32 * 1 + 1 * 0 = t.val / 32; omega
  | ⟨1, _⟩ => show win0_2.index t (1 : Fin 3) * 256 + 1 * i.val = _; rw [e]; show t.val % 32 * 256 + 1 * i.val = 256 * (t.val % 32) + i.val; omega
  | ⟨2, _⟩ => show win0_2.index t (2 : Fin 3) * 2048 + 1 * j.val = _; rw [e]; show 1 * 2048 + 1 * j.val = 2048 + j.val; omega

end blocks

theorem blk_cos (i : Fin 256) (j : Fin 128) : iblk m c 3 t (ix2 i j) = ((Real.cos (ang (256 * (t.val % 32) + i) j) : ℝ) : EReal) := by
  obtain ⟨-, -, -, e, -⟩ := idx_facts t
  refine Eq.trans (congrArg (V m c main_v16) ?_) (V_cos m c (nOf t i) j)
  funext a; apply Fin.ext
  match a with
  | ⟨0, _⟩ => show win0_3.index t (0 : Fin 2) * 256 + 1 * i.val = _; rw [e]; show t.val % 32 * 256 + 1 * i.val = 256 * (t.val % 32) + i.val; omega
  | ⟨1, _⟩ => show win0_3.index t (1 : Fin 2) * 128 + 1 * j.val = _; rw [e]; show 0 * 128 + 1 * j.val = j.val; omega

theorem blk_sin (i : Fin 256) (j : Fin 128) : iblk m c 4 t (ix2 i j) = ((Real.sin (ang (256 * (t.val % 32) + i) j) : ℝ) : EReal) := by
  obtain ⟨-, -, -, -, e, -⟩ := idx_facts t
  refine Eq.trans (congrArg (V m c main_v17) ?_) (V_sin m c (nOf t i) j)
  funext a; apply Fin.ext
  match a with
  | ⟨0, _⟩ => show win0_4.index t (0 : Fin 2) * 256 + 1 * i.val = _; rw [e]; show t.val % 32 * 256 + 1 * i.val = 256 * (t.val % 32) + i.val; omega
  | ⟨1, _⟩ => show win0_4.index t (1 : Fin 2) * 128 + 1 * j.val = _; rw [e]; show 0 * 128 + 1 * j.val = j.val; omega

theorem blk_dec (h : Fin 4) (i j : Fin 256) : iblk m c 5 t (ix3 h i j) = ((decay (lgOf (-5) h) ((i : ℝ) - j) : ℝ) : EReal) := by
  obtain ⟨-, -, -, -, -, e, -⟩ := idx_facts t
  refine Eq.trans (congrArg (V m c main_v46) ?_) (V_dec m c h i j)
  funext a; apply Fin.ext
  match a with
  | ⟨0, _⟩ => show win0_5.index t (0 : Fin 3) * 4 + 1 * h.val = _; rw [e]; show 0 * 4 + 1 * h.val = h.val; omega
  | ⟨1, _⟩ => show win0_5.index t (1 : Fin 3) * 256 + 1 * i.val = _; rw [e]; show 0 * 256 + 1 * i.val = i.val; omega
  | ⟨2, _⟩ => show win0_5.index t (2 : Fin 3) * 256 + 1 * j.val = _; rw [e]; show 0 * 256 + 1 * j.val = j.val; omega

theorem blk_qd (h : Fin 4) (i : Fin 256) (j : Fin 512) :
    iblk m c 6 t (ix3 h i j) = ((Real.exp (lgOf (-5) h * ((i : ℝ) + 1)) : ℝ) : EReal) := by
  obtain ⟨-, -, -, -, -, -, e, -⟩ := idx_facts t
  refine Eq.trans (congrArg (V m c main_v63) ?_) (V_qd m c h i j)
  funext a; apply Fin.ext
  match a with
  | ⟨0, _⟩ => show win0_6.index t (0 : Fin 3) * 4 + 1 * h.val = _; rw [e]; show 0 * 4 + 1 * h.val = h.val; omega
  | ⟨1, _⟩ => show win0_6.index t (1 : Fin 3) * 256 + 1 * i.val = _; rw [e]; show 0 * 256 + 1 * i.val = i.val; omega
  | ⟨2, _⟩ => show win0_6.index t (2 : Fin 3) * 512 + 1 * j.val = _; rw [e]; show 0 * 512 + 1 * j.val = j.val; omega

theorem blk_kd (h : Fin 4) (i j : Fin 256) :
    iblk m c 7 t (ix3 h i j) = ((Real.exp (lgOf (-5) h * (255 - (i : ℝ))) : ℝ) : EReal) := by
  obtain ⟨-, -, -, -, -, -, -, e, -⟩ := idx_facts t
  refine Eq.trans (congrArg (V m c main_v65) ?_) (V_kd m c h i j)
  funext a; apply Fin.ext
  match a with
  | ⟨0, _⟩ => show win0_7.index t (0 : Fin 3) * 4 + 1 * h.val = _; rw [e]; show 0 * 4 + 1 * h.val = h.val; omega
  | ⟨1, _⟩ => show win0_7.index t (1 : Fin 3) * 256 + 1 * i.val = _; rw [e]; show 0 * 256 + 1 * i.val = i.val; omega
  | ⟨2, _⟩ => show win0_7.index t (2 : Fin 3) * 256 + 1 * j.val = _; rw [e]; show 0 * 256 + 1 * j.val = j.val; omega

theorem blk_cd (h : Fin 4) (j : Fin 512) : iblk m c 8 t (ix3 h 0 j) = ((Real.exp (lgOf (-5) h * 256) : ℝ) : EReal) := by
  obtain ⟨-, -, -, -, -, -, -, -, e⟩ := idx_facts t
  refine Eq.trans (congrArg (V m c main_v67) ?_) (V_cd m c h 0 j)
  funext a; apply Fin.ext
  match a with
  | ⟨0, _⟩ => show win0_8.index t (0 : Fin 3) * 4 + 1 * h.val = _; rw [e]; show 0 * 4 + 1 * h.val = h.val; omega
  | ⟨1, _⟩ => show win0_8.index t (1 : Fin 3) * 1 + 1 * 0 = _; rw [e]; rfl
  | ⟨2, _⟩ => show win0_8.index t (2 : Fin 3) * 512 + 1 * j.val = _; rw [e]; show 0 * 512 + 1 * j.val = j.val; omega

section value
variable (hX : FiniteRows (m ((c : Thread nD τ).loc main_arg0)))
include hX

/-- The states of a batch after its first blocks, all heads together. -/
def stateR (b k h d e : ℕ) : ℝ :=
  state (rowsOf (m ((c : Thread nD τ).loc main_arg0)) b) (fun n d => Real.cos (ang n d)) (fun n d => Real.sin (ang n d)) (lgOf (-5) h) h k d e

/-- One point: from the state after `t % 32` blocks of its batch to the state after one more. -/
theorem state_step (hS : ∀ h d e, startState m c t (ix3 h d e) = ((stateR m c (t.val / 32) (t.val % 32) h d e : ℝ) : EReal))
    (h : Fin 4) (d : Fin 256) (e : Fin 512) :
    (outsAt0 m c t.val t.isLt).2 (ix3 h d e) = ((stateR m c (t.val / 32) (t.val % 32 + 1) h d e : ℝ) : EReal) := by
  refine (step_state m c t h d e (fun i j => rowsOf (m ((c : Thread nD τ).loc main_arg0)) (t.val / 32) (256 * (t.val % 32) + i) (1024 + j))
    (fun i j => rowsOf (m ((c : Thread nD τ).loc main_arg0)) (t.val / 32) (256 * (t.val % 32) + i) (2048 + j))
    (fun i d => Real.cos (ang (256 * (t.val % 32) + i) d)) (fun i d => Real.sin (ang (256 * (t.val % 32) + i) d))
    (fun h i _ => Real.exp (lgOf (-5) h * (255 - i))) _
    (fun h _ => Real.exp (lgOf (-5) h * 256)) (blk_k m c t hX) (blk_v m c t hX) (blk_cos m c t) (blk_sin m c t)
    (blk_kd m c t) (blk_cd m c t) hS).trans ?_
  unfold stateR
  rw [← newState_eq]

/-- At the first point of a batch the state is zero. -/
theorem start_zero (ht : t.val % 32 = 0) (h : Fin 4) (d : Fin 256) (e : Fin 512) :
    startState m c t (ix3 h d e) = ((stateR m c (t.val / 32) (t.val % 32) h d e : ℝ) : EReal) := by
  unfold startState stateR
  rw [if_pos ht, ht, state_zero]
  pointwise
  exact bits_0

/-- Every point starts from the state after the blocks of its batch before it. -/
theorem start_state (n : ℕ) (hn : n < cfg0.N) (h : Fin 4) (d : Fin 256) (e : Fin 512) :
    startState m c ⟨n, hn⟩ (ix3 h d e) = ((stateR m c (n / 32) (n % 32) h d e : ℝ) : EReal) := by
  induction n generalizing h d e with
  | zero => exact start_zero m c ⟨0, hn⟩ hX rfl h d e
  | succ n ih =>
    by_cases ht : (n + 1) % 32 = 0
    · exact start_zero m c ⟨n + 1, hn⟩ hX ht h d e
    · have hn' : n < cfg0.N := Nat.lt_of_succ_lt hn
      have hs := state_step m c ⟨n, hn'⟩ hX (fun h d e => ih hn' h d e) h d e
      unfold startState
      rw [if_neg ht]
      refine hs.trans ?_
      show ((stateR m c (n / 32) (n % 32 + 1) h d e : ℝ) : EReal) = _
      rw [show (n + 1) / 32 = n / 32 by omega, show (n + 1) % 32 = n % 32 + 1 by omega]

/-- The block a point leaves is the layer's formula. -/
theorem out_block (i : Fin 256) (l : Fin 2048) :
    (outsAt0 m c t.val t.isLt).1 (ix3 0 i l)
      = ((layer (rowsOf (m ((c : Thread nD τ).loc main_arg0)) (t.val / 32)) (fun n d => Real.cos (ang n d)) (fun n d => Real.sin (ang n d)) 8192
          (lgOf (-5) (headOf l)) (headOf l) (placeOf l) (256 * (t.val % 32) + i) : ℝ) : EReal) := by
  have hl : l = ⟨512 * (headOf l : ℕ) + placeOf l, col_lt _ _⟩ := Fin.ext (Nat.div_add_mod _ _).symm
  have ho := step_out m c t (headOf l) i (placeOf l) (fun i j => rowsOf (m ((c : Thread nD τ).loc main_arg0)) (t.val / 32) (256 * (t.val % 32) + i) j)
    (fun i j => rowsOf (m ((c : Thread nD τ).loc main_arg0)) (t.val / 32) (256 * (t.val % 32) + i) (1024 + j))
    (fun i j => rowsOf (m ((c : Thread nD τ).loc main_arg0)) (t.val / 32) (256 * (t.val % 32) + i) (2048 + j))
    (fun i d => Real.cos (ang (256 * (t.val % 32) + i) d)) (fun i d => Real.sin (ang (256 * (t.val % 32) + i) d))
    (fun h i j => decay (lgOf (-5) h) ((i : ℝ) - j))
    (fun h i _ => Real.exp (lgOf (-5) h * (i + 1))) _ (blk_q m c t hX) (blk_k m c t hX) (blk_v m c t hX)
    (blk_cos m c t) (blk_sin m c t) (blk_dec m c t) (blk_qd m c t) (start_state m c hX t.val t.isLt)
  rw [← hl] at ho
  rw [ho]
  have hh := headOut_eq (rowsOf (m ((c : Thread nD τ).loc main_arg0)) (t.val / 32)) (fun n d => Real.cos (ang n d)) (fun n d => Real.sin (ang n d))
    (lgOf (-5)) 8192 (t.val % 32) (headOf l) (placeOf l) i i.isLt (by omega)
  rw [← hh]
  unfold stateR
  rfl

end value

end kernel

/-- The kernel computes what the reference computes. -/
theorem result_eq (m : (ℓ : Loc Cert.RetFwdIdeal.nD Cert.RetFwdIdeal.τ Cert.RetFwdIdeal.sig) → Buf (Elt Ideal) ℓ) (c : Dev Cert.RetFwdIdeal.nD)
    (hX : FiniteRows (m ((c.tc : Thread Cert.RetFwdIdeal.nD Cert.RetFwdIdeal.τ).loc Cert.RetFwdIdeal.main_arg0))) :
    Cert.RetFwdIdeal.Value.G9 m c
      = Cert.RetFwdRefIdeal.Read.val_main_v108 (F := Ideal) (m ((c.tc : Thread Cert.RetFwdIdeal.nD Cert.RetFwdIdeal.τ).loc Cert.RetFwdIdeal.main_arg0)) := by
  funext y
  obtain ⟨b, n, l, rfl⟩ : ∃ (b : Fin 4) (n : Fin 8192) (l : Fin 2048), y = ix3 b n l := ⟨y 0, y 1, y 2, eq_ix3 y⟩
  refine Eq.trans ?_ (ref_apply _ hX b n l).symm
  obtain ⟨t, ht⟩ : ∃ t : Fin Cert.RetFwdIdeal.cfg0.N, t.val = 32 * b.val + n.val / 256 := ⟨⟨32 * b.val + n.val / 256, by show _ < 128; omega⟩, rfl⟩
  have hb := out_block m c t hX ⟨n.val % 256, by omega⟩ l
  rw [show t.val / 32 = b.val by omega, show 256 * (t.val % 32) + n.val % 256 = n.val by omega] at hb
  refine Eq.trans ?_ hb
  have hp : Cert.RetFwdIdeal.Value.pt9Of (ix3 b n l) = t.val := by
    show 32 * (b.val / 1 - 0) + 1 * (n.val / 256 - 0) + 1 * (l.val / 2048 - 0) = t.val
    omega
  have hq : Cert.RetFwdIdeal.Value.loc9Of (ix3 b n l) = ix3 0 ⟨n.val % 256, by omega⟩ l := by
    funext a; apply Fin.ext
    match a with
    | ⟨0, _⟩ => show b.val % 1 = 0; omega
    | ⟨1, _⟩ => rfl
    | ⟨2, _⟩ => show l.val % 2048 = l.val; omega
  unfold Cert.RetFwdIdeal.Value.G9
  rw [dif_pos (by rw [hp]; exact t.isLt), hq, Cert.RetFwdIdeal.Value.outsAt0_sweep, Cert.RetFwdIdeal.Value.fold0_congr m c _ _ _ _ hp]

/-- The claim: under the precondition the kernel and the reference end with equal results. -/
theorem equal : Cert.algebraic_RetFwdIdeal_RetFwdRefIdeal_pre_finite := by
  intro m ρ m' ρ' hf hag
  refine ⟨fun c => Cert.RetFwdIdeal.Value.G9 m c, Cert.RetFwdIdeal.Value.run m ρ, ?_⟩
  refine (θ_run _ _ _).mono (fun _ h c => ⟨(h c).1.trans ?_, (h c).2⟩) (Cert.RetFwdRefIdeal.Value.run m' ρ')
  rw [Cert.RetFwdRefIdeal.Read.val_main_v108_eq, hag c]
  exact (result_eq m c (finite_rows _ (hf c))).symm

end RetF
end
-- ==== Proof.RetBwdBody.lean ====
/-
  One grid point of the backward retention kernel over the reals: if every block it reads and the state it starts from
  hold real numbers, its new state is the formula `newState` and its output block is `headOut` added to the block that the
  earlier call left.
-/
module

public import proofs.«01_k».proof.Proof.Gen.RetBwdIdeal.Value
public import proofs.«01_k».proof.Proof.RetFwdValue
public import Idealize.ShloMosaic.Lib.Pointwise
public import Idealize.ShloMosaic.Lib.Pipeline.ValueKit
public import Idealize.ShloMosaic.Lib.Pipeline.ReadBack

@[expose] public section

set_option maxRecDepth 16384
noncomputable section
open Idealize.ShloMosaic Idealize.SL.Sem Idealize.ShloMosaic.TcCoe Idealize.ShloMosaic.Tactic

namespace RetB
open Cert.RetBwdIdeal Cert.RetBwdIdeal.Gen
variable (m : (ℓ : Loc nD τ sig) → Buf (Elt Ideal) ℓ)
open Retention

/-- The state a grid point starts from: nothing at the first point of a batch, what the point before left otherwise. -/
def startState (c : Dev nD) (t : Fin cfg0.N) : Vec Ideal S4x256x512 .f32 :=
  if t.val % 32 = 0 then k0_pay3 (F := Ideal) else (outsAt0 m c (t.val - 1) (Nat.lt_of_le_of_lt (Nat.sub_le _ _) t.isLt)).2

/-- The new state. -/
theorem step_state (c : Dev nD) (t : Fin cfg0.N) (h : Fin 4) (d : Fin 256) (e : Fin 512)
    (K V CS SN : ℕ → ℕ → ℝ) (KD S : ℕ → ℕ → ℕ → ℝ) (CD : ℕ → ℕ → ℝ)
    (hx1 : ∀ i j, iblk m c 1 t (ix3 0 i j) = ((K i j : ℝ) : EReal))
    (hx2 : ∀ i j, iblk m c 2 t (ix3 0 i j) = ((V i j : ℝ) : EReal))
    (hx3 : ∀ i j, iblk m c 3 t (ix2 i j) = ((CS i j : ℝ) : EReal))
    (hx4 : ∀ i j, iblk m c 4 t (ix2 i j) = ((SN i j : ℝ) : EReal))
    (hx7 : ∀ h i j, iblk m c 7 t (ix3 h i j) = ((KD h i j : ℝ) : EReal))
    (hx8 : ∀ h j, iblk m c 8 t (ix3 h 0 j) = ((CD h j : ℝ) : EReal))
    (hS : ∀ h i j, startState m c t (ix3 h i j) = ((S h i j : ℝ) : EReal)) :
    (outsAt0 m c t.val t.isLt).2 (ix3 h d e) = ((newState K V CS SN KD CD S h d e : ℝ) : EReal) := by
  unfold startState at hS
  by_cases ht : t.val % 32 = 0
  on_goal 1 =>
    rw [if_pos ht] at hS
    rw [outsAt0_A m c t ht]
    dsimp only
    frame_open
    simp (disch := decide) only [↓ View.readCov_skip, ↓ View.readCov_cons_toLoadRect, ↓ View.readCov_fill]
    frame_out
    refine (canon_append_of_cover [_, _, _, _] [_] _ (View.cover_of_tiled_head _ _ _ (by rfl) _)).trans ?_
    generalize (k0_pay3 (F := Ideal)) = x10 at hS ⊢
  on_goal 2 =>
    rw [if_neg ht] at hS
    rw [outsAt0_B m c t ht]
    dsimp only
    frame_open
    simp (disch := decide) only [↓ View.readCov_skip, ↓ View.readCov_cons_toLoadRect, ↓ View.readCov_fill]
    frame_out
    generalize (outsAt0 m c (t.val - 1) _).2 = x10 at hS ⊢
  all_goals
    generalize iblk m c 1 t = x1 at hx1 ⊢
    generalize iblk m c 2 t = x2 at hx2 ⊢
    generalize iblk m c 3 t = x3 at hx3 ⊢
    generalize iblk m c 4 t = x4 at hx4 ⊢
    generalize iblk m c 7 t = x7 at hx7 ⊢
    generalize iblk m c 8 t = x8 at hx8 ⊢
    canon_tiles x h <;>
      (obtain rfl := idx_eq x 0 d e (Nat.lt_one_iff.mp x0_lt) h1.symm h2.symm) <;>
      unfold_payloads <;>
      pointwise [] <;>
      simp only [read_unread_whole, hx1, hx2, hx3, hx4, hx7, hx8, hS, bits_sixteenth, ← EReal.coe_mul, ← EReal.coe_add,
        ← EReal.coe_sub, coe_dite, coe_sum] <;>
      first
        | (obtain rfl : h = 3 := Fin.ext (by simpa using h0)); rfl
        | (obtain rfl : h = 2 := Fin.ext (by simpa using h0)); rfl
        | (obtain rfl : h = 1 := Fin.ext (by simpa using h0)); rfl
        | (obtain rfl : h = 0 := Fin.ext (by simpa using h0)); simp [newState, rot]

/-- The output block: row `i`, head `h`, column `e` of the head. -/
theorem step_out (c : Dev nD) (t : Fin cfg0.N) (h : Fin 4) (i : Fin 256) (e : Fin 512)
    (Q K V CS SN : ℕ → ℕ → ℝ) (DEC QD S : ℕ → ℕ → ℕ → ℝ)
    (hx0 : ∀ i j, iblk m c 0 t (ix3 0 i j) = ((Q i j : ℝ) : EReal))
    (hx1 : ∀ i j, iblk m c 1 t (ix3 0 i j) = ((K i j : ℝ) : EReal))
    (hx2 : ∀ i j, iblk m c 2 t (ix3 0 i j) = ((V i j : ℝ) : EReal))
    (hx3 : ∀ i j, iblk m c 3 t (ix2 i j) = ((CS i j : ℝ) : EReal))
    (hx4 : ∀ i j, iblk m c 4 t (ix2 i j) = ((SN i j : ℝ) : EReal))
    (hx5 : ∀ h i j, iblk m c 5 t (ix3 h i j) = ((DEC h i j : ℝ) : EReal))
    (hx6 : ∀ h i j, iblk m c 6 t (ix3 h i j) = ((QD h i j : ℝ) : EReal))
    (hS : ∀ h i j, startState m c t (ix3 h i j) = ((S h i j : ℝ) : EReal)) :
    (outsAt0 m c t.val t.isLt).1 (ix3 0 i ⟨512 * h + e, col_lt h e⟩)
      = ((headOut Q K V CS SN DEC QD S h i e : ℝ) : EReal) + iblk m c 9 t (ix3 0 i ⟨512 * h + e, col_lt h e⟩) := by
  unfold startState at hS
  by_cases ht : t.val % 32 = 0
  on_goal 1 =>
    rw [if_pos ht] at hS
    rw [outsAt0_A m c t ht]
    dsimp only
    frame_open
    simp (disch := decide) only [↓ View.readCov_skip, ↓ View.readCov_cons_toLoadRect, ↓ View.readCov_fill]
    frame_out
    generalize (k0_pay3 (F := Ideal)) = x10 at hS ⊢
  on_goal 2 =>
    rw [if_neg ht] at hS
    rw [outsAt0_B m c t ht]
    dsimp only
    frame_open
    simp (disch := decide) only [↓ View.readCov_skip, ↓ View.readCov_cons_toLoadRect, ↓ View.readCov_fill]
    frame_out
    generalize (outsAt0 m c (t.val - 1) _).2 = x10 at hS ⊢
  all_goals
    generalize iblk m c 0 t = x0 at hx0 ⊢
    generalize iblk m c 1 t = x1 at hx1 ⊢
    generalize iblk m c 2 t = x2 at hx2 ⊢
    generalize iblk m c 3 t = x3 at hx3 ⊢
    generalize iblk m c 4 t = x4 at hx4 ⊢
    generalize iblk m c 5 t = x5 at hx5 ⊢
    generalize iblk m c 6 t = x6 at hx6 ⊢
    generalize iblk m c 9 t = x9
    canon_tiles x h <;>
      (have e2 : 512 * (h : ℕ) + e = _ := h2) <;>
      (obtain rfl := idx_eq x 0 i e (Nat.lt_one_iff.mp x0_lt) h1.symm (by omega)) <;>
      (simp only [ix3_2] at e2) <;>
      unfold_payloads <;>
      pointwise [] <;>
      simp only [read_unread_whole, hx0, hx1, hx2, hx3, hx4, hx5, hx6, hS, bits_sixteenth, ← EReal.coe_mul, ← EReal.coe_add,
        ← EReal.coe_sub, coe_dite, coe_sum] <;>
      rw [headOut_halves] <;>
      first
        | (obtain rfl : h = 3 := Fin.ext (by show (h : ℕ) = 3; omega)); rfl
        | (obtain rfl : h = 2 := Fin.ext (by show (h : ℕ) = 2; omega)); rfl
        | (obtain rfl : h = 1 := Fin.ext (by show (h : ℕ) = 1; omega)); rfl
        | (obtain rfl : h = 0 := Fin.ext (by show (h : ℕ) = 0; omega)); simp [rotLo, rotHi]
end RetB
end
-- ==== Proof.RetBwdValue.lean ====
/-
  The value of the backward retention kernel. It walks a batch's blocks from the last to the first, so the whole argument
  runs over positions counted from the end: position `n` is row `8191 - n`, and inside a block row `i` is place `255 - i`.
  In that counting the kernel is the forward one with its own decay rates, and the tables are the forward tables read
  backwards.
-/
module

public import proofs.«01_k».proof.Proof.RetBwdBody
public import proofs.«01_k».proof.Proof.Gen.RetBwdIdeal.Value
public import proofs.«01_k».proof.Proof.Gen.RetBwdRefIdeal.Run
public import proofs.«01_k».proof.Proof.Gen.RetBwdRefIdeal.Read
public import proofs.«01_k».proof.Proof.Gen.Pre_finite_proj

@[expose] public section

set_option maxRecDepth 16384
noncomputable section
open Idealize.ShloMosaic Idealize.SL.Sem Idealize.ShloMosaic.TcCoe Idealize.ShloMosaic.Tactic

namespace RetB
open Retention
open RetF (headOf placeOf)

/-! A block read from its last row to its first gives the same sums. -/

theorem sum_rev (f : ℕ → ℝ) : ∑ j : Fin 256, f (255 - j) = ∑ j : Fin 256, f j := by
  rw [← Equiv.sum_comp Fin.revPerm (fun j : Fin 256 => f j)]
  refine Finset.sum_congr rfl fun j _ => congrArg f ?_
  show 255 - (j : ℕ) = (Fin.rev j : ℕ)
  rw [Fin.val_rev]; omega

theorem newState_rev (K V CS SN : ℕ → ℕ → ℝ) (KD : ℕ → ℕ → ℕ → ℝ) (CD : ℕ → ℕ → ℝ) (S : ℕ → ℕ → ℕ → ℝ) (h d e : ℕ) :
    newState (fun i => K (255 - i)) (fun i => V (255 - i)) (fun i => CS (255 - i)) (fun i => SN (255 - i))
      (fun h i j => KD h (255 - i) j) CD S h d e = newState K V CS SN KD CD S h d e := by
  unfold newState
  rw [sum_rev fun j => rot (fun d => K j (256 * h + d)) (CS j) (SN j) d * (1 / 16) * KD h j d * V j (512 * h + e)]

theorem headOut_rev (Q K V CS SN : ℕ → ℕ → ℝ) (DEC QD S : ℕ → ℕ → ℕ → ℝ) (h i e : ℕ) :
    headOut (fun i => Q (255 - i)) (fun i => K (255 - i)) (fun i => V (255 - i)) (fun i => CS (255 - i)) (fun i => SN (255 - i))
      (fun h i j => DEC h (255 - i) (255 - j)) (fun h i j => QD h (255 - i) j) S h i e
      = headOut Q K V CS SN DEC QD S h (255 - i) e := by
  unfold headOut
  rw [sum_rev fun j => (∑ d : Fin 256, rot (fun d => Q (255 - i) (256 * h + d)) (CS (255 - i)) (SN (255 - i)) d
        * (rot (fun d => K j (256 * h + d)) (CS j) (SN j) d * (1 / 16))) * DEC h (255 - i) j * V j (512 * h + e)]

/-- The rows of a batch counted from the end. -/
def backRows (X : (⟨3, ![4, 8192, 6144]⟩ : Shape).Idx → EReal) (b n : ℕ) : ℕ → ℝ := rowsOf X b (8191 - n)
/-- The cosines and sines counted from the end. -/
def backCos (n d : ℕ) : ℝ := Real.cos (ang (8191 - n) d)
def backSin (n d : ℕ) : ℝ := Real.sin (ang (8191 - n) d)

theorem ang_nat (n d : ℕ) (hn : n < 2147483648) (hd : d < 2147483648) :
    (FloatOps.sitofp FTy.f32 (BitVec.ofNat 32 n) : Ideal FTy.f32) * Ideal.pow (Ideal.ofBits FTy.f32 1176256512#32)
      (Ideal.div (-(Ideal.ofBits FTy.f32 1073741824#32 * (FloatOps.sitofp FTy.f32 (BitVec.ofNat 32 d) : Ideal FTy.f32)))
        (Ideal.ofBits FTy.f32 1132462080#32)) = ((ang n d : ℝ) : EReal) :=
  ang_coe (N := 2147483648) (D := 2147483648) ⟨n, hn⟩ ⟨d, hd⟩ le_rfl le_rfl

theorem rev_val (n : Fin 8192) : (n.rev : ℕ) = 8191 - n := by rw [Fin.val_rev]; omega

/-- The precondition says that every query, key and value is a real number. -/
theorem finite_rows (X : FVec Ideal Cert.Pre_finite_proj.S4x8192x6144 .bf16) (Y : FVec Ideal Cert.Pre_finite_proj.S4x8192x2048 .bf16)
    (h : Cert.Pre_finite_proj.fn (F := Ideal) X Y = fun _ => 1#1) : FiniteRows X := by
  refine RetF.finite_rows X ?_
  rw [← h]
  rfl

section reference
open Cert.RetBwdRefIdeal Cert.RetBwdRefIdeal.Read

/-- What the reference computes. -/
theorem ref_apply (X : FVec Ideal S4x8192x6144 .bf16) (Y : FVec Ideal S4x8192x2048 .bf16) (hX : FiniteRows X) (b : Fin 4)
    (n : Fin 8192) (l : Fin 2048) :
    val_main_v114 (F := Ideal) X Y (ix3 b n l)
      = Y (ix3 b n l) + ((layer (backRows X b) backCos backSin 8192
          (lgOf (-(11 / 2)) (headOf l)) (headOf l) (placeOf l) (8191 - n) : ℝ) : EReal) := by
  have hl := l.isLt
  have hlg := lg55_coe (headOf l) (by norm_num)
  dsimp only [headOf] at hlg
  pointwise [val_main_v0, val_main_v1, val_main_v2, val_main_v3, val_main_v4, val_main_v5, val_main_v6, val_main_cst,
    val_main_v7, val_main_v8, val_main_cst_0, val_main_v9, val_main_v10, val_main_v11, val_main_cst_1, val_main_v12,
    val_main_v13, val_main_cst_2, val_main_v14, val_main_v15, val_main_v16, val_main_v17, val_main_v18, val_main_v19,
    val_main_v20, val_main_v21, val_main_v22, val_main_v23, val_main_v24, val_main_v25, val_main_v26, val_main_v27,
    val_main_v28, val_main_v29, val_main_v30, val_main_v31, val_main_v32, val_main_v33, val_main_v34, val_main_v35,
    val_main_v36, val_main_v37, val_main_v38, val_main_v39, val_main_v40, val_main_cst_3, val_main_v41, val_main_v42,
    val_main_cst_4, val_main_v43, val_main_v44, val_main_v45, val_main_cst_5, val_main_v46, val_main_v47,
    val_main_cst_6, val_main_v48, val_main_v49, val_main_v50, val_main_v51, val_main_v52, val_main_v53, val_main_v54,
    val_main_v55, val_main_v56, val_main_v57, val_main_v58, val_main_v59, val_main_v60, val_main_v61, val_main_v62,
    val_main_v63, val_main_v64, val_main_v65, val_main_v66, val_main_v67, val_main_v68, val_main_v69, val_main_v70,
    val_main_v71, val_main_v72, val_main_cst_7, val_main_v73, val_main_v74, val_main_v75, val_main_v76,
    val_main_cst_8, val_main_v77, val_main_v78, val_main_cst_9, val_main_v79, val_main_v80, val_main_v81,
    val_main_v82, val_main_v83, val_main_v84, val_main_v85, val_main_v86, val_main_v87, val_main_v88, val_main_v89,
    val_main_v90, val_main_v91, val_main_v92, val_main_cst_10, val_main_v93, val_main_v94, val_main_v95,
    val_main_cst_11, val_main_v96, val_main_v97, val_main_v98, val_main_v99, val_main_v100, val_main_v101,
    val_main_v102, val_main_cst_12, val_main_call3_v0, val_main_call3_v1, val_main_call3_v2, val_main_v103,
    val_main_v104, val_main_v105, val_main_v106, val_main_v107, val_main_v108, val_main_v109, val_main_v110,
    val_main_v111, val_main_v112, val_main_v113, val_main_v114]
  simp only [List.mem_singleton, Fin.reduceEq, reduceIte, Fin.isValue, one_ne_zero, zero_ne_one]
  simp (disch := omega) only [ang_nat, hlg]
  simp (disch := norm_num) only [Fin.rev_rev, sitofp_fin, zero_const, ← EReal.coe_sub, max_coe, Ideal.cos_coe, Ideal.sin_coe, bits_sixteenth]
  simp (disch := (dsimp only; omega)) only [rowsOf_coe hX]
  simp only [← EReal.coe_mul, ← EReal.coe_add, ← EReal.coe_sub, Ideal.exp_coe, decay_coe, coe_dite, coe_sum, rev_val]
  unfold layer
  rw [Finset.sum_range]
  simp only [qRow, kRow, vRow, rot, headOf, placeOf, backRows, backCos, backSin, dite_eq_ite]
  simp only [Nat.mul_comm (l.val / 512) 256, Nat.mul_comm (l.val / 512) 512, Nat.sub_sub_self (Nat.le_of_lt_succ n.isLt)]
  refine congrArg (fun z : ℝ => Y (ix3 b n l) + (z : EReal)) (Finset.sum_congr rfl fun x _ => ?_)
  rw [mul_comm]

end reference

section kernel
open Cert.RetBwdIdeal Cert.RetBwdIdeal.Gen Cert.RetBwdIdeal.Value
variable (m : (ℓ : Loc nD τ sig) → Buf (Elt Ideal) ℓ) (c : Dev nD)

/-! The tables the host makes. -/

theorem V_cos (n : Fin 8192) (d : Fin 128) : V m c main_v16 (ix2 n d) = ((Real.cos (ang n d) : ℝ) : EReal) := by
  unfold V
  after_reads_at
  simp (disch := norm_num) only [ang_coe, Ideal.cos_coe]

theorem V_sin (n : Fin 8192) (d : Fin 128) : V m c main_v17 (ix2 n d) = ((Real.sin (ang n d) : ℝ) : EReal) := by
  unfold V
  after_reads_at
  simp (disch := norm_num) only [ang_coe, Ideal.sin_coe]

theorem V_dec (h : Fin 4) (i j : Fin 256) :
    V m c main_v47 (ix3 h i j) = ((decay (lgOf (-(11 / 2)) h) (-((i : ℝ) - j)) : ℝ) : EReal) := by
  unfold V
  after_reads_at
  simp (disch := norm_num) only [lg55_coe]
  simp (disch := norm_num) only [sitofp_fin, zero_const, ← EReal.coe_sub, ← EReal.coe_neg, max_coe]
  simp only [← EReal.coe_mul, Ideal.exp_coe, decay_coe]

theorem V_qd (h : Fin 4) (i : Fin 256) (j : Fin 512) :
    V m c main_v62 (ix3 h i j) = ((Real.exp (lgOf (-(11 / 2)) h * (256 - (i : ℝ))) : ℝ) : EReal) := by
  unfold V
  after_reads_at
  simp (disch := norm_num) only [lg55_coe]
  simp (disch := norm_num) only [sitofp_fin, bits_256]
  simp only [← EReal.coe_sub, ← EReal.coe_mul, Ideal.exp_coe]

theorem V_kd (h : Fin 4) (i : Fin 256) (j : Fin 256) :
    V m c main_v64 (ix3 h i j) = ((Real.exp (lgOf (-(11 / 2)) h * (i : ℝ)) : ℝ) : EReal) := by
  unfold V
  after_reads_at
  simp (disch := norm_num) only [lg55_coe]
  simp (disch := norm_num) only [sitofp_fin]
  simp only [← EReal.coe_mul, Ideal.exp_coe]

theorem V_cd (h : Fin 4) (j : Fin 1) (k : Fin 512) :
    V m c main_v66 (ix3 h j k) = ((Real.exp (lgOf (-(11 / 2)) h * 256) : ℝ) : EReal) := by
  unfold V
  after_reads_at
  simp (disch := norm_num) only [lg55_coe]
  simp (disch := norm_num) only [bits_256]
  simp only [← EReal.coe_mul, Ideal.exp_coe]

/-- The block indices of every input window at every point. -/
theorem idx_facts : ∀ t : Fin cfg0.N, win0_0.index t = ![t.val / 32, 31 - t.val % 32, 0] ∧ win0_1.index t = ![t.val / 32, 31 - t.val % 32, 1]
    ∧ win0_2.index t = ![t.val / 32, 31 - t.val % 32, 1] ∧ win0_3.index t = ![31 - t.val % 32, 0] ∧ win0_4.index t = ![31 - t.val % 32, 0]
    ∧ win0_5.index t = ![0, 0, 0] ∧ win0_6.index t = ![0, 0, 0] ∧ win0_7.index t = ![0, 0, 0] ∧ win0_8.index t = ![0, 0, 0]
    ∧ win0_9.index t = ![t.val / 32, 31 - t.val % 32, 0] :=
  (by decide +kernel : ∀ t : Fin grid0.N, _)

variable (t : Fin cfg0.N)

/-- The batch a point works on. -/
abbrev bOf : Fin 4 := ⟨t.val / 32, by have : t.val < 128 := t.isLt; omega⟩

/-- The position in row `i` of a point's block. -/
abbrev nOf (i : Fin 256) : Fin 8192 := ⟨256 * (31 - t.val % 32) + i.val, by omega⟩

theorem row_eq (i : Fin 256) : 8191 - (256 * (t.val % 32) + (255 - (i : ℕ))) = 256 * (31 - t.val % 32) + i := by omega

/-- The place of row `i` of a block, counted from the block's end. -/
theorem place_coe (i : Fin 256) : ((255 - (i : ℕ) : ℕ) : ℝ) = 255 - (i : ℝ) := by
  rw [Nat.cast_sub (by omega)]; norm_num

section blocks
variable (hX : FiniteRows (m ((c : Thread nD τ).loc main_arg0)))
include hX

theorem blk_q (i : Fin 256) (j : Fin 1024) : iblk m c 0 t (ix3 0 i j)
    = ((backRows (m ((c : Thread nD τ).loc main_arg0)) (t.val / 32) (256 * (t.val % 32) + (255 - i)) j : ℝ) : EReal) := by
  obtain ⟨e, -⟩ := idx_facts t
  unfold backRows
  rw [row_eq t i]
  refine Eq.trans (congrFun (V_main_arg0 m c) _) ?_
  refine Eq.trans (congrArg (m ((c : Thread nD τ).loc main_arg0)) ?_) (rowsOf_coe hX (bOf t) (nOf t i) ⟨j.val, by omega⟩ (by dsimp only; omega))
  funext a; apply Fin.ext
  match a with
  | ⟨0, _⟩ => show win0_0.index t (0 : Fin 3) * 1 + 1 * 0 = _; rw [e]; show t.val / 32 * 1 + 1 * 0 = t.val / 32; omega
  | ⟨1, _⟩ => show win0_0.index t (1 : Fin 3) * 256 + 1 * i.val = _; rw [e]; show (31 - t.val % 32) * 256 + 1 * i.val = 256 * (31 - t.val % 32) + i.val; omega
  | ⟨2, _⟩ => show win0_0.index t (2 : Fin 3) * 1024 + 1 * j.val = _; rw [e]; show 0 * 1024 + 1 * j.val = j.val; omega

theorem blk_k (i : Fin 256) (j : Fin 1024) : iblk m c 1 t (ix3 0 i j)
    = ((backRows (m ((c : Thread nD τ).loc main_arg0)) (t.val / 32) (256 * (t.val % 32) + (255 - i)) (1024 + j) : ℝ) : EReal) := by
  obtain ⟨-, e, -⟩ := idx_facts t
  unfold backRows
  rw [row_eq t i]
  refine Eq.trans (congrFun (V_main_arg0 m c) _) ?_
  refine Eq.trans (congrArg (m ((c : Thread nD τ).loc main_arg0)) ?_) (rowsOf_coe hX (bOf t) (nOf t i) ⟨1024 + j.val, by omega⟩ (by dsimp only; omega))
  funext a; apply Fin.ext
  match a with
  | ⟨0, _⟩ => show win0_1.index t (0 : Fin 3) * 1 + 1 * 0 = _; rw [e]; show t.val / 32 * 1 + 1 * 0 = t.val / 32; omega
  | ⟨1, _⟩ => show win0_1.index t (1 : Fin 3) * 256 + 1 * i.val = _; rw [e]; show (31 - t.val % 32) * 256 + 1 * i.val = 256 * (31 - t.val % 32) + i.val; omega
  | ⟨2, _⟩ => show win0_1.index t (2 : Fin 3) * 1024 + 1 * j.val = _; rw [e]; show 1 * 1024 + 1 * j.val = 1024 + j.val; omega

theorem blk_v (i : Fin 256) (j : Fin 2048) : iblk m c 2 t (ix3 0 i j)
    = ((backRows (m ((c : Thread nD τ).loc main_arg0)) (t.val / 32) (256 * (t.val % 32) + (255 - i)) (2048 + j) : ℝ) : EReal) := by
  obtain ⟨-, -, e, -⟩ := idx_facts t
  unfold backRows
  rw [row_eq t i]
  refine Eq.trans (congrFun (V_main_arg0 m c) _) ?_
  refine Eq.trans (congrArg (m ((c : Thread nD τ).loc main_arg0)) ?_) (rowsOf_coe hX (bOf t) (nOf t i) ⟨2048 + j.val, by omega⟩ (by dsimp only; omega))
  funext a; apply Fin.ext
  match a with
  | ⟨0, _⟩ => show win0_2.index t (0 : Fin 3) * 1 + 1 * 0 = _; rw [e]; show t.val / 32 * 1 + 1 * 0 = t.val / 32; omega
  | ⟨1, _⟩ => show win0_2.index t (1 : Fin 3) * 256 + 1 * i.val = _; rw [e]; show (31 - t.val % 32) * 256 + 1 * i.val = 256 * (31 - t.val % 32) + i.val; omega
  | ⟨2, _⟩ => show win0_2.index t (2 : Fin 3) * 2048 + 1 * j.val = _; rw [e]; show 1 * 2048 + 1 * j.val = 2048 + j.val; omega

end blocks

theorem blk_cos (i : Fin 256) (j : Fin 128) : iblk m c 3 t (ix2 i j) = ((backCos (256 * (t.val % 32) + (255 - i)) j : ℝ) : EReal) := by
  obtain ⟨-, -, -, e, -⟩ := idx_facts t
  unfold backCos
  rw [row_eq t i]
  refine Eq.trans (congrArg (V m c main_v16) ?_) (V_cos m c (nOf t i) j)
  funext a; apply Fin.ext
  match a with
  | ⟨0, _⟩ => show win0_3.index t (0 : Fin 2) * 256 + 1 * i.val = _; rw [e]; show (31 - t.val % 32) * 256 + 1 * i.val = 256 * (31 - t.val % 32) + i.val; omega
  | ⟨1, _⟩ => show win0_3.index t (1 : Fin 2) * 128 + 1 * j.val = _; rw [e]; show 0 * 128 + 1 * j.val = j.val; omega

theorem blk_sin (i : Fin 256) (j : Fin 128) : iblk m c 4 t (ix2 i j) = ((backSin (256 * (t.val % 32) + (255 - i)) j : ℝ) : EReal) := by
  obtain ⟨-, -, -, -, e, -⟩ := idx_facts t
  unfold backSin
  rw [row_eq t i]
  refine Eq.trans (congrArg (V m c main_v17) ?_) (V_sin m c (nOf t i) j)
  funext a; apply Fin.ext
  match a with
  | ⟨0, _⟩ => show win0_4.index t (0 : Fin 2) * 256 + 1 * i.val = _; rw [e]; show (31 - t.val % 32) * 256 + 1 * i.val = 256 * (31 - t.val % 32) + i.val; omega
  | ⟨1, _⟩ => show win0_4.index t (1 : Fin 2) * 128 + 1 * j.val = _; rw [e]; show 0 * 128 + 1 * j.val = j.val; omega

theorem blk_dec (h : Fin 4) (i j : Fin 256) : iblk m c 5 t (ix3 h i j) = ((decay (lgOf (-(11 / 2)) h) (((255 - (i : ℕ) : ℕ) : ℝ) - ((255 - (j : ℕ) : ℕ) : ℝ)) : ℝ) : EReal) := by
  obtain ⟨-, -, -, -, -, e, -⟩ := idx_facts t
  rw [place_coe, place_coe, show (255 - (i : ℝ)) - (255 - (j : ℝ)) = -((i : ℝ) - j) by ring]
  refine Eq.trans (congrArg (V m c main_v47) ?_) (V_dec m c h i j)
  funext a; apply Fin.ext
  match a with
  | ⟨0, _⟩ => show win0_5.index t (0 : Fin 3) * 4 + 1 * h.val = _; rw [e]; show 0 * 4 + 1 * h.val = h.val; omega
  | ⟨1, _⟩ => show win0_5.index t (1 : Fin 3) * 256 + 1 * i.val = _; rw [e]; show 0 * 256 + 1 * i.val = i.val; omega
  | ⟨2, _⟩ => show win0_5.index t (2 : Fin 3) * 256 + 1 * j.val = _; rw [e]; show 0 * 256 + 1 * j.val = j.val; omega

theorem blk_qd (h : Fin 4) (i : Fin 256) (j : Fin 512) :
    iblk m c 6 t (ix3 h i j) = ((Real.exp (lgOf (-(11 / 2)) h * (((255 - (i : ℕ) : ℕ) : ℝ) + 1)) : ℝ) : EReal) := by
  obtain ⟨-, -, -, -, -, -, e, -⟩ := idx_facts t
  rw [place_coe, show (255 - (i : ℝ)) + 1 = 256 - i by ring]
  refine Eq.trans (congrArg (V m c main_v62) ?_) (V_qd m c h i j)
  funext a; apply Fin.ext
  match a with
  | ⟨0, _⟩ => show win0_6.index t (0 : Fin 3) * 4 + 1 * h.val = _; rw [e]; show 0 * 4 + 1 * h.val = h.val; omega
  | ⟨1, _⟩ => show win0_6.index t (1 : Fin 3) * 256 + 1 * i.val = _; rw [e]; show 0 * 256 + 1 * i.val = i.val; omega
  | ⟨2, _⟩ => show win0_6.index t (2 : Fin 3) * 512 + 1 * j.val = _; rw [e]; show 0 * 512 + 1 * j.val = j.val; omega

theorem blk_kd (h : Fin 4) (i j : Fin 256) :
    iblk m c 7 t (ix3 h i j) = ((Real.exp (lgOf (-(11 / 2)) h * (255 - ((255 - (i : ℕ) : ℕ) : ℝ))) : ℝ) : EReal) := by
  obtain ⟨-, -, -, -, -, -, -, e, -⟩ := idx_facts t
  rw [place_coe, show 255 - (255 - (i : ℝ)) = i by ring]
  refine Eq.trans (congrArg (V m c main_v64) ?_) (V_kd m c h i j)
  funext a; apply Fin.ext
  match a with
  | ⟨0, _⟩ => show win0_7.index t (0 : Fin 3) * 4 + 1 * h.val = _; rw [e]; show 0 * 4 + 1 * h.val = h.val; omega
  | ⟨1, _⟩ => show win0_7.index t (1 : Fin 3) * 256 + 1 * i.val = _; rw [e]; show 0 * 256 + 1 * i.val = i.val; omega
  | ⟨2, _⟩ => show win0_7.index t (2 : Fin 3) * 256 + 1 * j.val = _; rw [e]; show 0 * 256 + 1 * j.val = j.val; omega

theorem blk_cd (h : Fin 4) (j : Fin 512) : iblk m c 8 t (ix3 h 0 j) = ((Real.exp (lgOf (-(11 / 2)) h * 256) : ℝ) : EReal) := by
  obtain ⟨-, -, -, -, -, -, -, -, e, -⟩ := idx_facts t
  refine Eq.trans (congrArg (V m c main_v66) ?_) (V_cd m c h 0 j)
  funext a; apply Fin.ext
  match a with
  | ⟨0, _⟩ => show win0_8.index t (0 : Fin 3) * 4 + 1 * h.val = _; rw [e]; show 0 * 4 + 1 * h.val = h.val; omega
  | ⟨1, _⟩ => show win0_8.index t (1 : Fin 3) * 1 + 1 * 0 = _; rw [e]; rfl
  | ⟨2, _⟩ => show win0_8.index t (2 : Fin 3) * 512 + 1 * j.val = _; rw [e]; show 0 * 512 + 1 * j.val = j.val; omega

/-- The block of the earlier call's result. -/
theorem blk_prev (i : Fin 256) (l : Fin 2048) : iblk m c 9 t (ix3 0 i l) = m ((c : Thread nD τ).loc main_arg1) (ix3 (bOf t) (nOf t i) l) := by
  obtain ⟨-, -, -, -, -, -, -, -, -, e⟩ := idx_facts t
  refine Eq.trans ?_ (congrFun (V_main_arg1 m c) _)
  refine congrArg (V m c main_arg1) ?_
  funext a; apply Fin.ext
  match a with
  | ⟨0, _⟩ => show win0_9.index t (0 : Fin 3) * 1 + 1 * 0 = _; rw [e]; show t.val / 32 * 1 + 1 * 0 = t.val / 32; omega
  | ⟨1, _⟩ => show win0_9.index t (1 : Fin 3) * 256 + 1 * i.val = _; rw [e]; show (31 - t.val % 32) * 256 + 1 * i.val = 256 * (31 - t.val % 32) + i.val; omega
  | ⟨2, _⟩ => show win0_9.index t (2 : Fin 3) * 2048 + 1 * l.val = _; rw [e]; show 0 * 2048 + 1 * l.val = l.val; omega

section value
variable (hX : FiniteRows (m ((c : Thread nD τ).loc main_arg0)))
include hX

/-- The states of a batch after its first blocks, counted from the end, all heads together. -/
def stateR (b k h d e : ℕ) : ℝ :=
  state (backRows (m ((c : Thread nD τ).loc main_arg0)) b) backCos backSin (lgOf (-(11 / 2)) h) h k d e

/-- One point: from the state after `t % 32` blocks of its batch to the state after one more. -/
theorem state_step (hS : ∀ h d e, startState m c t (ix3 h d e) = ((stateR m c (t.val / 32) (t.val % 32) h d e : ℝ) : EReal))
    (h : Fin 4) (d : Fin 256) (e : Fin 512) :
    (outsAt0 m c t.val t.isLt).2 (ix3 h d e) = ((stateR m c (t.val / 32) (t.val % 32 + 1) h d e : ℝ) : EReal) := by
  refine (step_state m c t h d e
    (fun i j => backRows (m ((c : Thread nD τ).loc main_arg0)) (t.val / 32) (256 * (t.val % 32) + (255 - i)) (1024 + j))
    (fun i j => backRows (m ((c : Thread nD τ).loc main_arg0)) (t.val / 32) (256 * (t.val % 32) + (255 - i)) (2048 + j))
    (fun i => backCos (256 * (t.val % 32) + (255 - i))) (fun i => backSin (256 * (t.val % 32) + (255 - i)))
    (fun h i _ => Real.exp (lgOf (-(11 / 2)) h * (255 - ((255 - i : ℕ) : ℝ)))) _
    (fun h _ => Real.exp (lgOf (-(11 / 2)) h * 256)) (blk_k m c t hX) (blk_v m c t hX) (blk_cos m c t) (blk_sin m c t)
    (blk_kd m c t) (blk_cd m c t) hS).trans ?_
  rw [newState_rev (fun i j => backRows (m ((c : Thread nD τ).loc main_arg0)) (t.val / 32) (256 * (t.val % 32) + i) (1024 + j))
    (fun i j => backRows (m ((c : Thread nD τ).loc main_arg0)) (t.val / 32) (256 * (t.val % 32) + i) (2048 + j))
    (fun i => backCos (256 * (t.val % 32) + i)) (fun i => backSin (256 * (t.val % 32) + i))
    (fun h i _ => Real.exp (lgOf (-(11 / 2)) h * (255 - (i : ℝ))))]
  unfold stateR
  rw [← newState_eq]

/-- At the first point of a batch the state is zero. -/
theorem start_zero (ht : t.val % 32 = 0) (h : Fin 4) (d : Fin 256) (e : Fin 512) :
    startState m c t (ix3 h d e) = ((stateR m c (t.val / 32) (t.val % 32) h d e : ℝ) : EReal) := by
  unfold startState stateR
  rw [if_pos ht, ht, state_zero]
  pointwise
  exact bits_0

/-- Every point starts from the state after the blocks of its batch before it. -/
theorem start_state (n : ℕ) (hn : n < cfg0.N) (h : Fin 4) (d : Fin 256) (e : Fin 512) :
    startState m c ⟨n, hn⟩ (ix3 h d e) = ((stateR m c (n / 32) (n % 32) h d e : ℝ) : EReal) := by
  induction n generalizing h d e with
  | zero => exact start_zero m c ⟨0, hn⟩ hX rfl h d e
  | succ n ih =>
    by_cases ht : (n + 1) % 32 = 0
    · exact start_zero m c ⟨n + 1, hn⟩ hX ht h d e
    · have hn' : n < cfg0.N := Nat.lt_of_succ_lt hn
      have hs := state_step m c ⟨n, hn'⟩ hX (fun h d e => ih hn' h d e) h d e
      unfold startState
      rw [if_neg ht]
      refine hs.trans ?_
      show ((stateR m c (n / 32) (n % 32 + 1) h d e : ℝ) : EReal) = _
      rw [show (n + 1) / 32 = n / 32 by omega, show (n + 1) % 32 = n % 32 + 1 by omega]

/-- The block a point leaves is the earlier result plus the layer's formula. -/
theorem out_block (i : Fin 256) (l : Fin 2048) :
    (outsAt0 m c t.val t.isLt).1 (ix3 0 i l)
      = ((layer (backRows (m ((c : Thread nD τ).loc main_arg0)) (t.val / 32)) backCos backSin 8192
          (lgOf (-(11 / 2)) (headOf l)) (headOf l) (placeOf l) (256 * (t.val % 32) + (255 - i)) : ℝ) : EReal)
        + m ((c : Thread nD τ).loc main_arg1) (ix3 (bOf t) (nOf t i) l) := by
  have hl : l = ⟨512 * (headOf l : ℕ) + placeOf l, col_lt _ _⟩ := Fin.ext (Nat.div_add_mod _ _).symm
  have ho := step_out m c t (headOf l) i (placeOf l)
    (fun i j => backRows (m ((c : Thread nD τ).loc main_arg0)) (t.val / 32) (256 * (t.val % 32) + (255 - i)) j)
    (fun i j => backRows (m ((c : Thread nD τ).loc main_arg0)) (t.val / 32) (256 * (t.val % 32) + (255 - i)) (1024 + j))
    (fun i j => backRows (m ((c : Thread nD τ).loc main_arg0)) (t.val / 32) (256 * (t.val % 32) + (255 - i)) (2048 + j))
    (fun i => backCos (256 * (t.val % 32) + (255 - i))) (fun i => backSin (256 * (t.val % 32) + (255 - i)))
    (fun h i j => decay (lgOf (-(11 / 2)) h) (((255 - i : ℕ) : ℝ) - ((255 - j : ℕ) : ℝ)))
    (fun h i _ => Real.exp (lgOf (-(11 / 2)) h * (((255 - i : ℕ) : ℝ) + 1))) _ (blk_q m c t hX) (blk_k m c t hX) (blk_v m c t hX)
    (blk_cos m c t) (blk_sin m c t) (blk_dec m c t) (blk_qd m c t) (start_state m c hX t.val t.isLt)
  rw [← hl] at ho
  rw [ho, blk_prev, headOut_rev (fun i j => backRows (m ((c : Thread nD τ).loc main_arg0)) (t.val / 32) (256 * (t.val % 32) + i) j)
    (fun i j => backRows (m ((c : Thread nD τ).loc main_arg0)) (t.val / 32) (256 * (t.val % 32) + i) (1024 + j))
    (fun i j => backRows (m ((c : Thread nD τ).loc main_arg0)) (t.val / 32) (256 * (t.val % 32) + i) (2048 + j))
    (fun i => backCos (256 * (t.val % 32) + i)) (fun i => backSin (256 * (t.val % 32) + i))
    (fun h i j => decay (lgOf (-(11 / 2)) h) ((i : ℝ) - (j : ℝ))) (fun h i _ => Real.exp (lgOf (-(11 / 2)) h * ((i : ℝ) + 1)))]
  have hh := headOut_eq (backRows (m ((c : Thread nD τ).loc main_arg0)) (t.val / 32)) backCos backSin
    (lgOf (-(11 / 2))) 8192 (t.val % 32) (headOf l) (placeOf l) (255 - i) (by omega) (by omega)
  rw [← hh]
  unfold stateR
  rfl

end value

/-- The result array, read where point `t`'s block lies. -/
theorem result_block (i : Fin 256) (l : Fin 2048) :
    (dats m 0 c).arrAt 10 cfg0.N (ix3 (bOf t) (nOf t i) l) = (outsAt0 m c t.val t.isLt).1 (ix3 0 i l) := by
  have hf : (cfg0.win 10).flush t = true := (by decide +kernel : ∀ t : Fin grid0.N, win0_10.flush t = true) t
  have e : win0_10.index t = ![t.val / 32, 31 - t.val % 32, 0] :=
    (by decide +kernel : ∀ t : Fin grid0.N, win0_10.index t = ![t.val / 32, 31 - t.val % 32, 0]) t
  refine Eq.trans ?_ ((congrFun (Cert.RetBwdIdeal.Value.blocks10 m c t hf) (ix3 0 i l)).trans
    ((congrFun (Cert.RetBwdIdeal.Value.flushed10 m c t) (ix3 0 i l)).trans rfl))
  refine congrArg ((dats m 0 c).arrAt 10 cfg0.N) ?_
  funext a; apply Fin.ext
  match a with
  | ⟨0, _⟩ => show _ = win0_10.index t (0 : Fin 3) * 1 + 1 * 0; rw [e]; show t.val / 32 = t.val / 32 * 1 + 1 * 0; omega
  | ⟨1, _⟩ => show _ = win0_10.index t (1 : Fin 3) * 256 + 1 * i.val; rw [e]; show 256 * (31 - t.val % 32) + i.val = (31 - t.val % 32) * 256 + 1 * i.val; omega
  | ⟨2, _⟩ => show _ = win0_10.index t (2 : Fin 3) * 2048 + 1 * l.val; rw [e]; show l.val = 0 * 2048 + 1 * l.val; omega

end kernel

/-- The kernel computes what the reference computes. -/
theorem result_eq (m : (ℓ : Loc Cert.RetBwdIdeal.nD Cert.RetBwdIdeal.τ Cert.RetBwdIdeal.sig) → Buf (Elt Ideal) ℓ) (c : Dev Cert.RetBwdIdeal.nD)
    (hX : FiniteRows (m ((c.tc : Thread Cert.RetBwdIdeal.nD Cert.RetBwdIdeal.τ).loc Cert.RetBwdIdeal.main_arg0))) :
    (Cert.RetBwdIdeal.Gen.dats m 0 c).arrAt 10 Cert.RetBwdIdeal.cfg0.N
      = Cert.RetBwdRefIdeal.Read.val_main_v114 (F := Ideal) (m ((c.tc : Thread Cert.RetBwdIdeal.nD Cert.RetBwdIdeal.τ).loc Cert.RetBwdIdeal.main_arg0))
          (m ((c.tc : Thread Cert.RetBwdIdeal.nD Cert.RetBwdIdeal.τ).loc Cert.RetBwdIdeal.main_arg1)) := by
  funext y
  obtain ⟨b, n, l, rfl⟩ : ∃ (b : Fin 4) (n : Fin 8192) (l : Fin 2048), y = ix3 b n l := ⟨y 0, y 1, y 2, eq_ix3 y⟩
  refine Eq.trans ?_ (ref_apply _ _ hX b n l).symm
  obtain ⟨t, ht⟩ : ∃ t : Fin Cert.RetBwdIdeal.cfg0.N, t.val = 32 * b.val + (31 - n.val / 256) :=
    ⟨⟨32 * b.val + (31 - n.val / 256), by show _ < 128; omega⟩, rfl⟩
  have hb := (result_block m c t ⟨n.val % 256, by omega⟩ l).trans (out_block m c t hX ⟨n.val % 256, by omega⟩ l)
  have hbt : bOf t = b := Fin.ext (by show t.val / 32 = b.val; omega)
  have hnt : nOf t ⟨n.val % 256, by omega⟩ = n := Fin.ext (by show 256 * (31 - t.val % 32) + n.val % 256 = n.val; omega)
  rw [hbt, hnt, show t.val / 32 = b.val by omega, show 256 * (t.val % 32) + (255 - n.val % 256) = 8191 - n.val by omega, add_comm] at hb
  exact hb

/-- The claim: under the precondition the kernel and the reference end with equal results. -/
theorem equal : Cert.algebraic_RetBwdIdeal_RetBwdRefIdeal_pre_finite_proj := by
  intro m ρ m' ρ' hf hag
  refine ⟨fun c => (Cert.RetBwdIdeal.Gen.dats m 0 c).arrAt 10 Cert.RetBwdIdeal.cfg0.N, Cert.RetBwdIdeal.Value.run_blocks m ρ, ?_⟩
  refine (θ_run _ _ _).mono (fun _ h c => ⟨(h c).1.trans ?_, (h c).2⟩) (Cert.RetBwdRefIdeal.Value.run m' ρ')
  obtain ⟨h0, h1⟩ := hag c
  rw [Cert.RetBwdRefIdeal.Read.val_main_v114_eq, h0, h1]
  exact (result_eq m c (finite_rows _ _ (hf c))).symm

end RetB
end
-- ==== Proof.Keep.lean ====
/-
  A SCRATCH FILLED ONCE AND READ AGAIN. An input projection walks a grid of (sequence, column tile, row tile), eight row
  tiles of 1024 rows. On the first column tile of a sequence it norms the rows of a row tile and stores them in a scratch
  of 8192 rows; on the later column tiles it only reads them back. `Kept P H n s` says what the scratch `s` holds before
  point `n` when a sequence takes `P` points: the rows of every row tile that the running sequence has stored, `H t`
  being the rows that point `t` stores.
-/
module

public import proofs.«01_k».proof.Proof.RetBwdValue
public import Idealize.ShloMosaic.Lib.VecWindow
public import Idealize.ShloMosaic.Lib.WritesUnit
public import Idealize.ShloMosaic.Lib.Pipeline.FrameBody

@[expose] public section

noncomputable section

namespace Keep

open Idealize.ShloMosaic

/-- The shape of the scratch, and of one row tile. -/
abbrev All : Shape := ⟨2, ![8192, 1024]⟩
abbrev Tile : Shape := ⟨2, ![1024, 1024]⟩

variable {α : Type}

/-- Row tile `i`, read off the scratch. -/
def tile (i : ℕ) (hi : i < 8) (s : All.Idx → α) : Tile.Idx → α := fun x =>
  s (ix2 ⟨1024 * i + (x 0).val, by have := (x 0).isLt; change (x 0).val < 1024 at this; omega⟩ ⟨(x 1).val, (x 1).isLt⟩)

theorem tile_congr {i j : ℕ} (e : i = j) (hi : i < 8) (hj : j < 8) (s : All.Idx → α) : tile i hi s = tile j hj s := by
  subst e; rfl

/-- Before point `n` the scratch holds every row tile the running sequence has stored. -/
def Kept (P : ℕ) (H : ℕ → Tile.Idx → α) (n : ℕ) (s : All.Idx → α) : Prop :=
  ∀ t, t < n → t % P < 8 → t / P = (n - 1) / P → tile (t % 8) (Nat.mod_lt _ (by omega)) s = H t

theorem kept_zero (P : ℕ) (H : ℕ → Tile.Idx → α) (s : All.Idx → α) : Kept P H 0 s := fun _ h => absurd h (Nat.not_lt_zero _)

/-- The sequence of a point before `t` in `t`'s own sequence is that of the point just before `t`. -/
theorem div_pred {P t t' : ℕ} (h : t' < t) (he : t' / P = t / P) : t' / P = (t - 1) / P :=
  le_antisymm (Nat.div_le_div_right (by omega)) (he ▸ Nat.div_le_div_right (by omega))

/-- A point on the first column tile stores its rows over one row tile and leaves the others. -/
theorem Kept.store {P : ℕ} (hP : 8 ∣ P) {H : ℕ → Tile.Idx → α} {t : ℕ} {s s' : All.Idx → α} (h : Kept P H t s) (h8 : t % P < 8)
    (hit : tile (t % 8) (Nat.mod_lt _ (by omega)) s' = H t)
    (miss : ∀ i (hi : i < 8), i ≠ t % 8 → tile i hi s' = tile i hi s) : Kept P H (t + 1) s' := by
  intro t' hlt h8' he
  rw [Nat.add_sub_cancel] at he
  rcases Nat.lt_or_ge t' t with hl | hl
  · have e : t' % 8 ≠ t % 8 := by
      rw [← Nat.mod_mod_of_dvd t' hP, ← Nat.mod_mod_of_dvd t hP, Nat.mod_eq_of_lt h8, Nat.mod_eq_of_lt h8']
      intro e
      have a := Nat.div_add_mod t P
      have b := Nat.div_add_mod t' P
      rw [he, e] at b
      omega
    rw [miss _ _ e]
    exact h t' hl h8' (div_pred hl he)
  · obtain rfl : t' = t := by omega
    exact hit

/-- A point on a later column tile stores nothing in the scratch. -/
theorem Kept.skip {P : ℕ} {H : ℕ → Tile.Idx → α} {t : ℕ} {s : All.Idx → α} (h : Kept P H t s) (h8 : ¬t % P < 8) :
    Kept P H (t + 1) s := by
  intro t' hlt h8' he
  rw [Nat.add_sub_cancel] at he
  rcases Nat.lt_or_ge t' t with hl | hl
  · exact h t' hl h8' (div_pred hl he)
  · obtain rfl : t' = t := by omega
    exact absurd h8' h8

/-- The point of `t`'s sequence that stored the row tile `t` reads. -/
def first (P t : ℕ) : ℕ := P * (t / P) + t % 8

theorem first_le {P t : ℕ} (hP : 8 ∣ P) : first P t ≤ t := by
  have a := Nat.div_add_mod t P
  have b : t % 8 ≤ t % P := (Nat.mod_mod_of_dvd t hP) ▸ Nat.mod_le _ _
  unfold first
  omega

/-- On the first column tile that is the point itself. -/
theorem first_self {P t : ℕ} (hP : 8 ∣ P) (h8 : t % P < 8) : first P t = t := by
  have a := Nat.div_add_mod t P
  have b : t % 8 = t % P := by rw [← Nat.mod_mod_of_dvd t hP, Nat.mod_eq_of_lt h8]
  unfold first
  omega

/-- On a later column tile the rows read back are those the first column tile stored. -/
theorem Kept.read {P : ℕ} (hP : 8 ∣ P) (h0 : 8 ≤ P) {H : ℕ → Tile.Idx → α} {t : ℕ} {s : All.Idx → α} (h : Kept P H t s) (h8 : ¬t % P < 8) :
    tile (t % 8) (Nat.mod_lt _ (by omega)) s = H (first P t) := by
  have hm : t % 8 < 8 := Nat.mod_lt _ (by omega)
  have a := Nat.div_add_mod t P
  have e1 : first P t % P = t % 8 := by
    unfold first; rw [Nat.mul_add_mod]; exact Nat.mod_eq_of_lt (by omega)
  have e2 : first P t / P = t / P := by
    unfold first; rw [Nat.mul_add_div (by omega), Nat.div_eq_of_lt (by omega : t % 8 < P), Nat.add_zero]
  have e3 : first P t % 8 = t % 8 := by rw [← Nat.mod_mod_of_dvd _ hP, e1]; exact Nat.mod_eq_of_lt hm
  have hl : first P t < t := by unfold first; omega
  have := h (first P t) hl (by omega) (div_pred hl e2)
  exact (tile_congr e3.symm _ _ s).trans this

/-! ## The body's memory operations, read at a row tile -/

section Memory

variable {sig : RefSig} {κ : Kind} {sp : Space} {e : EltTy} {Val : EltTy → Type} (v : View sig κ sp All e)

/-- A load of 1024 rows from row `1024 i` on reads row tile `i`. -/
theorem readAt_tile (f : v.ty.Contents Val) {i : ℕ} (hi : i < 8) {off : Fin 2 → ℕ} (ho : off = ![1024 * i, 0])
    (inb : ∀ a, off a + Tile.size a ≤ All.size a) :
    v.readAt Val (Rect.unit (s := All) off Tile.size inb).toLoadRect f = tile i hi (v.read Val f) := by
  subst ho
  funext x
  refine congrArg (v.read Val f) (funext fun a => Fin.ext ?_)
  fin_cases a
  · show 1024 * i + 1 * (x 0).val = 1024 * i + (x 0).val; omega
  · show 0 + 1 * (x 1).val = (x 1).val; omega

/-- Row tile `i` after 1024 rows have been stored from row `1024 i` on. -/
theorem tile_store (f : v.ty.Contents Val) {i : ℕ} (hi : i < 8) {off : Fin 2 → ℕ} (ho : off = ![1024 * i, 0])
    (inb : ∀ a, off a + Tile.size a ≤ All.size a) (w : Tile.Idx → Val e) :
    tile i hi (v.read Val (v.writes Val f [⟨Rect.unit (s := All) off Tile.size inb, w⟩])) = w := by
  funext x
  exact View.read_writes_cons_unit_of_mem v f inb w [] _ x ho (Fin.forall_fin_two.mpr ⟨rfl, (Nat.zero_add _).symm⟩)

/-- Any other row tile is left as it was. -/
theorem tile_miss (f : v.ty.Contents Val) {i j : ℕ} (hj : j < 8) (hij : j ≠ i) {off : Fin 2 → ℕ} (ho : off = ![1024 * i, 0])
    (inb : ∀ a, off a + Tile.size a ≤ All.size a) (w : Tile.Idx → Val e) :
    tile j hj (v.read Val (v.writes Val f [⟨Rect.unit (s := All) off Tile.size inb, w⟩])) = tile j hj (v.read Val f) := by
  funext x
  refine (View.read_writes_cons_unit_of_not_mem v f inb w [] _ ho 0 ?_).trans (by rw [View.writes_nil]; rfl)
  have hx : (x 0).val < 1024 := (x 0).isLt
  show 1024 * j + (x 0).val < 1024 * i ∨ 1024 * i + 1024 ≤ 1024 * j + (x 0).val
  omega

/-- 1024 rows read back right after they were stored. -/
theorem readCov_same [∀ e, Nonempty (Val e)] {s : Shape} (v : View sig κ sp s e) {off off' size : Fin s.rank → ℕ} (ho : off = off')
    (inb : ∀ a, off a + size a ≤ s.size a) (inb' : ∀ a, off' a + size a ≤ s.size a) (w : (Rect.unit off size inb).shape.Idx → Val e) :
    v.readCov [⟨Rect.unit off size inb, w⟩] (Rect.unit off' size inb').toLoadRect = w := by
  subst ho
  exact View.readCov_cons_toLoadRect v (Rect.unit off size inb) w []

/-- A load of a whole buffer reads what it holds. -/
theorem load {s : Shape} {m : Memref sig κ sp s e} (h : m.IsWhole) {off : Fin s.rank → ℕ} (inb : ∀ a, off a + s.size a ≤ s.size a) (X : s.Idx → Val e) :
    m.view.readAt Val (Rect.unit off s.size inb).toLoadRect (h.unread X) = X :=
  (View.readAt_full m.view _ inb).trans (h.read_unread X)

end Memory

end Keep

end
-- ==== Proof.InProjRun.lean ====
/-
  THE INPUT PROJECTION'S BODY. The four layers' input projections run one function at different widths: it norms a row tile
  and stores it in the scratch on the first column tile, and on every column tile multiplies the row tile of the scratch.
  The function is written here once, over any program's buffers, with what a run of it does in each of the two cases.
-/
module

public import proofs.«01_k».proof.Proof.Keep
public import Idealize.ShloMosaic.Lib.Ring
public import Idealize.ShloMosaic.Lib.Tactic
public import Idealize.ShloMosaic.Lib.WordCmp
public import Idealize.ShloMosaic.Lib.Claim
public import Idealize.ShloMosaic.Lib.WritesUnit

@[expose] public section

set_option maxRecDepth 16384

noncomputable section

namespace InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Keep (tile)

/-- The blocks' shapes: rows, a row vector, a sequence's row vector, and the tile and the scratch of `Keep`. -/
abbrev Rows : Shape := ⟨3, ![1, 1024, 1024]⟩
abbrev Row : Shape := ⟨2, ![1, 1024]⟩
abbrev SeqRow : Shape := ⟨3, ![1, 1, 1024]⟩
abbrev Tile : Shape := ⟨2, ![1024, 1024]⟩
abbrev All : Shape := ⟨2, ![8192, 1024]⟩

theorem inb_Rows : ∀ a, (![0, 0, 0] : Fin 3 → ℕ) a + Rows.size a ≤ Rows.size a := by decide
theorem inb_Row : ∀ a, (![0, 0] : Fin 2 → ℕ) a + Row.size a ≤ Row.size a := by decide
theorem inb_SeqRow : ∀ a, (![0, 0, 0] : Fin 3 → ℕ) a + SeqRow.size a ≤ SeqRow.size a := by decide
theorem inb_Tile : ∀ a, (![0, 0] : Fin 2 → ℕ) a + Tile.size a ≤ Tile.size a := by decide
theorem pos_Rows : 0 < Rows.numel := by decide +kernel
theorem pos_Row : 0 < Row.numel := by decide +kernel
theorem pos_SeqRow : 0 < SeqRow.numel := by decide +kernel
theorem pos_Tile : 0 < Tile.numel := by decide +kernel

variable {F : FTy → Type} [FloatOps F] {nD : ℕ} {τ : Topo} {sig : RefSig} {Λ₀ : Labels}

local notation "𝕄" => MT nD τ sig Unit (Elt F) ℕ (UR sig nD τ) ℕ

variable {e : EltTy} (b : BitVec 1) (off1 off2 : Fin 2 → ℕ)
  (inb1 : b = 1#1 → ∀ a, off1 a + Tile.size a ≤ All.size a)
  (pk : ∀ h : b = 1#1, (Rect.unit (s := All) off1 Tile.size (inb1 h)).PackedRows (EltTy.packing .bf16))
  (inb2 : ∀ a, off2 a + Tile.size a ≤ All.size a)
  (pay1 : Vec F Rows .f32 → Vec F Row .f32 → Vec F SeqRow .f32 → Vec F SeqRow .f32 → Vec F Tile .bf16)
  (pay2 : Vec F Tile .bf16 → Vec F Tile .bf16 → Vec F Row .f32 → Vec F Rows e)
  (arg3 : Memref sig .tc .vmem Rows .f32) (arg4 : Memref sig .tc .vmem Row .f32) (arg5 arg6 : Memref sig .tc .vmem SeqRow .f32)
  (arg7 : Memref sig .tc .vmem Tile .bf16) (arg8 : Memref sig .tc .vmem Row .f32) (arg9 : Memref sig .tc .vmem Rows e) (arg10 : Memref sig .tc .vmem All .bf16)
  (harg10 : arg10.IsWhole) (st : (arg9.access (Rect.unit (s := Rows) ![0, 0, 0] Rows.size inb_Rows)).Stores Finset.univ)

/-- The function: `b` is the first column tile's condition, `off1` and `off2` the row tile's place in the scratch, `pay1` the
    normed rows and `pay2` the product. -/
def body : Prog (TpuEff nD τ sig (Elt F) Λ₀ .tc) PUnit := do
  if h : b = 1#1 then do
    let v17 : Vec F Rows .f32 ← Prog.lift (.load arg3 (Rect.unit (s := Rows) ![0, 0, 0] Rows.size inb_Rows).toLoadRect (View.loadsAt_vmem pos_Rows))
    let v29 : Vec F Row .f32 ← Prog.lift (.load arg4 (Rect.unit (s := Row) ![0, 0] Row.size inb_Row).toLoadRect (View.loadsAt_vmem pos_Row))
    let v33 : Vec F SeqRow .f32 ← Prog.lift (.load arg5 (Rect.unit (s := SeqRow) ![0, 0, 0] SeqRow.size inb_SeqRow).toLoadRect (View.loadsAt_vmem pos_SeqRow))
    let v39 : Vec F SeqRow .f32 ← Prog.lift (.load arg6 (Rect.unit (s := SeqRow) ![0, 0, 0] SeqRow.size inb_SeqRow).toLoadRect (View.loadsAt_vmem pos_SeqRow))
    let v45 : Vec F Tile .bf16 ← Prog.lift (.load arg10 (Rect.unit (s := All) off1 Tile.size (inb1 h)).toLoadRect (View.loadsAt_vmem pos_Tile))
    Prog.lift (.store arg10 (Rect.unit (s := All) off1 Tile.size (inb1 h)) (pay1 v17 v29 v33 v39) Finset.univ (View.stores_vmem pos_Tile (harg10.storeExact_slice rfl _ (pk h)) (fun _ => rfl)) (.inl rfl))
    pure ⟨⟩
  else do
    pure ⟨⟩
  let v6 : Vec F Tile .bf16 ← Prog.lift (.load arg10 (Rect.unit (s := All) off2 Tile.size inb2).toLoadRect (View.loadsAt_vmem pos_Tile))
  let v7 : Vec F Tile .bf16 ← Prog.lift (.load arg7 (Rect.unit (s := Tile) ![0, 0] Tile.size inb_Tile).toLoadRect (View.loadsAt_vmem pos_Tile))
  let v10 : Vec F Row .f32 ← Prog.lift (.load arg8 (Rect.unit (s := Row) ![0, 0] Row.size inb_Row).toLoadRect (View.loadsAt_vmem pos_Row))
  let v14 : Vec F Rows e ← Prog.lift (.load arg9 (Rect.unit (s := Rows) ![0, 0, 0] Rows.size inb_Rows).toLoadRect (View.loadsAt_vmem pos_Rows))
  Prog.lift (.store arg9 (Rect.unit (s := Rows) ![0, 0, 0] Rows.size inb_Rows) (pay2 v6 v7 v10) Finset.univ st (.inl rfl))
  pure ⟨⟩

variable (defs : Defs nD τ sig (Elt F) Λ₀) (c : Dev nD)
  (harg3 : arg3.IsWhole) (harg4 : arg4.IsWhole) (harg5 : arg5.IsWhole) (harg6 : arg6.IsWhole) (harg7 : arg7.IsWhole) (harg8 : arg8.IsWhole) (harg9 : arg9.IsWhole)
  {i : ℕ} (hi : i < 8) (ho1 : off1 = ![1024 * i, 0]) (ho2 : off2 = ![1024 * i, 0])
  (x0 : Vec F Rows .f32) (x1 : Vec F Row .f32) (x2 x3 : Vec F SeqRow .f32) (x4 : Vec F Tile .bf16) (x5 : Vec F Row .f32) (s : Vec F All .bf16)

include harg3 harg4 harg5 harg6 harg7 harg8 hi ho1 ho2

set_option maxHeartbeats 1000000 in
/-- The body on the first column tile: it stores the normed rows over their row tile of the scratch and multiplies them. -/
theorem run_first (hc0 : b = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (pay2 (pay1 x0 x1 x2 x3) x4 x5)
            ∗ (∃ s', ⌜tile i hi s' = pay1 x0 x1 x2 x3 ∧ ∀ j (hj : j < 8), j ≠ i → tile j hj s' = tile j hj s⌝ ∗ owns (c : Thread nD τ) arg10 fullShare s')) -∗ K ⟨⟩))
      ⊢ wp frame (wpE defs Variants.none c none) E
        (body b off1 off2 inb1 pk inb2 pay1 pay2 arg3 arg4 arg5 arg6 arg7 arg8 arg9 arg10 harg10 st) K := by
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_full]
    unfold run_first.sl.HS0_1
    rw [Keep.readAt_tile _ _ hi ho2, Keep.tile_store _ _ hi ho1, Keep.load harg3, Keep.load harg4, Keep.load harg5, Keep.load harg6, Keep.load harg7, Keep.load harg8]
  iexists (arg10.view.read (Elt F) _); isplitr
  swap
  · iexists _; isplitr
    swap; · iexact HS0
    ipureintro; rfl
  ipureintro
  unfold run_first.sl.HS0_1
  rw [Keep.load harg3, Keep.load harg4, Keep.load harg5, Keep.load harg6]
  refine ⟨Keep.tile_store _ _ _ ho1 _ _, fun j hj hij => ?_⟩
  refine (Keep.tile_miss _ _ hj hij ho1 _ _).trans ?_
  rw [Memref.IsWhole.read_unread]

set_option maxHeartbeats 1000000 in
/-- The body on a later column tile: it reads its row tile of the scratch back and multiplies it. -/
theorem run_later (hc0 : ¬b = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (pay2 (tile i hi s) x4 x5)
            ∗ owns (c : Thread nD τ) arg10 fullShare s) -∗ K ⟨⟩))
      ⊢ wp frame (wpE defs Variants.none c none) E
        (body b off1 off2 inb1 pk inb2 pay1 pay2 arg3 arg4 arg5 arg6 arg7 arg8 arg9 arg10 harg10 st) K := by
  unfold body
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_full]
    rw [Keep.readAt_tile _ _ hi ho2, Memref.IsWhole.read_unread, Keep.load harg7, Keep.load harg8]
  iexists _; isplitr; · ipureintro; exact harg10.read_unread _
  iexact HS0

set_option maxHeartbeats 1000000 in
/-- The body at point `n` of a walk whose sequences take `P` points: from a scratch that holds what the running sequence has
    stored, the block becomes the product of the rows stored for this row tile, and the scratch holds what it should after. -/
theorem point {P n : ℕ} (hP : 8 ∣ P) (h0 : 8 ≤ P) (hb : b = 1#1 ↔ n % P < 8) (hin : i = n % 8) (H : ℕ → Vec F Tile .bf16) (hH : H n = pay1 x0 x1 x2 x3)
    (E : Set ℕ) (K : PUnit → sProp 𝕄) :
    iprop((∃ s, ⌜Keep.Kept P H n s⌝ ∗ owns (c : Thread nD τ) arg10 fullShare s)
        ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop((∃ s, ⌜Keep.Kept P H (n + 1) s⌝ ∗ owns (c : Thread nD τ) arg10 fullShare s)
            ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (pay2 (H (Keep.first P n)) x4 x5)) -∗ K ⟨⟩))
      ⊢ wp frame (wpE defs Variants.none c none) E
        (body b off1 off2 inb1 pk inb2 pay1 pay2 arg3 arg4 arg5 arg6 arg7 arg8 arg9 arg10 harg10 st) K := by
  subst hin
  by_cases h8 : n % P < 8
  · rw [Keep.first_self hP h8, hH]
    iintro ⟨⟨%s, %hs, HS0⟩, H0, H1, H2, H3, H4, H5, H6, Hk⟩
    iapply (run_first b off1 off2 inb1 pk inb2 pay1 pay2 arg3 arg4 arg5 arg6 arg7 arg8 arg9 arg10 harg10 st defs c harg3 harg4 harg5 harg6 harg7 harg8 hi ho1 ho2 x0 x1 x2 x3 x4 x5 s (hb.mpr h8) E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%s', %hs', HS0⟩⟩
    iapply Hk
    isplitl [HS0]
    · iexists s'; isplitr
      · ipureintro
        exact hs.store hP h8 (hs'.1.trans hH.symm) hs'.2
      iexact HS0
    isplitl [H0]; · iexact H0
    isplitl [H1]; · iexact H1
    isplitl [H2]; · iexact H2
    isplitl [H3]; · iexact H3
    isplitl [H4]; · iexact H4
    isplitl [H5]; · iexact H5
    iexact H6
  · iintro ⟨⟨%s, %hs, HS0⟩, H0, H1, H2, H3, H4, H5, H6, Hk⟩
    rw [← hs.read hP h0 h8]
    iapply (run_later b off1 off2 inb1 pk inb2 pay1 pay2 arg3 arg4 arg5 arg6 arg7 arg8 arg9 arg10 harg10 st defs c harg3 harg4 harg5 harg6 harg7 harg8 hi ho1 ho2 x0 x1 x2 x3 x4 x5 s (fun h => h8 (hb.mp h)) E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    iapply Hk
    isplitl [HS0]
    · iexists s; isplitr
      · ipureintro; exact hs.skip h8
      iexact HS0
    isplitl [H0]; · iexact H0
    isplitl [H1]; · iexact H1
    isplitl [H2]; · iexact H2
    isplitl [H3]; · iexact H3
    isplitl [H4]; · iexact H4
    isplitl [H5]; · iexact H5
    iexact H6

/-! ## The pieces every launch of the body shares -/

/-- The invariant before point `n`: the scratch holds what the running sequence has stored. -/
def inv (P : ℕ) (H : ℕ → Vec F Tile .bf16) (arg10 : Memref sig .tc .vmem All .bf16) (c : Dev nD) (n : ℕ) : sProp 𝕄 :=
  iprop((∃ s : Vec F All .bf16, ⌜Keep.Kept P H n s⌝ ∗ owns (c : Thread nD τ) arg10 fullShare s) ∗ (∃ r, prngReg c r))

omit harg3 harg4 harg5 harg6 harg7 harg8 hi ho1 ho2 in
/-- Any scratch meets the invariant before the first point: nothing is kept yet. -/
theorem enter (P : ℕ) (H : ℕ → Vec F Tile .bf16) : iprop((∃ d, owns (c : Thread nD τ) arg10 fullShare d) ∗ (∃ r, prngReg c r)) ⊢ (inv P H arg10 c 0 : sProp 𝕄) := by
  unfold inv
  iintro ⟨⟨%s, HS0⟩, Hg⟩
  isplitl [HS0]
  · iexists s; isplitr
    · ipureintro; exact Keep.kept_zero _ _ _
    iexact HS0
  iexact Hg

omit harg3 harg4 harg5 harg6 harg7 harg8 hi ho1 ho2 in
/-- The invariant gives the scratch back. -/
theorem leave (P : ℕ) (H : ℕ → Vec F Tile .bf16) (n : ℕ) : (inv P H arg10 c n : sProp 𝕄) ⊢ iprop((∃ d, owns (c : Thread nD τ) arg10 fullShare d) ∗ (∃ r, prngReg c r)) := by
  unfold inv
  iintro ⟨⟨%s, %hs, HS0⟩, Hg⟩
  isplitl [HS0]
  · iexists s; iexact HS0
  iexact Hg

variable {b off1 off2 inb1 pk inb2 pay1 pay2 arg3 arg4 arg5 arg6 arg7 arg8 arg9 arg10 harg10 st x0 x1 x2 x3 x4 x5}

set_option maxHeartbeats 1000000 in
/-- A point of the walk in the form a launch asks for: the windows' blocks whatever the staging buffers held before, and
    `O` for what passes by. -/
theorem sound {P n : ℕ} (hP : 8 ∣ P) (h0 : 8 ≤ P) (hb : b = 1#1 ↔ n % P < 8) (hin : i = n % 8) (H : ℕ → Vec F Tile .bf16) (hH : H n = pay1 x0 x1 x2 x3)
    (O : sProp 𝕄) {D0 D1 D2 D3 D4 D5 D6 : Type} (y : D6 → Vec F Rows e) :
    iprop(inv P H arg10 c n ∗ O ∗ (∃ _d : D0, owns (c : Thread nD τ) arg3 fullShare x0) ∗ (∃ _d : D1, owns (c : Thread nD τ) arg4 fullShare x1) ∗ (∃ _d : D2, owns (c : Thread nD τ) arg5 fullShare x2) ∗ (∃ _d : D3, owns (c : Thread nD τ) arg6 fullShare x3) ∗ (∃ _d : D4, owns (c : Thread nD τ) arg7 fullShare x4) ∗ (∃ _d : D5, owns (c : Thread nD τ) arg8 fullShare x5) ∗ (∃ d : D6, owns (c : Thread nD τ) arg9 fullShare (y d)))
      ⊢ wp frame (wpE defs Variants.none c none) Set.univ
        (body b off1 off2 inb1 pk inb2 pay1 pay2 arg3 arg4 arg5 arg6 arg7 arg8 arg9 arg10 harg10 st)
        (fun _ => iprop(inv P H arg10 c (n + 1) ∗ O ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (pay2 (H (Keep.first P n)) x4 x5))) := by
  unfold inv
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (point b off1 off2 inb1 pk inb2 pay1 pay2 arg3 arg4 arg5 arg6 arg7 arg8 arg9 arg10 harg10 st defs c harg3 harg4 harg5 harg6 harg7 harg8 hi ho1 ho2 x0 x1 x2 x3 x4 x5 hP h0 hb hin H hH Set.univ _)
  isplitl [HS0]; · iexact HS0
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HS0, H0, H1, H2, H3, H4, H5, H6⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end InProj

end
-- ==== Proof.InHgBody.lean ====
/-
  The body of the input projection of HGRN2 as the pipeline runs it, at any float values: what a point leaves in its block
  and in the scratch, the invariant of the scratch over the points, and the frame that follows.
-/
module

public import proofs.«01_k».proof.Proof.InProjRun
public import proofs.«01_k».proof.Proof.Gen.InHgIdeal.Frame
public import proofs.«01_k».proof.Proof.Gen.InHgIdeal.Skeleton
public import Idealize.ShloMosaic.Lib.Claim
public import Idealize.ShloMosaic.Lib.WritesUnit

@[expose] public section

set_option maxRecDepth 16384

noncomputable section

namespace Cert.InHgIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Keep (first)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken on the first column tile of a sequence. -/
theorem first_tile (t : Fin cfg0.N) : k0_cond1 (grid0.coords t) = 1#1 ↔ t.val % 80 < 8 := by
  have ht : t.val < 320 := Nat.lt_of_lt_of_eq t.isLt N_0
  have e1 : (grid0.coords t 1).val = t.val / 8 % 10 := Pipeline.Grid.coords_val t 1 (by decide) rfl
  simp only [k0_cond1, e1]
  have : t.val % 80 < 8 ↔ t.val / 8 % 10 = 0 := by omega
  rw [this]
  word_cmp

abbrev ms0_0 (t : Fin cfg0.N) : Memref sig .tc .vmem S1x1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1x1x1024 .f32 := win0_2.stage (cfg0.slots t 2)
abbrev ms0_3 (t : Fin cfg0.N) : Memref sig .tc .vmem S1x1x1024 .f32 := win0_3.stage (cfg0.slots t 3)
abbrev ms0_4 (t : Fin cfg0.N) : Memref sig .tc .vmem S1024x1024 .bf16 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S1x1024x1024 .f32 := win0_6.stage (cfg0.slots t 6)
abbrev scM0_0 : Memref sig .tc .vmem S8192x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The program's function is the common body. -/
theorem body_eq (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S8192x1024 .bf16) (harg10 : arg10.IsWhole) :
    cc0_in_proj (F := F) i arg3 harg3 arg4 harg4 arg5 harg5 arg6 harg6 arg7 harg7 arg8 harg8 arg9 harg9 arg10 harg10
      = InProj.body (k0_cond1 i) (k0_off1 i) (k0_off2 i) (k0_off1_inb i) (k0_off1_packedbf16 i) (k0_off2_inb i) k0_pay1 k0_pay2 arg3 arg4 arg5 arg6 arg7 arg8 arg9 arg10 harg10
          (View.stores_vmem_bits_univ h_S1x1024x1024 rfl) := by
  simp only [cc0_in_proj_eq_skeleton]
  rfl

/-! ## The pipeline's proof data -/

/-- The row-tile coordinate of a point. -/
theorem coord_row (t : Fin cfg0.N) : (grid0.coords t 2).val = t.val % 8 := by
  have e : (grid0.coords t 2).val = t.val / 1 % 8 := Pipeline.Grid.coords_val t 2 (by decide) rfl
  rwa [Nat.div_one] at e

/-- A point of the grid by its number. -/
def pt (t : ℕ) : Fin cfg0.N := ⟨t % 320, (Nat.mod_lt t (by omega)).trans_eq N_0.symm⟩

theorem pt_val (t : Fin cfg0.N) : pt t.val = t :=
  Fin.ext (Nat.mod_eq_of_lt (Nat.lt_of_lt_of_eq t.isLt N_0))

/-- The normed and modulated rows that point `t` would store: its row tile of `x` over the root mean square, by the gain,
    by one plus the sequence's scale, plus its shift. -/
def rows (c : Dev nD) (t : ℕ) : S1024x1024.Idx → Elt F .bf16 :=
  k0_pay1 (iblk m c 0 (pt t)) (iblk m c 1 (pt t)) (iblk m c 2 (pt t)) (iblk m c 3 (pt t))

/-- What point `t` leaves in its output block: the rows its sequence stored for this row tile, by the weight's column tile. -/
def out (c : Dev nD) (t : Fin cfg0.N) : Vec F S1x1024x1024 .f32 :=
  k0_pay2 (rows m c (first 80 t.val)) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
  Φ t := InProj.inv 80 (rows m c) scM0_0 c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the common body's walk, with these blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6, body_eq]
  exact InProj.sound (P := 80) (n := t.val) _ c (hstage0_0 _) (hstage0_1 _) (hstage0_2 _) (hstage0_3 _) (hstage0_4 _) (hstage0_5 _)
    (grid0.coords t 2).isLt (k0_off1_eq _) (k0_off2_eq _) (by decide) (by decide) (first_tile t) (coord_row t) (rows m c) (by rw [rows, pt_val]) _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [PhiA0_eq]; exact InProj.enter _ c 80 (rows m c)

/-- and after the last point the region gives it back. -/
theorem hout (c : Dev nD) : (dats m 0 c).Φ (Fin.last cfg0.N) ⊢ Pipeline.ΦA spec0 c := by
  rw [PhiA0_eq]; exact InProj.leave _ c 80 (rows m c) cfg0.N

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InHgIdeal.Gen

end
-- ==== Proof.InProj.lean ====
/-
  The value of one element of an input projection, and the pieces of it that do not depend on the layer projected for.
-/
module

public import proofs.«01_k».proof.Proof.InHgBody
public import Idealize.ShloMosaic.Lib.Pointwise

@[expose] public section

noncomputable section

namespace InProj

open Idealize.ShloMosaic

/-- Column `k` of the row that enters the projection: the row over its root mean square, by the gain `g`, by one plus the
    scale `s`, plus the shift `h`. -/
def normed (x g s h : Fin 1024 → EReal) (k : Fin 1024) : EReal :=
  x k * Ideal.rsqrt (Ideal.div (∑ y : Fin 1024, x y * x y) (Ideal.ofBits FTy.f32 1149239296#32) + Ideal.ofBits FTy.f32 897988541#32) * g k
    * (1 + s k) + h k

/-- One element of the result: the row by a column of the weight, plus the bias. -/
def inVal (x g s h w : Fin 1024 → EReal) (b : EReal) : EReal := (∑ k, normed x g s h k * w k) + b

/-! ## The launch's reshapes, read at one element -/

theorem row_apply (v : FVec Ideal ⟨1, ![1024]⟩ .f32) (h) (k : Fin 1024) : shapeCast Row v h (ix2 0 k) = v (ix1 k) := by
  pointwise

theorem seq_apply (v : FVec Ideal ⟨2, ![4, 1024]⟩ .f32) (h) (b : Fin 4) (k : Fin 1024) :
    shapeCast ⟨3, ![4, 1, 1024]⟩ v h (ix3 b 0 k) = v (ix2 b k) := by
  pointwise

/-! ## Where a block's element lies in its array

A window's block `I` of sizes `s` holds, in place `y`, the array's element `I * s + y` of every axis. -/

theorem place2 {n0 n1 : ℕ} {j : (⟨2, ![n0, n1]⟩ : Shape).Idx} {I : Fin 2 → ℕ} {p q : ℕ} (hI : I = ![p, q]) {s0 s1 y0 y1 : ℕ}
    (e0 : (j 0).val = I 0 * s0 + 1 * y0) (e1 : (j 1).val = I 1 * s1 + 1 * y1) {u : Fin n0} {v : Fin n1}
    (h0 : p * s0 + y0 = u.val) (h1 : q * s1 + y1 = v.val) : j = ix2 u v := by
  subst hI
  rw [Nat.one_mul] at e0 e1
  funext a; apply Fin.ext
  match a with
  | ⟨0, _⟩ => exact e0.trans h0
  | ⟨1, _⟩ => exact e1.trans h1

theorem place3 {n0 n1 n2 : ℕ} {j : (⟨3, ![n0, n1, n2]⟩ : Shape).Idx} {I : Fin 3 → ℕ} {p q r : ℕ} (hI : I = ![p, q, r]) {s0 s1 s2 y0 y1 y2 : ℕ}
    (e0 : (j 0).val = I 0 * s0 + 1 * y0) (e1 : (j 1).val = I 1 * s1 + 1 * y1) (e2 : (j 2).val = I 2 * s2 + 1 * y2)
    {u : Fin n0} {v : Fin n1} {w : Fin n2} (h0 : p * s0 + y0 = u.val) (h1 : q * s1 + y1 = v.val) (h2 : r * s2 + y2 = w.val) : j = ix3 u v w := by
  subst hI
  rw [Nat.one_mul] at e0 e1 e2
  funext a; apply Fin.ext
  match a with
  | ⟨0, _⟩ => exact e0.trans h0
  | ⟨1, _⟩ => exact e1.trans h1
  | ⟨2, _⟩ => exact e2.trans h2

/-- An index lies in the block that its quotients name. -/
theorem within {n : ℕ} (I s x : Fin n → ℕ) (hs : ∀ a, 0 < s a) (h : ∀ a, I a = x a / s a) : ∀ a, I a * s a ≤ x a ∧ x a < I a * s a + s a := by
  intro a
  rw [h a]
  exact ⟨Nat.div_mul_le_self _ _, Nat.lt_div_mul_add (hs a)⟩

/-- The point that stored the rows that point `t` multiplies is on the first column tile, of `t`'s sequence and row tile. -/
theorem first_facts {P t : ℕ} (hP : 8 ∣ P) (h0 : 8 ≤ P) :
    Keep.first P t % P < 8 ∧ Keep.first P t / P = t / P ∧ Keep.first P t % 8 = t % 8 := by
  have h8 : t % 8 < 8 := Nat.mod_lt _ (by omega)
  have hl : t % 8 < P := by omega
  unfold Keep.first
  refine ⟨?_, ?_, ?_⟩
  · rw [Nat.mul_add_mod, Nat.mod_eq_of_lt hl]; exact h8
  · rw [Nat.mul_add_div (by omega), Nat.div_eq_of_lt hl, Nat.add_zero]
  · obtain ⟨q, rfl⟩ := hP
    rw [Nat.mul_assoc, Nat.mul_add_mod, Nat.mod_mod]

end InProj
end
-- ==== Proof.InHgValue.lean ====
/-
  The value of HGRN2's input projection: what one block of the kernel holds, what the reference holds at the same place,
  and that both are the same expression of the arguments' elements.  The kernel norms a row tile once per sequence, on the
  first column tile, and reads it back from its scratch on the others.
-/
module

public import proofs.«01_k».proof.Proof.InProj
public import proofs.«01_k».proof.Proof.Gen.InHg.Frame
public import proofs.«01_k».proof.Proof.Gen.InHgRefIdeal.Run
public import proofs.«01_k».proof.Proof.Gen.InHgRefIdeal.Read
public import proofs.«01_k».proof.Defs

@[expose] public section

noncomputable section

namespace InHg

open Idealize.ShloMosaic Idealize.SL.Sem InProj

/-! ## One block of the kernel -/

section Block
open Cert.InHgIdeal Cert.InHgIdeal.Gen

/-- The block's element at row `r`, column `c`. -/
theorem block_apply (x0 : Vec Ideal S1x1024x1024 .f32) (x1 : Vec Ideal S1x1024 .f32) (x2 x3 : Vec Ideal S1x1x1024 .f32)
    (x4 : Vec Ideal S1024x1024 .bf16) (x5 : Vec Ideal S1x1024 .f32) (r : Fin 1024) (c : Fin 1024) :
    k0_pay2 (k0_pay1 x0 x1 x2 x3) x4 x5 (ix3 0 r c)
      = inVal (fun k => x0 (ix3 0 r k)) (fun k => x1 (ix2 0 k)) (fun k => x2 (ix3 0 0 k)) (fun k => x3 (ix3 0 0 k)) (fun k => x4 (ix2 k c)) (x5 (ix2 0 c)) := by
  pointwise [k0_pay2, k0_pay1, dot_S1024x1024_S1024x1024_S1024x1024_1_0_0_1_n_n]
  rfl

end Block

/-! ## The reference -/

section Reference
open Cert.InHgRefIdeal Cert.InHgRefIdeal.Read

theorem ref_apply (x0 : Vec Ideal S4x8192x1024 .f32) (x1 : Vec Ideal S1024 .f32) (x2 x3 : Vec Ideal S4x1024 .f32) (x4 : Vec Ideal S1024x10240 .f32)
    (b : Fin 4) (n : Fin 8192) (c : Fin 10240) :
    val_main_v21 x0 x1 x2 x3 x4 (ix3 b n c)
      = inVal (fun k => x0 (ix3 b n k)) (fun k => x1 (ix1 k)) (fun k => x2 (ix2 b k)) (fun k => x3 (ix2 b k)) (fun k => x4 (ix2 k c)) 0 := by
  unfold inVal
  rw [add_zero]
  pointwise [val_main_v0, val_main_cst, val_main_v1, val_main_v2, val_main_cst_0, val_main_v3, val_main_v4, val_main_cst_1, val_main_v5, val_main_v6, val_main_v7, val_main_v8, val_main_v9, val_main_v10,
    val_main_v11, val_main_v12, val_main_v13, val_main_cst_2, val_main_v14, val_main_v15, val_main_v16, val_main_v17, val_main_v18, val_main_v19, val_main_v20, val_main_v21, dot_S4x8192x1024_S1024x10240_S4x8192x10240_2_0_01_1_n_n]
  rfl

end Reference

/-! ## The kernel's array is the reference's -/

section Whole
open Cert.InHgIdeal Cert.InHgIdeal.Gen Idealize.ShloMosaic.TcCoe

variable (m : (ℓ : Loc nD τ sig) → Buf (Elt Ideal) ℓ) (ρ : Dev nD → PrngReg) (c : Dev nD)

/-- The projection's weight as the region finds it. -/
theorem V_w : V m c main_v0 = (truncf .bf16 (m ((c : Thread nD τ).loc main_arg4) : FVec Ideal S1024x10240 .f32) bitsLt_bf16_f32 : FVec Ideal S1024x10240 .bf16) := by
  simp only [V, hostOps0, List.flatten_cons, List.flatten_nil, List.append_nil, List.cons_append, List.nil_append]
  after_results_simp <;> rfl

/-- The norm's gain as the region finds it: the argument as a row. -/
theorem V_g : V m c main_v2 = shapeCast S1x1024 (m ((c : Thread nD τ).loc main_arg1)) shapeCasts_S1024_S1x1024 := by
  simp only [V, hostOps0, List.flatten_cons, List.flatten_nil, List.append_nil, List.cons_append, List.nil_append]
  after_results_simp <;> rfl

/-- The scale as the region finds it. -/
theorem V_s : V m c main_v3 = shapeCast S4x1x1024 (m ((c : Thread nD τ).loc main_arg2)) shapeCasts_S4x1024_S4x1x1024 := by
  simp only [V, hostOps0, List.flatten_cons, List.flatten_nil, List.append_nil, List.cons_append, List.nil_append]
  after_results_simp <;> rfl

/-- The shift as the region finds it. -/
theorem V_h : V m c main_v4 = shapeCast S4x1x1024 (m ((c : Thread nD τ).loc main_arg3)) shapeCasts_S4x1024_S4x1x1024 := by
  simp only [V, hostOps0, List.flatten_cons, List.flatten_nil, List.append_nil, List.cons_append, List.nil_append]
  after_results_simp <;> rfl

/-- The bias as the region finds it: zeros. -/
theorem V_b : V m c main_v5 = shapeCast S1x10240 (broadcastInDim S10240 ![] bcast_S_S10240 (constant (F := Ideal) S_ .f32 0x00000000#32)) shapeCasts_S10240_S1x10240 := by
  simp only [V, hostOps0, List.flatten_cons, List.flatten_nil, List.append_nil, List.cons_append, List.nil_append]
  after_results_simp <;> rfl

theorem bias_apply (k : Fin 10240) :
    shapeCast S1x10240 (broadcastInDim S10240 ![] bcast_S_S10240 (constant (F := Ideal) S_ .f32 0x00000000#32)) shapeCasts_S10240_S1x10240 (ix2 0 k) = (0 : EReal) := by
  pointwise

/-- The block indices of every window at every point. -/
theorem idx_facts : ∀ t : Fin cfg0.N, win0_6.index t = ![t.val / 80, t.val % 8, t.val / 8 % 10] ∧ win0_1.index t = ![0, 0]
    ∧ win0_2.index t = ![t.val / 80, 0, 0] ∧ win0_3.index t = ![t.val / 80, 0, 0]
    ∧ win0_4.index t = ![0, t.val / 8 % 10] ∧ win0_5.index t = ![0, t.val / 8 % 10] :=
  (by decide +kernel : ∀ t : Fin grid0.N, _)

/-- The rows' block index on a sequence's first column tile. -/
theorem idx_x : ∀ t : Fin cfg0.N, t.val % 80 < 8 → win0_0.index t = ![t.val / 80, t.val % 8, 0] :=
  (by decide +kernel : ∀ t : Fin grid0.N, _)

/-- The reference's result as a function of the kernel's launch memory. -/
def G : Buf (Elt Ideal) ((c : Thread nD τ).loc main_v6) :=
  Cert.InHgRefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

variable (t : Fin cfg0.N)

theorem lt_N : t.val < 320 := Nat.lt_of_lt_of_eq t.isLt N_0

/-- The sequence a point works on. -/
abbrev bOf : Fin 4 := ⟨t.val / 80, by have := lt_N t; omega⟩
/-- The token in row `r` of a point's block. -/
abbrev nOf (r : Fin 1024) : Fin 8192 := ⟨t.val % 8 * 1024 + r.val, by omega⟩
/-- The column in place `l` of a point's block. -/
abbrev cOf (l : Fin 1024) : Fin 10240 := ⟨t.val / 8 % 10 * 1024 + l.val, by omega⟩

theorem blk_x (ht : t.val % 80 < 8) (r : Fin 1024) (k : Fin 1024) : iblk m c 0 t (ix3 0 r k) = m ((c : Thread nD τ).loc main_arg0) (ix3 (bOf t) (nOf t r) k) :=
  (congrArg (V m c main_arg0) (place3 (idx_x t ht) rfl rfl rfl (by simp) (by simp) (by simp))).trans (congrFun (V_main_arg0 m c) _)

theorem blk_g (k : Fin 1024) : iblk m c 1 t (ix2 0 k) = m ((c : Thread nD τ).loc main_arg1) (ix1 k) :=
  (congrArg (V m c main_v2) (place2 (idx_facts t).2.1 rfl rfl (by simp) (by simp))).trans ((congrFun (V_g m c) _).trans (row_apply _ _ k))

theorem blk_s (k : Fin 1024) : iblk m c 2 t (ix3 0 0 k) = m ((c : Thread nD τ).loc main_arg2) (ix2 (bOf t) k) :=
  (congrArg (V m c main_v3) (place3 (idx_facts t).2.2.1 rfl rfl rfl (by simp) (by simp) (by simp))).trans ((congrFun (V_s m c) _).trans (seq_apply _ _ (bOf t) k))

theorem blk_h (k : Fin 1024) : iblk m c 3 t (ix3 0 0 k) = m ((c : Thread nD τ).loc main_arg3) (ix2 (bOf t) k) :=
  (congrArg (V m c main_v4) (place3 (idx_facts t).2.2.2.1 rfl rfl rfl (by simp) (by simp) (by simp))).trans ((congrFun (V_h m c) _).trans (seq_apply _ _ (bOf t) k))

theorem blk_w (k l : Fin 1024) : iblk m c 4 t (ix2 k l) = m ((c : Thread nD τ).loc main_arg4) (ix2 k (cOf t l)) :=
  (congrArg (V m c main_v0) (place2 (idx_facts t).2.2.2.2.1 rfl rfl (by simp) (by simp))).trans (congrFun (V_w m c) _)

theorem blk_b (l : Fin 1024) : iblk m c 5 t (ix2 0 l) = (0 : EReal) :=
  (congrArg (V m c main_v5) (place2 (idx_facts t).2.2.2.2.2 rfl rfl (by simp) (by simp))).trans ((congrFun (V_b m c) _).trans (bias_apply (cOf t l)))

/-- The point that stored the rows point `t` multiplies. -/
abbrev stored : Fin cfg0.N := pt (Keep.first 80 t.val)

theorem stored_facts : (stored t).val % 80 < 8 ∧ bOf (stored t) = bOf t ∧ ∀ r, nOf (stored t) r = nOf t r := by
  have e : (stored t).val = Keep.first 80 t.val := Nat.mod_eq_of_lt ((Keep.first_le (by decide)).trans_lt (lt_N t))
  obtain ⟨h8, hb, hn⟩ := first_facts (P := 80) (t := t.val) (by decide) (by decide)
  rw [← e] at h8 hb hn
  exact ⟨h8, Fin.ext hb, fun r => Fin.ext (congrArg (· * 1024 + r.val) hn)⟩

/-- One element of what point `t` leaves in its block. -/
theorem out_apply (r k : Fin 1024) : out m c t (ix3 0 r k) = G m c (ix3 (bOf t) (nOf t r) (cOf t k)) := by
  obtain ⟨h8, hb, hn⟩ := stored_facts t
  unfold G out rows
  rw [ref_apply, block_apply]
  simp only [blk_x m c _ h8, blk_g, blk_s, blk_h, blk_w, blk_b, hb, hn]

/-- What a point writes back is its block of the reference's result. -/
theorem flushed_eq : (dats m 0 c).flushed 6 t = ((cfg0.win 6).blk t).view.read (Elt Ideal) (G m c) := by
  show (cfg0.win 6).cut (grid0.coords t) ((dats m 0 c).after 6 t) = _
  rw [after0_6]
  funext y
  obtain ⟨u, r, k, rfl⟩ : ∃ (u : Fin 1) (r : Fin 1024) (k : Fin 1024), y = ix3 u r k := ⟨y 0, y 1, y 2, eq_ix3 y⟩
  obtain rfl : u = 0 := Subsingleton.elim _ _
  exact (out_apply m c t r k).trans (congrArg (G m c) (place3 (idx_facts t).1 rfl rfl rfl (by simp) (by simp) (by simp)).symm)

/-- Every element of the array lies in some point's block. -/
theorem covered (i : S4x8192x10240.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 10240 := (i 2).isLt
  obtain ⟨t, ht⟩ : ∃ t : Fin cfg0.N, t.val = 80 * (i 0).val + 8 * ((i 2).val / 1024) + (i 1).val / 1024 :=
    ⟨⟨80 * (i 0).val + 8 * ((i 2).val / 1024) + (i 1).val / 1024, Nat.lt_of_lt_of_eq (by omega) N_0.symm⟩, rfl⟩
  refine ⟨t, (by decide +kernel : ∀ t : Fin grid0.N, win0_6.flush t = true) t, ?_⟩
  show i ∈ ((View.whole main_v6).slice (win0_6.rect t)).set
  rw [View.set_slice_whole, Rect.mem_set_unit]
  refine within _ win0_6.size (fun a => (i a).val) (by decide) fun a => ?_
  rw [(idx_facts t).1]
  match a with
  | ⟨0, _⟩ => show t.val / 80 = (i 0).val / 1; omega
  | ⟨1, _⟩ => show t.val % 8 = (i 1).val / 1024; omega
  | ⟨2, _⟩ => show t.val / 8 % 10 = (i 2).val / 1024; omega

/-- The kernel's array after the run is the reference's result. -/
theorem final : (dats m 0 c).arrAt 6 cfg0.N = G m c :=
  (dats m 0 c).arrAt_eq_of_cover 6 _ (fun t _ => flushed_eq m c t) covered

/-- The kernel's run: the result is the reference's, the arguments are as launched. -/
theorem run : θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hv : θ_run defs (onTc (τ := τ) (main (F := Ideal))) ⟨m, fun _ => 0, ρ⟩ (fun r => ∀ c : Dev nD, r.2.mem ((c.tc : Thread nD τ).loc main_v6) = G m c) :=
    (θ_run defs _ _).mono (fun r h c => ((h c).1 6).trans (final m c)) (run_main m ρ)
  (θ_run defs _ _).mono (fun r h c => ⟨h.1 c, h.2 c⟩) (θ_run_and hv (frame_of m ρ (dats m) (A_eq m) (run_main m ρ)))

end Whole

/-! ## The claims -/

section Claims
open Cert.InHgIdeal Cert.InHgIdeal.Gen Idealize.ShloMosaic.TcCoe

/-- From memories that agree on the arguments, the kernel and the reference end with the same result. -/
theorem equal : Cert.algebraic_InHgIdeal_InHgRefIdeal := by
  intro m ρ m' ρ' _ hag
  refine ⟨fun c => G m c, run m ρ, ?_⟩
  refine (θ_run _ _ _).mono (fun _ h c => ⟨(h c).1.trans ?_, (h c).2⟩) (Cert.InHgRefIdeal.Value.run m' ρ')
  obtain ⟨h0, h1, h2, h3, h4⟩ := hag c
  rw [Cert.InHgRefIdeal.Read.val_main_v21_eq, h0, h1, h2, h3, h4]
  rfl

end Claims

/-! ## The frame of the program as printed

The printed program and its ideal have the same text, so the frame proved for any float values serves both. -/

section Printed

/-- Both body tables run the same function at their one label. -/
theorem bodies_eq : Cert.InHg.defs₀ (F := Bits) = Cert.InHgIdeal.defs₀ := by
  unfold Cert.InHg.defs₀ Cert.InHgIdeal.defs₀
  refine congrArg Defs.onTc ?_
  funext l a
  match l, a with
  | 0, (t, s) => rfl
  | ⟨_ + 1, h⟩, _ => exact absurd h (Nat.not_lt.2 (Nat.le_add_left _ _))

theorem frame : Cert.quiescent_InHg := by
  intro m ρ _
  rw [show Cert.InHg.defs (F := Bits) = Cert.InHgIdeal.defs from congrArg (Pipeline.defs (Cert.InHgIdeal.pcfgs (F := Bits))) bodies_eq]
  exact Cert.InHgIdeal.Gen.frame (F := Bits) m ρ

end Printed

end InHg
end
-- ==== Proof.InHyBody.lean ====
/-
  The launch of Hyena's input projection, at any float values: the common body's walk over eight column tiles of each
  sequence, its blocks in bf16, and the frame that follows.
-/
module

public import proofs.«01_k».proof.Proof.InHgValue
public import proofs.«01_k».proof.Proof.Gen.InHyIdeal.Frame
public import proofs.«01_k».proof.Proof.Gen.InHyIdeal.Skeleton

@[expose] public section

set_option maxRecDepth 16384

noncomputable section

namespace Cert.InHyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Keep (first)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken on a sequence's first eight points of its 64. -/
theorem first_tile (t : Fin cfg0.N) : k0_cond1 (grid0.coords t) = 1#1 ↔ t.val % 64 < 8 := by
  have e1 : (grid0.coords t 1).val = t.val / 8 % 8 := Pipeline.Grid.coords_val t 1 (by decide) rfl
  simp only [k0_cond1, e1]
  rw [show t.val % 64 < 8 ↔ t.val / 8 % 8 = 0 by omega]
  word_cmp

/-- The row-tile coordinate of a point. -/
theorem coord_row (t : Fin cfg0.N) : (grid0.coords t 2).val = t.val % 8 :=
  (Pipeline.Grid.coords_val t 2 (by decide) rfl : _ = t.val / 1 % 8).trans (by rw [Nat.div_one])

/-- A point of the grid by its number. -/
def pt (t : ℕ) : Fin cfg0.N := ⟨t % 256, (Nat.mod_lt t (by omega)).trans_eq N_0.symm⟩

theorem pt_val (t : Fin cfg0.N) : pt t.val = t := Fin.ext (Nat.mod_eq_of_lt (Nat.lt_of_lt_of_eq t.isLt N_0))

/-- The scratch of normed rows. -/
abbrev keep0 : Memref sig .tc .vmem S8192x1024 .bf16 := Memref.whole cc0_scratch0

theorem PhiA0_eq (c : Dev nD) :
    (Pipeline.ΦA spec0 c : sProp 𝕄) = iprop(iprop((∃ d, owns (c : Thread nD τ) keep0 fullShare d)) ∗ (∃ r, prngReg c r)) := by
  unfold Pipeline.ΦA; rw [scopedRest0_eq]; simp only [keep0, owns_whole]; try rfl

/-- A point runs the common body on its blocks. -/
theorem body_eq (t : Fin cfg0.N) : bodyAt0 (F := F) t
    = InProj.body (k0_cond1 (grid0.coords t)) (k0_off1 (grid0.coords t)) (k0_off2 (grid0.coords t)) (k0_off1_inb _) (k0_off1_packedbf16 _) (k0_off2_inb _)
        k0_pay1 k0_pay2 (win0_0.stage (cfg0.slots t 0)) (win0_1.stage (cfg0.slots t 1)) (win0_2.stage (cfg0.slots t 2)) (win0_3.stage (cfg0.slots t 3))
        (win0_4.stage (cfg0.slots t 4)) (win0_5.stage (cfg0.slots t 5)) (win0_6.stage (cfg0.slots t 6)) keep0 (Memref.isWhole_whole _)
        (View.stores_vmem h_S1x1024x1024 ((hstage0_6 _).storeExact_slice rfl _ packedbf16_S1x1024x1024_S1x1024x1024_0_0_0) (fun _ => rfl)) := by
  unfold bodyAt0
  rw [cc0_in_proj_eq_skeleton]
  rfl

/-- The normed and modulated rows that point `t` would store. -/
def rows (c : Dev nD) (t : ℕ) : S1024x1024.Idx → Elt F .bf16 :=
  k0_pay1 (iblk m c 0 (pt t)) (iblk m c 1 (pt t)) (iblk m c 2 (pt t)) (iblk m c 3 (pt t))

/-- What point `t` leaves in its output block: the stored rows by the weight's column tile, plus the bias. -/
def out (c : Dev nD) (t : Fin cfg0.N) : Vec F S1x1024x1024 .bf16 :=
  k0_pay2 (rows m c (first 64 t.val)) (iblk m c 4 t) (iblk m c 5 t)

/-- The pipeline's proof data: an input's block is left as it came, the output's is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
  Φ t := InProj.inv 64 (rows m c) keep0 c t.val
  q _ := fullShare
  owed _ := 0

theorem A_eq (c : Dev nD) (w : Fin cfg0.W) : (dats m 0 c).A w = V m c (Pipeline.arrRef spec0 w) := by dsimp only [dats]

theorem after0_6 (c : Dev nD) (t : Fin cfg0.N) : (dats m 0 c).after 6 t = out m c t := by dsimp only [dats]

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop(InProj.inv 64 (rows m c) keep0 c (t.val + 1) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (out m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [body_eq]
  exact InProj.sound (P := 64) (n := t.val) _ c (hstage0_0 _) (hstage0_1 _) (hstage0_2 _) (hstage0_3 _) (hstage0_4 _) (hstage0_5 _)
    (grid0.coords t 2).isLt (k0_off1_eq _) (k0_off2_eq _) (by decide) (by decide) (first_tile t) (coord_row t) (rows m c) (by rw [rows, pt_val]) _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [PhiA0_eq]; exact InProj.enter _ c 64 (rows m c)

theorem hout (c : Dev nD) : (dats m 0 c).Φ (Fin.last cfg0.N) ⊢ Pipeline.ΦA spec0 c := by
  rw [PhiA0_eq]; exact InProj.leave _ c 64 (rows m c) cfg0.N

set_option backward.isDefEq.respectTransparency.types false in
set_option maxHeartbeats 800000 in
/-- The run: the arrays end as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.InHyIdeal.Gen

end
-- ==== Proof.InHyValue.lean ====
/-
  The value of Hyena's input projection, which adds a bias and leaves bf16: the kernel's array and the reference's result
  are the same expression of the arguments' elements.
-/
module

public import proofs.«01_k».proof.Proof.InHyBody
public import proofs.«01_k».proof.Proof.Gen.InHy.Frame
public import proofs.«01_k».proof.Proof.Gen.InHyRefIdeal.Run
public import proofs.«01_k».proof.Proof.Gen.InHyRefIdeal.Read

@[expose] public section

noncomputable section

namespace InHy

open Idealize.ShloMosaic Idealize.SL.Sem InProj

section Block
open Cert.InHyIdeal Cert.InHyIdeal.Gen

/-- The block's element at row `r`, column `c`. -/
theorem block_apply (x0 : Vec Ideal S1x1024x1024 .f32) (x1 : Vec Ideal S1x1024 .f32) (x2 x3 : Vec Ideal S1x1x1024 .f32)
    (x4 : Vec Ideal S1024x1024 .bf16) (x5 : Vec Ideal S1x1024 .f32) (r : Fin 1024) (c : Fin 1024) :
    k0_pay2 (k0_pay1 x0 x1 x2 x3) x4 x5 (ix3 0 r c)
      = inVal (fun k => x0 (ix3 0 r k)) (fun k => x1 (ix2 0 k)) (fun k => x2 (ix3 0 0 k)) (fun k => x3 (ix3 0 0 k)) (fun k => x4 (ix2 k c)) (x5 (ix2 0 c)) := by
  pointwise [k0_pay2, k0_pay1, dot_S1024x1024_S1024x1024_S1024x1024_1_0_0_1_n_n]
  rfl

end Block

section Reference
open Cert.InHyRefIdeal Cert.InHyRefIdeal.Read

/-- The reference's element at token `n` of sequence `b`, column `c`. -/
theorem ref_apply (x0 : Vec Ideal S4x8192x1024 .f32) (x1 : Vec Ideal S1024 .f32) (x2 x3 : Vec Ideal S4x1024 .f32) (x4 : Vec Ideal S1024x8192 .f32)
    (x5 : Vec Ideal S8192 .f32) (b : Fin 4) (n : Fin 8192) (c : Fin 8192) :
    val_main_v25 x0 x1 x2 x3 x4 x5 (ix3 b n c)
      = inVal (fun k => x0 (ix3 b n k)) (fun k => x1 (ix1 k)) (fun k => x2 (ix2 b k)) (fun k => x3 (ix2 b k)) (fun k => x4 (ix2 k c)) (x5 (ix1 c)) := by
  pointwise [val_main_v0, val_main_cst, val_main_v1, val_main_v2, val_main_cst_0, val_main_v3, val_main_v4, val_main_cst_1, val_main_v5, val_main_v6, val_main_v7, val_main_v8, val_main_v9, val_main_v10,
    val_main_v11, val_main_v12, val_main_v13, val_main_cst_2, val_main_v14, val_main_v15, val_main_v16, val_main_v17, val_main_v18, val_main_v19, val_main_v20, val_main_v21,
    val_main_v22, val_main_v23, val_main_v24, val_main_v25, dot_S4x8192x1024_S1024x8192_S4x8192x8192_2_0_01_1_n_n]
  rfl

end Reference

section Whole
open Cert.InHyIdeal Cert.InHyIdeal.Gen Idealize.ShloMosaic.TcCoe

variable (m : (ℓ : Loc nD τ sig) → Buf (Elt Ideal) ℓ) (ρ : Dev nD → PrngReg) (c : Dev nD)

/-! ## What the region finds in the arrays the host prepared -/

theorem V_w : V m c main_v0 = (truncf .bf16 (m ((c : Thread nD τ).loc main_arg4) : FVec Ideal S1024x8192 .f32) bitsLt_bf16_f32 : FVec Ideal S1024x8192 .bf16) := by
  simp only [V, hostOps0, List.flatten_cons, List.flatten_nil, List.append_nil, List.cons_append, List.nil_append]
  after_results_simp <;> rfl

theorem V_g : V m c main_v1 = shapeCast S1x1024 (m ((c : Thread nD τ).loc main_arg1)) shapeCasts_S1024_S1x1024 := by
  simp only [V, hostOps0, List.flatten_cons, List.flatten_nil, List.append_nil, List.cons_append, List.nil_append]
  after_results_simp <;> rfl

theorem V_s : V m c main_v2 = shapeCast S4x1x1024 (m ((c : Thread nD τ).loc main_arg2)) shapeCasts_S4x1024_S4x1x1024 := by
  simp only [V, hostOps0, List.flatten_cons, List.flatten_nil, List.append_nil, List.cons_append, List.nil_append]
  after_results_simp <;> rfl

theorem V_h : V m c main_v3 = shapeCast S4x1x1024 (m ((c : Thread nD τ).loc main_arg3)) shapeCasts_S4x1024_S4x1x1024 := by
  simp only [V, hostOps0, List.flatten_cons, List.flatten_nil, List.append_nil, List.cons_append, List.nil_append]
  after_results_simp <;> rfl

theorem V_b : V m c main_v4 = shapeCast S1x8192 (m ((c : Thread nD τ).loc main_arg5)) shapeCasts_S8192_S1x8192 := by
  simp only [V, hostOps0, List.flatten_cons, List.flatten_nil, List.append_nil, List.cons_append, List.nil_append]
  after_results_simp <;> rfl

theorem bias_apply (v : FVec Ideal S8192 .f32) (k : Fin 8192) : shapeCast S1x8192 v shapeCasts_S8192_S1x8192 (ix2 0 k) = v (ix1 k) := by
  pointwise

/-! ## The blocks at a point -/

/-- The block indices of every window at every point. -/
theorem idx_facts : ∀ t : Fin cfg0.N, win0_6.index t = ![t.val / 64, t.val % 8, t.val / 8 % 8] ∧ win0_1.index t = ![0, 0]
    ∧ win0_2.index t = ![t.val / 64, 0, 0] ∧ win0_3.index t = ![t.val / 64, 0, 0]
    ∧ win0_4.index t = ![0, t.val / 8 % 8] ∧ win0_5.index t = ![0, t.val / 8 % 8] :=
  (by decide +kernel : ∀ t : Fin grid0.N, _)

/-- The rows' block index on a sequence's first column tile. -/
theorem idx_x : ∀ t : Fin cfg0.N, t.val % 64 < 8 → win0_0.index t = ![t.val / 64, t.val % 8, 0] :=
  (by decide +kernel : ∀ t : Fin grid0.N, _)

/-- The reference's result as a function of the kernel's launch memory. -/
def G : Buf (Elt Ideal) ((c : Thread nD τ).loc main_v5) :=
  Cert.InHyRefIdeal.Read.val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

variable (t : Fin cfg0.N)

theorem lt_N : t.val < 256 := Nat.lt_of_lt_of_eq t.isLt N_0

/-- The sequence, the token in row `r` and the column in place `l` of a point's block. -/
abbrev bOf : Fin 4 := ⟨t.val / 64, by have := lt_N t; omega⟩
abbrev nOf (r : Fin 1024) : Fin 8192 := ⟨t.val % 8 * 1024 + r.val, by omega⟩
abbrev cOf (l : Fin 1024) : Fin 8192 := ⟨t.val / 8 % 8 * 1024 + l.val, by omega⟩

theorem blk_x (ht : t.val % 64 < 8) (r : Fin 1024) (k : Fin 1024) : iblk m c 0 t (ix3 0 r k) = m ((c : Thread nD τ).loc main_arg0) (ix3 (bOf t) (nOf t r) k) :=
  (congrArg (V m c main_arg0) (place3 (idx_x t ht) rfl rfl rfl (by simp) (by simp) (by simp))).trans (congrFun (V_main_arg0 m c) _)

theorem blk_g (k : Fin 1024) : iblk m c 1 t (ix2 0 k) = m ((c : Thread nD τ).loc main_arg1) (ix1 k) :=
  (congrArg (V m c main_v1) (place2 (idx_facts t).2.1 rfl rfl (by simp) (by simp))).trans ((congrFun (V_g m c) _).trans (row_apply _ _ k))

theorem blk_s (k : Fin 1024) : iblk m c 2 t (ix3 0 0 k) = m ((c : Thread nD τ).loc main_arg2) (ix2 (bOf t) k) :=
  (congrArg (V m c main_v2) (place3 (idx_facts t).2.2.1 rfl rfl rfl (by simp) (by simp) (by simp))).trans ((congrFun (V_s m c) _).trans (seq_apply _ _ (bOf t) k))

theorem blk_h (k : Fin 1024) : iblk m c 3 t (ix3 0 0 k) = m ((c : Thread nD τ).loc main_arg3) (ix2 (bOf t) k) :=
  (congrArg (V m c main_v3) (place3 (idx_facts t).2.2.2.1 rfl rfl rfl (by simp) (by simp) (by simp))).trans ((congrFun (V_h m c) _).trans (seq_apply _ _ (bOf t) k))

theorem blk_w (k l : Fin 1024) : iblk m c 4 t (ix2 k l) = m ((c : Thread nD τ).loc main_arg4) (ix2 k (cOf t l)) :=
  (congrArg (V m c main_v0) (place2 (idx_facts t).2.2.2.2.1 rfl rfl (by simp) (by simp))).trans (congrFun (V_w m c) _)

theorem blk_b (l : Fin 1024) : iblk m c 5 t (ix2 0 l) = m ((c : Thread nD τ).loc main_arg5) (ix1 (cOf t l)) :=
  (congrArg (V m c main_v4) (place2 (idx_facts t).2.2.2.2.2 rfl rfl (by simp) (by simp))).trans ((congrFun (V_b m c) _).trans (bias_apply _ (cOf t l)))

/-- The point that stored the rows point `t` multiplies. -/
abbrev stored : Fin cfg0.N := pt (Keep.first 64 t.val)

theorem stored_facts : (stored t).val % 64 < 8 ∧ bOf (stored t) = bOf t ∧ ∀ r, nOf (stored t) r = nOf t r := by
  have e : (stored t).val = Keep.first 64 t.val := Nat.mod_eq_of_lt ((Keep.first_le (by decide)).trans_lt (lt_N t))
  obtain ⟨h8, hb, hn⟩ := first_facts (P := 64) (t := t.val) (by decide) (by decide)
  rw [← e] at h8 hb hn
  exact ⟨h8, Fin.ext hb, fun r => Fin.ext (congrArg (· * 1024 + r.val) hn)⟩

/-! ## The array -/

/-- One element of what point `t` leaves in its block. -/
theorem out_apply (r k : Fin 1024) : out m c t (ix3 0 r k) = G m c (ix3 (bOf t) (nOf t r) (cOf t k)) := by
  obtain ⟨h8, hb, hn⟩ := stored_facts t
  unfold G out rows
  rw [ref_apply, block_apply]
  simp only [blk_x m c _ h8, blk_g, blk_s, blk_h, blk_w, blk_b, hb, hn]

/-- What a point writes back is its block of the reference's result. -/
theorem flushed_eq : (dats m 0 c).flushed 6 t = ((cfg0.win 6).blk t).view.read (Elt Ideal) (G m c) := by
  show (cfg0.win 6).cut (grid0.coords t) ((dats m 0 c).after 6 t) = _
  rw [after0_6]
  funext y
  obtain ⟨u, r, k, rfl⟩ : ∃ (u : Fin 1) (r : Fin 1024) (k : Fin 1024), y = ix3 u r k := ⟨y 0, y 1, y 2, eq_ix3 y⟩
  obtain rfl : u = 0 := Subsingleton.elim _ _
  exact (out_apply m c t r k).trans (congrArg (G m c) (place3 (idx_facts t).1 rfl rfl rfl (by simp) (by simp) (by simp)).symm)

/-- Every element of the array lies in some point's block. -/
theorem covered (i : S4x8192x8192.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 8192 := (i 2).isLt
  obtain ⟨t, ht⟩ : ∃ t : Fin cfg0.N, t.val = 64 * (i 0).val + 8 * ((i 2).val / 1024) + (i 1).val / 1024 :=
    ⟨⟨_, Nat.lt_of_lt_of_eq (by omega) N_0.symm⟩, rfl⟩
  refine ⟨t, (by decide +kernel : ∀ t : Fin grid0.N, win0_6.flush t = true) t, ?_⟩
  show i ∈ ((View.whole main_v5).slice (win0_6.rect t)).set
  rw [View.set_slice_whole, Rect.mem_set_unit]
  refine within _ win0_6.size (fun a => (i a).val) (by decide) fun a => ?_
  rw [(idx_facts t).1]
  match a with
  | ⟨0, _⟩ => show t.val / 64 = (i 0).val / 1; omega
  | ⟨1, _⟩ => show t.val % 8 = (i 1).val / 1024; omega
  | ⟨2, _⟩ => show t.val / 8 % 8 = (i 2).val / 1024; omega

/-- The kernel's array after the run is the reference's result. -/
theorem final : (dats m 0 c).arrAt 6 cfg0.N = G m c :=
  (dats m 0 c).arrAt_eq_of_cover 6 _ (fun t _ => flushed_eq m c t) covered

/-- The kernel's run: the result is the reference's, the arguments are as launched. -/
theorem run : θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hv : θ_run defs (onTc (τ := τ) (main (F := Ideal))) ⟨m, fun _ => 0, ρ⟩ (fun r => ∀ c : Dev nD, r.2.mem ((c.tc : Thread nD τ).loc main_v5) = G m c) :=
    (θ_run defs _ _).mono (fun r h c => ((h c).1 6).trans (final m c)) (run_main m ρ)
  (θ_run defs _ _).mono (fun r h c => ⟨h.1 c, h.2 c⟩) (θ_run_and hv (frame_of m ρ (dats m) (A_eq m) (run_main m ρ)))

/-! ## The claims -/

/-- From memories that agree on the arguments, the kernel and the reference end with the same result. -/
theorem equal : Cert.algebraic_InHyIdeal_InHyRefIdeal := by
  intro m ρ m' ρ' _ hag
  refine ⟨fun c => G m c, run m ρ, ?_⟩
  refine (θ_run _ _ _).mono (fun _ h c => ⟨(h c).1.trans ?_, (h c).2⟩) (Cert.InHyRefIdeal.Value.run m' ρ')
  obtain ⟨h0, h1, h2, h3, h4, h5⟩ := hag c
  rw [Cert.InHyRefIdeal.Read.val_main_v25_eq, h0, h1, h2, h3, h4, h5]
  rfl

end Whole

section Printed

/-- The printed program and its ideal run the same function at their one label, -/
theorem bodies_eq : Cert.InHy.defs₀ (F := Bits) = Cert.InHyIdeal.defs₀ := by
  unfold Cert.InHy.defs₀ Cert.InHyIdeal.defs₀
  refine congrArg Defs.onTc ?_
  funext l a
  match l, a with
  | 0, (t, s) => rfl
  | ⟨_ + 1, h⟩, _ => exact absurd h (Nat.not_lt.2 (Nat.le_add_left _ _))

/-- so the frame proved for any float values is the printed program's too. -/
theorem frame : Cert.quiescent_InHy := by
  intro m ρ _
  rw [show Cert.InHy.defs (F := Bits) = Cert.InHyIdeal.defs from congrArg (Pipeline.defs (Cert.InHyIdeal.pcfgs (F := Bits))) bodies_eq]
  exact Cert.InHyIdeal.Gen.frame (F := Bits) m ρ

end Printed

end InHy
end
-- ==== Proof.InRtBody.lean ====
/-
  The launch of the retention layer's input projection, at any float values: the common body's walk over six column tiles
  of each sequence, its blocks in bf16, and the frame that follows.
-/
module

public import proofs.«01_k».proof.Proof.InHyValue
public import proofs.«01_k».proof.Proof.Gen.InRtIdeal.Frame
public import proofs.«01_k».proof.Proof.Gen.InRtIdeal.Skeleton

@[expose] public section

set_option maxRecDepth 16384

noncomputable section

namespace Cert.InRtIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Keep (first)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken on a sequence's first eight points of its 48. -/
theorem first_tile (t : Fin cfg0.N) : k0_cond1 (grid0.coords t) = 1#1 ↔ t.val % 48 < 8 := by
  have e1 : (grid0.coords t 1).val = t.val / 8 % 6 := Pipeline.Grid.coords_val t 1 (by decide) rfl
  simp only [k0_cond1, e1]
  rw [show t.val % 48 < 8 ↔ t.val / 8 % 6 = 0 by omega]
  word_cmp

/-- The row-tile coordinate of a point. -/
theorem coord_row (t : Fin cfg0.N) : (grid0.coords t 2).val = t.val % 8 :=
  (Pipeline.Grid.coords_val t 2 (by decide) rfl : _ = t.val / 1 % 8).trans (by rw [Nat.div_one])

/-- A point of the grid by its number. -/
def pt (t : ℕ) : Fin cfg0.N := ⟨t % 192, (Nat.mod_lt t (by omega)).trans_eq N_0.symm⟩

theorem pt_val (t : Fin cfg0.N) : pt t.val = t := Fin.ext (Nat.mod_eq_of_lt (Nat.lt_of_lt_of_eq t.isLt N_0))

/-- The scratch of normed rows. -/
abbrev keep0 : Memref sig .tc .vmem S8192x1024 .bf16 := Memref.whole cc0_scratch0

theorem PhiA0_eq (c : Dev nD) :
    (Pipeline.ΦA spec0 c : sProp 𝕄) = iprop(iprop((∃ d, owns (c : Thread nD τ) keep0 fullShare d)) ∗ (∃ r, prngReg c r)) := by
  unfold Pipeline.ΦA; rw [scopedRest0_eq]; simp only [keep0, owns_whole]; try rfl

/-- A point runs the common body on its blocks. -/
theorem body_eq (t : Fin cfg0.N) : bodyAt0 (F := F) t
    = InProj.body (k0_cond1 (grid0.coords t)) (k0_off1 (grid0.coords t)) (k0_off2 (grid0.coords t)) (k0_off1_inb _) (k0_off1_packedbf16 _) (k0_off2_inb _)
        k0_pay1 k0_pay2 (win0_0.stage (cfg0.slots t 0)) (win0_1.stage (cfg0.slots t 1)) (win0_2.stage (cfg0.slots t 2)) (win0_3.stage (cfg0.slots t 3))
        (win0_4.stage (cfg0.slots t 4)) (win0_5.stage (cfg0.slots t 5)) (win0_6.stage (cfg0.slots t 6)) keep0 (Memref.isWhole_whole _)
        (View.stores_vmem h_S1x1024x1024 ((hstage0_6 _).storeExact_slice rfl _ packedbf16_S1x1024x1024_S1x1024x1024_0_0_0) (fun _ => rfl)) := by
  unfold bodyAt0
  rw [cc0_in_proj_eq_skeleton]
  rfl

/-- The normed and modulated rows that point `t` would store. -/
def rows (c : Dev nD) (t : ℕ) : S1024x1024.Idx → Elt F .bf16 :=
  k0_pay1 (iblk m c 0 (pt t)) (iblk m c 1 (pt t)) (iblk m c 2 (pt t)) (iblk m c 3 (pt t))

/-- What point `t` leaves in its output block: the stored rows by the weight's column tile. -/
def out (c : Dev nD) (t : Fin cfg0.N) : Vec F S1x1024x1024 .bf16 :=
  k0_pay2 (rows m c (first 48 t.val)) (iblk m c 4 t) (iblk m c 5 t)

/-- The pipeline's proof data: an input's block is left as it came, the output's is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
  Φ t := InProj.inv 48 (rows m c) keep0 c t.val
  q _ := fullShare
  owed _ := 0

theorem A_eq (c : Dev nD) (w : Fin cfg0.W) : (dats m 0 c).A w = V m c (Pipeline.arrRef spec0 w) := by dsimp only [dats]

theorem after0_6 (c : Dev nD) (t : Fin cfg0.N) : (dats m 0 c).after 6 t = out m c t := by dsimp only [dats]

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop(InProj.inv 48 (rows m c) keep0 c (t.val + 1) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (out m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [body_eq]
  exact InProj.sound (P := 48) (n := t.val) _ c (hstage0_0 _) (hstage0_1 _) (hstage0_2 _) (hstage0_3 _) (hstage0_4 _) (hstage0_5 _)
    (grid0.coords t 2).isLt (k0_off1_eq _) (k0_off2_eq _) (by decide) (by decide) (first_tile t) (coord_row t) (rows m c) (by rw [rows, pt_val]) _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [PhiA0_eq]; exact InProj.enter _ c 48 (rows m c)

theorem hout (c : Dev nD) : (dats m 0 c).Φ (Fin.last cfg0.N) ⊢ Pipeline.ΦA spec0 c := by
  rw [PhiA0_eq]; exact InProj.leave _ c 48 (rows m c) cfg0.N

set_option backward.isDefEq.respectTransparency.types false in
set_option maxHeartbeats 800000 in
/-- The run: the arrays end as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InRtIdeal.Gen

end
-- ==== Proof.InRtValue.lean ====
/-
  The value of the retention layer's input projection, which has no bias and leaves bf16: the kernel's array and the
  reference's result are the same expression of the arguments' elements.
-/
module

public import proofs.«01_k».proof.Proof.InRtBody
public import proofs.«01_k».proof.Proof.Gen.InRt.Frame
public import proofs.«01_k».proof.Proof.Gen.InRtRefIdeal.Run
public import proofs.«01_k».proof.Proof.Gen.InRtRefIdeal.Read

@[expose] public section

noncomputable section

namespace InRt

open Idealize.ShloMosaic Idealize.SL.Sem InProj

section Block
open Cert.InRtIdeal Cert.InRtIdeal.Gen

/-- The block's element at row `r`, column `c`. -/
theorem block_apply (x0 : Vec Ideal S1x1024x1024 .f32) (x1 : Vec Ideal S1x1024 .f32) (x2 x3 : Vec Ideal S1x1x1024 .f32)
    (x4 : Vec Ideal S1024x1024 .bf16) (x5 : Vec Ideal S1x1024 .f32) (r : Fin 1024) (c : Fin 1024) :
    k0_pay2 (k0_pay1 x0 x1 x2 x3) x4 x5 (ix3 0 r c)
      = inVal (fun k => x0 (ix3 0 r k)) (fun k => x1 (ix2 0 k)) (fun k => x2 (ix3 0 0 k)) (fun k => x3 (ix3 0 0 k)) (fun k => x4 (ix2 k c)) (x5 (ix2 0 c)) := by
  pointwise [k0_pay2, k0_pay1, dot_S1024x1024_S1024x1024_S1024x1024_1_0_0_1_n_n]
  rfl

end Block

section Reference
open Cert.InRtRefIdeal Cert.InRtRefIdeal.Read

/-- The reference's element at token `n` of sequence `b`, column `c`. -/
theorem ref_apply (x0 : Vec Ideal S4x8192x1024 .f32) (x1 : Vec Ideal S1024 .f32) (x2 x3 : Vec Ideal S4x1024 .f32) (x4 : Vec Ideal S1024x6144 .f32)
    (b : Fin 4) (n : Fin 8192) (c : Fin 6144) :
    val_main_v22 x0 x1 x2 x3 x4 (ix3 b n c)
      = inVal (fun k => x0 (ix3 b n k)) (fun k => x1 (ix1 k)) (fun k => x2 (ix2 b k)) (fun k => x3 (ix2 b k)) (fun k => x4 (ix2 k c)) 0 := by
  unfold inVal
  rw [add_zero]
  pointwise [val_main_v0, val_main_cst, val_main_v1, val_main_v2, val_main_cst_0, val_main_v3, val_main_v4, val_main_cst_1, val_main_v5, val_main_v6, val_main_v7, val_main_v8, val_main_v9, val_main_v10,
    val_main_v11, val_main_v12, val_main_v13, val_main_cst_2, val_main_v14, val_main_v15, val_main_v16, val_main_v17, val_main_v18, val_main_v19, val_main_v20, val_main_v21, val_main_v22,
    dot_S4x8192x1024_S1024x6144_S4x8192x6144_2_0_01_1_n_n]
  rfl

end Reference

section Whole
open Cert.InRtIdeal Cert.InRtIdeal.Gen Idealize.ShloMosaic.TcCoe

variable (m : (ℓ : Loc nD τ sig) → Buf (Elt Ideal) ℓ) (ρ : Dev nD → PrngReg) (c : Dev nD)

/-! ## What the region finds in the arrays the host prepared -/

theorem V_w : V m c main_v0 = (truncf .bf16 (m ((c : Thread nD τ).loc main_arg4) : FVec Ideal S1024x6144 .f32) bitsLt_bf16_f32 : FVec Ideal S1024x6144 .bf16) := by
  simp only [V, hostOps0, List.flatten_cons, List.flatten_nil, List.append_nil, List.cons_append, List.nil_append]
  after_results_simp <;> rfl

theorem V_g : V m c main_v2 = shapeCast S1x1024 (m ((c : Thread nD τ).loc main_arg1)) shapeCasts_S1024_S1x1024 := by
  simp only [V, hostOps0, List.flatten_cons, List.flatten_nil, List.append_nil, List.cons_append, List.nil_append]
  after_results_simp <;> rfl

theorem V_s : V m c main_v3 = shapeCast S4x1x1024 (m ((c : Thread nD τ).loc main_arg2)) shapeCasts_S4x1024_S4x1x1024 := by
  simp only [V, hostOps0, List.flatten_cons, List.flatten_nil, List.append_nil, List.cons_append, List.nil_append]
  after_results_simp <;> rfl

theorem V_h : V m c main_v4 = shapeCast S4x1x1024 (m ((c : Thread nD τ).loc main_arg3)) shapeCasts_S4x1024_S4x1x1024 := by
  simp only [V, hostOps0, List.flatten_cons, List.flatten_nil, List.append_nil, List.cons_append, List.nil_append]
  after_results_simp <;> rfl

/-- The bias is a row of zeros. -/
theorem V_b (k : Fin 6144) : V m c main_v5 (ix2 0 k) = (0 : EReal) := by
  have e : V m c main_v5 = shapeCast S1x6144 (broadcastInDim S6144 ![] bcast_S_S6144 (constant (F := Ideal) S_ .f32 0x00000000#32)) shapeCasts_S6144_S1x6144 := by
    simp only [V, hostOps0, List.flatten_cons, List.flatten_nil, List.append_nil, List.cons_append, List.nil_append]
    after_results_simp <;> rfl
  rw [e]
  pointwise

/-! ## The blocks at a point -/

/-- The block indices of every window at every point. -/
theorem idx_facts : ∀ t : Fin cfg0.N, win0_6.index t = ![t.val / 48, t.val % 8, t.val / 8 % 6] ∧ win0_1.index t = ![0, 0]
    ∧ win0_2.index t = ![t.val / 48, 0, 0] ∧ win0_3.index t = ![t.val / 48, 0, 0]
    ∧ win0_4.index t = ![0, t.val / 8 % 6] ∧ win0_5.index t = ![0, t.val / 8 % 6] :=
  (by decide +kernel : ∀ t : Fin grid0.N, _)

/-- The rows' block index on a sequence's first column tile. -/
theorem idx_x : ∀ t : Fin cfg0.N, t.val % 48 < 8 → win0_0.index t = ![t.val / 48, t.val % 8, 0] :=
  (by decide +kernel : ∀ t : Fin grid0.N, _)

/-- The reference's result as a function of the kernel's launch memory. -/
def G : Buf (Elt Ideal) ((c : Thread nD τ).loc main_v6) :=
  Cert.InRtRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

variable (t : Fin cfg0.N)

theorem lt_N : t.val < 192 := Nat.lt_of_lt_of_eq t.isLt N_0

/-- The sequence, the token in row `r` and the column in place `l` of a point's block. -/
abbrev bOf : Fin 4 := ⟨t.val / 48, by have := lt_N t; omega⟩
abbrev nOf (r : Fin 1024) : Fin 8192 := ⟨t.val % 8 * 1024 + r.val, by omega⟩
abbrev cOf (l : Fin 1024) : Fin 6144 := ⟨t.val / 8 % 6 * 1024 + l.val, by omega⟩

theorem blk_x (ht : t.val % 48 < 8) (r : Fin 1024) (k : Fin 1024) : iblk m c 0 t (ix3 0 r k) = m ((c : Thread nD τ).loc main_arg0) (ix3 (bOf t) (nOf t r) k) :=
  (congrArg (V m c main_arg0) (place3 (idx_x t ht) rfl rfl rfl (by simp) (by simp) (by simp))).trans (congrFun (V_main_arg0 m c) _)

theorem blk_g (k : Fin 1024) : iblk m c 1 t (ix2 0 k) = m ((c : Thread nD τ).loc main_arg1) (ix1 k) :=
  (congrArg (V m c main_v2) (place2 (idx_facts t).2.1 rfl rfl (by simp) (by simp))).trans ((congrFun (V_g m c) _).trans (row_apply _ _ k))

theorem blk_s (k : Fin 1024) : iblk m c 2 t (ix3 0 0 k) = m ((c : Thread nD τ).loc main_arg2) (ix2 (bOf t) k) :=
  (congrArg (V m c main_v3) (place3 (idx_facts t).2.2.1 rfl rfl rfl (by simp) (by simp) (by simp))).trans ((congrFun (V_s m c) _).trans (seq_apply _ _ (bOf t) k))

theorem blk_h (k : Fin 1024) : iblk m c 3 t (ix3 0 0 k) = m ((c : Thread nD τ).loc main_arg3) (ix2 (bOf t) k) :=
  (congrArg (V m c main_v4) (place3 (idx_facts t).2.2.2.1 rfl rfl rfl (by simp) (by simp) (by simp))).trans ((congrFun (V_h m c) _).trans (seq_apply _ _ (bOf t) k))

theorem blk_w (k l : Fin 1024) : iblk m c 4 t (ix2 k l) = m ((c : Thread nD τ).loc main_arg4) (ix2 k (cOf t l)) :=
  (congrArg (V m c main_v0) (place2 (idx_facts t).2.2.2.2.1 rfl rfl (by simp) (by simp))).trans (congrFun (V_w m c) _)

theorem blk_b (l : Fin 1024) : iblk m c 5 t (ix2 0 l) = (0 : EReal) :=
  (congrArg (V m c main_v5) (place2 (idx_facts t).2.2.2.2.2 rfl rfl (by simp) (by simp))).trans (V_b m c (cOf t l))

/-- The point that stored the rows point `t` multiplies. -/
abbrev stored : Fin cfg0.N := pt (Keep.first 48 t.val)

theorem stored_facts : (stored t).val % 48 < 8 ∧ bOf (stored t) = bOf t ∧ ∀ r, nOf (stored t) r = nOf t r := by
  have e : (stored t).val = Keep.first 48 t.val := Nat.mod_eq_of_lt ((Keep.first_le (by decide)).trans_lt (lt_N t))
  obtain ⟨h8, hb, hn⟩ := first_facts (P := 48) (t := t.val) (by decide) (by decide)
  rw [← e] at h8 hb hn
  exact ⟨h8, Fin.ext hb, fun r => Fin.ext (congrArg (· * 1024 + r.val) hn)⟩

/-! ## The array -/

/-- One element of what point `t` leaves in its block. -/
theorem out_apply (r k : Fin 1024) : out m c t (ix3 0 r k) = G m c (ix3 (bOf t) (nOf t r) (cOf t k)) := by
  obtain ⟨h8, hb, hn⟩ := stored_facts t
  unfold G out rows
  rw [ref_apply, block_apply]
  simp only [blk_x m c _ h8, blk_g, blk_s, blk_h, blk_w, blk_b, hb, hn]

/-- What a point writes back is its block of the reference's result. -/
theorem flushed_eq : (dats m 0 c).flushed 6 t = ((cfg0.win 6).blk t).view.read (Elt Ideal) (G m c) := by
  show (cfg0.win 6).cut (grid0.coords t) ((dats m 0 c).after 6 t) = _
  rw [after0_6]
  funext y
  obtain ⟨u, r, k, rfl⟩ : ∃ (u : Fin 1) (r : Fin 1024) (k : Fin 1024), y = ix3 u r k := ⟨y 0, y 1, y 2, eq_ix3 y⟩
  obtain rfl : u = 0 := Subsingleton.elim _ _
  exact (out_apply m c t r k).trans (congrArg (G m c) (place3 (idx_facts t).1 rfl rfl rfl (by simp) (by simp) (by simp)).symm)

/-- Every element of the array lies in some point's block. -/
theorem covered (i : S4x8192x6144.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 6144 := (i 2).isLt
  obtain ⟨t, ht⟩ : ∃ t : Fin cfg0.N, t.val = 48 * (i 0).val + 8 * ((i 2).val / 1024) + (i 1).val / 1024 :=
    ⟨⟨_, Nat.lt_of_lt_of_eq (by omega) N_0.symm⟩, rfl⟩
  refine ⟨t, (by decide +kernel : ∀ t : Fin grid0.N, win0_6.flush t = true) t, ?_⟩
  show i ∈ ((View.whole main_v6).slice (win0_6.rect t)).set
  rw [View.set_slice_whole, Rect.mem_set_unit]
  refine within _ win0_6.size (fun a => (i a).val) (by decide) fun a => ?_
  rw [(idx_facts t).1]
  match a with
  | ⟨0, _⟩ => show t.val / 48 = (i 0).val / 1; omega
  | ⟨1, _⟩ => show t.val % 8 = (i 1).val / 1024; omega
  | ⟨2, _⟩ => show t.val / 8 % 6 = (i 2).val / 1024; omega

/-- The kernel's array after the run is the reference's result. -/
theorem final : (dats m 0 c).arrAt 6 cfg0.N = G m c :=
  (dats m 0 c).arrAt_eq_of_cover 6 _ (fun t _ => flushed_eq m c t) covered

/-- The kernel's run: the result is the reference's, the arguments are as launched. -/
theorem run : θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hv : θ_run defs (onTc (τ := τ) (main (F := Ideal))) ⟨m, fun _ => 0, ρ⟩ (fun r => ∀ c : Dev nD, r.2.mem ((c.tc : Thread nD τ).loc main_v6) = G m c) :=
    (θ_run defs _ _).mono (fun r h c => ((h c).1 6).trans (final m c)) (run_main m ρ)
  (θ_run defs _ _).mono (fun r h c => ⟨h.1 c, h.2 c⟩) (θ_run_and hv (frame_of m ρ (dats m) (A_eq m) (run_main m ρ)))

/-! ## The claims -/

/-- From memories that agree on the arguments, the kernel and the reference end with the same result. -/
theorem equal : Cert.algebraic_InRtIdeal_InRtRefIdeal := by
  intro m ρ m' ρ' _ hag
  refine ⟨fun c => G m c, run m ρ, ?_⟩
  refine (θ_run _ _ _).mono (fun _ h c => ⟨(h c).1.trans ?_, (h c).2⟩) (Cert.InRtRefIdeal.Value.run m' ρ')
  obtain ⟨h0, h1, h2, h3, h4⟩ := hag c
  rw [Cert.InRtRefIdeal.Read.val_main_v22_eq, h0, h1, h2, h3, h4]
  rfl

end Whole

section Printed

/-- The printed program and its ideal run the same function at their one label, -/
theorem bodies_eq : Cert.InRt.defs₀ (F := Bits) = Cert.InRtIdeal.defs₀ := by
  unfold Cert.InRt.defs₀ Cert.InRtIdeal.defs₀
  refine congrArg Defs.onTc ?_
  funext l a
  match l, a with
  | 0, (t, s) => rfl
  | ⟨_ + 1, h⟩, _ => exact absurd h (Nat.not_lt.2 (Nat.le_add_left _ _))

/-- so the frame proved for any float values is the printed program's too. -/
theorem frame : Cert.quiescent_InRt := by
  intro m ρ _
  rw [show Cert.InRt.defs (F := Bits) = Cert.InRtIdeal.defs from congrArg (Pipeline.defs (Cert.InRtIdeal.pcfgs (F := Bits))) bodies_eq]
  exact Cert.InRtIdeal.Gen.frame (F := Bits) m ρ

end Printed

end InRt
end
-- ==== Proof.InLruBody.lean ====
/-
  The launch of the linear recurrent layer's input projection, at any float values: the common body's walk over four column
  tiles of each sequence, its blocks in f32, and the frame that follows.
-/
module

public import proofs.«01_k».proof.Proof.InRtValue
public import proofs.«01_k».proof.Proof.Gen.InLruIdeal.Frame
public import proofs.«01_k».proof.Proof.Gen.InLruIdeal.Skeleton

@[expose] public section

set_option maxRecDepth 16384

noncomputable section

namespace Cert.InLruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Keep (first)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken on a sequence's first eight points of its 32. -/
theorem first_tile (t : Fin cfg0.N) : k0_cond1 (grid0.coords t) = 1#1 ↔ t.val % 32 < 8 := by
  have e1 : (grid0.coords t 1).val = t.val / 8 % 4 := Pipeline.Grid.coords_val t 1 (by decide) rfl
  simp only [k0_cond1, e1]
  rw [show t.val % 32 < 8 ↔ t.val / 8 % 4 = 0 by omega]
  word_cmp

/-- The row-tile coordinate of a point. -/
theorem coord_row (t : Fin cfg0.N) : (grid0.coords t 2).val = t.val % 8 :=
  (Pipeline.Grid.coords_val t 2 (by decide) rfl : _ = t.val / 1 % 8).trans (by rw [Nat.div_one])

/-- A point of the grid by its number. -/
def pt (t : ℕ) : Fin cfg0.N := ⟨t % 128, (Nat.mod_lt t (by omega)).trans_eq N_0.symm⟩

theorem pt_val (t : Fin cfg0.N) : pt t.val = t := Fin.ext (Nat.mod_eq_of_lt (Nat.lt_of_lt_of_eq t.isLt N_0))

/-- The scratch of normed rows. -/
abbrev keep0 : Memref sig .tc .vmem S8192x1024 .bf16 := Memref.whole cc0_scratch0

theorem PhiA0_eq (c : Dev nD) :
    (Pipeline.ΦA spec0 c : sProp 𝕄) = iprop(iprop((∃ d, owns (c : Thread nD τ) keep0 fullShare d)) ∗ (∃ r, prngReg c r)) := by
  unfold Pipeline.ΦA; rw [scopedRest0_eq]; simp only [keep0, owns_whole]; try rfl

/-- A point runs the common body on its blocks. -/
theorem body_eq (t : Fin cfg0.N) : bodyAt0 (F := F) t
    = InProj.body (k0_cond1 (grid0.coords t)) (k0_off1 (grid0.coords t)) (k0_off2 (grid0.coords t)) (k0_off1_inb _) (k0_off1_packedbf16 _) (k0_off2_inb _)
        k0_pay1 k0_pay2 (win0_0.stage (cfg0.slots t 0)) (win0_1.stage (cfg0.slots t 1)) (win0_2.stage (cfg0.slots t 2)) (win0_3.stage (cfg0.slots t 3))
        (win0_4.stage (cfg0.slots t 4)) (win0_5.stage (cfg0.slots t 5)) (win0_6.stage (cfg0.slots t 6)) keep0 (Memref.isWhole_whole _)
        (View.stores_vmem_bits_univ h_S1x1024x1024 rfl) := by
  unfold bodyAt0
  rw [cc0_in_proj_eq_skeleton]
  rfl

/-- The normed and modulated rows that point `t` would store. -/
def rows (c : Dev nD) (t : ℕ) : S1024x1024.Idx → Elt F .bf16 :=
  k0_pay1 (iblk m c 0 (pt t)) (iblk m c 1 (pt t)) (iblk m c 2 (pt t)) (iblk m c 3 (pt t))

/-- What point `t` leaves in its output block: the stored rows by the weight's column tile. -/
def out (c : Dev nD) (t : Fin cfg0.N) : Vec F S1x1024x1024 .f32 :=
  k0_pay2 (rows m c (first 32 t.val)) (iblk m c 4 t) (iblk m c 5 t)

/-- The pipeline's proof data: an input's block is left as it came, the output's is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
  Φ t := InProj.inv 32 (rows m c) keep0 c t.val
  q _ := fullShare
  owed _ := 0

theorem A_eq (c : Dev nD) (w : Fin cfg0.W) : (dats m 0 c).A w = V m c (Pipeline.arrRef spec0 w) := by dsimp only [dats]

theorem after0_6 (c : Dev nD) (t : Fin cfg0.N) : (dats m 0 c).after 6 t = out m c t := by dsimp only [dats]

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop(InProj.inv 32 (rows m c) keep0 c (t.val + 1) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (out m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [body_eq]
  exact InProj.sound (P := 32) (n := t.val) _ c (hstage0_0 _) (hstage0_1 _) (hstage0_2 _) (hstage0_3 _) (hstage0_4 _) (hstage0_5 _)
    (grid0.coords t 2).isLt (k0_off1_eq _) (k0_off2_eq _) (by decide) (by decide) (first_tile t) (coord_row t) (rows m c) (by rw [rows, pt_val]) _ _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [PhiA0_eq]; exact InProj.enter _ c 32 (rows m c)

theorem hout (c : Dev nD) : (dats m 0 c).Φ (Fin.last cfg0.N) ⊢ Pipeline.ΦA spec0 c := by
  rw [PhiA0_eq]; exact InProj.leave _ c 32 (rows m c) cfg0.N

set_option backward.isDefEq.respectTransparency.types false in
set_option maxHeartbeats 800000 in
/-- The run: the arrays end as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InLruIdeal.Gen

end
-- ==== Proof.InLruValue.lean ====
/-
  The value of the linear recurrent layer's input projection, which has no bias and stays f32: the kernel's array and the
  reference's result are the same expression of the arguments' elements.
-/
module

public import proofs.«01_k».proof.Proof.InLruBody
public import proofs.«01_k».proof.Proof.Gen.InLru.Frame
public import proofs.«01_k».proof.Proof.Gen.InLruRefIdeal.Run
public import proofs.«01_k».proof.Proof.Gen.InLruRefIdeal.Read

@[expose] public section

noncomputable section

namespace InLru

open Idealize.ShloMosaic Idealize.SL.Sem InProj

section Block
open Cert.InLruIdeal Cert.InLruIdeal.Gen

/-- The block's element at row `r`, column `c`. -/
theorem block_apply (x0 : Vec Ideal S1x1024x1024 .f32) (x1 : Vec Ideal S1x1024 .f32) (x2 x3 : Vec Ideal S1x1x1024 .f32)
    (x4 : Vec Ideal S1024x1024 .bf16) (x5 : Vec Ideal S1x1024 .f32) (r : Fin 1024) (c : Fin 1024) :
    k0_pay2 (k0_pay1 x0 x1 x2 x3) x4 x5 (ix3 0 r c)
      = inVal (fun k => x0 (ix3 0 r k)) (fun k => x1 (ix2 0 k)) (fun k => x2 (ix3 0 0 k)) (fun k => x3 (ix3 0 0 k)) (fun k => x4 (ix2 k c)) (x5 (ix2 0 c)) := by
  pointwise [k0_pay2, k0_pay1, dot_S1024x1024_S1024x1024_S1024x1024_1_0_0_1_n_n]
  rfl

end Block

section Reference
open Cert.InLruRefIdeal Cert.InLruRefIdeal.Read

/-- The reference's element at token `n` of sequence `b`, column `c`. -/
theorem ref_apply (x0 : Vec Ideal S4x8192x1024 .f32) (x1 : Vec Ideal S1024 .f32) (x2 x3 : Vec Ideal S4x1024 .f32) (x4 : Vec Ideal S1024x4096 .f32)
    (b : Fin 4) (n : Fin 8192) (c : Fin 4096) :
    val_main_v21 x0 x1 x2 x3 x4 (ix3 b n c)
      = inVal (fun k => x0 (ix3 b n k)) (fun k => x1 (ix1 k)) (fun k => x2 (ix2 b k)) (fun k => x3 (ix2 b k)) (fun k => x4 (ix2 k c)) 0 := by
  unfold inVal
  rw [add_zero]
  pointwise [val_main_v0, val_main_cst, val_main_v1, val_main_v2, val_main_cst_0, val_main_v3, val_main_v4, val_main_cst_1, val_main_v5, val_main_v6, val_main_v7, val_main_v8, val_main_v9, val_main_v10,
    val_main_v11, val_main_v12, val_main_v13, val_main_cst_2, val_main_v14, val_main_v15, val_main_v16, val_main_v17, val_main_v18, val_main_v19, val_main_v20, val_main_v21,
    dot_S4x8192x1024_S1024x4096_S4x8192x4096_2_0_01_1_n_n]
  rfl

end Reference

section Whole
open Cert.InLruIdeal Cert.InLruIdeal.Gen Idealize.ShloMosaic.TcCoe

variable (m : (ℓ : Loc nD τ sig) → Buf (Elt Ideal) ℓ) (ρ : Dev nD → PrngReg) (c : Dev nD)

/-! ## What the region finds in the arrays the host prepared -/

theorem V_w : V m c main_v0 = (truncf .bf16 (m ((c : Thread nD τ).loc main_arg4) : FVec Ideal S1024x4096 .f32) bitsLt_bf16_f32 : FVec Ideal S1024x4096 .bf16) := by
  simp only [V, hostOps0, List.flatten_cons, List.flatten_nil, List.append_nil, List.cons_append, List.nil_append]
  after_results_simp <;> rfl

theorem V_g : V m c main_v2 = shapeCast S1x1024 (m ((c : Thread nD τ).loc main_arg1)) shapeCasts_S1024_S1x1024 := by
  simp only [V, hostOps0, List.flatten_cons, List.flatten_nil, List.append_nil, List.cons_append, List.nil_append]
  after_results_simp <;> rfl

theorem V_s : V m c main_v3 = shapeCast S4x1x1024 (m ((c : Thread nD τ).loc main_arg2)) shapeCasts_S4x1024_S4x1x1024 := by
  simp only [V, hostOps0, List.flatten_cons, List.flatten_nil, List.append_nil, List.cons_append, List.nil_append]
  after_results_simp <;> rfl

theorem V_h : V m c main_v4 = shapeCast S4x1x1024 (m ((c : Thread nD τ).loc main_arg3)) shapeCasts_S4x1024_S4x1x1024 := by
  simp only [V, hostOps0, List.flatten_cons, List.flatten_nil, List.append_nil, List.cons_append, List.nil_append]
  after_results_simp <;> rfl

/-- The bias is a row of zeros. -/
theorem V_b (k : Fin 4096) : V m c main_v5 (ix2 0 k) = (0 : EReal) := by
  have e : V m c main_v5 = shapeCast S1x4096 (broadcastInDim S4096 ![] bcast_S_S4096 (constant (F := Ideal) S_ .f32 0x00000000#32)) shapeCasts_S4096_S1x4096 := by
    simp only [V, hostOps0, List.flatten_cons, List.flatten_nil, List.append_nil, List.cons_append, List.nil_append]
    after_results_simp <;> rfl
  rw [e]
  pointwise

/-! ## The blocks at a point -/

/-- The block indices of every window at every point. -/
theorem idx_facts : ∀ t : Fin cfg0.N, win0_6.index t = ![t.val / 32, t.val % 8, t.val / 8 % 4] ∧ win0_1.index t = ![0, 0]
    ∧ win0_2.index t = ![t.val / 32, 0, 0] ∧ win0_3.index t = ![t.val / 32, 0, 0]
    ∧ win0_4.index t = ![0, t.val / 8 % 4] ∧ win0_5.index t = ![0, t.val / 8 % 4] :=
  (by decide +kernel : ∀ t : Fin grid0.N, _)

/-- The rows' block index on a sequence's first column tile. -/
theorem idx_x : ∀ t : Fin cfg0.N, t.val % 32 < 8 → win0_0.index t = ![t.val / 32, t.val % 8, 0] :=
  (by decide +kernel : ∀ t : Fin grid0.N, _)

/-- The reference's result as a function of the kernel's launch memory. -/
def G : Buf (Elt Ideal) ((c : Thread nD τ).loc main_v6) :=
  Cert.InLruRefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

variable (t : Fin cfg0.N)

theorem lt_N : t.val < 128 := Nat.lt_of_lt_of_eq t.isLt N_0

/-- The sequence, the token in row `r` and the column in place `l` of a point's block. -/
abbrev bOf : Fin 4 := ⟨t.val / 32, by have := lt_N t; omega⟩
abbrev nOf (r : Fin 1024) : Fin 8192 := ⟨t.val % 8 * 1024 + r.val, by omega⟩
abbrev cOf (l : Fin 1024) : Fin 4096 := ⟨t.val / 8 % 4 * 1024 + l.val, by omega⟩

theorem blk_x (ht : t.val % 32 < 8) (r : Fin 1024) (k : Fin 1024) : iblk m c 0 t (ix3 0 r k) = m ((c : Thread nD τ).loc main_arg0) (ix3 (bOf t) (nOf t r) k) :=
  (congrArg (V m c main_arg0) (place3 (idx_x t ht) rfl rfl rfl (by simp) (by simp) (by simp))).trans (congrFun (V_main_arg0 m c) _)

theorem blk_g (k : Fin 1024) : iblk m c 1 t (ix2 0 k) = m ((c : Thread nD τ).loc main_arg1) (ix1 k) :=
  (congrArg (V m c main_v2) (place2 (idx_facts t).2.1 rfl rfl (by simp) (by simp))).trans ((congrFun (V_g m c) _).trans (row_apply _ _ k))

theorem blk_s (k : Fin 1024) : iblk m c 2 t (ix3 0 0 k) = m ((c : Thread nD τ).loc main_arg2) (ix2 (bOf t) k) :=
  (congrArg (V m c main_v3) (place3 (idx_facts t).2.2.1 rfl rfl rfl (by simp) (by simp) (by simp))).trans ((congrFun (V_s m c) _).trans (seq_apply _ _ (bOf t) k))

theorem blk_h (k : Fin 1024) : iblk m c 3 t (ix3 0 0 k) = m ((c : Thread nD τ).loc main_arg3) (ix2 (bOf t) k) :=
  (congrArg (V m c main_v4) (place3 (idx_facts t).2.2.2.1 rfl rfl rfl (by simp) (by simp) (by simp))).trans ((congrFun (V_h m c) _).trans (seq_apply _ _ (bOf t) k))

theorem blk_w (k l : Fin 1024) : iblk m c 4 t (ix2 k l) = m ((c : Thread nD τ).loc main_arg4) (ix2 k (cOf t l)) :=
  (congrArg (V m c main_v0) (place2 (idx_facts t).2.2.2.2.1 rfl rfl (by simp) (by simp))).trans (congrFun (V_w m c) _)

theorem blk_b (l : Fin 1024) : iblk m c 5 t (ix2 0 l) = (0 : EReal) :=
  (congrArg (V m c main_v5) (place2 (idx_facts t).2.2.2.2.2 rfl rfl (by simp) (by simp))).trans (V_b m c (cOf t l))

/-- The point that stored the rows point `t` multiplies. -/
abbrev stored : Fin cfg0.N := pt (Keep.first 32 t.val)

theorem stored_facts : (stored t).val % 32 < 8 ∧ bOf (stored t) = bOf t ∧ ∀ r, nOf (stored t) r = nOf t r := by
  have e : (stored t).val = Keep.first 32 t.val := Nat.mod_eq_of_lt ((Keep.first_le (by decide)).trans_lt (lt_N t))
  obtain ⟨h8, hb, hn⟩ := first_facts (P := 32) (t := t.val) (by decide) (by decide)
  rw [← e] at h8 hb hn
  exact ⟨h8, Fin.ext hb, fun r => Fin.ext (congrArg (· * 1024 + r.val) hn)⟩

/-! ## The array -/

/-- One element of what point `t` leaves in its block. -/
theorem out_apply (r k : Fin 1024) : out m c t (ix3 0 r k) = G m c (ix3 (bOf t) (nOf t r) (cOf t k)) := by
  obtain ⟨h8, hb, hn⟩ := stored_facts t
  unfold G out rows
  rw [ref_apply, block_apply]
  simp only [blk_x m c _ h8, blk_g, blk_s, blk_h, blk_w, blk_b, hb, hn]

/-- What a point writes back is its block of the reference's result. -/
theorem flushed_eq : (dats m 0 c).flushed 6 t = ((cfg0.win 6).blk t).view.read (Elt Ideal) (G m c) := by
  show (cfg0.win 6).cut (grid0.coords t) ((dats m 0 c).after 6 t) = _
  rw [after0_6]
  funext y
  obtain ⟨u, r, k, rfl⟩ : ∃ (u : Fin 1) (r : Fin 1024) (k : Fin 1024), y = ix3 u r k := ⟨y 0, y 1, y 2, eq_ix3 y⟩
  obtain rfl : u = 0 := Subsingleton.elim _ _
  exact (out_apply m c t r k).trans (congrArg (G m c) (place3 (idx_facts t).1 rfl rfl rfl (by simp) (by simp) (by simp)).symm)

/-- Every element of the array lies in some point's block. -/
theorem covered (i : S4x8192x4096.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 4096 := (i 2).isLt
  obtain ⟨t, ht⟩ : ∃ t : Fin cfg0.N, t.val = 32 * (i 0).val + 8 * ((i 2).val / 1024) + (i 1).val / 1024 :=
    ⟨⟨_, Nat.lt_of_lt_of_eq (by omega) N_0.symm⟩, rfl⟩
  refine ⟨t, (by decide +kernel : ∀ t : Fin grid0.N, win0_6.flush t = true) t, ?_⟩
  show i ∈ ((View.whole main_v6).slice (win0_6.rect t)).set
  rw [View.set_slice_whole, Rect.mem_set_unit]
  refine within _ win0_6.size (fun a => (i a).val) (by decide) fun a => ?_
  rw [(idx_facts t).1]
  match a with
  | ⟨0, _⟩ => show t.val / 32 = (i 0).val / 1; omega
  | ⟨1, _⟩ => show t.val % 8 = (i 1).val / 1024; omega
  | ⟨2, _⟩ => show t.val / 8 % 4 = (i 2).val / 1024; omega

/-- The kernel's array after the run is the reference's result. -/
theorem final : (dats m 0 c).arrAt 6 cfg0.N = G m c :=
  (dats m 0 c).arrAt_eq_of_cover 6 _ (fun t _ => flushed_eq m c t) covered

/-- The kernel's run: the result is the reference's, the arguments are as launched. -/
theorem run : θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hv : θ_run defs (onTc (τ := τ) (main (F := Ideal))) ⟨m, fun _ => 0, ρ⟩ (fun r => ∀ c : Dev nD, r.2.mem ((c.tc : Thread nD τ).loc main_v6) = G m c) :=
    (θ_run defs _ _).mono (fun r h c => ((h c).1 6).trans (final m c)) (run_main m ρ)
  (θ_run defs _ _).mono (fun r h c => ⟨h.1 c, h.2 c⟩) (θ_run_and hv (frame_of m ρ (dats m) (A_eq m) (run_main m ρ)))

/-! ## The claims -/

/-- From memories that agree on the arguments, the kernel and the reference end with the same result. -/
theorem equal : Cert.algebraic_InLruIdeal_InLruRefIdeal := by
  intro m ρ m' ρ' _ hag
  refine ⟨fun c => G m c, run m ρ, ?_⟩
  refine (θ_run _ _ _).mono (fun _ h c => ⟨(h c).1.trans ?_, (h c).2⟩) (Cert.InLruRefIdeal.Value.run m' ρ')
  obtain ⟨h0, h1, h2, h3, h4⟩ := hag c
  rw [Cert.InLruRefIdeal.Read.val_main_v21_eq, h0, h1, h2, h3, h4]
  rfl

end Whole

section Printed

/-- The printed program and its ideal run the same function at their one label, -/
theorem bodies_eq : Cert.InLru.defs₀ (F := Bits) = Cert.InLruIdeal.defs₀ := by
  unfold Cert.InLru.defs₀ Cert.InLruIdeal.defs₀
  refine congrArg Defs.onTc ?_
  funext l a
  match l, a with
  | 0, (t, s) => rfl
  | ⟨_ + 1, h⟩, _ => exact absurd h (Nat.not_lt.2 (Nat.le_add_left _ _))

/-- so the frame proved for any float values is the printed program's too. -/
theorem frame : Cert.quiescent_InLru := by
  intro m ρ _
  rw [show Cert.InLru.defs (F := Bits) = Cert.InLruIdeal.defs from congrArg (Pipeline.defs (Cert.InLruIdeal.pcfgs (F := Bits))) bodies_eq]
  exact Cert.InLruIdeal.Gen.frame (F := Bits) m ρ

end Printed

end InLru
end
-- ==== Proof.OutProj.lean ====
/-
  What the output projections of the layers share: the element they compute, and where a point's block lies.
  A launch's grid is 4 by 16 points, one for every 512 tokens of a sequence.
-/
module

public import proofs.«01_k».proof.Proof.InLruValue

@[expose] public section

noncomputable section

namespace OutProj

open Idealize.ShloMosaic

/-- One element of the layer's output: the residual plus the gated projection of the mixed row. -/
def residual (y w : Fin 2048 → EReal) (x gate : EReal) : EReal := x + gate * ∑ k, y k * w k

theorem row_apply (v : FVec Ideal ⟨1, ![2048]⟩ .f32) (h) (k : Fin 2048) : shapeCast ⟨2, ![1, 2048]⟩ v h (ix2 0 k) = v (ix1 k) := by
  pointwise

theorem zero3 : (![0, 0, 0] : Fin 3 → Nat) = fun _ => 0 := by decide

theorem zero2 : (![0, 0] : Fin 2 → Nat) = fun _ => 0 := by decide

/-- The sequence that point `t` works on. -/
abbrev bOf (t : Fin 64) : Fin 4 := ⟨t.val / 16, by omega⟩

/-- The token in row `r` of point `t`'s block. -/
abbrev nOf (t : Fin 64) (r : Fin 512) : Fin 8192 := ⟨t.val % 16 * 512 + r.val, by omega⟩

/-- The point whose block holds token `n` of sequence `b`. -/
theorem point (b : Fin 4) (n : Fin 8192) : ∃ t : Fin 64, t.val / 16 = b.val ∧ t.val % 16 = n.val / 512 :=
  ⟨⟨16 * b.val + n.val / 512, by omega⟩, by show (16 * b.val + n.val / 512) / 16 = _; omega, by show (16 * b.val + n.val / 512) % 16 = _; omega⟩

/-- An index of the output lies in the block of its point. -/
theorem inside {I : Fin 3 → ℕ} {t : ℕ} (hI : I = ![t / 16, t % 16, 0]) (i : (⟨3, ![4, 8192, 1024]⟩ : Shape).Idx)
    (hb : t / 16 = (i 0).val) (hn : t % 16 = (i 1).val / 512) (s : Fin 3 → ℕ) (hs : s = ![1, 512, 1024]) :
    ∀ a, I a * s a ≤ (i a).val ∧ (i a).val < I a * s a + s a := by
  subst hI; subst hs
  refine InProj.within _ _ (fun a => (i a).val) (by decide) fun a => ?_
  match a with
  | ⟨0, _⟩ => show t / 16 = (i 0).val / 1; omega
  | ⟨1, _⟩ => exact hn
  | ⟨2, _⟩ => have h2 : (i 2).val < 1024 := (i 2).isLt; show 0 = (i 2).val / 1024; omega

end OutProj
end
-- ==== Proof.OutHyValue.lean ====
/-
  The value of the Hyena layer's output projection: the convolution's result with its skip, times the last gate, enters the
  projection.
-/
module

public import proofs.«01_k».proof.Proof.OutProj
public import proofs.«01_k».proof.Proof.Gen.OutHyIdeal.Value
public import proofs.«01_k».proof.Proof.Gen.OutHyRefIdeal.Run
public import proofs.«01_k».proof.Proof.Gen.OutHyRefIdeal.Read

@[expose] public section

noncomputable section

namespace OutHy

open Idealize.ShloMosaic Idealize.SL.Sem InProj OutProj

/-- Column `k` of the row that enters the projection. -/
def mixed (yc u g1 skip : Fin 2048 → EReal) (k : Fin 2048) : EReal := g1 k * (yc k + u k * skip k)

section Block
open Cert.OutHyIdeal Cert.OutHyIdeal.Gen

/-- The block's element at row `r`, column `c`. -/
theorem block_apply (x0 x1 : Vec Ideal S1x512x2048 .f32) (x2 : Vec Ideal S1x512x2048 .bf16) (x3 : Vec Ideal S1x2048 .f32)
    (x4 : Vec Ideal S2048x1024 .bf16) (x5 : Vec Ideal S1x512x1024 .f32) (x6 : Vec Ideal S1x1x1024 .f32) (r : Fin 512) (c : Fin 1024) :
    k0_pay1 x2 x0 x1 x3 x5 x6 x4 (ix3 0 r c)
      = residual (mixed (fun k => x0 (ix3 0 r k)) (fun k => x1 (ix3 0 r k)) (fun k => x2 (ix3 0 r k)) (fun k => x3 (ix2 0 k)))
          (fun k => x4 (ix2 k c)) (x5 (ix3 0 r c)) (x6 (ix3 0 0 c)) := by
  pointwise [k0_pay1, dot_S512x2048_S2048x1024_S512x1024_1_0_0_1_n_n]
  rfl

end Block

section Reference
open Cert.OutHyRefIdeal Cert.OutHyRefIdeal.Read

/-- The reference's element at token `n` of sequence `b`, column `c`. -/
theorem ref_apply (x0 x1 : Vec Ideal S4x8192x2048 .f32) (x2 : Vec Ideal S4x8192x2048 .bf16) (x3 : Vec Ideal S2048 .f32)
    (x4 : Vec Ideal S2048x1024 .f32) (x5 : Vec Ideal S4x8192x1024 .f32) (x6 : Vec Ideal S4x1024 .f32) (b : Fin 4) (n : Fin 8192) (c : Fin 1024) :
    val_main_v10 x0 x1 x2 x3 x4 x5 x6 (ix3 b n c)
      = residual (mixed (fun k => x0 (ix3 b n k)) (fun k => x1 (ix3 b n k)) (fun k => x2 (ix3 b n k)) (fun k => x3 (ix1 k)))
          (fun k => x4 (ix2 k c)) (x5 (ix3 b n c)) (x6 (ix2 b c)) := by
  pointwise [val_main_v0, val_main_v1, val_main_v2, val_main_v3, val_main_v4, val_main_v5, val_main_v6, val_main_v7, val_main_v8, val_main_v9, val_main_v10,
    dot_S4x8192x2048_S2048x1024_S4x8192x1024_2_0_01_1_n_n]
  rfl

end Reference

section Whole
open Cert.OutHyIdeal Cert.OutHyIdeal.Gen Cert.OutHyIdeal.Value Idealize.ShloMosaic.TcCoe

variable (m : (ℓ : Loc nD τ sig) → Buf (Elt Ideal) ℓ) (c : Dev nD)

/-! ## What the region finds in the arrays the host prepared -/

theorem V_skip : V m c main_v0 = shapeCast S1x2048 (m ((c : Thread nD τ).loc main_arg3)) shapeCasts_S2048_S1x2048 := by
  simp only [V, hostOps0, List.flatten_cons, List.flatten_nil, List.append_nil, List.cons_append, List.nil_append]
  after_results_simp <;> rfl

theorem V_w : V m c main_v1 = (truncf .bf16 (m ((c : Thread nD τ).loc main_arg4) : FVec Ideal S2048x1024 .f32) bitsLt_bf16_f32 : FVec Ideal S2048x1024 .bf16) := by
  simp only [V, hostOps0, List.flatten_cons, List.flatten_nil, List.append_nil, List.cons_append, List.nil_append]
  after_results_simp <;> rfl

theorem V_gate : V m c main_v2 = shapeCast S4x1x1024 (m ((c : Thread nD τ).loc main_arg6)) shapeCasts_S4x1024_S4x1x1024 := by
  simp only [V, hostOps0, List.flatten_cons, List.flatten_nil, List.append_nil, List.cons_append, List.nil_append]
  after_results_simp <;> rfl

/-! ## The blocks at a point -/

/-- The block indices of every window at every point. -/
theorem idx_facts : ∀ t : Fin cfg0.N, win0_7.index t = ![t.val / 16, t.val % 16, 0] ∧ win0_0.index t = ![t.val / 16, t.val % 16, 0]
    ∧ win0_1.index t = ![t.val / 16, t.val % 16, 0] ∧ win0_2.index t = ![t.val / 16, t.val % 16, 0] ∧ win0_3.index t = ![0, 0]
    ∧ win0_4.index t = ![0, 0] ∧ win0_5.index t = ![t.val / 16, t.val % 16, 0] ∧ win0_6.index t = ![t.val / 16, 0, 0] :=
  (by decide +kernel : ∀ t : Fin grid0.N, _)

/-- The body's store covers the block: what it leaves is the payload of the loaded blocks. -/
theorem out_eq (x0 x1 : Vec Ideal S1x512x2048 .f32) (x2 : Vec Ideal S1x512x2048 .bf16) (x3 : Vec Ideal S1x2048 .f32)
    (x4 : Vec Ideal S2048x1024 .bf16) (x5 : Vec Ideal S1x512x1024 .f32) (x6 : Vec Ideal S1x1x1024 .f32) :
    out0_7 x0 x1 x2 x3 x4 x5 x6 = k0_pay1 x2 x0 x1 x3 x5 x6 x4 := by
  unfold out0_7
  rw [View.canon_cons_unit_zero (S := S1x512x1024) zero3, View.ld_unit_zero (S := S1x512x2048) zero3, View.ld_unit_zero (S := S1x512x2048) zero3,
    View.ld_unit_zero (S := S1x512x2048) zero3, View.ld_unit_zero (S := S1x2048) zero2, View.ld_unit_zero (S := S2048x1024) zero2,
    View.ld_unit_zero (S := S1x512x1024) zero3, View.ld_unit_zero (S := S1x1x1024) zero3]

/-- The reference's result as a function of the kernel's launch memory. -/
def G : Buf (Elt Ideal) ((c : Thread nD τ).loc main_v3) :=
  Cert.OutHyRefIdeal.Read.val_main_v10 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6))

variable (t : Fin cfg0.N)

theorem blk_yc (r : Fin 512) (k : Fin 2048) : iblk m c 0 t (ix3 0 r k) = m ((c : Thread nD τ).loc main_arg0) (ix3 (bOf t) (nOf t r) k) :=
  (congrArg (V m c main_arg0) (place3 (idx_facts t).2.1 rfl rfl rfl (by simp) (by simp) (by simp))).trans (congrFun (V_main_arg0 m c) _)

theorem blk_u (r : Fin 512) (k : Fin 2048) : iblk m c 1 t (ix3 0 r k) = m ((c : Thread nD τ).loc main_arg1) (ix3 (bOf t) (nOf t r) k) :=
  (congrArg (V m c main_arg1) (place3 (idx_facts t).2.2.1 rfl rfl rfl (by simp) (by simp) (by simp))).trans (congrFun (V_main_arg1 m c) _)

theorem blk_g (r : Fin 512) (k : Fin 2048) : iblk m c 2 t (ix3 0 r k) = m ((c : Thread nD τ).loc main_arg2) (ix3 (bOf t) (nOf t r) k) :=
  (congrArg (V m c main_arg2) (place3 (idx_facts t).2.2.2.1 rfl rfl rfl (by simp) (by simp) (by simp))).trans (congrFun (V_main_arg2 m c) _)

theorem blk_skip (k : Fin 2048) : iblk m c 3 t (ix2 0 k) = m ((c : Thread nD τ).loc main_arg3) (ix1 k) :=
  (congrArg (V m c main_v0) (place2 (idx_facts t).2.2.2.2.1 rfl rfl (by simp) (by simp))).trans ((congrFun (V_skip m c) _).trans (OutProj.row_apply _ _ k))

theorem blk_w (k : Fin 2048) (l : Fin 1024) : iblk m c 4 t (ix2 k l) = m ((c : Thread nD τ).loc main_arg4) (ix2 k l) :=
  (congrArg (V m c main_v1) (place2 (idx_facts t).2.2.2.2.2.1 rfl rfl (by simp) (by simp))).trans (congrFun (V_w m c) _)

theorem blk_x (r : Fin 512) (k : Fin 1024) : iblk m c 5 t (ix3 0 r k) = m ((c : Thread nD τ).loc main_arg5) (ix3 (bOf t) (nOf t r) k) :=
  (congrArg (V m c main_arg5) (place3 (idx_facts t).2.2.2.2.2.2.1 rfl rfl rfl (by simp) (by simp) (by simp))).trans (congrFun (V_main_arg5 m c) _)

theorem blk_gate (k : Fin 1024) : iblk m c 6 t (ix3 0 0 k) = m ((c : Thread nD τ).loc main_arg6) (ix2 (bOf t) k) :=
  (congrArg (V m c main_v2) (place3 (idx_facts t).2.2.2.2.2.2.2 rfl rfl rfl (by simp) (by simp) (by simp))).trans
    ((congrFun (V_gate m c) _).trans (seq_apply _ _ (bOf t) k))

/-- What a point writes back is its block of the reference's result. -/
theorem flushed_eq : (dats m 0 c).flushed 7 t = ((cfg0.win 7).blk t).view.read (Elt Ideal) (G m c) := by
  rw [flushed7]
  funext y
  obtain ⟨u, r, k, rfl⟩ : ∃ (u : Fin 1) (r : Fin 512) (k : Fin 1024), y = ix3 u r k := ⟨y 0, y 1, y 2, eq_ix3 y⟩
  obtain rfl : u = 0 := Subsingleton.elim _ _
  show out0_7 _ _ _ _ _ _ _ (ix3 0 r k) = G m c (((cfg0.win 7).blk t).view.emb (ix3 0 r k))
  rw [show ((cfg0.win 7).blk t).view.emb (ix3 0 r k) = (ix3 (bOf t) (nOf t r) k : S4x8192x1024.Idx) from
    place3 (idx_facts t).1 rfl rfl rfl (by simp) (by simp) (by simp)]
  unfold G
  rw [ref_apply, out_eq, block_apply]
  simp only [blk_yc, blk_u, blk_g, blk_skip, blk_w, blk_x, blk_gate]

/-- Every element of the array lies in some point's block. -/
theorem covered (i : S4x8192x1024.Idx) : ∃ t : Fin cfg0.N, (cfg0.win 7).flush t = true ∧ i ∈ ((cfg0.win 7).blk t).view.set := by
  obtain ⟨t, hb, hn⟩ := point (i 0) (i 1)
  refine ⟨t, (by decide +kernel : ∀ t : Fin grid0.N, win0_7.flush t = true) t, ?_⟩
  show i ∈ ((View.whole main_v3).slice (win0_7.rect t)).set
  rw [View.set_slice_whole, Rect.mem_set_unit]
  exact inside (idx_facts t).1 i hb hn win0_7.size (by decide)

/-- The kernel's array after the run is the reference's result. -/
theorem final : (dats m 0 c).arrAt 7 cfg0.N = G m c :=
  (dats m 0 c).arrAt_eq_of_cover 7 _ (fun t _ => flushed_eq m c t) covered

end Whole

section Claims
open Cert.OutHyIdeal Cert.OutHyIdeal.Gen Idealize.ShloMosaic.TcCoe

/-- From memories that agree on the arguments, the kernel and the reference end with the same result. -/
theorem equal : Cert.algebraic_OutHyIdeal_OutHyRefIdeal := by
  intro m ρ m' ρ' _ hag
  refine ⟨fun c => G m c, (θ_run _ _ _).mono (fun r h c => ⟨(h c).1.trans (final m c), (h c).2⟩) (Cert.OutHyIdeal.Value.run_blocks m ρ), ?_⟩
  refine (θ_run _ _ _).mono (fun _ h c => ⟨(h c).1.trans ?_, (h c).2⟩) (Cert.OutHyRefIdeal.Value.run m' ρ')
  obtain ⟨h0, h1, h2, h3, h4, h5, h6⟩ := hag c
  rw [Cert.OutHyRefIdeal.Read.val_main_v10_eq, h0, h1, h2, h3, h4, h5, h6]
  rfl

end Claims

end OutHy
end
-- ==== Proof.OutLruValue.lean ====
/-
  The value of the linear recurrent layer's output projection, the model's last: the layer's output goes through the final
  norm, whose mean square runs over the columns of the output row.
-/
module

public import proofs.«01_k».proof.Proof.OutHyValue
public import proofs.«01_k».proof.Proof.Gen.OutLruIdeal.Value
public import proofs.«01_k».proof.Proof.Gen.OutLruRefIdeal.Run
public import proofs.«01_k».proof.Proof.Gen.OutLruRefIdeal.Read

@[expose] public section

noncomputable section

namespace OutLru

open Idealize.ShloMosaic Idealize.SL.Sem InProj OutProj

/-- Column `l` of the layer's output row, before the norm: the recurrence's row under the gate `z · σ(z)` is projected. -/
def outRow (y z : Fin 2048 → EReal) (w : Fin 2048 → Fin 1024 → EReal) (x gate : Fin 1024 → EReal) (l : Fin 1024) : EReal :=
  residual (fun k => y k * (z k * Ideal.logistic (z k))) (fun k => w k l) (x l) (gate l)

/-- One element of a row's norm with its weight. -/
def normed (o g : Fin 1024 → EReal) (l : Fin 1024) : EReal :=
  o l * Ideal.rsqrt (Ideal.div (∑ j, o j * o j) (Ideal.ofBits FTy.f32 1149239296#32) + Ideal.ofBits FTy.f32 897988541#32) * g l

section Block
open Cert.OutLruIdeal Cert.OutLruIdeal.Gen

/-- The block's row before the norm. -/
theorem row_block (x0 : Vec Ideal S1x512x2048 .bf16) (x1 : Vec Ideal S1x512x2048 .f32) (x2 : Vec Ideal S2048x1024 .bf16)
    (x3 : Vec Ideal S1x512x1024 .f32) (x4 : Vec Ideal S1x1x1024 .f32) (x5 : Vec Ideal S1x1024 .f32) (r : Fin 512) (l : Fin 1024) :
    k0_pay1 (k0_pay2 x0 x1 x3 x4 x2 x5) (ix3 0 r l)
      = normed (outRow (fun k => x0 (ix3 0 r k)) (fun k => x1 (ix3 0 r k)) (fun k l => x2 (ix2 k l)) (fun l => x3 (ix3 0 r l)) (fun l => x4 (ix3 0 0 l)))
          (fun l => x5 (ix2 0 l)) l := by
  pointwise [k0_pay1, k0_pay2, dot_S512x2048_S2048x1024_S512x1024_1_0_0_1_n_n]
  rfl

end Block

section Reference
open Cert.OutLruRefIdeal Cert.OutLruRefIdeal.Read

/-- The reference's element at token `n` of sequence `b`, column `l`. -/
theorem ref_apply (x0 : Vec Ideal S4x8192x2048 .bf16) (x1 : Vec Ideal S4x8192x4096 .f32) (x2 : Vec Ideal S2048x1024 .f32)
    (x3 : Vec Ideal S4x8192x1024 .f32) (x4 : Vec Ideal S4x1024 .f32) (x5 : Vec Ideal S1024 .f32) (b : Fin 4) (n : Fin 8192) (l : Fin 1024) :
    val_main_v22 x0 x1 x2 x3 x4 x5 (ix3 b n l)
      = normed (outRow (fun k => x0 (ix3 b n k)) (fun k => x1 (ix3 b n ⟨2048 + k.val, by omega⟩)) (fun k l => x2 (ix2 k l))
          (fun l => x3 (ix3 b n l)) (fun l => x4 (ix2 b l))) (fun l => x5 (ix1 l)) l := by
  pointwise [val_main_v0, val_main_v1, val_main_v2, val_main_v3, val_main_v4, val_main_v5, val_main_v6, val_main_v7, val_main_v8, val_main_v9, val_main_v10,
    val_main_v11, val_main_v12, val_main_v13, val_main_v14, val_main_v15, val_main_v16, val_main_v17, val_main_v18, val_main_v19, val_main_v20, val_main_v21, val_main_v22,
    val_main_cst, val_main_cst_0, val_main_cst_1, val_main_call0_v0, val_main_call0_v1, val_main_call0_v2, val_main_call0_v3, val_main_call0_v4, val_main_call0_v5,
    val_main_call0_cst, val_main_call0_cst_0, dot_S4x8192x2048_S2048x1024_S4x8192x1024_2_0_01_1_n_n]
  rfl

end Reference

section Whole
open Cert.OutLruIdeal Cert.OutLruIdeal.Gen Cert.OutLruIdeal.Value Idealize.ShloMosaic.TcCoe

variable (m : (ℓ : Loc nD τ sig) → Buf (Elt Ideal) ℓ) (c : Dev nD)

/-! ## What the region finds in the arrays the host prepared -/

theorem V_w : V m c main_v0 = (truncf .bf16 (m ((c : Thread nD τ).loc main_arg2) : FVec Ideal S2048x1024 .f32) bitsLt_bf16_f32 : FVec Ideal S2048x1024 .bf16) := by
  simp only [V, hostOps0, List.flatten_cons, List.flatten_nil, List.append_nil, List.cons_append, List.nil_append]
  after_results_simp <;> rfl

theorem V_gate : V m c main_v1 = shapeCast S4x1x1024 (m ((c : Thread nD τ).loc main_arg4)) shapeCasts_S4x1024_S4x1x1024 := by
  simp only [V, hostOps0, List.flatten_cons, List.flatten_nil, List.append_nil, List.cons_append, List.nil_append]
  after_results_simp <;> rfl

theorem V_g : V m c main_v2 = shapeCast S1x1024 (m ((c : Thread nD τ).loc main_arg5)) shapeCasts_S1024_S1x1024 := by
  simp only [V, hostOps0, List.flatten_cons, List.flatten_nil, List.append_nil, List.cons_append, List.nil_append]
  after_results_simp <;> rfl

/-! ## The blocks at a point -/

/-- The block indices of every window at every point: the gate's columns are the second half of the projection's. -/
theorem idx_facts : ∀ t : Fin cfg0.N, win0_6.index t = ![t.val / 16, t.val % 16, 0] ∧ win0_0.index t = ![t.val / 16, t.val % 16, 0]
    ∧ win0_1.index t = ![t.val / 16, t.val % 16, 1] ∧ win0_2.index t = ![0, 0] ∧ win0_3.index t = ![t.val / 16, t.val % 16, 0]
    ∧ win0_4.index t = ![t.val / 16, 0, 0] ∧ win0_5.index t = ![0, 0] :=
  (by decide +kernel : ∀ t : Fin grid0.N, _)

/-- The body's store covers the block: what it leaves is the payload of the loaded blocks. -/
theorem out_eq (x0 : Vec Ideal S1x512x2048 .bf16) (x1 : Vec Ideal S1x512x2048 .f32) (x2 : Vec Ideal S2048x1024 .bf16)
    (x3 : Vec Ideal S1x512x1024 .f32) (x4 : Vec Ideal S1x1x1024 .f32) (x5 : Vec Ideal S1x1024 .f32) :
    out0_6 x0 x1 x2 x3 x4 x5 = k0_pay1 (k0_pay2 x0 x1 x3 x4 x2 x5) := by
  unfold out0_6
  rw [View.canon_cons_unit_zero (S := S1x512x1024) zero3, View.ld_unit_zero (S := S1x512x2048) zero3, View.ld_unit_zero (S := S1x512x2048) zero3,
    View.ld_unit_zero (S := S2048x1024) zero2, View.ld_unit_zero (S := S1x512x1024) zero3, View.ld_unit_zero (S := S1x1x1024) zero3,
    View.ld_unit_zero (S := S1x1024) zero2]

/-- The reference's result as a function of the kernel's launch memory. -/
def G : Buf (Elt Ideal) ((c : Thread nD τ).loc main_v3) :=
  Cert.OutLruRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

variable (t : Fin cfg0.N)

theorem blk_y (r : Fin 512) (k : Fin 2048) : iblk m c 0 t (ix3 0 r k) = m ((c : Thread nD τ).loc main_arg0) (ix3 (bOf t) (nOf t r) k) :=
  (congrArg (V m c main_arg0) (place3 (idx_facts t).2.1 rfl rfl rfl (by simp) (by simp) (by simp))).trans (congrFun (V_main_arg0 m c) _)

theorem blk_z (r : Fin 512) (k : Fin 2048) :
    iblk m c 1 t (ix3 0 r k) = m ((c : Thread nD τ).loc main_arg1) (ix3 (bOf t) (nOf t r) ⟨2048 + k.val, by omega⟩) :=
  (congrArg (V m c main_arg1) (place3 (idx_facts t).2.2.1 rfl rfl rfl (by simp) (by simp) (by simp))).trans (congrFun (V_main_arg1 m c) _)

theorem blk_w (k : Fin 2048) (l : Fin 1024) : iblk m c 2 t (ix2 k l) = m ((c : Thread nD τ).loc main_arg2) (ix2 k l) :=
  (congrArg (V m c main_v0) (place2 (idx_facts t).2.2.2.1 rfl rfl (by simp) (by simp))).trans (congrFun (V_w m c) _)

theorem blk_x (r : Fin 512) (l : Fin 1024) : iblk m c 3 t (ix3 0 r l) = m ((c : Thread nD τ).loc main_arg3) (ix3 (bOf t) (nOf t r) l) :=
  (congrArg (V m c main_arg3) (place3 (idx_facts t).2.2.2.2.1 rfl rfl rfl (by simp) (by simp) (by simp))).trans (congrFun (V_main_arg3 m c) _)

theorem blk_gate (l : Fin 1024) : iblk m c 4 t (ix3 0 0 l) = m ((c : Thread nD τ).loc main_arg4) (ix2 (bOf t) l) :=
  (congrArg (V m c main_v1) (place3 (idx_facts t).2.2.2.2.2.1 rfl rfl rfl (by simp) (by simp) (by simp))).trans
    ((congrFun (V_gate m c) _).trans (seq_apply _ _ (bOf t) l))

theorem blk_g (l : Fin 1024) : iblk m c 5 t (ix2 0 l) = m ((c : Thread nD τ).loc main_arg5) (ix1 l) :=
  (congrArg (V m c main_v2) (place2 (idx_facts t).2.2.2.2.2.2 rfl rfl (by simp) (by simp))).trans ((congrFun (V_g m c) _).trans (InProj.row_apply _ _ l))

/-- What a point writes back is its block of the reference's result. -/
theorem flushed_eq : (dats m 0 c).flushed 6 t = ((cfg0.win 6).blk t).view.read (Elt Ideal) (G m c) := by
  rw [flushed6]
  funext y
  obtain ⟨u, r, l, rfl⟩ : ∃ (u : Fin 1) (r : Fin 512) (l : Fin 1024), y = ix3 u r l := ⟨y 0, y 1, y 2, eq_ix3 y⟩
  obtain rfl : u = 0 := Subsingleton.elim _ _
  show out0_6 _ _ _ _ _ _ (ix3 0 r l) = G m c (((cfg0.win 6).blk t).view.emb (ix3 0 r l))
  rw [show ((cfg0.win 6).blk t).view.emb (ix3 0 r l) = (ix3 (bOf t) (nOf t r) l : S4x8192x1024.Idx) from
    place3 (idx_facts t).1 rfl rfl rfl (by simp) (by simp) (by simp)]
  unfold G
  rw [ref_apply, out_eq, row_block]
  simp only [blk_y, blk_z, blk_w, blk_x, blk_gate, blk_g]

/-- Every element of the array lies in some point's block. -/
theorem covered (i : S4x8192x1024.Idx) : ∃ t : Fin cfg0.N, (cfg0.win 6).flush t = true ∧ i ∈ ((cfg0.win 6).blk t).view.set := by
  obtain ⟨t, hb, hn⟩ := point (i 0) (i 1)
  refine ⟨t, (by decide +kernel : ∀ t : Fin grid0.N, win0_6.flush t = true) t, ?_⟩
  show i ∈ ((View.whole main_v3).slice (win0_6.rect t)).set
  rw [View.set_slice_whole, Rect.mem_set_unit]
  exact inside (idx_facts t).1 i hb hn win0_6.size (by decide)

/-- The kernel's array after the run is the reference's result. -/
theorem final : (dats m 0 c).arrAt 6 cfg0.N = G m c :=
  (dats m 0 c).arrAt_eq_of_cover 6 _ (fun t _ => flushed_eq m c t) covered

end Whole

section Claims
open Cert.OutLruIdeal Cert.OutLruIdeal.Gen Idealize.ShloMosaic.TcCoe

/-- From memories that agree on the arguments, the kernel and the reference end with the same result. -/
theorem equal : Cert.algebraic_OutLruIdeal_OutLruRefIdeal := by
  intro m ρ m' ρ' _ hag
  refine ⟨fun c => G m c, (θ_run _ _ _).mono (fun r h c => ⟨(h c).1.trans (final m c), (h c).2⟩) (Cert.OutLruIdeal.Value.run_blocks m ρ), ?_⟩
  refine (θ_run _ _ _).mono (fun _ h c => ⟨(h c).1.trans ?_, (h c).2⟩) (Cert.OutLruRefIdeal.Value.run m' ρ')
  obtain ⟨h0, h1, h2, h3, h4, h5⟩ := hag c
  rw [Cert.OutLruRefIdeal.Read.val_main_v22_eq, h0, h1, h2, h3, h4, h5]
  rfl

end Claims

end OutLru
end
-- ==== Proof.OutHgValue.lean ====
/-
  The value of the HGRN2 layer's output projection: the row's sixteen heads are normalised one by one and set side by side,
  and the weight of the norm is repeated for every head.
-/
module

public import proofs.«01_k».proof.Proof.OutLruValue
public import proofs.«01_k».proof.Proof.Gen.OutHgIdeal.Value
public import proofs.«01_k».proof.Proof.Gen.OutHgRefIdeal.Run
public import proofs.«01_k».proof.Proof.Gen.OutHgRefIdeal.Read

@[expose] public section

noncomputable section

namespace OutHg

open Idealize.ShloMosaic Idealize.SL.Sem InProj OutProj

/-- Column `k` of a row in which every head of 128 columns is normalised by its own mean square. -/
def headNorm (o : Fin 2048 → EReal) (k : Fin 2048) : EReal :=
  o k * Ideal.rsqrt (Ideal.div (∑ x : Fin 128, o ⟨k.val / 128 * 128 + x.val, by omega⟩ * o ⟨k.val / 128 * 128 + x.val, by omega⟩)
    (Ideal.ofBits FTy.f32 1124073472#32) + Ideal.ofBits FTy.f32 897988541#32)

/-- The gated row that enters the projection. -/
def gated (o g z : Fin 2048 → EReal) (k : Fin 2048) : EReal := headNorm o k * g k * (z k * Ideal.logistic (z k))

section Block
open Cert.OutHgIdeal Cert.OutHgIdeal.Gen

theorem wide_apply (x0 : Vec Ideal S1x512x2048 .bf16) (r : Fin 512) (k : Fin 2048) : k0_pay2 x0 (ix2 r k) = x0 (ix3 0 r k) := by
  pointwise [k0_pay2]

/-- Columns `128 * h …` of a block, each row divided by the root of its mean square over them. -/
def part (v : FVec Ideal S512x2048 .f32) (h : Fin 16) : FVec Ideal S512x128 .f32 :=
  have hs : S512x2048.Slices ![0, 128 * h.val] S512x128 := (by decide +kernel : ∀ h : Fin 16, S512x2048.Slices ![0, 128 * h.val] S512x128) h
  have p : FVec Ideal S512x128 .f32 := extractStridedSlice S512x128 ![0, 128 * h.val] v hs
  have ss : FVec Ideal S512x1 .f32 := shapeCast S512x1 (multiReduction .add [1] S512 (mulf p p) 0x00000000#32 reduces_S512x128_S512 (.inl rfl) rfl) shapeCasts_S512_S512x1
  mulf p (broadcastTo S512x128 (rsqrt (addf (divf ss (broadcast S512x1 (Scalar.ofBits (F := Ideal) .f32 0x43000000#32)))
    (broadcast S512x1 (Scalar.ofBits (F := Ideal) .f32 0x358637BD#32)))) broadcasts_S512x1_S512x128)

theorem part_apply (v : FVec Ideal S512x2048 .f32) (h : Fin 16) (r : Fin 512) (y : Fin 128) :
    part v h (ix2 r y) = headNorm (fun k => v (ix2 r k)) ⟨128 * h.val + y.val, by omega⟩ := by
  pointwise [part]
  unfold headNorm
  have e : ∀ x : Fin 128, (⟨(128 * h.val + y.val) / 128 * 128 + x.val, by omega⟩ : Fin 2048) = ⟨128 * h.val + x.val, by omega⟩ := fun x => Fin.ext (by show (128 * h.val + y.val) / 128 * 128 + x.val = 128 * h.val + x.val; omega)
  simp only [e]

/-- The normalised block is its heads side by side, times the weight's row. -/
theorem norm_eq (x0 : Vec Ideal S1x512x2048 .bf16) (x2 : Vec Ideal S1x2048 .f32) (hc) :
    k0_pay20 (k0_pay2 x0) (k0_pay3 x0) (k0_pay4 x0) (k0_pay5 x0) (k0_pay9 (k0_pay6 x0) (k0_pay7 x0) (k0_pay8 (F := Ideal))) (k0_pay10 (k0_pay2 x0))
        (k0_pay11 (k0_pay2 x0)) (k0_pay12 (k0_pay2 x0)) (k0_pay13 (k0_pay2 x0)) (k0_pay14 (k0_pay2 x0)) (k0_pay15 (k0_pay2 x0)) (k0_pay16 (k0_pay2 x0))
        (k0_pay17 (k0_pay2 x0)) (k0_pay18 (k0_pay2 x0)) (k0_pay19 (k0_pay2 x0)) x2
      = mulf (concatenate S512x2048 1 (List.ofFn fun h : Fin 16 => (⟨S512x128, part (k0_pay2 x0) h⟩ : (s : Shape) × (s.Idx → EReal))) hc)
          (broadcastTo S512x2048 (shapeCast S1x2048 x2 shapeCasts_S1x2048_S1x2048) broadcasts_S1x2048_S512x2048) := rfl

/-- The normalised block's element at row `r`, column `k`. -/
theorem norm_apply (x0 : Vec Ideal S1x512x2048 .bf16) (x2 : Vec Ideal S1x2048 .f32) (r : Fin 512) (k : Fin 2048) :
    k0_pay20 (k0_pay2 x0) (k0_pay3 x0) (k0_pay4 x0) (k0_pay5 x0) (k0_pay9 (k0_pay6 x0) (k0_pay7 x0) (k0_pay8 (F := Ideal))) (k0_pay10 (k0_pay2 x0))
        (k0_pay11 (k0_pay2 x0)) (k0_pay12 (k0_pay2 x0)) (k0_pay13 (k0_pay2 x0)) (k0_pay14 (k0_pay2 x0)) (k0_pay15 (k0_pay2 x0)) (k0_pay16 (k0_pay2 x0))
        (k0_pay17 (k0_pay2 x0)) (k0_pay18 (k0_pay2 x0)) (k0_pay19 (k0_pay2 x0)) x2 (ix2 r k)
      = headNorm (fun k => x0 (ix3 0 r k)) k * x2 (ix2 0 k) := by
  have hc : Shape.Concatenates ((List.ofFn fun h : Fin 16 => (⟨S512x128, part (k0_pay2 x0) h⟩ : (s : Shape) × (s.Idx → EReal))).map (·.1)) S512x2048 1 :=
    concatenates_S512x128_S512x128_S512x128_S512x128_S512x128_S512x128_S512x128_S512x128_S512x128_S512x128_S512x128_S512x128_S512x128_S512x128_S512x128_S512x128_S512x2048_d1
  have hw : (fun k => k0_pay2 x0 (ix2 r k)) = fun k => x0 (ix3 0 r k) := funext fun k => wide_apply x0 r k
  rw [norm_eq x0 x2 hc]
  have hx : broadcastTo S512x2048 (shapeCast S1x2048 x2 shapeCasts_S1x2048_S1x2048) broadcasts_S1x2048_S512x2048 (ix2 r k) = x2 (ix2 0 k) := by pointwise
  refine congrArg₂ (· * ·) ?_ hx
  rw [← hw]
  refine (concatenate_ofFn_apply (t := S512x2048) (s₁ := S512x128) (1 : Fin 2) (fun h => part (k0_pay2 x0) h) hc rfl 128 rfl (ix2 r k) ⟨k.val / 128, by omega⟩ rfl
    (ix2 r ⟨k.val % 128, by omega⟩) rfl fun b hb => ?_).trans
    ((part_apply _ _ r _).trans (congrArg (headNorm _) (Fin.ext (Nat.div_add_mod k.val 128))))
  match b with
  | ⟨0, _⟩ => rfl
  | ⟨1, _⟩ => exact absurd rfl hb

/-- The block's element at row `r`, column `c`. -/
theorem block_apply (v : FVec Ideal S512x2048 .f32) (x1 : Vec Ideal S1x512x2048 .f32) (x3 : Vec Ideal S2048x1024 .bf16)
    (x4 : Vec Ideal S1x512x1024 .f32) (x5 : Vec Ideal S1x1x1024 .f32) (r : Fin 512) (c : Fin 1024) :
    k0_pay1 v x1 x4 x5 x3 (ix3 0 r c)
      = residual (fun k => v (ix2 r k) * (x1 (ix3 0 r k) * Ideal.logistic (x1 (ix3 0 r k)))) (fun k => x3 (ix2 k c)) (x4 (ix3 0 r c)) (x5 (ix3 0 0 c)) := by
  pointwise [k0_pay1, dot_S512x2048_S2048x1024_S512x1024_1_0_0_1_n_n]
  rfl

end Block

section Reference
open Cert.OutHgRefIdeal Cert.OutHgRefIdeal.Read

/-- The reference's element at token `n` of sequence `b`, column `c`. -/
theorem ref_apply (x0 : Vec Ideal S4x8192x2048 .bf16) (x1 : Vec Ideal S4x8192x10240 .f32) (x2 : Vec Ideal S128 .f32) (x3 : Vec Ideal S2048x1024 .f32)
    (x4 : Vec Ideal S4x8192x1024 .f32) (x5 : Vec Ideal S4x1024 .f32) (b : Fin 4) (n : Fin 8192) (c : Fin 1024) :
    val_main_v27 x0 x1 x2 x3 x4 x5 (ix3 b n c)
      = residual (gated (fun k => x0 (ix3 b n k)) (fun k => x2 (ix1 ⟨k.val % 128, by omega⟩)) (fun k => x1 (ix3 b n ⟨8192 + k.val, by omega⟩)))
          (fun k => x3 (ix2 k c)) (x4 (ix3 b n c)) (x5 (ix2 b c)) := by
  pointwise [val_main_v27, val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1,
    val_main_call0_v0, val_main_call0_v1, val_main_call0_v2, val_main_call0_v3, val_main_call0_v4, val_main_call0_v5, val_main_call0_cst, val_main_call0_cst_0,
    dot_S4x8192x2048_S2048x1024_S4x8192x1024_2_0_01_1_n_n]
  rfl

end Reference

section Whole
open Cert.OutHgIdeal Cert.OutHgIdeal.Gen Cert.OutHgIdeal.Value Idealize.ShloMosaic.TcCoe

variable (m : (ℓ : Loc nD τ sig) → Buf (Elt Ideal) ℓ) (c : Dev nD)

/-! ## What the region finds in the arrays the host prepared -/

/-- The norm's weight, repeated for every head. -/
theorem V_g (k : Fin 2048) : V m c main_v3 (ix2 0 k) = m ((c : Thread nD τ).loc main_arg2) (ix1 ⟨k.val % 128, by omega⟩) := by
  have e : V m c main_v3 = shapeCast S1x2048 (shapeCast S2048 (broadcastInDim S16x128 ![0, 1] bcast_S1x128_S16x128_0_1
      (shapeCast S1x128 (m ((c : Thread nD τ).loc main_arg2)) shapeCasts_S128_S1x128)) shapeCasts_S16x128_S2048) shapeCasts_S2048_S1x2048 := by
    simp only [V, hostOps0, List.flatten_cons, List.flatten_nil, List.append_nil, List.cons_append, List.nil_append]
    after_results_simp <;> rfl
  rw [e]
  pointwise

theorem V_w : V m c main_v4 = (truncf .bf16 (m ((c : Thread nD τ).loc main_arg3) : FVec Ideal S2048x1024 .f32) bitsLt_bf16_f32 : FVec Ideal S2048x1024 .bf16) := by
  simp only [V, hostOps0, List.flatten_cons, List.flatten_nil, List.append_nil, List.cons_append, List.nil_append]
  after_results_simp <;> rfl

theorem V_gate : V m c main_v5 = shapeCast S4x1x1024 (m ((c : Thread nD τ).loc main_arg5)) shapeCasts_S4x1024_S4x1x1024 := by
  simp only [V, hostOps0, List.flatten_cons, List.flatten_nil, List.append_nil, List.cons_append, List.nil_append]
  after_results_simp <;> rfl

/-! ## The blocks at a point -/

/-- The block indices of every window at every point: the gate's columns are the last fifth of the projection's. -/
theorem idx_facts : ∀ t : Fin cfg0.N, win0_6.index t = ![t.val / 16, t.val % 16, 0] ∧ win0_0.index t = ![t.val / 16, t.val % 16, 0]
    ∧ win0_1.index t = ![t.val / 16, t.val % 16, 4] ∧ win0_2.index t = ![0, 0] ∧ win0_3.index t = ![0, 0]
    ∧ win0_4.index t = ![t.val / 16, t.val % 16, 0] ∧ win0_5.index t = ![t.val / 16, 0, 0] :=
  (by decide +kernel : ∀ t : Fin grid0.N, _)

/-- The body's store covers the block: what it leaves, read at one place. -/
theorem out_apply (x0 : Vec Ideal S1x512x2048 .bf16) (x1 : Vec Ideal S1x512x2048 .f32) (x2 : Vec Ideal S1x2048 .f32) (x3 : Vec Ideal S2048x1024 .bf16)
    (x4 : Vec Ideal S1x512x1024 .f32) (x5 : Vec Ideal S1x1x1024 .f32) (r : Fin 512) (l : Fin 1024) :
    out0_6 x0 x1 x2 x3 x4 x5 (ix3 0 r l)
      = residual (gated (fun k => x0 (ix3 0 r k)) (fun k => x2 (ix2 0 k)) (fun k => x1 (ix3 0 r k))) (fun k => x3 (ix2 k l)) (x4 (ix3 0 r l)) (x5 (ix3 0 0 l)) := by
  unfold_out out0_6
  rw [View.canon_cons_unit_zero (S := S1x512x1024) zero3, View.ld_unit_zero (S := S1x512x2048) zero3, View.ld_unit_zero (S := S1x512x2048) zero3,
    View.ld_unit_zero (S := S1x2048) zero2, View.ld_unit_zero (S := S2048x1024) zero2, View.ld_unit_zero (S := S1x512x1024) zero3,
    View.ld_unit_zero (S := S1x1x1024) zero3, block_apply]
  simp only [norm_apply]
  rfl

/-- The reference's result as a function of the kernel's launch memory. -/
def G : Buf (Elt Ideal) ((c : Thread nD τ).loc main_v6) :=
  Cert.OutHgRefIdeal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

variable (t : Fin cfg0.N)

theorem blk_o (r : Fin 512) (k : Fin 2048) : iblk m c 0 t (ix3 0 r k) = m ((c : Thread nD τ).loc main_arg0) (ix3 (bOf t) (nOf t r) k) :=
  (congrArg (V m c main_arg0) (place3 (idx_facts t).2.1 rfl rfl rfl (by simp) (by simp) (by simp))).trans (congrFun (V_main_arg0 m c) _)

theorem blk_z (r : Fin 512) (k : Fin 2048) :
    iblk m c 1 t (ix3 0 r k) = m ((c : Thread nD τ).loc main_arg1) (ix3 (bOf t) (nOf t r) ⟨8192 + k.val, by omega⟩) :=
  (congrArg (V m c main_arg1) (place3 (idx_facts t).2.2.1 rfl rfl rfl (by simp) (by simp) (by simp))).trans (congrFun (V_main_arg1 m c) _)

theorem blk_g (k : Fin 2048) : iblk m c 2 t (ix2 0 k) = m ((c : Thread nD τ).loc main_arg2) (ix1 ⟨k.val % 128, by omega⟩) :=
  (congrArg (V m c main_v3) (place2 (idx_facts t).2.2.2.1 rfl rfl (by simp) (by simp))).trans (V_g m c k)

theorem blk_w (k : Fin 2048) (l : Fin 1024) : iblk m c 3 t (ix2 k l) = m ((c : Thread nD τ).loc main_arg3) (ix2 k l) :=
  (congrArg (V m c main_v4) (place2 (idx_facts t).2.2.2.2.1 rfl rfl (by simp) (by simp))).trans (congrFun (V_w m c) _)

theorem blk_x (r : Fin 512) (l : Fin 1024) : iblk m c 4 t (ix3 0 r l) = m ((c : Thread nD τ).loc main_arg4) (ix3 (bOf t) (nOf t r) l) :=
  (congrArg (V m c main_arg4) (place3 (idx_facts t).2.2.2.2.2.1 rfl rfl rfl (by simp) (by simp) (by simp))).trans (congrFun (V_main_arg4 m c) _)

theorem blk_gate (l : Fin 1024) : iblk m c 5 t (ix3 0 0 l) = m ((c : Thread nD τ).loc main_arg5) (ix2 (bOf t) l) :=
  (congrArg (V m c main_v5) (place3 (idx_facts t).2.2.2.2.2.2 rfl rfl rfl (by simp) (by simp) (by simp))).trans
    ((congrFun (V_gate m c) _).trans (seq_apply _ _ (bOf t) l))

/-- What a point writes back is its block of the reference's result. -/
theorem flushed_eq : (dats m 0 c).flushed 6 t = ((cfg0.win 6).blk t).view.read (Elt Ideal) (G m c) := by
  rw [flushed6]
  funext y
  obtain ⟨u, r, l, rfl⟩ : ∃ (u : Fin 1) (r : Fin 512) (l : Fin 1024), y = ix3 u r l := ⟨y 0, y 1, y 2, eq_ix3 y⟩
  obtain rfl : u = 0 := Subsingleton.elim _ _
  show out0_6 _ _ _ _ _ _ (ix3 0 r l) = G m c (((cfg0.win 6).blk t).view.emb (ix3 0 r l))
  rw [show ((cfg0.win 6).blk t).view.emb (ix3 0 r l) = (ix3 (bOf t) (nOf t r) l : S4x8192x1024.Idx) from
    place3 (idx_facts t).1 rfl rfl rfl (by simp) (by simp) (by simp)]
  unfold G
  rw [ref_apply, out_apply]
  simp only [blk_o, blk_z, blk_g, blk_w, blk_x, blk_gate]

/-- Every element of the array lies in some point's block. -/
theorem covered (i : S4x8192x1024.Idx) : ∃ t : Fin cfg0.N, (cfg0.win 6).flush t = true ∧ i ∈ ((cfg0.win 6).blk t).view.set := by
  obtain ⟨t, hb, hn⟩ := point (i 0) (i 1)
  refine ⟨t, (by decide +kernel : ∀ t : Fin grid0.N, win0_6.flush t = true) t, ?_⟩
  show i ∈ ((View.whole main_v6).slice (win0_6.rect t)).set
  rw [View.set_slice_whole, Rect.mem_set_unit]
  exact inside (idx_facts t).1 i hb hn win0_6.size (by decide)

/-- The kernel's array after the run is the reference's result. -/
theorem final : (dats m 0 c).arrAt 6 cfg0.N = G m c :=
  (dats m 0 c).arrAt_eq_of_cover 6 _ (fun t _ => flushed_eq m c t) covered

end Whole

section Claims
open Cert.OutHgIdeal Cert.OutHgIdeal.Gen Idealize.ShloMosaic.TcCoe

/-- From memories that agree on the arguments, the kernel and the reference end with the same result. -/
theorem equal : Cert.algebraic_OutHgIdeal_OutHgRefIdeal := by
  intro m ρ m' ρ' _ hag
  refine ⟨fun c => G m c, (θ_run _ _ _).mono (fun r h c => ⟨(h c).1.trans (final m c), (h c).2⟩) (Cert.OutHgIdeal.Value.run_blocks m ρ), ?_⟩
  refine (θ_run _ _ _).mono (fun _ h c => ⟨(h c).1.trans ?_, (h c).2⟩) (Cert.OutHgRefIdeal.Value.run m' ρ')
  obtain ⟨h0, h1, h2, h3, h4, h5⟩ := hag c
  rw [Cert.OutHgRefIdeal.Read.val_main_v27_eq, h0, h1, h2, h3, h4, h5]
  rfl

end Claims

end OutHg
end
-- ==== Proof.AdalnValue.lean ====
/-
  The value of the modulation of all layers: every layer's row is the product of the activated condition with that layer's
  matrix, plus its bias.
-/
module

public import proofs.«01_k».proof.Proof.OutHgValue
public import proofs.«01_k».proof.Proof.Gen.AdalnIdeal.Value
public import proofs.«01_k».proof.Proof.Gen.AdalnRefIdeal.Run
public import proofs.«01_k».proof.Proof.Gen.AdalnRefIdeal.Read

@[expose] public section

noncomputable section

namespace Adaln

open Idealize.ShloMosaic Idealize.SL.Sem InProj OutProj

/-- The activated condition `a` against one column of a layer's matrix, plus that column's bias. -/
def modulation (a w : Fin 1024 → EReal) (b : EReal) : EReal := (∑ k, a k * Ideal.logistic (a k) * w k) + b

section Block
open Cert.AdalnIdeal Cert.AdalnIdeal.Gen

/-- The block's element at row `r`, column `k`. -/
theorem block_apply (x0 : Vec Ideal S16x1024 .f32) (x1 : Vec Ideal S1x1024x1024 .bf16) (x2 : Vec Ideal S1x1x1024 .f32) (r : Fin 16) (k : Fin 1024) :
    k0_pay1 x0 x1 x2 (ix3 0 r k) = modulation (fun d => x0 (ix2 r d)) (fun d => x1 (ix3 0 d k)) (x2 (ix3 0 0 k)) := by
  pointwise [k0_pay1, dot_S16x1024_S1024x1024_S16x1024_1_0_0_1_n_n]
  rfl

end Block

section Reference
open Cert.AdalnRefIdeal Cert.AdalnRefIdeal.Read

/-- The reference's activation at one element. -/
theorem silu_apply (x0 : Vec Ideal S16x1024 .f32) (r : Fin 16) (d : Fin 1024) :
    val_main_v0 x0 (ix2 r d) = x0 (ix2 r d) * Ideal.logistic (x0 (ix2 r d)) := by
  pointwise [val_main_v0, val_main_call0_v0, val_main_call0_v1, val_main_call0_v2, val_main_call0_v3, val_main_call0_v4, val_main_call0_v5,
    val_main_call0_cst, val_main_call0_cst_0]
  rfl

/-- The reference's element at layer `l`, row `r`, column `k`. -/
theorem ref_apply (x0 : Vec Ideal S16x1024 .f32) (x1 : Vec Ideal S4x1024x3072 .f32) (x2 : Vec Ideal S4x3072 .f32) (l : Fin 4) (r : Fin 16) (k : Fin 3072) :
    val_main_v5 x0 x1 x2 (ix3 l r k) = modulation (fun d => x0 (ix2 r d)) (fun d => x1 (ix3 l d k)) (x2 (ix2 l k)) := by
  rw [val_main_v5_apply, val_main_v2_apply, val_main_v4_apply, val_main_v3_apply, val_main_v1_apply]
  refine congrArg₂ (· + ·) (Finset.sum_congr rfl fun d _ => ?_) (congrArg x2 (eq_ix2 _))
  rw [mul_comm, show ridx_main_v1 (idx_main_v2 (ix3 l r k)) d = ix2 r d from eq_ix2 _, silu_apply]
  exact congrArg _ (congrArg x1 (eq_ix3 _))

end Reference

section Whole
open Cert.AdalnIdeal Cert.AdalnIdeal.Gen Cert.AdalnIdeal.Value Idealize.ShloMosaic.TcCoe

variable (m : (ℓ : Loc nD τ sig) → Buf (Elt Ideal) ℓ) (c : Dev nD)

/-! ## What the region finds in the arrays the host prepared -/

theorem V_w : V m c main_v0
    = (truncf .bf16 (m ((c : Thread nD τ).loc main_arg1) : FVec Ideal S4x1024x3072 .f32) bitsLt_bf16_f32 : FVec Ideal S4x1024x3072 .bf16) := by
  simp only [V, hostOps0, List.flatten_cons, List.flatten_nil, List.append_nil, List.cons_append, List.nil_append]
  after_results_simp <;> rfl

theorem V_b : V m c main_v1 = shapeCast S4x1x3072 (m ((c : Thread nD τ).loc main_arg2)) shapeCasts_S4x3072_S4x1x3072 := by
  simp only [V, hostOps0, List.flatten_cons, List.flatten_nil, List.append_nil, List.cons_append, List.nil_append]
  after_results_simp <;> rfl

/-- The bias with a unit axis, at an element. -/
theorem bias_apply (v : FVec Ideal S4x3072 .f32) (h) (l : Fin 4) (k : Fin 3072) : shapeCast S4x1x3072 v h (ix3 l 0 k) = v (ix2 l k) := by
  pointwise

/-! ## The blocks at a point -/

/-- The block indices of every window at every point. -/
theorem idx_facts : ∀ t : Fin cfg0.N, win0_3.index t = ![t.val / 3, 0, t.val % 3] ∧ win0_0.index t = ![0, 0]
    ∧ win0_1.index t = ![t.val / 3, 0, t.val % 3] ∧ win0_2.index t = ![t.val / 3, 0, t.val % 3] :=
  (by decide +kernel : ∀ t : Fin grid0.N, _)

/-- The layer that point `t` works on. -/
abbrev lOf (t : Fin 12) : Fin 4 := ⟨t.val / 3, by omega⟩

/-- The column of the output at column `k` of point `t`'s tile. -/
abbrev kOf (t : Fin 12) (k : Fin 1024) : Fin 3072 := ⟨t.val % 3 * 1024 + k.val, by omega⟩

/-- The body's store covers the block: what it leaves is the payload of the loaded blocks. -/
theorem out_eq (x0 : Vec Ideal S16x1024 .f32) (x1 : Vec Ideal S1x1024x1024 .bf16) (x2 : Vec Ideal S1x1x1024 .f32) :
    out0_3 x0 x1 x2 = k0_pay1 x0 x1 x2 := by
  unfold out0_3
  rw [View.canon_cons_unit_zero (S := S1x16x1024) zero3, View.ld_unit_zero (S := S16x1024) zero2, View.ld_unit_zero (S := S1x1024x1024) zero3,
    View.ld_unit_zero (S := S1x1x1024) zero3]

/-- The reference's result as a function of the kernel's launch memory. -/
def G : Buf (Elt Ideal) ((c : Thread nD τ).loc main_v2) :=
  Cert.AdalnRefIdeal.Read.val_main_v5 (F := Ideal) (m ((c : Thread nD τ).loc main_arg0)) (m ((c : Thread nD τ).loc main_arg1))
    (m ((c : Thread nD τ).loc main_arg2))

variable (t : Fin cfg0.N)

theorem blk_c (r : Fin 16) (d : Fin 1024) : iblk m c 0 t (ix2 r d) = m ((c : Thread nD τ).loc main_arg0) (ix2 r d) :=
  (congrArg (V m c main_arg0) (place2 (idx_facts t).2.1 rfl rfl (by simp) (by simp))).trans (congrFun (V_main_arg0 m c) _)

theorem blk_w (d k : Fin 1024) : iblk m c 1 t (ix3 0 d k) = m ((c : Thread nD τ).loc main_arg1) (ix3 (lOf t) d (kOf t k)) :=
  (congrArg (V m c main_v0) (place3 (idx_facts t).2.2.1 rfl rfl rfl (by simp) (by simp) (by simp))).trans (congrFun (V_w m c) _)

theorem blk_b (k : Fin 1024) : iblk m c 2 t (ix3 0 0 k) = m ((c : Thread nD τ).loc main_arg2) (ix2 (lOf t) (kOf t k)) :=
  (congrArg (V m c main_v1) (place3 (idx_facts t).2.2.2 rfl rfl rfl (by simp) (by simp) (by simp))).trans
    ((congrFun (V_b m c) _).trans (bias_apply _ _ (lOf t) (kOf t k)))

/-- What a point writes back is its block of the reference's result. -/
theorem flushed_eq : (dats m 0 c).flushed 3 t = ((cfg0.win 3).blk t).view.read (Elt Ideal) (G m c) := by
  rw [flushed3]
  funext y
  obtain ⟨u, r, k, rfl⟩ : ∃ (u : Fin 1) (r : Fin 16) (k : Fin 1024), y = ix3 u r k := ⟨y 0, y 1, y 2, eq_ix3 y⟩
  obtain rfl : u = 0 := Subsingleton.elim _ _
  show out0_3 _ _ _ (ix3 0 r k) = G m c (((cfg0.win 3).blk t).view.emb (ix3 0 r k))
  rw [show ((cfg0.win 3).blk t).view.emb (ix3 0 r k) = (ix3 (lOf t) r (kOf t k) : S4x16x3072.Idx) from
    place3 (idx_facts t).1 rfl rfl rfl (by simp) (by simp) (by simp)]
  unfold G
  rw [ref_apply, out_eq, block_apply]
  simp only [blk_c, blk_w, blk_b]

/-- Every element of the array lies in some point's block. -/
theorem covered (i : S4x16x3072.Idx) : ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 3072 := (i 2).isLt
  let t : Fin 12 := ⟨3 * (i 0).val + (i 2).val / 1024, by omega⟩
  refine ⟨t, (by decide +kernel : ∀ t : Fin grid0.N, win0_3.flush t = true) t, ?_⟩
  show i ∈ ((View.whole main_v2).slice (win0_3.rect t)).set
  rw [View.set_slice_whole, Rect.mem_set_unit]
  show ∀ a, win0_3.index t a * ![1, 16, 1024] a ≤ (i a).val ∧ (i a).val < win0_3.index t a * ![1, 16, 1024] a + ![1, 16, 1024] a
  rw [(idx_facts t).1]
  refine InProj.within _ _ (fun a => (i a).val) (by decide) fun a => ?_
  match a with
  | ⟨0, _⟩ => show (3 * (i 0).val + (i 2).val / 1024) / 3 = (i 0).val / 1; omega
  | ⟨1, _⟩ => show 0 = (i 1).val / 16; omega
  | ⟨2, _⟩ => show (3 * (i 0).val + (i 2).val / 1024) % 3 = (i 2).val / 1024; omega

/-- The kernel's array after the run is the reference's result. -/
theorem final : (dats m 0 c).arrAt 3 cfg0.N = G m c :=
  (dats m 0 c).arrAt_eq_of_cover 3 _ (fun t _ => flushed_eq m c t) covered

end Whole

section Claims
open Cert.AdalnIdeal Cert.AdalnIdeal.Gen Idealize.ShloMosaic.TcCoe

/-- From memories that agree on the arguments, the kernel and the reference end with the same result. -/
theorem equal : Cert.algebraic_AdalnIdeal_AdalnRefIdeal := by
  intro m ρ m' ρ' _ hag
  refine ⟨fun c => G m c, (θ_run _ _ _).mono (fun r h c => ⟨(h c).1.trans (final m c), (h c).2⟩) (Cert.AdalnIdeal.Value.run_blocks m ρ), ?_⟩
  refine (θ_run _ _ _).mono (fun _ h c => ⟨(h c).1.trans ?_, (h c).2⟩) (Cert.AdalnRefIdeal.Value.run m' ρ')
  obtain ⟨h0, h1, h2⟩ := hag c
  rw [Cert.AdalnRefIdeal.Read.val_main_v5_eq, h0, h1, h2]
  rfl

end Claims

end Adaln
end
-- ==== Proof.HyPreBlock.lean ====
/-
  The Hyena layer's short convolution at one element: what the reference computes there, and what the kernel's block holds
  there.  The kernel reads each stream from a scratch buffer with eight rows before the tile and eight after it, so that both
  sides are stated over the sequence with eight zero rows before and after it.
-/
module

public import proofs.«01_k».proof.Proof.AdalnValue
public import Idealize.ShloMosaic.Lib.KernelVsHost
public import proofs.«01_k».proof.Proof.Gen.HyPreIdeal.Value
public import proofs.«01_k».proof.Proof.Gen.HyPreRefIdeal.Run
public import proofs.«01_k».proof.Proof.Gen.HyPreRefIdeal.Read

@[expose] public section

noncomputable section

namespace HyPre

open Idealize.ShloMosaic Idealize.SL.Sem InProj OutProj

/-- Three taps and a bias. -/
def taps (b w0 y0 w1 y1 w2 y2 : EReal) : EReal := b + w0 * y0 + w1 * y1 + w2 * y2

/-- The last gate: the convolved value times the activated gate stream. -/
def gated (x z : EReal) : EReal := x * (z * Ideal.logistic z)

/-- Row `i` of a stream with eight zero rows before and after it. -/
def padded (x : (⟨3, ![4, 8192, 8192]⟩ : Shape).Idx → EReal) (b : Fin 4) (k : Fin 8192) (i : ℕ) : EReal :=
  if h : 8 ≤ i ∧ i < 8200 then x (ix3 b ⟨i - 8, by omega⟩ k) else 0

/-- A column of the three convolved streams as a column of the projection. -/
abbrev wide (k : Fin 6144) : Fin 8192 := ⟨k.val, by omega⟩

/-- The short convolution at token `n`, column `k`. -/
def short (x : (⟨3, ![4, 8192, 8192]⟩ : Shape).Idx → EReal) (w : (⟨2, ![3, 6144]⟩ : Shape).Idx → EReal)
    (bias : (⟨1, ![6144]⟩ : Shape).Idx → EReal) (b : Fin 4) (n : Fin 8192) (k : Fin 6144) : EReal :=
  taps (bias (ix1 k)) (w (ix2 0 k)) (padded x b (wide k) (n.val + 7)) (w (ix2 1 k)) (padded x b (wide k) (n.val + 8))
    (w (ix2 2 k)) (padded x b (wide k) (n.val + 9))

/-- A column of the output, `o` columns further right. -/
abbrev right {N : ℕ} (o : ℕ) (ho : o + 2048 ≤ N) (k : Fin 2048) : Fin N := ⟨o + k.val, by omega⟩

section Reference
open Cert.HyPreRefIdeal Cert.HyPreRefIdeal.Read

variable (x0 : Vec Ideal S4x8192x8192 .bf16) (x1 : Vec Ideal S3x6144 .f32) (x2 : Vec Ideal S6144 .f32) (b : Fin 4)

/-- The value that pads the reference's streams is zero. -/
theorem fill_zero (i : S_.Idx) : val_main_call0_v0 (F := Ideal) i = 0 := by
  pointwise [val_main_call0_v0, val_main_c]
  show (((0#32 : BitVec 32).toInt : ℝ) : EReal) = 0
  simp

/-- The reference's padded stream: its one zero row is the last of the eight. -/
theorem pad_row (p : Fin 8194) (k : Fin 6144) : val_main_v2 x0 (ix3 b p k) = padded x0 b (wide k) (p.val + 7) := by
  unfold val_main_v2 padded
  split
  · rename_i h
    rw [pad_apply_of_inside _ _ _ _ _ _ _ _ (ix3 b (⟨p.val - 1, by omega⟩ : Fin 8192) k : S4x8192x6144.Idx) (fun a => match a with
      | ⟨0, _⟩ => by show b.val = 0 + b.val * 1; omega
      | ⟨1, _⟩ => by show p.val = 1 + (p.val - 1) * 1; omega
      | ⟨2, _⟩ => by show k.val = 0 + k.val * 1; omega), val_main_v1_apply]
    refine congrArg x0 ((eq_ix3 _).trans ?_)
    exact congrArg₂ (fun u v => (ix3 u v (wide k) : S4x8192x8192.Idx)) rfl (Fin.ext (by show p.val - 1 = p.val + 7 - 8; omega))
  · rename_i h
    rw [pad_apply_of_not_inside _ _ _ _ _ _ _ _ (1 : Fin 3) (by
      show ¬(1 ≤ p.val ∧ (p.val - 1) % 1 = 0 ∧ (p.val - 1) / 1 < 8192)
      omega)]
    exact fill_zero _

variable (n : Fin 8192)

/-- The reference's short convolution. -/
theorem conv_apply (k : Fin 6144) : val_main_v27 x0 x1 x2 (ix3 b n k) = short x0 x1 x2 b n k := by
  have w0 : val_main_v7 x1 (ix3 b n k) = x1 (ix2 0 k) := by pointwise [val_main_v3, val_main_v4, val_main_v6, val_main_v7]
  have w1 : val_main_v15 x1 (ix3 b n k) = x1 (ix2 1 k) := by pointwise [val_main_v11, val_main_v12, val_main_v14, val_main_v15]
  have w2 : val_main_v22 x1 (ix3 b n k) = x1 (ix2 2 k) := by pointwise [val_main_v18, val_main_v19, val_main_v21, val_main_v22]
  have hb : val_main_v26 x2 (ix3 b n k) = x2 (ix1 k) := by pointwise [val_main_v25, val_main_v26]
  have hz : val_main_v9 (F := Ideal) (ix3 b n k) = 0 := by pointwise [val_main_v9, val_main_cst]
  have y0 : val_main_v5 x0 (ix3 b n k) = padded x0 b (wide k) (n.val + 7) :=
    (val_main_v5_apply x0 _).trans ((congrArg (val_main_v2 x0) (eq_ix3 _)).trans (pad_row x0 b ⟨n.val, by omega⟩ k))
  have y1 : val_main_v13 x0 (ix3 b n k) = padded x0 b (wide k) (n.val + 8) :=
    (val_main_v13_apply x0 _).trans ((congrArg (val_main_v2 x0) (eq_ix3 _)).trans
      ((pad_row x0 b ⟨1 + n.val, by omega⟩ k).trans (congrArg (padded x0 b (wide k)) (by show 1 + n.val + 7 = _; omega))))
  have y2 : val_main_v20 x0 (ix3 b n k) = padded x0 b (wide k) (n.val + 9) :=
    (val_main_v20_apply x0 _).trans ((congrArg (val_main_v2 x0) (eq_ix3 _)).trans
      ((pad_row x0 b ⟨2 + n.val, by omega⟩ k).trans (congrArg (padded x0 b (wide k)) (by show 2 + n.val + 7 = _; omega))))
  rw [val_main_v27_apply, val_main_v24_apply, val_main_v23_apply, val_main_v17_apply, val_main_v16_apply, val_main_v10_apply, val_main_v8_apply,
    w0, w1, w2, hb, hz, y0, y1, y2]
  show 0 + _ * _ + _ * _ + _ * _ + _ = _
  rw [zero_add, add_comm, ← add_assoc, ← add_assoc]
  rfl

/-- The reference's first result: the product of the first and the third convolved stream. -/
theorem ref_u (k : Fin 2048) :
    val_main_v32 x0 x1 x2 (ix3 b n k) = short x0 x1 x2 b n (right 0 (by decide) k) * short x0 x1 x2 b n (right 4096 (by decide) k) := by
  rw [val_main_v32_apply, val_main_v29_apply, val_main_v31_apply, ← conv_apply, ← conv_apply]
  exact congrArg₂ (fun i j => val_main_v27 x0 x1 x2 i * val_main_v27 x0 x1 x2 j)
    ((eq_ix3 _).trans (congrArg (ix3 b n) (Fin.ext (Nat.zero_add _).symm))) (eq_ix3 _)

/-- The reference's second result: the second convolved stream times the activated gate stream. -/
theorem ref_g (k : Fin 2048) :
    val_main_v35 x0 x1 x2 (ix3 b n k) = gated (short x0 x1 x2 b n (right 2048 (by decide) k)) (x0 (ix3 b n (right 6144 (by decide) k))) := by
  have h : val_main_v30 x0 x1 x2 (ix3 b n k) = short x0 x1 x2 b n (right 2048 (by decide) k) :=
    (val_main_v30_apply x0 x1 x2 _).trans ((congrArg (val_main_v27 x0 x1 x2) (eq_ix3 _)).trans (conv_apply x0 x1 x2 b n _))
  have hz : val_main_v28 x0 (ix3 b n k) = x0 (ix3 b n (right 6144 (by decide) k)) :=
    (val_main_v28_apply x0 _).trans (congrArg x0 (eq_ix3 _))
  rw [← h, ← hz]
  pointwise [val_main_v35, val_main_v34, val_main_v33, val_main_call1_v0, val_main_call1_v1, val_main_call1_v2, val_main_call1_v3, val_main_call1_v4,
    val_main_call1_v5, val_main_call1_cst, val_main_call1_cst_0]
  rfl

end Reference

section Block
open Cert.HyPreIdeal Cert.HyPreIdeal.Gen

/-! ## The block's two results at an element -/

theorem block_u (b w0 w1 w2 b' w0' w1' w2' : Vec Ideal S1x512 .f32) (y0 y1 y2 y0' y1' y2' : Vec Ideal S512x512 .f32) (r k : Fin 512) :
    k0_pay17 (k0_pay7 (k0_pay5 b) y0 (k0_pay6 w0) w1 y1 w2 y2) b' w0' y0' w1' y1' w2' y2' (ix3 0 r k)
      = taps (b (ix2 0 k)) (w0 (ix2 0 k)) (y0 (ix2 r k)) (w1 (ix2 0 k)) (y1 (ix2 r k)) (w2 (ix2 0 k)) (y2 (ix2 r k))
        * taps (b' (ix2 0 k)) (w0' (ix2 0 k)) (y0' (ix2 r k)) (w1' (ix2 0 k)) (y1' (ix2 r k)) (w2' (ix2 0 k)) (y2' (ix2 r k)) := by
  pointwise [k0_pay17, k0_pay7, k0_pay5, k0_pay6]
  rfl

theorem block_g (b w0 w1 w2 : Vec Ideal S1x512 .f32) (y0 y1 y2 : Vec Ideal S512x512 .f32) (z : Vec Ideal S1x512x512 .bf16) (r k : Fin 512) :
    k0_pay1 (k0_pay12 b w0 y0 w1 y1 w2 y2) z (ix3 0 r k)
      = gated (taps (b (ix2 0 k)) (w0 (ix2 0 k)) (y0 (ix2 r k)) (w1 (ix2 0 k)) (y1 (ix2 r k)) (w2 (ix2 0 k)) (y2 (ix2 r k))) (z (ix3 0 r k)) := by
  pointwise [k0_pay1, k0_pay12]
  rfl

/-! ## What is stored around a tile -/

theorem edge_one (x : Vec Ideal S1x8x512 .bf16) (r : Fin 8) (k : Fin 512) : k0_pay13 1#1 x (ix2 r k) = 0 := by
  pointwise [k0_pay13]

theorem edge_zero (x : Vec Ideal S1x8x512 .bf16) (r : Fin 8) (k : Fin 512) : k0_pay13 0#1 x (ix2 r k) = x (ix3 0 r k) := by
  pointwise [k0_pay13]

theorem tile_apply (x : Vec Ideal S1x512x512 .bf16) (r k : Fin 512) : k0_pay3 x (ix2 r k) = x (ix3 0 r k) := by
  pointwise [k0_pay3]

/-- Three stores that hold the rows of one stream, read back from row `o`: the stream from there. -/
theorem rows_apply {κ : Kind} {sp : Space} (v : View sig κ sp S528x512 .f32) (X : ℕ → Fin 512 → EReal) (p q : Vec Ideal S8x512 .f32)
    (x : Vec Ideal S512x512 .f32) (hp : ∀ r k, p (ix2 r k) = X r.val k) (hx : ∀ r k, x (ix2 r k) = X (8 + r.val) k)
    (hq : ∀ r k, q (ix2 r k) = X (520 + r.val) k) (o : ℕ) (inb) (r k : Fin 512) :
    v.readCov (Val := Elt Ideal) [⟨Rect.unit ![520, 0] S8x512.size inb_S528x512_S8x512_520_0, q⟩, ⟨Rect.unit ![8, 0] S512x512.size inb_S528x512_S512x512_8_0, x⟩,
      ⟨Rect.unit ![0, 0] S8x512.size inb_S528x512_S8x512_0_0, p⟩] (Rect.unit (s := S528x512) ![o, 0] S512x512.size inb).toLoadRect (ix2 r k)
      = X (o + r.val) k := by
  rw [View.readCov_eq_canon']
  have ho : o + 512 ≤ 528 := inb 0
  refine (View.canon_apply_of_pieces (fun i : S528x512.Idx => X (i 0).val (i 1)) _ (fun P hP y => ?_) _ ?_).trans
    (congrArg₂ X (by show o + 1 * r.val = _; omega) (Fin.ext (by show 0 + 1 * k.val = _; omega)))
  · simp only [List.mem_cons, List.not_mem_nil, or_false] at hP
    rcases hP with rfl | rfl | rfl
    · exact ((congrArg q (eq_ix2 y)).trans (hq (y 0) (y 1))).trans
        (congrArg₂ X (by show 520 + (y 0).val = 520 + 1 * (y 0).val; omega) (Fin.ext (by show (y 1).val = 0 + 1 * (y 1).val; omega)))
    · exact ((congrArg x (eq_ix2 y)).trans (hx (y 0) (y 1))).trans
        (congrArg₂ X (by show 8 + (y 0).val = 8 + 1 * (y 0).val; omega) (Fin.ext (by show (y 1).val = 0 + 1 * (y 1).val; omega)))
    · exact ((congrArg p (eq_ix2 y)).trans (hp (y 0) (y 1))).trans
        (congrArg₂ X (by show (y 0).val = 0 + 1 * (y 0).val; omega) (Fin.ext (by show (y 1).val = 0 + 1 * (y 1).val; omega)))
  · obtain ⟨i, hi⟩ : ∃ i, i = (Rect.unit (s := S528x512) ![o, 0] S512x512.size inb).toLoadRect.idx (ix2 r k) := ⟨_, rfl⟩
    have h0 : (i 0).val < 528 := (i 0).isLt
    have h1 : (i 1).val < 512 := (i 1).isLt
    have inside : ∀ (a n : ℕ) (inb'), a ≤ (i 0).val → (i 0).val < a + n → i ∈ (Rect.unit (s := S528x512) ![a, 0] ![n, 512] inb').set := by
      intro a n inb' ha hn
      rw [Rect.mem_set_unit]
      intro d
      match d with
      | ⟨0, _⟩ => exact ⟨ha, hn⟩
      | ⟨1, _⟩ => exact ⟨Nat.zero_le _, by show (i 1).val < 0 + 512; omega⟩
    rw [← hi]
    by_cases ha : (i 0).val < 8
    · exact ⟨_, List.mem_cons_of_mem _ (List.mem_cons_of_mem _ List.mem_cons_self), inside 0 8 inb_S528x512_S8x512_0_0 (Nat.zero_le _) (by omega)⟩
    · by_cases hb : (i 0).val < 520
      · exact ⟨_, List.mem_cons_of_mem _ List.mem_cons_self, inside 8 512 inb_S528x512_S512x512_8_0 (by omega) (by omega)⟩
      · exact ⟨_, List.mem_cons_self, inside 520 8 inb_S528x512_S8x512_520_0 (by omega) (by omega)⟩

end Block

end HyPre
end
-- ==== Proof.HyPreValue.lean ====
/-
  The value of the Hyena layer's first stage: its short convolution and its gates.  Both results of every point are blocks of
  the reference's two results.
-/
module

public import proofs.«01_k».proof.Proof.AdalnValue
public import proofs.«01_k».proof.Proof.HyPreBlock

@[expose] public section

noncomputable section

namespace HyPre

open Idealize.ShloMosaic Idealize.SL.Sem InProj OutProj
open Cert.HyPreIdeal Cert.HyPreIdeal.Gen Cert.HyPreIdeal.Value Idealize.ShloMosaic.TcCoe

/-! ## Points: their sequence, their tokens, their columns -/

abbrev seqOf (t : Fin 256) : Fin 4 := ⟨t.val / 64, by omega⟩

abbrev tokOf (t : Fin 256) (r : Fin 512) : Fin 8192 := ⟨t.val / 4 % 16 * 512 + r.val, by omega⟩

abbrev colOf (t : Fin 256) (k : Fin 512) : Fin 2048 := ⟨t.val % 4 * 512 + k.val, by omega⟩

/-- The kernel's test for the first tile of a sequence. -/
theorem first_iff : ∀ t : Fin cfg0.N, Scalar.cmpi .eq (BitVec.ofNat 32 (grid0.coords t 1).val) 0#32 = if t.val / 4 % 16 = 0 then 1#1 else 0#1 :=
  (by decide +kernel : ∀ t : Fin grid0.N, _)

/-- The kernel's test for the last tile of a sequence. -/
theorem last_iff : ∀ t : Fin cfg0.N, Scalar.cmpi .eq (BitVec.ofNat 32 (grid0.coords t 1).val) 15#32 = if t.val / 4 % 16 = 15 then 1#1 else 0#1 :=
  (by decide +kernel : ∀ t : Fin grid0.N, _)

/-! ## Loads of a part of a block -/

theorem ld_row (x : Vec Ideal S3x512 .f32) (o : ℕ) (inb : ∀ a, (![o, 0] : Fin 2 → ℕ) a + S1x512.size a ≤ S3x512.size a) (k : Fin 512) :
    View.ld x (Rect.unit (s := S3x512) ![o, 0] S1x512.size inb) (ix2 0 k) = x (ix2 ⟨o, inb 0⟩ k) :=
  congrArg x ((eq_ix2 _).trans (congrArg₂ (fun u v => (ix2 u v : S3x512.Idx)) (Fin.ext rfl) (Fin.ext (by show 0 + 1 * k.val = _; omega))))

theorem ld_edge (x : Vec Ideal S1x16x512 .bf16) (o : ℕ) (ho : o + 8 ≤ 16) (inb) (r : Fin 8) (k : Fin 512) :
    View.ld x (Rect.unit (s := S1x16x512) ![0, o, 0] S1x8x512.size inb) (ix3 0 r k) = x (ix3 0 ⟨o + r.val, by omega⟩ k) :=
  congrArg x ((eq_ix3 _).trans (congrArg₂ (fun u v => (ix3 0 u v : S1x16x512.Idx)) (Fin.ext (by show o + 1 * r.val = o + r.val; omega))
    (Fin.ext (by show 0 + 1 * k.val = _; omega))))

/-! ## The stores around a tile are one and the same for the three streams -/

theorem prev_eq0 (i : grid0.Coords) (x : Vec Ideal S1x8x512 .bf16) : k0_pay2 i x = k0_pay13 (Scalar.cmpi .eq (BitVec.ofNat 32 (i 1).val) 0#32) x := rfl
theorem prev_eq1 (v : BitVec 1) (x : Vec Ideal S1x8x512 .bf16) : k0_pay8 v x = k0_pay13 v x := rfl
theorem next_eq0 (i : grid0.Coords) (x : Vec Ideal S1x8x512 .bf16) : k0_pay4 i x = k0_pay13 (Scalar.cmpi .eq (BitVec.ofNat 32 (i 1).val) 15#32) x := rfl
theorem next_eq1 (v : BitVec 1) (x : Vec Ideal S1x8x512 .bf16) : k0_pay11 (k0_pay10 v x) = k0_pay13 v x := rfl
theorem next_eq2 (v : BitVec 1) (x : Vec Ideal S1x8x512 .bf16) : k0_pay16 v x = k0_pay13 v x := rfl
theorem tile_eq1 (x : Vec Ideal S1x512x512 .bf16) : k0_pay9 x = k0_pay3 x := rfl
theorem tile_eq2 (x : Vec Ideal S1x512x512 .bf16) : k0_pay15 (k0_pay14 x) = k0_pay3 x := rfl

/-- The blocks of a stream at a point: the tile `x`, the last eight rows of `xp` before it (unless it is a sequence's first), and
    the first eight of `xn` after it (unless it is a sequence's last). -/
def Around (A : S4x8192x8192.Idx → EReal) (t : Fin cfg0.N) (col : Fin 512 → Fin 8192) (x : Vec Ideal S1x512x512 .bf16)
    (xp xn : Vec Ideal S1x16x512 .bf16) : Prop :=
  (∀ r k, x (ix3 0 r k) = A (ix3 (seqOf t) (tokOf t r) (col k)))
    ∧ (∀ (_ : t.val / 4 % 16 ≠ 0) (r : Fin 8) k, xp (ix3 0 ⟨8 + r.val, by omega⟩ k) = A (ix3 (seqOf t) ⟨t.val / 4 % 16 * 512 - 8 + r.val, by omega⟩ (col k)))
    ∧ ∀ (_ : t.val / 4 % 16 ≠ 15) (r : Fin 8) k,
      xn (ix3 0 ⟨0 + r.val, by omega⟩ k) = A (ix3 (seqOf t) ⟨t.val / 4 % 16 * 512 + 512 + r.val, by omega⟩ (col k))

/-- A stream read back from its scratch buffer, `o` rows further down than the buffer begins: the padded stream. -/
theorem stream {A : S4x8192x8192.Idx → EReal} {t : Fin cfg0.N} {col : Fin 512 → Fin 8192} {x : Vec Ideal S1x512x512 .bf16}
    {xp xn : Vec Ideal S1x16x512 .bf16} (ha : Around A t col x xp xn)
    {κ : Kind} {sp : Space} (v : View sig κ sp S528x512 .f32) (o : ℕ) (inb) (r k : Fin 512) :
    v.readCov (Val := Elt Ideal) [⟨Rect.unit ![520, 0] S8x512.size inb_S528x512_S8x512_520_0,
        k0_pay13 (Scalar.cmpi .eq (BitVec.ofNat 32 (grid0.coords t 1).val) 15#32)
          (View.ld xn (Rect.unit (s := S1x16x512) ![0, 0, 0] S1x8x512.size inb_S1x16x512_S1x8x512_0_0_0))⟩,
      ⟨Rect.unit ![8, 0] S512x512.size inb_S528x512_S512x512_8_0, k0_pay3 x⟩,
      ⟨Rect.unit ![0, 0] S8x512.size inb_S528x512_S8x512_0_0,
        k0_pay13 (Scalar.cmpi .eq (BitVec.ofNat 32 (grid0.coords t 1).val) 0#32)
          (View.ld xp (Rect.unit (s := S1x16x512) ![0, 8, 0] S1x8x512.size inb_S1x16x512_S1x8x512_0_8_0))⟩]
      (Rect.unit (s := S528x512) ![o, 0] S512x512.size inb).toLoadRect (ix2 r k)
      = padded A (seqOf t) (col k) ((tokOf t r).val + o) := by
  obtain ⟨hx, hp, hn⟩ := ha
  have hin : ∀ (i j : ℕ) (k : Fin 512) (hj : j < 8192), i = j + 8 → A (ix3 (seqOf t) ⟨j, hj⟩ (col k)) = padded A (seqOf t) (col k) i := by
    intro i j k hj e
    unfold padded
    rw [dif_pos (by omega)]
    exact congrArg A (congrArg (fun u => (ix3 (seqOf t) u (col k) : S4x8192x8192.Idx)) (Fin.ext (by show j = i - 8; omega)))
  have hout : ∀ (i : ℕ) (k : Fin 512), ¬(8 ≤ i ∧ i < 8200) → 0 = padded A (seqOf t) (col k) i := by
    intro i k h
    unfold padded
    rw [dif_neg h]
  rw [rows_apply v (fun i k => padded A (seqOf t) (col k) (t.val / 4 % 16 * 512 + i))]
  · exact congrArg (padded A (seqOf t) (col k)) (by show t.val / 4 % 16 * 512 + (o + r.val) = t.val / 4 % 16 * 512 + r.val + o; omega)
  · intro r k
    rw [first_iff]
    by_cases h : t.val / 4 % 16 = 0
    · rw [if_pos h, edge_one]; exact hout _ k (by omega)
    · rw [if_neg h, edge_zero, ld_edge _ 8 (by decide), hp h]; exact hin _ _ k _ (by omega)
  · intro r k
    rw [tile_apply, hx]; exact hin _ _ k _ (by omega)
  · intro r k
    rw [last_iff]
    by_cases h : t.val / 4 % 16 = 15
    · rw [if_pos h, edge_one]; exact hout _ k (by omega)
    · rw [if_neg h, edge_zero, ld_edge _ 0 (by decide), hn h]; exact hin _ _ k _ (by omega)

variable (m : (ℓ : Loc nD τ sig) → Buf (Elt Ideal) ℓ) (c : Dev nD)

/-! ## The bias as the region finds it -/

theorem V_bias : V m c main_v0 = shapeCast S1x6144 (m ((c : Thread nD τ).loc main_arg2)) shapeCasts_S6144_S1x6144 := by
  simp only [V, hostOps0, List.flatten_cons, List.flatten_nil, List.append_nil, List.cons_append, List.nil_append]
  after_results_simp <;> rfl

theorem bias_apply (v : FVec Ideal S6144 .f32) (h) (k : Fin 6144) : shapeCast S1x6144 v h (ix2 0 k) = v (ix1 k) := by
  pointwise

/-! ## The block indices of the windows -/

theorem idx_tile : ∀ t : Fin cfg0.N, win0_0.index t = ![t.val / 64, t.val / 4 % 16, t.val % 4] ∧ win0_3.index t = ![t.val / 64, t.val / 4 % 16, 4 + t.val % 4]
    ∧ win0_6.index t = ![t.val / 64, t.val / 4 % 16, 8 + t.val % 4] ∧ win0_9.index t = ![t.val / 64, t.val / 4 % 16, 12 + t.val % 4] :=
  (by decide +kernel : ∀ t : Fin grid0.N, _)

theorem idx_prev : ∀ t : Fin cfg0.N, win0_1.index t = ![t.val / 64, t.val / 4 % 16 * 32 - 1, t.val % 4]
    ∧ win0_4.index t = ![t.val / 64, t.val / 4 % 16 * 32 - 1, 4 + t.val % 4] ∧ win0_7.index t = ![t.val / 64, t.val / 4 % 16 * 32 - 1, 8 + t.val % 4] :=
  (by decide +kernel : ∀ t : Fin grid0.N, _)

theorem idx_next : ∀ t : Fin cfg0.N, win0_2.index t = ![t.val / 64, min (t.val / 4 % 16 * 32 + 32) 511, t.val % 4]
    ∧ win0_5.index t = ![t.val / 64, min (t.val / 4 % 16 * 32 + 32) 511, 4 + t.val % 4]
    ∧ win0_8.index t = ![t.val / 64, min (t.val / 4 % 16 * 32 + 32) 511, 8 + t.val % 4] :=
  (by decide +kernel : ∀ t : Fin grid0.N, _)

theorem idx_row : ∀ t : Fin cfg0.N, win0_10.index t = ![0, t.val % 4] ∧ win0_11.index t = ![0, 4 + t.val % 4] ∧ win0_12.index t = ![0, 8 + t.val % 4]
    ∧ win0_13.index t = ![0, t.val % 4] ∧ win0_14.index t = ![0, 4 + t.val % 4] ∧ win0_15.index t = ![0, 8 + t.val % 4] :=
  (by decide +kernel : ∀ t : Fin grid0.N, _)

theorem idx_out : ∀ t : Fin cfg0.N, win0_16.index t = ![t.val / 64, t.val / 4 % 16, t.val % 4] ∧ win0_17.index t = ![t.val / 64, t.val / 4 % 16, t.val % 4] :=
  (by decide +kernel : ∀ t : Fin grid0.N, _)

variable (t : Fin cfg0.N)

/-! ## The blocks at a point -/

theorem blk_z (r k : Fin 512) : iblk m c 9 t (ix3 0 r k) = m ((c : Thread nD τ).loc main_arg0) (ix3 (seqOf t) (tokOf t r) (right 6144 (by decide) (colOf t k))) :=
  (congrArg (V m c main_arg0) (place3 (idx_tile t).2.2.2 rfl rfl rfl (by simp) (by simp) (by simp [right, colOf] <;> omega))).trans
    (congrFun (V_main_arg0 m c) _)

theorem tap0 (j : Fin 3) (k : Fin 512) : iblk m c 10 t (ix2 j k) = m ((c : Thread nD τ).loc main_arg1) (ix2 j (right 0 (by decide) (colOf t k))) :=
  (congrArg (V m c main_arg1) (place2 (idx_row t).1 rfl rfl (by simp) (by simp [right, colOf] <;> omega))).trans (congrFun (V_main_arg1 m c) _)

theorem tap1 (j : Fin 3) (k : Fin 512) : iblk m c 11 t (ix2 j k) = m ((c : Thread nD τ).loc main_arg1) (ix2 j (right 2048 (by decide) (colOf t k))) :=
  (congrArg (V m c main_arg1) (place2 (idx_row t).2.1 rfl rfl (by simp) (by simp [right, colOf] <;> omega))).trans (congrFun (V_main_arg1 m c) _)

theorem tap2 (j : Fin 3) (k : Fin 512) : iblk m c 12 t (ix2 j k) = m ((c : Thread nD τ).loc main_arg1) (ix2 j (right 4096 (by decide) (colOf t k))) :=
  (congrArg (V m c main_arg1) (place2 (idx_row t).2.2.1 rfl rfl (by simp) (by simp [right, colOf] <;> omega))).trans (congrFun (V_main_arg1 m c) _)

theorem bias0 (k : Fin 512) : iblk m c 13 t (ix2 0 k) = m ((c : Thread nD τ).loc main_arg2) (ix1 (right 0 (by decide) (colOf t k))) :=
  (congrArg (V m c main_v0) (place2 (idx_row t).2.2.2.1 rfl rfl (by simp) (by simp [right, colOf] <;> omega))).trans
    ((congrFun (V_bias m c) _).trans (bias_apply _ _ _))

theorem bias1 (k : Fin 512) : iblk m c 14 t (ix2 0 k) = m ((c : Thread nD τ).loc main_arg2) (ix1 (right 2048 (by decide) (colOf t k))) :=
  (congrArg (V m c main_v0) (place2 (idx_row t).2.2.2.2.1 rfl rfl (by simp) (by simp [right, colOf] <;> omega))).trans
    ((congrFun (V_bias m c) _).trans (bias_apply _ _ _))

theorem bias2 (k : Fin 512) : iblk m c 15 t (ix2 0 k) = m ((c : Thread nD τ).loc main_arg2) (ix1 (right 4096 (by decide) (colOf t k))) :=
  (congrArg (V m c main_v0) (place2 (idx_row t).2.2.2.2.2 rfl rfl (by simp) (by simp [right, colOf] <;> omega))).trans
    ((congrFun (V_bias m c) _).trans (bias_apply _ _ _))

/-! ## The three streams at a point -/

theorem arg0_at {i j : S4x8192x8192.Idx} (h : i = j) : V m c main_arg0 i = m ((c : Thread nD τ).loc main_arg0) j :=
  (congrArg (V m c main_arg0) h).trans (congrFun (V_main_arg0 m c) _)

theorem around0 : Around (m ((c : Thread nD τ).loc main_arg0)) t (fun k => wide (right 0 (by decide) (colOf t k))) (iblk m c 0 t) (iblk m c 1 t)
    (iblk m c 2 t) :=
  ⟨fun r k => arg0_at m c (place3 (idx_tile t).1 rfl rfl rfl (by simp) (by simp) (by simp [right, colOf] <;> omega)),
    fun h r k => arg0_at m c (place3 (idx_prev t).1 rfl rfl rfl (by simp) (by simp <;> omega) (by simp [right, colOf] <;> omega)),
    fun h r k => arg0_at m c (place3 (idx_next t).1 rfl rfl rfl (by simp) (by simp <;> omega) (by simp [right, colOf] <;> omega))⟩

theorem around1 : Around (m ((c : Thread nD τ).loc main_arg0)) t (fun k => wide (right 2048 (by decide) (colOf t k))) (iblk m c 3 t) (iblk m c 4 t)
    (iblk m c 5 t) :=
  ⟨fun r k => arg0_at m c (place3 (idx_tile t).2.1 rfl rfl rfl (by simp) (by simp) (by simp [right, colOf] <;> omega)),
    fun h r k => arg0_at m c (place3 (idx_prev t).2.1 rfl rfl rfl (by simp) (by simp <;> omega) (by simp [right, colOf] <;> omega)),
    fun h r k => arg0_at m c (place3 (idx_next t).2.1 rfl rfl rfl (by simp) (by simp <;> omega) (by simp [right, colOf] <;> omega))⟩

theorem around2 : Around (m ((c : Thread nD τ).loc main_arg0)) t (fun k => wide (right 4096 (by decide) (colOf t k))) (iblk m c 6 t) (iblk m c 7 t)
    (iblk m c 8 t) :=
  ⟨fun r k => arg0_at m c (place3 (idx_tile t).2.2.1 rfl rfl rfl (by simp) (by simp) (by simp [right, colOf] <;> omega)),
    fun h r k => arg0_at m c (place3 (idx_prev t).2.2 rfl rfl rfl (by simp) (by simp <;> omega) (by simp [right, colOf] <;> omega)),
    fun h r k => arg0_at m c (place3 (idx_next t).2.2 rfl rfl rfl (by simp) (by simp <;> omega) (by simp [right, colOf] <;> omega))⟩

/-! ## The two results -/

/-- The reference's first result as a function of the kernel's launch memory. -/
def Gu : Buf (Elt Ideal) ((c : Thread nD τ).loc main_v1_0) :=
  Cert.HyPreRefIdeal.Read.val_main_v32 (F := Ideal) (m ((c : Thread nD τ).loc main_arg0)) (m ((c : Thread nD τ).loc main_arg1))
    (m ((c : Thread nD τ).loc main_arg2))

/-- The reference's second result as a function of the kernel's launch memory. -/
def Gg : Buf (Elt Ideal) ((c : Thread nD τ).loc main_v1_1) :=
  Cert.HyPreRefIdeal.Read.val_main_v35 (F := Ideal) (m ((c : Thread nD τ).loc main_arg0)) (m ((c : Thread nD τ).loc main_arg1))
    (m ((c : Thread nD τ).loc main_arg2))

/-- What a point writes back to the first result is its block of the reference's. -/
theorem flushed_u : (dats m 0 c).flushed 16 t = ((cfg0.win 16).blk t).view.read (Elt Ideal) (Gu m c) := by
  rw [flushed16_A]
  funext y
  obtain ⟨u, r, k, rfl⟩ : ∃ (u : Fin 1) (r k : Fin 512), y = ix3 u r k := ⟨y 0, y 1, y 2, eq_ix3 y⟩
  obtain rfl : u = 0 := Subsingleton.elim _ _
  unfold out0_A_16
  show (View.read (Elt Ideal) VO0_16 (VO0_16.writes (Elt Ideal) VO0_16.junk _)) (ix3 0 r k) = Gu m c (((cfg0.win 16).blk t).view.emb (ix3 0 r k))
  rw [show ((cfg0.win 16).blk t).view.emb (ix3 0 r k) = (ix3 (seqOf t) (tokOf t r) (colOf t k) : S4x8192x2048.Idx) from
    place3 (idx_out t).1 rfl rfl rfl (by simp) (by simp) (by simp)]
  refine (View.read_writes_junk_apply_eq_canon _ _ _).trans ?_
  unfold kernelRun0_A
  dsimp only
  sl_unfold_words
  rw [View.canon_cons_unit_zero (S := S1x512x512) zero3, block_u]
  simp only [View.readAt_eq_ld, Memref.IsWhole.read_unread, prev_eq0, next_eq0, next_eq2, tile_eq2]
  rw [View.ld_unit_zero (S := S1x512) zero2, View.ld_unit_zero (S := S1x512) zero2, View.ld_unit_zero (S := S1x512x512) zero3,
    View.ld_unit_zero (S := S1x512x512) zero3]
  rw [stream (around0 m c t), stream (around0 m c t), stream (around0 m c t), stream (around2 m c t), stream (around2 m c t), stream (around2 m c t), bias0, bias2]
  rw [ld_row, ld_row, ld_row, ld_row, ld_row, ld_row, tap0, tap0, tap0, tap2, tap2, tap2]
  unfold Gu
  rw [ref_u]
  rfl

/-- What a point writes back to the second result is its block of the reference's. -/
theorem flushed_g : (dats m 0 c).flushed 17 t = ((cfg0.win 17).blk t).view.read (Elt Ideal) (Gg m c) := by
  rw [flushed17_A]
  funext y
  obtain ⟨u, r, k, rfl⟩ : ∃ (u : Fin 1) (r k : Fin 512), y = ix3 u r k := ⟨y 0, y 1, y 2, eq_ix3 y⟩
  obtain rfl : u = 0 := Subsingleton.elim _ _
  unfold out0_A_17
  show (View.read (Elt Ideal) VO0_17 (VO0_17.writes (Elt Ideal) VO0_17.junk _)) (ix3 0 r k) = Gg m c (((cfg0.win 17).blk t).view.emb (ix3 0 r k))
  rw [show ((cfg0.win 17).blk t).view.emb (ix3 0 r k) = (ix3 (seqOf t) (tokOf t r) (colOf t k) : S4x8192x2048.Idx) from
    place3 (idx_out t).2 rfl rfl rfl (by simp) (by simp) (by simp)]
  refine (View.read_writes_junk_apply_eq_canon _ _ _).trans ?_
  unfold kernelRun0_A
  dsimp only
  sl_unfold_words
  rw [View.canon_cons_unit_zero (S := S1x512x512) zero3, block_g]
  simp only [View.readAt_eq_ld, Memref.IsWhole.read_unread, prev_eq1, next_eq1, tile_eq1]
  rw [View.ld_unit_zero (S := S1x512) zero2, View.ld_unit_zero (S := S1x512x512) zero3, View.ld_unit_zero (S := S1x512x512) zero3]
  rw [stream (around1 m c t), stream (around1 m c t), stream (around1 m c t), bias1, blk_z]
  rw [ld_row, ld_row, ld_row, tap1, tap1, tap1]
  unfold Gg
  rw [ref_g]
  rfl

/-- Every element of a result lies in some point's block. -/
theorem point_of (i : S4x8192x2048.Idx) : ∃ t : Fin 256, ∀ I : Fin 3 → ℕ, I = ![t.val / 64, t.val / 4 % 16, t.val % 4] →
    ∀ a, I a * ![1, 512, 512] a ≤ (i a).val ∧ (i a).val < I a * ![1, 512, 512] a + ![1, 512, 512] a := by
  have h0 : (i 0).val < 4 := (i 0).isLt
  have h1 : (i 1).val < 8192 := (i 1).isLt
  have h2 : (i 2).val < 2048 := (i 2).isLt
  refine ⟨⟨64 * (i 0).val + 4 * ((i 1).val / 512) + (i 2).val / 512, by omega⟩, fun I hI => ?_⟩
  subst hI
  refine InProj.within _ _ (fun a => (i a).val) (by decide) fun a => ?_
  match a with
  | ⟨0, _⟩ => show (64 * (i 0).val + 4 * ((i 1).val / 512) + (i 2).val / 512) / 64 = (i 0).val / 1; omega
  | ⟨1, _⟩ => show (64 * (i 0).val + 4 * ((i 1).val / 512) + (i 2).val / 512) / 4 % 16 = (i 1).val / 512; omega
  | ⟨2, _⟩ => show (64 * (i 0).val + 4 * ((i 1).val / 512) + (i 2).val / 512) % 4 = (i 2).val / 512; omega

theorem covered_u (i : S4x8192x2048.Idx) : ∃ t : Fin cfg0.N, (cfg0.win 16).flush t = true ∧ i ∈ ((cfg0.win 16).blk t).view.set := by
  obtain ⟨t, ht⟩ := point_of i
  refine ⟨t, (by decide +kernel : ∀ t : Fin grid0.N, win0_16.flush t = true) t, ?_⟩
  show i ∈ ((View.whole main_v1_0).slice (win0_16.rect t)).set
  rw [View.set_slice_whole, Rect.mem_set_unit]
  exact ht _ (idx_out t).1

theorem covered_g (i : S4x8192x2048.Idx) : ∃ t : Fin cfg0.N, (cfg0.win 17).flush t = true ∧ i ∈ ((cfg0.win 17).blk t).view.set := by
  obtain ⟨t, ht⟩ := point_of i
  refine ⟨t, (by decide +kernel : ∀ t : Fin grid0.N, win0_17.flush t = true) t, ?_⟩
  show i ∈ ((View.whole main_v1_1).slice (win0_17.rect t)).set
  rw [View.set_slice_whole, Rect.mem_set_unit]
  exact ht _ (idx_out t).2

theorem final_u : (dats m 0 c).arrAt 16 cfg0.N = Gu m c := (dats m 0 c).arrAt_eq_of_cover 16 _ (fun t _ => flushed_u m c t) covered_u

theorem final_g : (dats m 0 c).arrAt 17 cfg0.N = Gg m c := (dats m 0 c).arrAt_eq_of_cover 17 _ (fun t _ => flushed_g m c t) covered_g

/-- From memories that agree on the arguments, the kernel and the reference end with the same two results. -/
theorem equal : Cert.algebraic_HyPreIdeal_HyPreRefIdeal := by
  intro m ρ m' ρ' _ hag
  refine ⟨fun c => Gu m c, fun c => Gg m c, (θ_run _ _ _).mono (fun r h c => ⟨(h c).1.trans (final_u m c), (h c).2.1.trans (final_g m c), (h c).2.2⟩)
    (Cert.HyPreIdeal.Value.run_blocks m ρ), ?_⟩
  refine (θ_run _ _ _).mono (fun _ h c => ⟨(h c).1.trans ?_, (h c).2.1.trans ?_, (h c).2.2⟩) (Cert.HyPreRefIdeal.Value.run m' ρ')
  · obtain ⟨h0, h1, h2⟩ := hag c
    rw [Cert.HyPreRefIdeal.Read.val_main_v32_eq, h0, h1, h2]
    rfl
  · obtain ⟨h0, h1, h2⟩ := hag c
    rw [Cert.HyPreRefIdeal.Read.val_main_v35_eq, h0, h1, h2]
    rfl

end HyPre
end
-- ==== Proof.lean ====
/-
  The certificate: frames of every program, the ideal programs of the kernels, and the values.
-/
module

public import proofs.«01_k».proof.Defs
public import proofs.«01_k».proof.Proof.Gen.RetFwd.Frame
public import proofs.«01_k».proof.Proof.Gen.RetBwd.Frame
public import proofs.«01_k».proof.Proof.Gen.OutRet.Frame
public import proofs.«01_k».proof.Proof.HyPreValue
public import proofs.«01_k».proof.Proof.Gen.InHg.Frame
public import proofs.«01_k».proof.Proof.Gen.InHgIdeal.Frame
public import proofs.«01_k».proof.Proof.Gen.InHgIdeal.Skeleton
public import proofs.«01_k».proof.Proof.Gen.InHgRefIdeal.Run
public import proofs.«01_k».proof.Proof.Gen.InHgRefIdeal.Read
public import proofs.«01_k».proof.Proof.Gen.InHy.Frame
public import proofs.«01_k».proof.Proof.Gen.InHyIdeal.Frame
public import proofs.«01_k».proof.Proof.Gen.InHyIdeal.Skeleton
public import proofs.«01_k».proof.Proof.Gen.InHyRefIdeal.Run
public import proofs.«01_k».proof.Proof.Gen.InHyRefIdeal.Read
public import proofs.«01_k».proof.Proof.Gen.InRt.Frame
public import proofs.«01_k».proof.Proof.Gen.InRtIdeal.Frame
public import proofs.«01_k».proof.Proof.Gen.InRtIdeal.Skeleton
public import proofs.«01_k».proof.Proof.Gen.InRtRefIdeal.Run
public import proofs.«01_k».proof.Proof.Gen.InRtRefIdeal.Read
public import proofs.«01_k».proof.Proof.Gen.InLru.Frame
public import proofs.«01_k».proof.Proof.Gen.InLruIdeal.Frame
public import proofs.«01_k».proof.Proof.Gen.InLruIdeal.Skeleton
public import proofs.«01_k».proof.Proof.Gen.InLruRefIdeal.Run
public import proofs.«01_k».proof.Proof.Gen.InLruRefIdeal.Read
public import proofs.«01_k».proof.Proof.Gen.OutHg.Frame
public import proofs.«01_k».proof.Proof.Gen.OutHgIdeal.Value
public import proofs.«01_k».proof.Proof.Gen.OutHgRefIdeal.Run
public import proofs.«01_k».proof.Proof.Gen.OutHgRefIdeal.Read
public import proofs.«01_k».proof.Proof.Gen.OutHy.Frame
public import proofs.«01_k».proof.Proof.Gen.OutHyIdeal.Value
public import proofs.«01_k».proof.Proof.Gen.OutHyRefIdeal.Run
public import proofs.«01_k».proof.Proof.Gen.OutHyRefIdeal.Read
public import proofs.«01_k».proof.Proof.Gen.OutLru.Frame
public import proofs.«01_k».proof.Proof.Gen.OutLruIdeal.Value
public import proofs.«01_k».proof.Proof.Gen.OutLruRefIdeal.Run
public import proofs.«01_k».proof.Proof.Gen.OutLruRefIdeal.Read
public import proofs.«01_k».proof.Proof.Gen.Adaln.Frame
public import proofs.«01_k».proof.Proof.Gen.AdalnIdeal.Value
public import proofs.«01_k».proof.Proof.Gen.AdalnRefIdeal.Run
public import proofs.«01_k».proof.Proof.Gen.AdalnRefIdeal.Read
public import proofs.«01_k».proof.Proof.Gen.HyPre.Frame
public import proofs.«01_k».proof.Proof.Gen.HyPreIdeal.Value
public import proofs.«01_k».proof.Proof.Gen.HyPreRefIdeal.Run
public import proofs.«01_k».proof.Proof.Gen.HyPreRefIdeal.Read
public import Idealize.ShloMosaic.Adequacy
public import Idealize.ShloMosaic.Init

@[expose] public section

noncomputable section

namespace Cert.Proof

open Idealize.ShloMosaic Idealize.SL.Sem

/-- A reference is a straight line of host operations and has no semaphore: a run that ends with the arguments as they were
    ends with every counter at zero. -/
theorem still {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val} {A B : Dev nD → PUnit × MemSt nD τ sig Val → Prop}
    (h0 : sig.nSem + sig.nDmaSem = 0) (h : θ_run defs p s fun r => ∀ c, A c r ∧ B c r) :
    θ_run defs p s fun r => (∀ c, B c r) ∧ r.2.sem = fun _ => 0 :=
  (θ_run defs p s).mono (fun r h => ⟨fun c => (h c).2, sem_eq_zero_of_no_sems h0 r.2⟩) h

theorem claim : Cert.Claim := ⟨Cert.RetFwd.Gen.facts, Cert.RetFwdIdeal.Gen.facts, Cert.RetFwdRefIdeal.Gen.facts, Cert.RetBwd.Gen.facts,
    Cert.RetBwdIdeal.Gen.facts, Cert.RetBwdRefIdeal.Gen.facts, Cert.OutRet.Gen.facts, Cert.OutRetIdeal.Gen.facts,
    Cert.OutRetRefIdeal.Gen.facts, Cert.InHg.Gen.facts, Cert.InHgIdeal.Gen.facts, Cert.InHgRefIdeal.Gen.facts,
    Cert.InHy.Gen.facts, Cert.InHyIdeal.Gen.facts, Cert.InHyRefIdeal.Gen.facts, Cert.InRt.Gen.facts, Cert.InRtIdeal.Gen.facts, Cert.InRtRefIdeal.Gen.facts,
    Cert.InLru.Gen.facts, Cert.InLruIdeal.Gen.facts, Cert.InLruRefIdeal.Gen.facts,
    Cert.OutHg.Gen.facts, Cert.OutHgIdeal.Gen.facts, Cert.OutHgRefIdeal.Gen.facts, Cert.OutHy.Gen.facts, Cert.OutHyIdeal.Gen.facts,
    Cert.OutHyRefIdeal.Gen.facts, Cert.OutLru.Gen.facts, Cert.OutLruIdeal.Gen.facts, Cert.OutLruRefIdeal.Gen.facts,
    Cert.Adaln.Gen.facts, Cert.AdalnIdeal.Gen.facts, Cert.AdalnRefIdeal.Gen.facts, Cert.HyPre.Gen.facts, Cert.HyPreIdeal.Gen.facts,
    Cert.HyPreRefIdeal.Gen.facts,
    Cert.Pre_finite.Gen.facts, Cert.Pre_finite_proj.Gen.facts,
  fun m ρ _ => Cert.RetFwd.Gen.frame m ρ,
  fun m ρ _ => Cert.RetFwdIdeal.Gen.frame m ρ,
  fun m ρ _ => Cert.RetFwdIdeal.Gen.frame m ρ,
  fun m ρ _ => still (by decide) (Cert.RetFwdRefIdeal.Value.run (F := Ideal) m ρ),
  fun m ρ _ => still (by decide) (Cert.RetFwdRefIdeal.Value.run (F := Ideal) m ρ),
  fun m ρ _ => Cert.RetBwd.Gen.frame m ρ,
  fun m ρ _ => Cert.RetBwdIdeal.Gen.frame m ρ,
  fun m ρ _ => Cert.RetBwdIdeal.Gen.frame m ρ,
  fun m ρ _ => still (by decide) (Cert.RetBwdRefIdeal.Value.run (F := Ideal) m ρ),
  fun m ρ _ => still (by decide) (Cert.RetBwdRefIdeal.Value.run (F := Ideal) m ρ),
  fun m ρ _ => Cert.OutRet.Gen.frame m ρ,
  fun m ρ _ => Cert.OutRetIdeal.Gen.frame m ρ,
  fun m ρ _ => still (by decide) (Cert.OutRetRefIdeal.Value.run (F := Ideal) m ρ),
  InHg.frame,
  fun m ρ _ => Cert.InHgIdeal.Gen.frame m ρ,
  fun m ρ _ => still (by decide) (Cert.InHgRefIdeal.Value.run (F := Ideal) m ρ),
  InHy.frame,
  fun m ρ _ => Cert.InHyIdeal.Gen.frame m ρ,
  fun m ρ _ => still (by decide) (Cert.InHyRefIdeal.Value.run (F := Ideal) m ρ),
  InRt.frame,
  fun m ρ _ => Cert.InRtIdeal.Gen.frame m ρ,
  fun m ρ _ => still (by decide) (Cert.InRtRefIdeal.Value.run (F := Ideal) m ρ),
  InLru.frame,
  fun m ρ _ => Cert.InLruIdeal.Gen.frame m ρ,
  fun m ρ _ => still (by decide) (Cert.InLruRefIdeal.Value.run (F := Ideal) m ρ),
  fun m ρ _ => Cert.OutHg.Gen.frame m ρ,
  fun m ρ _ => Cert.OutHgIdeal.Gen.frame m ρ,
  fun m ρ _ => still (by decide) (Cert.OutHgRefIdeal.Value.run (F := Ideal) m ρ),
  fun m ρ _ => Cert.OutHy.Gen.frame m ρ,
  fun m ρ _ => Cert.OutHyIdeal.Gen.frame m ρ,
  fun m ρ _ => still (by decide) (Cert.OutHyRefIdeal.Value.run (F := Ideal) m ρ),
  fun m ρ _ => Cert.OutLru.Gen.frame m ρ,
  fun m ρ _ => Cert.OutLruIdeal.Gen.frame m ρ,
  fun m ρ _ => still (by decide) (Cert.OutLruRefIdeal.Value.run (F := Ideal) m ρ),
  fun m ρ _ => Cert.Adaln.Gen.frame m ρ,
  fun m ρ _ => Cert.AdalnIdeal.Gen.frame m ρ,
  fun m ρ _ => still (by decide) (Cert.AdalnRefIdeal.Value.run (F := Ideal) m ρ),
  fun m ρ _ => Cert.HyPre.Gen.frame m ρ,
  fun m ρ _ => Cert.HyPreIdeal.Gen.frame m ρ,
  fun m ρ _ => (θ_run _ _ _).mono (fun _ h => ⟨fun c => (h.1 c).2, h.2⟩) (still (by decide) (Cert.HyPreRefIdeal.Value.run (F := Ideal) m ρ)),
  trivial,
  RetF.equal,
  trivial,
  RetB.equal,
  trivial,
  OutRet.equal,
  trivial,
  InHg.equal,
  trivial,
  InHy.equal,
  trivial,
  InRt.equal,
  trivial,
  InLru.equal,
  trivial,
  OutHg.equal,
  trivial,
  OutHy.equal,
  trivial,
  OutLru.equal,
  trivial,
  Adaln.equal,
  trivial,
  HyPre.equal⟩

end Cert.Proof

end
